-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v105) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_v81) = v2 c
          ∧ r.2.mem ((c.tc : Thread Cert.Reference2Ideal.nD Cert.Reference2Ideal.τ).loc Cert.Reference2Ideal.main_v89) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_v44) = v3 c
          ∧ r.2.mem ((c.tc : Thread Cert.Reference3Ideal.nD Cert.Reference3Ideal.τ).loc Cert.Reference3Ideal.main_v45) = v4 c
          ∧ r.2.mem ((c.tc : Thread Cert.Reference3Ideal.nD Cert.Reference3Ideal.τ).loc Cert.Reference3Ideal.main_v46) = v5 c
          ∧ r.2.mem ((c.tc : Thread Cert.Reference3Ideal.nD Cert.Reference3Ideal.τ).loc Cert.Reference3Ideal.main_v47) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_v50) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)) (v3 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_v7) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_v31) = v2 c
          ∧ r.2.mem ((c.tc : Thread Cert.Reference11Ideal.nD Cert.Reference11Ideal.τ).loc Cert.Reference11Ideal.main_v25) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)) (v3 : (c : Dev Cert.Kernel12Ideal.nD) → Buf (Elt Ideal) ((c.tc : Thread Cert.Kernel12Ideal.nD Cert.Kernel12Ideal.τ).loc Cert.Kernel12Ideal.main_v4_3)) (v4 : (c : Dev Cert.Kernel12Ideal.nD) → Buf (Elt Ideal) ((c.tc : Thread Cert.Kernel12Ideal.nD Cert.Kernel12Ideal.τ).loc Cert.Kernel12Ideal.main_v4_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_v4_3) = v3 c
          ∧ r.2.mem ((c.tc : Thread Cert.Kernel12Ideal.nD Cert.Kernel12Ideal.τ).loc Cert.Kernel12Ideal.main_v4_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v24) = v2 c
          ∧ r.2.mem ((c.tc : Thread Cert.Reference12Ideal.nD Cert.Reference12Ideal.τ).loc Cert.Reference12Ideal.main_v25) = v3 c
          ∧ r.2.mem ((c.tc : Thread Cert.Reference12Ideal.nD Cert.Reference12Ideal.τ).loc Cert.Reference12Ideal.main_v26) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v37) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v29) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v30) = v0 c
          ∧ r.2.mem ((c.tc : Thread Cert.Reference15Ideal.nD Cert.Reference15Ideal.τ).loc Cert.Reference15Ideal.main_v31) = v1 c
          ∧ r.2.mem ((c.tc : Thread Cert.Reference15Ideal.nD Cert.Reference15Ideal.τ).loc Cert.Reference15Ideal.main_v32) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v60) = v0 c
          ∧ r.2.mem ((c.tc : Thread Cert.Reference16Ideal.nD Cert.Reference16Ideal.τ).loc Cert.Reference16Ideal.main_v59) = v1 c
          ∧ r.2.mem ((c.tc : Thread Cert.Reference16Ideal.nD Cert.Reference16Ideal.τ).loc Cert.Reference16Ideal.main_v39) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v37) = v0 c
          ∧ r.2.mem ((c.tc : Thread Cert.Reference18Ideal.nD Cert.Reference18Ideal.τ).loc Cert.Reference18Ideal.main_v20) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_v29) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_v16) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_v29) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_v16) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v29) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_v16) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v29) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_v16) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_v29) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_v16) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)) (v1 : (c : Dev Cert.Kernel25Ideal.nD) → Buf (Elt Ideal) ((c.tc : Thread Cert.Kernel25Ideal.nD Cert.Kernel25Ideal.τ).loc Cert.Kernel25Ideal.main_v5)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_v5) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v5) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel27 : Cert.Kernel27.Facts) (hKernel27Ideal : Cert.Kernel27Ideal.Facts) (hReference27Ideal : Cert.Reference27Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel27_Kernel27Ideal
    ∧ algebraic_Kernel27Ideal_Reference27Ideal (hKernel27Ideal := hKernel27Ideal) (hReference27Ideal := hReference27Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite_scores.lean ====
abbrev S2048x10240 : Shape := ⟨2, ![2048, 10240]⟩
abbrev S1x256 : Shape := ⟨2, ![1, 256]⟩
abbrev S256x1024 : Shape := ⟨2, ![256, 1024]⟩
abbrev S2048x1024 : Shape := ⟨2, ![2048, 1024]⟩
abbrev S_ : Shape := ⟨0, ![]⟩
abbrev S1024x256 : Shape := ⟨2, ![1024, 256]⟩

class Facts : Prop where
  bcast_S_S1x256 : S_.BroadcastsInDim S1x256 (![] : Fin 0 → Fin S1x256.rank)
  bitsLt_bf16_f32 : FTy.bits .bf16 < FTy.bits .f32
  shapeCasts_S256x1024_S1024x256 : S256x1024.ShapeCasts S1024x256
  bcast_S_S1024x256 : S_.BroadcastsInDim S1024x256 (![] : Fin 0 → Fin S1024x256.rank)
  bcast_S1x256_S1024x256_0_1 : S1x256.BroadcastsInDim S1024x256 (![0, 1] : Fin 2 → Fin S1024x256.rank)

variable [Facts]

def fn {F : FTy → Type} [FloatOps F] (main_arg0 : FVec F S2048x10240 .bf16) (main_arg1 : FVec F S1x256 .f32) (main_arg2 : FVec F S256x1024 .bf16) (main_arg3 : FVec F S256x1024 .bf16) (main_arg4 : FVec F S2048x1024 .bf16) : IVec S1024x256 1 :=
  let main_v0 : FVec F S1x256 .f32 := Host.absf main_arg1
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_v3 : FVec F S256x1024 .f32 := (extf .f32 · bitsLt_bf16_f32) main_arg2
  let main_v4 : FVec F S1024x256 .f32 := shapeCast S1024x256 main_v3 shapeCasts_S256x1024_S1024x256
  let main_v5 : FVec F S1024x256 .f32 := Host.absf main_v4
  let main_cst_0 : FVec F S_ .f32 := constant S_ .f32 0x7F800000#32
  let main_v6 : FVec F S1024x256 .f32 := broadcastInDim S1024x256 ![] bcast_S_S1024x256 main_cst_0
  let main_v7 : IVec S1024x256 1 := cmpf .olt main_v5 main_v6
  let main_v8 : IVec S1024x256 1 := broadcastInDim S1024x256 ![0, 1] bcast_S1x256_S1024x256_0_1 main_v2
  let main_v9 : IVec S1024x256 1 := andi main_v8 main_v7
  main_v9
-- ==== Kernel.lean ====
abbrev S2048x10240 : Shape := ⟨2, ![2048, 10240]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S2048x10240, .bf16⟩
  | .hbm, ⟨1, _⟩ => ⟨S3x1024, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S3x256, .f32⟩
  | .local _ .vmem, ⟨17, _⟩ => ⟨S3x256, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x10240 : Shape := ⟨2, ![2048, 10240]⟩
abbrev S3x1024 : Shape := ⟨2, ![3, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S2046x1024 : Shape := ⟨2, ![2046, 1024]⟩
abbrev S2047x1024 : Shape := ⟨2, ![2047, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S3x1024, .f32⟩
  | .hbm, ⟨2, _⟩ => ⟨S2048x1024, .bf16⟩
  | .hbm, ⟨3, _⟩ => ⟨S2048x10240, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S2x1024, .f32⟩
  | .hbm, ⟨12, _⟩ => ⟨S2046x1024, .f32⟩
  | .hbm, ⟨13, _⟩ => ⟨S2048x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S1x1024, .f32⟩
  | .hbm, ⟨23, _⟩ => ⟨S2047x1024, .f32⟩
  | .hbm, ⟨24, _⟩ => ⟨S2048x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S3x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2047x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S2x1024, .f32⟩
  | .hbm, ⟨78, _⟩ => ⟨S2046x1024, .f32⟩
  | .hbm, ⟨79, _⟩ => ⟨S_, .f32⟩
  | .hbm, ⟨80, _⟩ => ⟨S2048x1024, .f32⟩
  | .hbm, ⟨81, _⟩ => ⟨S2048x1024, .f32⟩
  | .hbm, ⟨82, _⟩ => ⟨S1x1024, .f32⟩
  | .hbm, ⟨83, _⟩ => ⟨S_, .f32⟩
  | .hbm, ⟨84, _⟩ => ⟨S3x1024, .f32⟩
  | .hbm, ⟨85, _⟩ => ⟨S3x1024, .f32⟩
  | .hbm, ⟨86, _⟩ => ⟨S2048x1024, .f32⟩
  | .hbm, ⟨87, _⟩ => ⟨S2048x1024, .f32⟩
  | .hbm, ⟨88, _⟩ => ⟨S2048x1024, .bf16⟩
  | .hbm, ⟨89, _⟩ => ⟨S2048x1024, .bf16⟩
  | .hbm, ⟨90, _⟩ => ⟨S2048x1024, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Kernel2.lean ====
abbrev S2048x10240 : Shape := ⟨2, ![2048, 10240]⟩
abbrev S1x256 : Shape := ⟨2, ![1, 256]⟩
abbrev S256x1024 : Shape := ⟨2, ![256, 1024]⟩
abbrev S2048x1024 : Shape := ⟨2, ![2048, 1024]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x10240, .bf16⟩
  | .hbm, ⟨1, _⟩ => ⟨S1x256, .f32⟩
  | .hbm, ⟨2, _⟩ => ⟨S256x1024, .bf16⟩
  | .hbm, ⟨3, _⟩ => ⟨S256x1024, .bf16⟩
  | .hbm, ⟨4, _⟩ => ⟨S2048x1024, .bf16⟩
  | .hbm, ⟨5, _⟩ => ⟨S2048x1024, .bf16⟩
  | .hbm, ⟨6, _⟩ => ⟨S256x1024, .f32⟩
  | .hbm, ⟨7, _⟩ => ⟨S256x1024, .f32⟩
  | .hbm, ⟨8, _⟩ => ⟨S1x256, .f32⟩
  | .local _ .vmem, ⟨0, _⟩ => ⟨S256x1024, .bf16⟩
  | .local _ .vmem, ⟨1, _⟩ => ⟨S256x1024, .bf16⟩
  | .local _ .vmem, ⟨2, _⟩ => ⟨S1x256, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x256, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S2048x10240 : Shape := ⟨2, ![2048, 10240]⟩
abbrev S1x256 : Shape := ⟨2, ![1, 256]⟩
abbrev S256x1024 : Shape := ⟨2, ![256, 1024]⟩
abbrev S2048x1024 : Shape := ⟨2, ![2048, 1024]⟩
abbrev S2048x4x256 : Shape := ⟨3, ![2048, 4, 256]⟩
abbrev S_ : Shape := ⟨0, ![]⟩
abbrev S2048x4 : Shape := ⟨2, ![2048, 4]⟩
abbrev S2048x4x1 : Shape := ⟨3, ![2048, 4, 1]⟩
abbrev S1x1x256 : Shape := ⟨3, ![1, 1, 256]⟩
abbrev S256x4x256 : Shape := ⟨3, ![256, 4, 256]⟩
abbrev S4x2048x256 : Shape := ⟨3, ![4, 2048, 256]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩
abbrev S256 : Shape := ⟨1, ![256]⟩

abbrev nBuf : Space → Nat
  | .hbm => 134
  | .vmem => 0
  | .smem => 0
  | _ => 0

abbrev hbmTy0_0 (i : Nat) : BufTy := match i % 128 with
  | 0 => ⟨S2048x10240, .bf16⟩
  | 1 => ⟨S1x256, .f32⟩
  | 2 => ⟨S256x1024, .bf16⟩
  | 3 => ⟨S256x1024, .bf16⟩
  | 4 => ⟨S2048x1024, .bf16⟩
  | 5 => ⟨S2048x1024, .bf16⟩
  | 6 => ⟨S2048x1024, .f32⟩
  | 7 => ⟨S256x1024, .f32⟩
  | 8 => ⟨S256x1024, .f32⟩
  | 9 => ⟨S2048x4x256, .f32⟩
  | 10 => ⟨S2048x4x256, .f32⟩
  | 11 => ⟨S_, .f32⟩
  | 12 => ⟨S2048x4, .f32⟩
  | 13 => ⟨S2048x4x1, .f32⟩
  | 14 => ⟨S_, .f32⟩
  | 15 => ⟨S2048x4x1, .f32⟩
  | 16 => ⟨S2048x4x1, .f32⟩
  | 17 => ⟨S_, .f32⟩
  | 18 => ⟨S2048x4x1, .f32⟩
  | 19 => ⟨S2048x4x1, .f32⟩
  | 20 => ⟨S2048x4x1, .f32⟩
  | 21 => ⟨S2048x4x1, .f32⟩
  | 22 => ⟨S_, .f32⟩
  | 23 => ⟨S2048x4x1, .f32⟩
  | 24 => ⟨S2048x4x1, .f32⟩
  | 25 => ⟨S2048x4x256, .f32⟩
  | 26 => ⟨S2048x4x256, .f32⟩
  | 27 => ⟨S1x1x256, .f32⟩
  | 28 => ⟨S2048x4x256, .f32⟩
  | 29 => ⟨S2048x4x256, .f32⟩
  | 30 => ⟨S256x4x256, .f32⟩
  | 31 => ⟨S256x4x256, .f32⟩
  | 32 => ⟨S4x2048x256, .f32⟩
  | 33 => ⟨S_, .f32⟩
  | 34 => ⟨S4x2048x256, .f32⟩
  | 35 => ⟨S4x2048x256, .f32⟩
  | 36 => ⟨S_, .f32⟩
  | 37 => ⟨S4x2048, .f32⟩
  | 38 => ⟨S4x2048x1, .f32⟩
  | 39 => ⟨S4x2048x256, .f32⟩
  | 40 => ⟨S4x2048x256, .i1⟩
  | 41 => ⟨S4x2048x256, .f32⟩
  | 42 => ⟨S_, .f32⟩
  | 43 => ⟨S4x2048, .f32⟩
  | 44 => ⟨S_, .f32⟩
  | 45 => ⟨S4x2048, .f32⟩
  | 46 => ⟨S4x2048, .f32⟩
  | 47 => ⟨S_, .f32⟩
  | 48 => ⟨S4x2048, .f32⟩
  | 49 => ⟨S4x2048, .i1⟩
  | 50 => ⟨S_, .f32⟩
  | 51 => ⟨S4x2048, .f32⟩
  | 52 => ⟨S4x2048, .i1⟩
  | 53 => ⟨S_, .f32⟩
  | 54 => ⟨S4x2048, .f32⟩
  | 55 => ⟨S_, .f32⟩
  | 56 => ⟨S4x2048, .f32⟩
  | 57 => ⟨S_, .f32⟩
  | 58 => ⟨S4x2048, .f32⟩
  | 59 => ⟨S4x2048, .f32⟩
  | 60 => ⟨S4x2048, .f32⟩
  | 61 => ⟨S4x2048x1, .f32⟩
  | 62 => ⟨S4x2048x256, .f32⟩
  | 63 => ⟨S4x2048x256, .f32⟩
  | 64 => ⟨S4x2048x256, .f32⟩
  | 65 => ⟨S_, .f32⟩
  | 66 => ⟨S4x2048, .f32⟩
  | 67 => ⟨S4x2048x1, .f32⟩
  | 68 => ⟨S4x2048x256, .f32⟩
  | 69 => ⟨S4x2048x256, .f32⟩
  | 70 => ⟨S4x2048x1, .f32⟩
  | 71 => ⟨S_, .f32⟩
  | 72 => ⟨S4x2048x1, .f32⟩
  | 73 => ⟨S4x2048x1, .f32⟩
  | 74 => ⟨S4x256x2048, .f32⟩
  | 75 => ⟨S2048x4x256, .f32⟩
  | 76 => ⟨S2048x1024, .f32⟩
  | 77 => ⟨S2048x1024, .f32⟩
  | 78 => ⟨S2048x4x256, .f32⟩
  | 79 => ⟨S4x256x2048, .f32⟩
  | 80 => ⟨S4x2048x256, .f32⟩
  | 81 => ⟨S4x256x256, .f32⟩
  | 82 => ⟨S256x4x256, .f32⟩
  | 83 => ⟨S4x2048x256, .f32⟩
  | 84 => ⟨S4x2048x256, .f32⟩
  | 85 => ⟨S4x2048x256, .f32⟩
  | 86 => ⟨S_, .f32⟩
  | 87 => ⟨S4x2048, .f32⟩
  | 88 => ⟨S4x2048x1, .f32⟩
  | 89 => ⟨S4x2048x1, .f32⟩
  | 90 => ⟨S4x2048x256, .f32⟩
  | 91 => ⟨S4x2048x256, .f32⟩
  | 92 => ⟨S_, .f32⟩
  | 93 => ⟨S4x2048, .f32⟩
  | 94 => ⟨S4x2048x256, .f32⟩
  | 95 => ⟨S4x2048x256, .f32⟩
  | 96 => ⟨S4x2048x256, .f32⟩
  | 97 => ⟨S_, .f32⟩
  | 98 => ⟨S4x2048x256, .f32⟩
  | 99 => ⟨S4x2048x256, .f32⟩
  | 100 => ⟨S4x256x256, .f32⟩
  | 101 => ⟨S256x4x256, .f32⟩
  | 102 => ⟨S4x2048x256, .f32⟩
  | 103 => ⟨S2048x4x256, .f32⟩
  | 104 => ⟨S256x1024, .f32⟩
  | 105 => ⟨S256x1024, .f32⟩
  | 106 => ⟨S2048x4x256, .f32⟩
  | 107 => ⟨S_, .f32⟩
  | 108 => ⟨S256, .f32⟩
  | 109 => ⟨S1x1x256, .f32⟩
  | 110 => ⟨S2048x4x256, .f32⟩
  | 111 => ⟨S2048x4x256, .f32⟩
  | 112 => ⟨S_, .f32⟩
  | 113 => ⟨S256, .f32⟩
  | 114 => ⟨S1x256, .f32⟩
  | 115 => ⟨S2048x4x256, .f32⟩
  | 116 => ⟨S_, .f32⟩
  | 117 => ⟨S2048x4, .f32⟩
  | 118 => ⟨S2048x4x1, .f32⟩
  | 119 => ⟨S2048x4x256, .f32⟩
  | 120 => ⟨S2048x4x256, .f32⟩
  | 121 => ⟨S2048x4x1, .f32⟩
  | 122 => ⟨S_, .f32⟩
  | 123 => ⟨S2048x4x1, .f32⟩
  | 124 => ⟨S2048x4x1, .f32⟩
  | 125 => ⟨S_, .f32⟩
  | 126 => ⟨S2048x4, .f32⟩
  | 127 => ⟨S2048x4x256, .f32⟩
  | _ => ⟨S2048x10240, .bf16⟩

abbrev hbmTy0_1 (i : Nat) : BufTy := match i % 128 with
  | 0 => ⟨S2048x4x256, .f32⟩
  | 1 => ⟨S2048x4x256, .f32⟩
  | 2 => ⟨S2048x4x256, .f32⟩
  | 3 => ⟨S2048x4x256, .f32⟩
  | 4 => ⟨S2048x1024, .f32⟩
  | 5 => ⟨S2048x1024, .bf16⟩
  | _ => ⟨S2048x10240, .bf16⟩

abbrev hbmTy (i : Nat) : BufTy := match i / 128 with
  | 0 => hbmTy0_0 i
  | 1 => hbmTy0_1 i
  | _ => ⟨S2048x10240, .bf16⟩

abbrev bufTy : (tb : Table) → Fin (tcTables nBuf tb) → BufTy
  | .hbm, ⟨i, _⟩ => hbmTy i
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_18 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_19 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_20 : Ref sig .tc := ⟨.hbm, 122, rfl⟩
abbrev main_v96 : Ref sig .tc := ⟨.hbm, 123, rfl⟩
abbrev main_v97 : Ref sig .tc := ⟨.hbm, 124, rfl⟩
abbrev main_cst_21 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩

abbrev nD : Nat := 1
abbrev τ : Topo := Topo.v7x

variable {F : FTy → Type} [FloatOps F]
-- ==== Kernel3.lean ====
abbrev S2048x1024 : Shape := ⟨2, ![2048, 1024]⟩
abbrev S2048x10240 : Shape := ⟨2, ![2048, 10240]⟩
abbrev S1024x1024 : Shape := ⟨2, ![1024, 1024]⟩
abbrev S2048x3072 : Shape := ⟨2, ![2048, 3072]⟩
abbrev S256x1024 : Shape := ⟨2, ![256, 1024]⟩
abbrev S256x3072 : Shape := ⟨2, ![256, 3072]⟩

abbrev nBuf : Space → Nat
  | .hbm => 27
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S2048x10240, .bf16⟩
  | .hbm, ⟨2, _⟩ => ⟨S2048x1024, .bf16⟩
  | .hbm, ⟨3, _⟩ => ⟨S2048x1024, .f32⟩
  | .hbm, ⟨4, _⟩ => ⟨S2048x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S2048x1024, .f32⟩
  | .hbm, ⟨14, _⟩ => ⟨S2048x1024, .bf16⟩
  | .hbm, ⟨15, _⟩ => ⟨S2048x1024, .bf16⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S2048x1024, .bf16⟩
  | .hbm, ⟨20, _⟩ => ⟨S2048x3072, .bf16⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S256x3072, .bf16⟩
  | .local _ .vmem, ⟨19, _⟩ => ⟨S256x3072, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S2048x1024 : Shape := ⟨2, ![2048, 1024]⟩
abbrev S2048x10240 : Shape := ⟨2, ![2048, 10240]⟩
abbrev S1024x1024 : Shape := ⟨2, ![1024, 1024]⟩
abbrev S2048x3072 : Shape := ⟨2, ![2048, 3072]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x10240, .bf16⟩
  | .hbm, ⟨2, _⟩ => ⟨S2048x1024, .bf16⟩
  | .hbm, ⟨3, _⟩ => ⟨S2048x1024, .f32⟩
  | .hbm, ⟨4, _⟩ => ⟨S2048x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x3072, .bf16⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S_, .f32⟩
  | .hbm, ⟨19, _⟩ => ⟨S2048x3072, .f32⟩
  | .hbm, ⟨20, _⟩ => ⟨S2048x3072, .f32⟩
  | .hbm, ⟨21, _⟩ => ⟨S_, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x3072, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x3072, .f32⟩
  | .hbm, ⟨46, _⟩ => ⟨S2048x3072, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x3072, .f32⟩
  | .hbm, ⟨51, _⟩ => ⟨S2048x3072, .f32⟩
  | .hbm, ⟨52, _⟩ => ⟨S2048x3072, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x3072, .bf16⟩
  | .hbm, ⟨57, _⟩ => ⟨S2048x1024, .bf16⟩
  | .hbm, ⟨58, _⟩ => ⟨S2048x1024, .bf16⟩
  | .hbm, ⟨59, _⟩ => ⟨S2048x1024, .bf16⟩
  | .hbm, ⟨60, _⟩ => ⟨S2048x1024, .bf16⟩
  | .hbm, ⟨61, _⟩ => ⟨S2048x1024, .bf16⟩
  | .hbm, ⟨62, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024x8x512 : Shape := ⟨3, ![1024, 8, 512]⟩
abbrev S8x1024x512 : Shape := ⟨3, ![8, 1024, 512]⟩
abbrev S512x1024 : Shape := ⟨2, ![512, 1024]⟩
abbrev S1x1024x512 : Shape := ⟨3, ![1, 1024, 512]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 32
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S1024x4096, .bf16⟩
  | .hbm, ⟨22, _⟩ => ⟨S2048x4096, .f32⟩
  | .hbm, ⟨23, _⟩ => ⟨S2048x4096, .bf16⟩
  | .hbm, ⟨24, _⟩ => ⟨S1024x4096, .bf16⟩
  | .hbm, ⟨25, _⟩ => ⟨S1024x8x512, .bf16⟩
  | .hbm, ⟨26, _⟩ => ⟨S8x1024x512, .bf16⟩
  | .hbm, ⟨27, _⟩ => ⟨S4096x1024, .bf16⟩
  | .hbm, ⟨28, _⟩ => ⟨S2048x4096, .bf16⟩
  | .hbm, ⟨29, _⟩ => ⟨S2048x4096, .bf16⟩
  | .hbm, ⟨30, _⟩ => ⟨S2048x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S512x1024, .bf16⟩
  | .local _ .vmem, ⟨6, _⟩ => ⟨S512x1024, .bf16⟩
  | .local _ .vmem, ⟨7, _⟩ => ⟨S512x512, .bf16⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_23 : BitVec 32 := 0#32
  let v35 : BitVec 1 := Scalar.cmpi .ne v34 c0_i32_23
  v35

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference4Ideal.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S_, .f32⟩
  | .hbm, ⟨29, _⟩ => ⟨S2048x4096, .f32⟩
  | .hbm, ⟨30, _⟩ => ⟨S2048x4096, .i1⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S_, .f32⟩
  | .hbm, ⟨35, _⟩ => ⟨S2048x4096, .f32⟩
  | .hbm, ⟨36, _⟩ => ⟨S2048x4096, .f32⟩
  | .hbm, ⟨37, _⟩ => ⟨S2048x1024, .f32⟩
  | .hbm, ⟨38, _⟩ => ⟨S2048x4096, .f32⟩
  | .hbm, ⟨39, _⟩ => ⟨S2048x4096, .f32⟩
  | .hbm, ⟨40, _⟩ => ⟨S_, .f32⟩
  | .hbm, ⟨41, _⟩ => ⟨S2048x4096, .f32⟩
  | .hbm, ⟨42, _⟩ => ⟨S2048x4096, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x4096, .bf16⟩
  | .hbm, ⟨68, _⟩ => ⟨S2048x4096, .bf16⟩
  | .hbm, ⟨69, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel5.lean ====
abbrev S2048x1024 : Shape := ⟨2, ![2048, 1024]⟩
abbrev S2048x10240 : Shape := ⟨2, ![2048, 10240]⟩
abbrev S8x1024x1280 : Shape := ⟨3, ![8, 1024, 1280]⟩
abbrev S2048x512 : Shape := ⟨2, ![2048, 512]⟩
abbrev S2048x1280 : Shape := ⟨2, ![2048, 1280]⟩
abbrev S1x512x1280 : Shape := ⟨3, ![1, 512, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x10240, .bf16⟩
  | .hbm, ⟨2, _⟩ => ⟨S8x1024x1280, .bf16⟩
  | .local _ .vmem, ⟨0, _⟩ => ⟨S2048x512, .bf16⟩
  | .local _ .vmem, ⟨1, _⟩ => ⟨S2048x512, .bf16⟩
  | .local _ .vmem, ⟨2, _⟩ => ⟨S2048x1280, .bf16⟩
  | .local _ .vmem, ⟨3, _⟩ => ⟨S2048x1280, .bf16⟩
  | .local _ .vmem, ⟨4, _⟩ => ⟨S1x512x1280, .bf16⟩
  | .local _ .vmem, ⟨5, _⟩ => ⟨S1x512x1280, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S2048x10240 : Shape := ⟨2, ![2048, 10240]⟩
abbrev S_ : Shape := ⟨0, ![]⟩
abbrev S1024x10240 : Shape := ⟨2, ![1024, 10240]⟩
abbrev S10240x1024 : Shape := ⟨2, ![10240, 1024]⟩
abbrev S1024x8x1280 : Shape := ⟨3, ![1024, 8, 1280]⟩
abbrev S8x1024x1280 : Shape := ⟨3, ![8, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x10240, .bf16⟩
  | .hbm, ⟨2, _⟩ => ⟨S2048x1024, .f32⟩
  | .hbm, ⟨3, _⟩ => ⟨S2048x10240, .f32⟩
  | .hbm, ⟨4, _⟩ => ⟨S_, .f32⟩
  | .hbm, ⟨5, _⟩ => ⟨S1024x10240, .f32⟩
  | .hbm, ⟨6, _⟩ => ⟨S2048x10240, .f32⟩
  | .hbm, ⟨7, _⟩ => ⟨S10240x1024, .f32⟩
  | .hbm, ⟨8, _⟩ => ⟨S1024x10240, .f32⟩
  | .hbm, ⟨9, _⟩ => ⟨S1024x8x1280, .f32⟩
  | .hbm, ⟨10, _⟩ => ⟨S8x1024x1280, .f32⟩
  | .hbm, ⟨11, _⟩ => ⟨S8x1024x1280, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x1024 : Shape := ⟨2, ![2048, 1024]⟩
abbrev S1x1024x1024 : Shape := ⟨3, ![1, 1024, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | .hbm, ⟨11, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2048x1024 : Shape := ⟨2, ![2048, 1024]⟩
abbrev S1x1024x1024 : Shape := ⟨3, ![1, 1024, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S1x512x1024, .bf16⟩
  | .local _ .vmem, ⟨4, _⟩ => ⟨S1x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1x1024, .f32⟩
  | .hbm, ⟨9, _⟩ => ⟨S1x1024x1024, .f32⟩
  | .hbm, ⟨10, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S256x1024 : Shape := ⟨2, ![256, 1024]⟩
abbrev S256x2048 : Shape := ⟨2, ![256, 2048]⟩
abbrev S8x1024x256 : Shape := ⟨3, ![8, 1024, 256]⟩
abbrev S256x512 : Shape := ⟨2, ![256, 512]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S8x1024x256, .bf16⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S1x512x256, .bf16⟩
  | .local _ .vmem, ⟨5, _⟩ => ⟨S1x512x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S256x1024, .f32⟩
  | .hbm, ⟨3, _⟩ => ⟨S256x2048, .f32⟩
  | .hbm, ⟨4, _⟩ => ⟨S_, .f32⟩
  | .hbm, ⟨5, _⟩ => ⟨S1024x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S1024x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S2048x4096 : Shape := ⟨2, ![2048, 4096]⟩
abbrev S2048x1024 : Shape := ⟨2, ![2048, 1024]⟩
abbrev S1x4096x1024 : Shape := ⟨3, ![1, 4096, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1x4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S1x512x1024, .bf16⟩
  | .local _ .vmem, ⟨4, _⟩ => ⟨S1x512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S4096x1x1024 : Shape := ⟨3, ![4096, 1, 1024]⟩
abbrev S1x4096x1024 : Shape := ⟨3, ![1, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S2048x4096, .f32⟩
  | .hbm, ⟨3, _⟩ => ⟨S_, .f32⟩
  | .hbm, ⟨4, _⟩ => ⟨S4096x1024, .f32⟩
  | .hbm, ⟨5, _⟩ => ⟨S2048x1024, .f32⟩
  | .hbm, ⟨6, _⟩ => ⟨S1024x4096, .f32⟩
  | .hbm, ⟨7, _⟩ => ⟨S4096x1024, .f32⟩
  | .hbm, ⟨8, _⟩ => ⟨S4096x1x1024, .f32⟩
  | .hbm, ⟨9, _⟩ => ⟨S1x4096x1024, .f32⟩
  | .hbm, ⟨10, _⟩ => ⟨S1x4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel27.lean ====
abbrev S2048x1024 : Shape := ⟨2, ![2048, 1024]⟩
abbrev S1x1024x1024 : Shape := ⟨3, ![1, 1024, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S2048x1024 : Shape := ⟨2, ![2048, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1x1024, .f32⟩
  | .hbm, ⟨9, _⟩ => ⟨S1x1024x1024, .f32⟩
  | .hbm, ⟨10, _⟩ => ⟨S1x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S2048x4096 : Shape := ⟨2, ![2048, 4096]⟩
abbrev S512x1024 : Shape := ⟨2, ![512, 1024]⟩
abbrev S1x1024x512 : Shape := ⟨3, ![1, 1024, 512]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1024 : Shape := ⟨1, ![1024]⟩
abbrev S_ : Shape := ⟨0, ![]⟩

abbrev nBuf : Space → Nat
  | .hbm => 19
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S2048x4096, .bf16⟩
  | .hbm, ⟨10, _⟩ => ⟨S2048x1024, .bf16⟩
  | .hbm, ⟨11, _⟩ => ⟨S2048x1024, .f32⟩
  | .hbm, ⟨12, _⟩ => ⟨S1x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_18 : BitVec 32 := 0#32
  let v29 : BitVec 1 := Scalar.cmpi .ne v28 c0_i32_18
  v29

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference11Ideal.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x4096, .bf16⟩
  | .hbm, ⟨51, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Kernel12.lean ====
abbrev S2048x1024 : Shape := ⟨2, ![2048, 1024]⟩
abbrev S2048x10240 : Shape := ⟨2, ![2048, 10240]⟩
abbrev S1024x1024 : Shape := ⟨2, ![1024, 1024]⟩
abbrev S256x1024 : Shape := ⟨2, ![256, 1024]⟩

abbrev nBuf : Space → Nat
  | .hbm => 18
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x10240, .bf16⟩
  | .hbm, ⟨2, _⟩ => ⟨S2048x1024, .bf16⟩
  | .hbm, ⟨3, _⟩ => ⟨S2048x1024, .f32⟩
  | .hbm, ⟨4, _⟩ => ⟨S2048x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S2048x1024, .f32⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference12Ideal.lean ====
abbrev S2048x1024 : Shape := ⟨2, ![2048, 1024]⟩
abbrev S2048x10240 : Shape := ⟨2, ![2048, 10240]⟩
abbrev S1024x1024 : Shape := ⟨2, ![1024, 1024]⟩
abbrev S2048x3072 : Shape := ⟨2, ![2048, 3072]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x10240, .bf16⟩
  | .hbm, ⟨2, _⟩ => ⟨S2048x1024, .bf16⟩
  | .hbm, ⟨3, _⟩ => ⟨S2048x1024, .f32⟩
  | .hbm, ⟨4, _⟩ => ⟨S2048x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x3072, .bf16⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S_, .f32⟩
  | .hbm, ⟨19, _⟩ => ⟨S2048x3072, .f32⟩
  | .hbm, ⟨20, _⟩ => ⟨S2048x3072, .f32⟩
  | .hbm, ⟨21, _⟩ => ⟨S_, .f32⟩
  | .hbm, ⟨22, _⟩ => ⟨S2048x3072, .f32⟩
  | .hbm, ⟨23, _⟩ => ⟨S2048x3072, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x1024, .bf16⟩
  | .hbm, ⟨36, _⟩ => ⟨S2048x1024, .bf16⟩
  | .hbm, ⟨37, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel13.lean ====
abbrev S2048x10240 : Shape := ⟨2, ![2048, 10240]⟩
abbrev S1x256 : Shape := ⟨2, ![1, 256]⟩
abbrev S256x1024 : Shape := ⟨2, ![256, 1024]⟩
abbrev S2048x1024 : Shape := ⟨2, ![2048, 1024]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x10240, .bf16⟩
  | .hbm, ⟨1, _⟩ => ⟨S1x256, .f32⟩
  | .hbm, ⟨2, _⟩ => ⟨S256x1024, .bf16⟩
  | .hbm, ⟨3, _⟩ => ⟨S256x1024, .bf16⟩
  | .hbm, ⟨4, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S1x256, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S2048x10240 : Shape := ⟨2, ![2048, 10240]⟩
abbrev S1x256 : Shape := ⟨2, ![1, 256]⟩
abbrev S256x1024 : Shape := ⟨2, ![256, 1024]⟩
abbrev S2048x1024 : Shape := ⟨2, ![2048, 1024]⟩
abbrev S2048x4x256 : Shape := ⟨3, ![2048, 4, 256]⟩
abbrev S_ : Shape := ⟨0, ![]⟩
abbrev S2048x4 : Shape := ⟨2, ![2048, 4]⟩
abbrev S2048x4x1 : Shape := ⟨3, ![2048, 4, 1]⟩
abbrev S1x1x256 : Shape := ⟨3, ![1, 1, 256]⟩
abbrev S256x4x256 : Shape := ⟨3, ![256, 4, 256]⟩
abbrev S4x2048x256 : Shape := ⟨3, ![4, 2048, 256]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S1x256, .f32⟩
  | .hbm, ⟨2, _⟩ => ⟨S256x1024, .bf16⟩
  | .hbm, ⟨3, _⟩ => ⟨S256x1024, .bf16⟩
  | .hbm, ⟨4, _⟩ => ⟨S2048x1024, .bf16⟩
  | .hbm, ⟨5, _⟩ => ⟨S2048x1024, .f32⟩
  | .hbm, ⟨6, _⟩ => ⟨S256x1024, .f32⟩
  | .hbm, ⟨7, _⟩ => ⟨S256x1024, .f32⟩
  | .hbm, ⟨8, _⟩ => ⟨S2048x4x256, .f32⟩
  | .hbm, ⟨9, _⟩ => ⟨S2048x4x256, .f32⟩
  | .hbm, ⟨10, _⟩ => ⟨S_, .f32⟩
  | .hbm, ⟨11, _⟩ => ⟨S2048x4, .f32⟩
  | .hbm, ⟨12, _⟩ => ⟨S2048x4x1, .f32⟩
  | .hbm, ⟨13, _⟩ => ⟨S_, .f32⟩
  | .hbm, ⟨14, _⟩ => ⟨S2048x4x1, .f32⟩
  | .hbm, ⟨15, _⟩ => ⟨S2048x4x1, .f32⟩
  | .hbm, ⟨16, _⟩ => ⟨S_, .f32⟩
  | .hbm, ⟨17, _⟩ => ⟨S2048x4x1, .f32⟩
  | .hbm, ⟨18, _⟩ => ⟨S2048x4x1, .f32⟩
  | .hbm, ⟨19, _⟩ => ⟨S2048x4x1, .f32⟩
  | .hbm, ⟨20, _⟩ => ⟨S2048x4x256, .f32⟩
  | .hbm, ⟨21, _⟩ => ⟨S2048x4x256, .f32⟩
  | .hbm, ⟨22, _⟩ => ⟨S1x1x256, .f32⟩
  | .hbm, ⟨23, _⟩ => ⟨S2048x4x256, .f32⟩
  | .hbm, ⟨24, _⟩ => ⟨S2048x4x256, .f32⟩
  | .hbm, ⟨25, _⟩ => ⟨S256x4x256, .f32⟩
  | .hbm, ⟨26, _⟩ => ⟨S256x4x256, .f32⟩
  | .hbm, ⟨27, _⟩ => ⟨S4x2048x256, .f32⟩
  | .hbm, ⟨28, _⟩ => ⟨S_, .f32⟩
  | .hbm, ⟨29, _⟩ => ⟨S4x2048x256, .f32⟩
  | .hbm, ⟨30, _⟩ => ⟨S4x2048x256, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x256x2048, .f32⟩
  | .hbm, ⟨46, _⟩ => ⟨S2048x4x256, .f32⟩
  | .hbm, ⟨47, _⟩ => ⟨S2048x1024, .f32⟩
  | .hbm, ⟨48, _⟩ => ⟨S2048x1024, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel14.lean ====
abbrev S2048x10240 : Shape := ⟨2, ![2048, 10240]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x10240, .bf16⟩
  | .hbm, ⟨1, _⟩ => ⟨S3x1024, .f32⟩
  | .hbm, ⟨2, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S2048x10240 : Shape := ⟨2, ![2048, 10240]⟩
abbrev S3x1024 : Shape := ⟨2, ![3, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S2046x1024 : Shape := ⟨2, ![2046, 1024]⟩
abbrev S2047x1024 : Shape := ⟨2, ![2047, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S3x1024, .f32⟩
  | .hbm, ⟨2, _⟩ => ⟨S2048x10240, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S2x1024, .f32⟩
  | .hbm, ⟨11, _⟩ => ⟨S2046x1024, .f32⟩
  | .hbm, ⟨12, _⟩ => ⟨S2048x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S1024, .f32⟩
  | .hbm, ⟨18, _⟩ => ⟨S_, .f32⟩
  | .hbm, ⟨19, _⟩ => ⟨S1x1024, .f32⟩
  | .hbm, ⟨20, _⟩ => ⟨S2047x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel15.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S1024x8x256 : Shape := ⟨3, ![1024, 8, 256]⟩
abbrev S8x1024x256 : Shape := ⟨3, ![8, 1024, 256]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 10
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1x256, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S256x1024, .bf16⟩
  | .hbm, ⟨8, _⟩ => ⟨S256x1024, .bf16⟩
  | .hbm, ⟨9, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S1x256, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference15Ideal.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩

abbrev nBuf : Space → Nat
  | .hbm => 43
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1x256, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x1024, .f32⟩
  | .hbm, ⟨21, _⟩ => ⟨S256x4x256, .f32⟩
  | .hbm, ⟨22, _⟩ => ⟨S256x4x256, .f32⟩
  | .hbm, ⟨23, _⟩ => ⟨S_, .f32⟩
  | .hbm, ⟨24, _⟩ => ⟨S256x4, .f32⟩
  | .hbm, ⟨25, _⟩ => ⟨S256x4x1, .f32⟩
  | .hbm, ⟨26, _⟩ => ⟨S_, .f32⟩
  | .hbm, ⟨27, _⟩ => ⟨S256x4x1, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S256x4x1, .f32⟩
  | .hbm, ⟨33, _⟩ => ⟨S256x4x256, .f32⟩
  | .hbm, ⟨34, _⟩ => ⟨S256x4x256, .f32⟩
  | .hbm, ⟨35, _⟩ => ⟨S1x1x256, .f32⟩
  | .hbm, ⟨36, _⟩ => ⟨S256x4x256, .f32⟩
  | .hbm, ⟨37, _⟩ => ⟨S256x4x256, .f32⟩
  | .hbm, ⟨38, _⟩ => ⟨S256x1024, .f32⟩
  | .hbm, ⟨39, _⟩ => ⟨S256x1024, .f32⟩
  | .hbm, ⟨40, _⟩ => ⟨S256x1024, .bf16⟩
  | .hbm, ⟨41, _⟩ => ⟨S256x1024, .bf16⟩
  | .hbm, ⟨42, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel16.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S1024x8x256 : Shape := ⟨3, ![1024, 8, 256]⟩
abbrev S8x1024x256 : Shape := ⟨3, ![8, 1024, 256]⟩
abbrev S256x2048 : Shape := ⟨2, ![256, 2048]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1024 : Shape := ⟨1, ![1024]⟩

abbrev nBuf : Space → Nat
  | .hbm => 12
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1x256, .f32⟩
  | .hbm, ⟨4, _⟩ => ⟨S256x1024, .f32⟩
  | .hbm, ⟨5, _⟩ => ⟨S256x1024, .f32⟩
  | .hbm, ⟨6, _⟩ => ⟨S1024x2048, .bf16⟩
  | .hbm, ⟨7, _⟩ => ⟨S1024x8x256, .bf16⟩
  | .hbm, ⟨8, _⟩ => ⟨S8x1024x256, .bf16⟩
  | .hbm, ⟨9, _⟩ => ⟨S256x2048, .bf16⟩
  | .hbm, ⟨10, _⟩ => ⟨S1x1024, .f32⟩
  | .hbm, ⟨11, _⟩ => ⟨S1x256, .f32⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S1x256, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S1x1024, .f32⟩
  | .local _ .vmem, ⟨8, _⟩ => ⟨S1x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference16Ideal.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1x256, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S256x1024, .f32⟩
  | .hbm, ⟨23, _⟩ => ⟨S256x4x256, .f32⟩
  | .hbm, ⟨24, _⟩ => ⟨S256x4x256, .f32⟩
  | .hbm, ⟨25, _⟩ => ⟨S_, .f32⟩
  | .hbm, ⟨26, _⟩ => ⟨S256x4, .f32⟩
  | .hbm, ⟨27, _⟩ => ⟨S256x4x1, .f32⟩
  | .hbm, ⟨28, _⟩ => ⟨S_, .f32⟩
  | .hbm, ⟨29, _⟩ => ⟨S256x4x1, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S_, .f32⟩
  | .hbm, ⟨37, _⟩ => ⟨S256x4x1, .f32⟩
  | .hbm, ⟨38, _⟩ => ⟨S256x4x1, .f32⟩
  | .hbm, ⟨39, _⟩ => ⟨S256x4x256, .f32⟩
  | .hbm, ⟨40, _⟩ => ⟨S256x4x256, .f32⟩
  | .hbm, ⟨41, _⟩ => ⟨S1x1x256, .f32⟩
  | .hbm, ⟨42, _⟩ => ⟨S256x4x256, .f32⟩
  | .hbm, ⟨43, _⟩ => ⟨S256x4x256, .f32⟩
  | .hbm, ⟨44, _⟩ => ⟨S256x1024, .f32⟩
  | .hbm, ⟨45, _⟩ => ⟨S256x4x256, .f32⟩
  | .hbm, ⟨46, _⟩ => ⟨S256x4x256, .f32⟩
  | .hbm, ⟨47, _⟩ => ⟨S_, .f32⟩
  | .hbm, ⟨48, _⟩ => ⟨S256, .f32⟩
  | .hbm, ⟨49, _⟩ => ⟨S1x1x256, .f32⟩
  | .hbm, ⟨50, _⟩ => ⟨S256x4x256, .f32⟩
  | .hbm, ⟨51, _⟩ => ⟨S256x4x256, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S256x4x256, .f32⟩
  | .hbm, ⟨56, _⟩ => ⟨S_, .f32⟩
  | .hbm, ⟨57, _⟩ => ⟨S256x4, .f32⟩
  | .hbm, ⟨58, _⟩ => ⟨S256x4x1, .f32⟩
  | .hbm, ⟨59, _⟩ => ⟨S256x4x256, .f32⟩
  | .hbm, ⟨60, _⟩ => ⟨S256x4x256, .f32⟩
  | .hbm, ⟨61, _⟩ => ⟨S256x4x1, .f32⟩
  | .hbm, ⟨62, _⟩ => ⟨S_, .f32⟩
  | .hbm, ⟨63, _⟩ => ⟨S256x4x1, .f32⟩
  | .hbm, ⟨64, _⟩ => ⟨S256x4x1, .f32⟩
  | .hbm, ⟨65, _⟩ => ⟨S_, .f32⟩
  | .hbm, ⟨66, _⟩ => ⟨S256x4, .f32⟩
  | .hbm, ⟨67, _⟩ => ⟨S256x4x256, .f32⟩
  | .hbm, ⟨68, _⟩ => ⟨S256x4x256, .f32⟩
  | .hbm, ⟨69, _⟩ => ⟨S256x4x256, .f32⟩
  | .hbm, ⟨70, _⟩ => ⟨S256x4x256, .f32⟩
  | .hbm, ⟨71, _⟩ => ⟨S256x4x256, .f32⟩
  | .hbm, ⟨72, _⟩ => ⟨S256x1024, .f32⟩
  | .hbm, ⟨73, _⟩ => ⟨S256x2048, .f32⟩
  | .hbm, ⟨74, _⟩ => ⟨S256x1024, .f32⟩
  | .hbm, ⟨75, _⟩ => ⟨S256x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel17.lean ====
abbrev S2048x1024 : Shape := ⟨2, ![2048, 1024]⟩
abbrev S1x1024 : Shape := ⟨2, ![1, 1024]⟩
abbrev S1024x10240 : Shape := ⟨2, ![1024, 10240]⟩
abbrev S1024x8x1280 : Shape := ⟨3, ![1024, 8, 1280]⟩
abbrev S8x1024x1280 : Shape := ⟨3, ![8, 1024, 1280]⟩
abbrev S2048x10240 : Shape := ⟨2, ![2048, 10240]⟩
abbrev S512x1024 : Shape := ⟨2, ![512, 1024]⟩
abbrev S1x1024x1280 : Shape := ⟨3, ![1, 1024, 1280]⟩
abbrev S512x1280 : Shape := ⟨2, ![512, 1280]⟩
abbrev S512 : Shape := ⟨1, ![512]⟩
abbrev S512x1 : Shape := ⟨2, ![512, 1]⟩
abbrev S1024x1280 : Shape := ⟨2, ![1024, 1280]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x10240, .f32⟩
  | .hbm, ⟨3, _⟩ => ⟨S1024x10240, .bf16⟩
  | .hbm, ⟨4, _⟩ => ⟨S1024x8x1280, .bf16⟩
  | .hbm, ⟨5, _⟩ => ⟨S8x1024x1280, .bf16⟩
  | .hbm, ⟨6, _⟩ => ⟨S2048x10240, .bf16⟩
  | .hbm, ⟨7, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1280, .bf16⟩
  | .local _ .vmem, ⟨4, _⟩ => ⟨S1x1024x1280, .bf16⟩
  | .local _ .vmem, ⟨5, _⟩ => ⟨S512x1280, .bf16⟩
  | .local _ .vmem, ⟨6, _⟩ => ⟨S512x1280, .bf16⟩
  | .local _ .vmem, ⟨7, _⟩ => ⟨S512x1024, .bf16⟩
  | .local _ .vmem, ⟨8, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference17Ideal.lean ====
abbrev S2048x1024 : Shape := ⟨2, ![2048, 1024]⟩
abbrev S1x1024 : Shape := ⟨2, ![1, 1024]⟩
abbrev S1024x10240 : Shape := ⟨2, ![1024, 10240]⟩
abbrev S_ : Shape := ⟨0, ![]⟩
abbrev S2048 : Shape := ⟨1, ![2048]⟩
abbrev S2048x1 : Shape := ⟨2, ![2048, 1]⟩
abbrev S2048x10240 : Shape := ⟨2, ![2048, 10240]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x10240, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x10240, .f32⟩
  | .hbm, ⟨19, _⟩ => ⟨S2048x10240, .bf16⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel18.lean ====
abbrev S2048x1024 : Shape := ⟨2, ![2048, 1024]⟩
abbrev S1x1024 : Shape := ⟨2, ![1, 1024]⟩
abbrev S1024x10240 : Shape := ⟨2, ![1024, 10240]⟩
abbrev S2048x10240 : Shape := ⟨2, ![2048, 10240]⟩
abbrev S1024x8x1280 : Shape := ⟨3, ![1024, 8, 1280]⟩
abbrev S8x1024x1280 : Shape := ⟨3, ![8, 1024, 1280]⟩
abbrev S512x1024 : Shape := ⟨2, ![512, 1024]⟩
abbrev S1x1024x1280 : Shape := ⟨3, ![1, 1024, 1280]⟩
abbrev S512x1280 : Shape := ⟨2, ![512, 1280]⟩
abbrev S1024x1280 : Shape := ⟨2, ![1024, 1280]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x10240, .f32⟩
  | .hbm, ⟨3, _⟩ => ⟨S2048x10240, .bf16⟩
  | .hbm, ⟨4, _⟩ => ⟨S2048x1024, .f32⟩
  | .hbm, ⟨5, _⟩ => ⟨S1024x10240, .bf16⟩
  | .hbm, ⟨6, _⟩ => ⟨S1024x8x1280, .bf16⟩
  | .hbm, ⟨7, _⟩ => ⟨S8x1024x1280, .bf16⟩
  | .hbm, ⟨8, _⟩ => ⟨S2048x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1280, .bf16⟩
  | .local _ .vmem, ⟨4, _⟩ => ⟨S1x1024x1280, .bf16⟩
  | .local _ .vmem, ⟨5, _⟩ => ⟨S512x1280, .bf16⟩
  | .local _ .vmem, ⟨6, _⟩ => ⟨S512x1280, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference18Ideal.lean ====
abbrev S2048x1024 : Shape := ⟨2, ![2048, 1024]⟩
abbrev S1x1024 : Shape := ⟨2, ![1, 1024]⟩
abbrev S1024x10240 : Shape := ⟨2, ![1024, 10240]⟩
abbrev S2048x10240 : Shape := ⟨2, ![2048, 10240]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x10240, .f32⟩
  | .hbm, ⟨3, _⟩ => ⟨S2048x10240, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x10240, .f32⟩
  | .hbm, ⟨25, _⟩ => ⟨S2048x10240, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel19.lean ====
abbrev S4x1024x1280 : Shape := ⟨3, ![4, 1024, 1280]⟩
abbrev S3x1024x1280 : Shape := ⟨3, ![3, 1024, 1280]⟩
abbrev S1024x1280 : Shape := ⟨2, ![1024, 1280]⟩
abbrev S1x256x1280 : Shape := ⟨3, ![1, 256, 1280]⟩
abbrev S3x256x1280 : Shape := ⟨3, ![3, 256, 1280]⟩
abbrev S256x1280 : Shape := ⟨2, ![256, 1280]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1280, .bf16⟩
  | .hbm, ⟨1, _⟩ => ⟨S3x1024x1280, .bf16⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .hbm, ⟨7, _⟩ => ⟨S1024x1280, .f32⟩
  | .hbm, ⟨8, _⟩ => ⟨S1024x1280, .f32⟩
  | .local _ .vmem, ⟨0, _⟩ => ⟨S1x256x1280, .bf16⟩
  | .local _ .vmem, ⟨1, _⟩ => ⟨S1x256x1280, .bf16⟩
  | .local _ .vmem, ⟨2, _⟩ => ⟨S3x256x1280, .bf16⟩
  | .local _ .vmem, ⟨3, _⟩ => ⟨S3x256x1280, .bf16⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | .local _ .vmem, ⟨16, _⟩ => ⟨S256x1280, .f32⟩
  | .local _ .vmem, ⟨17, _⟩ => ⟨S256x1280, .f32⟩
  | _, _ => ⟨S4x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S4x1024x1280 : Shape := ⟨3, ![4, 1024, 1280]⟩
abbrev S3x1024x1280 : Shape := ⟨3, ![3, 1024, 1280]⟩
abbrev S1024x1280 : Shape := ⟨2, ![1024, 1280]⟩
abbrev S1x1024x1280 : Shape := ⟨3, ![1, 1024, 1280]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1280, .bf16⟩
  | .hbm, ⟨1, _⟩ => ⟨S3x1024x1280, .bf16⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1x1024x1280, .bf16⟩
  | .hbm, ⟨6, _⟩ => ⟨S1024x1280, .bf16⟩
  | .hbm, ⟨7, _⟩ => ⟨S1024x1280, .f32⟩
  | .hbm, ⟨8, _⟩ => ⟨S3x1024x1280, .f32⟩
  | .hbm, ⟨9, _⟩ => ⟨S_, .f32⟩
  | .hbm, ⟨10, _⟩ => ⟨S1024x1280, .f32⟩
  | .hbm, ⟨11, _⟩ => ⟨S1024x1280, .f32⟩
  | .hbm, ⟨12, _⟩ => ⟨S_, .f32⟩
  | .hbm, ⟨13, _⟩ => ⟨S1024x1280, .f32⟩
  | .hbm, ⟨14, _⟩ => ⟨S1024x1280, .f32⟩
  | .hbm, ⟨15, _⟩ => ⟨S_, .f32⟩
  | .hbm, ⟨16, _⟩ => ⟨S1024x1280, .f32⟩
  | .hbm, ⟨17, _⟩ => ⟨S1024x1280, .f32⟩
  | .hbm, ⟨18, _⟩ => ⟨S1024x1280, .f32⟩
  | .hbm, ⟨19, _⟩ => ⟨S_, .f32⟩
  | .hbm, ⟨20, _⟩ => ⟨S1024x1280, .f32⟩
  | .hbm, ⟨21, _⟩ => ⟨S1024x1280, .f32⟩
  | .hbm, ⟨22, _⟩ => ⟨S1024x1280, .f32⟩
  | .hbm, ⟨23, _⟩ => ⟨S_, .f32⟩
  | .hbm, ⟨24, _⟩ => ⟨S1024x1280, .f32⟩
  | .hbm, ⟨25, _⟩ => ⟨S1024x1280, .f32⟩
  | .hbm, ⟨26, _⟩ => ⟨S1024x1280, .f32⟩
  | .hbm, ⟨27, _⟩ => ⟨S_, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S1024x1280, .f32⟩
  | .hbm, ⟨34, _⟩ => ⟨S_, .f32⟩
  | .hbm, ⟨35, _⟩ => ⟨S1024x1280, .f32⟩
  | .hbm, ⟨36, _⟩ => ⟨S1024x1280, .f32⟩
  | .hbm, ⟨37, _⟩ => ⟨S1024x1280, .f32⟩
  | .hbm, ⟨38, _⟩ => ⟨S_, .f32⟩
  | .hbm, ⟨39, _⟩ => ⟨S1024x1280, .f32⟩
  | .hbm, ⟨40, _⟩ => ⟨S1024x1280, .f32⟩
  | .hbm, ⟨41, _⟩ => ⟨S1024x1280, .f32⟩
  | .hbm, ⟨42, _⟩ => ⟨S_, .f32⟩
  | .hbm, ⟨43, _⟩ => ⟨S1024x1280, .f32⟩
  | .hbm, ⟨44, _⟩ => ⟨S1024x1280, .f32⟩
  | _, _ => ⟨S4x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel20.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference20Ideal.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1x128x1024, .bf16⟩
  | .hbm, ⟨6, _⟩ => ⟨S128x1024, .bf16⟩
  | .hbm, ⟨7, _⟩ => ⟨S128x1024, .f32⟩
  | .hbm, ⟨8, _⟩ => ⟨S3x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel21.lean ====
abbrev S4x1024x256 : Shape := ⟨3, ![4, 1024, 256]⟩
abbrev S3x1024x256 : Shape := ⟨3, ![3, 1024, 256]⟩
abbrev S1024x256 : Shape := ⟨2, ![1024, 256]⟩
abbrev S1x256x256 : Shape := ⟨3, ![1, 256, 256]⟩
abbrev S3x256x256 : Shape := ⟨3, ![3, 256, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x256, .bf16⟩
  | .hbm, ⟨1, _⟩ => ⟨S3x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1x256x256, .bf16⟩
  | .local _ .vmem, ⟨1, _⟩ => ⟨S1x256x256, .bf16⟩
  | .local _ .vmem, ⟨2, _⟩ => ⟨S3x256x256, .bf16⟩
  | .local _ .vmem, ⟨3, _⟩ => ⟨S3x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S4x1024x256 : Shape := ⟨3, ![4, 1024, 256]⟩
abbrev S3x1024x256 : Shape := ⟨3, ![3, 1024, 256]⟩
abbrev S1024x256 : Shape := ⟨2, ![1024, 256]⟩
abbrev S1x1024x256 : Shape := ⟨3, ![1, 1024, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S3x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1x1024x256, .bf16⟩
  | .hbm, ⟨6, _⟩ => ⟨S1024x256, .bf16⟩
  | .hbm, ⟨7, _⟩ => ⟨S1024x256, .f32⟩
  | .hbm, ⟨8, _⟩ => ⟨S3x1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel22.lean ====
abbrev S4x1024x512 : Shape := ⟨3, ![4, 1024, 512]⟩
abbrev S3x1024x512 : Shape := ⟨3, ![3, 1024, 512]⟩
abbrev S1024x512 : Shape := ⟨2, ![1024, 512]⟩
abbrev S1x256x512 : Shape := ⟨3, ![1, 256, 512]⟩
abbrev S3x256x512 : Shape := ⟨3, ![3, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x512, .bf16⟩
  | .hbm, ⟨1, _⟩ => ⟨S3x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S1x256x512, .bf16⟩
  | .local _ .vmem, ⟨1, _⟩ => ⟨S1x256x512, .bf16⟩
  | .local _ .vmem, ⟨2, _⟩ => ⟨S3x256x512, .bf16⟩
  | .local _ .vmem, ⟨3, _⟩ => ⟨S3x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S4x1024x512 : Shape := ⟨3, ![4, 1024, 512]⟩
abbrev S3x1024x512 : Shape := ⟨3, ![3, 1024, 512]⟩
abbrev S1024x512 : Shape := ⟨2, ![1024, 512]⟩
abbrev S1x1024x512 : Shape := ⟨3, ![1, 1024, 512]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S3x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1x1024x512, .bf16⟩
  | .hbm, ⟨6, _⟩ => ⟨S1024x512, .bf16⟩
  | .hbm, ⟨7, _⟩ => ⟨S1024x512, .f32⟩
  | .hbm, ⟨8, _⟩ => ⟨S3x1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel23.lean ====
abbrev S4x512x1024 : Shape := ⟨3, ![4, 512, 1024]⟩
abbrev S3x512x1024 : Shape := ⟨3, ![3, 512, 1024]⟩
abbrev S512x1024 : Shape := ⟨2, ![512, 1024]⟩
abbrev S1x256x1024 : Shape := ⟨3, ![1, 256, 1024]⟩
abbrev S3x256x1024 : Shape := ⟨3, ![3, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x512x1024, .bf16⟩
  | .hbm, ⟨1, _⟩ => ⟨S3x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S4x512x1024 : Shape := ⟨3, ![4, 512, 1024]⟩
abbrev S3x512x1024 : Shape := ⟨3, ![3, 512, 1024]⟩
abbrev S512x1024 : Shape := ⟨2, ![512, 1024]⟩
abbrev S1x512x1024 : Shape := ⟨3, ![1, 512, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S3x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S1x512x1024, .bf16⟩
  | .hbm, ⟨6, _⟩ => ⟨S512x1024, .bf16⟩
  | .hbm, ⟨7, _⟩ => ⟨S512x1024, .f32⟩
  | .hbm, ⟨8, _⟩ => ⟨S3x512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel24.lean ====
abbrev S48x1024 : Shape := ⟨2, ![48, 1024]⟩

abbrev nBuf : Space → Nat
  | .hbm => 7
  | .vmem => 7
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .local _ .vmem, ⟨0, _⟩ => ⟨S48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference24Ideal.lean ====
abbrev S48x1024 : Shape := ⟨2, ![48, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S48x1024, .f32⟩
  | .hbm, ⟨7, _⟩ => ⟨S_, .f32⟩
  | .hbm, ⟨8, _⟩ => ⟨S48x1024, .f32⟩
  | .hbm, ⟨9, _⟩ => ⟨S48x1024, .f32⟩
  | .hbm, ⟨10, _⟩ => ⟨S48x1024, .f32⟩
  | .hbm, ⟨11, _⟩ => ⟨S_, .f32⟩
  | .hbm, ⟨12, _⟩ => ⟨S48x1024, .f32⟩
  | .hbm, ⟨13, _⟩ => ⟨S48x1024, .f32⟩
  | .hbm, ⟨14, _⟩ => ⟨S48x1024, .f32⟩
  | .hbm, ⟨15, _⟩ => ⟨S_, .f32⟩
  | .hbm, ⟨16, _⟩ => ⟨S48x1024, .f32⟩
  | .hbm, ⟨17, _⟩ => ⟨S48x1024, .f32⟩
  | .hbm, ⟨18, _⟩ => ⟨S48x1024, .f32⟩
  | .hbm, ⟨19, _⟩ => ⟨S_, .f32⟩
  | .hbm, ⟨20, _⟩ => ⟨S48x1024, .f32⟩
  | .hbm, ⟨21, _⟩ => ⟨S48x1024, .f32⟩
  | .hbm, ⟨22, _⟩ => ⟨S_, .f32⟩
  | .hbm, ⟨23, _⟩ => ⟨S48x1024, .f32⟩
  | .hbm, ⟨24, _⟩ => ⟨S48x1024, .f32⟩
  | .hbm, ⟨25, _⟩ => ⟨S48x1024, .f32⟩
  | .hbm, ⟨26, _⟩ => ⟨S_, .f32⟩
  | .hbm, ⟨27, _⟩ => ⟨S48x1024, .f32⟩
  | .hbm, ⟨28, _⟩ => ⟨S48x1024, .f32⟩
  | .hbm, ⟨29, _⟩ => ⟨S48x1024, .f32⟩
  | .hbm, ⟨30, _⟩ => ⟨S_, .f32⟩
  | .hbm, ⟨31, _⟩ => ⟨S48x1024, .f32⟩
  | .hbm, ⟨32, _⟩ => ⟨S48x1024, .f32⟩
  | .hbm, ⟨33, _⟩ => ⟨S48x1024, .f32⟩
  | .hbm, ⟨34, _⟩ => ⟨S_, .f32⟩
  | .hbm, ⟨35, _⟩ => ⟨S48x1024, .f32⟩
  | .hbm, ⟨36, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8x56x1024 : Shape := ⟨3, ![8, 56, 1024]⟩
abbrev S56x1024 : Shape := ⟨2, ![56, 1024]⟩
abbrev S1x56x1024 : Shape := ⟨3, ![1, 56, 1024]⟩
abbrev S1x1024 : Shape := ⟨2, ![1, 1024]⟩
abbrev S1024 : Shape := ⟨1, ![1024]⟩
abbrev S_ : Shape := ⟨0, ![]⟩

abbrev nBuf : Space → Nat
  | .hbm => 10
  | .vmem => 2
  | .smem => 0
  | _ => 0

abbrev bufTy : (tb : Table) → Fin (tcTables nBuf tb) → BufTy
  | .hbm, ⟨0, _⟩ => ⟨S8x56x1024, .f32⟩
  | .hbm, ⟨1, _⟩ => ⟨S56x1024, .f32⟩
  | .hbm, ⟨2, _⟩ => ⟨S1x1024, .f32⟩
  | .hbm, ⟨3, _⟩ => ⟨S1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8x56x1024, .f32⟩
  | .local _ .vmem, ⟨1, _⟩ => ⟨S56x1024, .f32⟩
  | _, _ => ⟨S8x56x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference25Ideal.lean ====
abbrev S8x56x1024 : Shape := ⟨3, ![8, 56, 1024]⟩
abbrev S_ : Shape := ⟨0, ![]⟩
abbrev S56x1024 : Shape := ⟨2, ![56, 1024]⟩
abbrev S1x1024 : Shape := ⟨2, ![1, 1024]⟩
abbrev S1024 : Shape := ⟨1, ![1024]⟩

abbrev nBuf : Space → Nat
  | .hbm => 11
  | .vmem => 0
  | .smem => 0
  | _ => 0

abbrev bufTy : (tb : Table) → Fin (tcTables nBuf tb) → BufTy
  | .hbm, ⟨0, _⟩ => ⟨S8x56x1024, .f32⟩
  | .hbm, ⟨1, _⟩ => ⟨S_, .f32⟩
  | .hbm, ⟨2, _⟩ => ⟨S56x1024, .f32⟩
  | .hbm, ⟨3, _⟩ => ⟨S1x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S8x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.RmsBwd.lean ====
/- Hand-written, untrusted: the gradient of a root-mean-square norm over the extended reals. A row is divided by the root of
   its mean square plus a small constant; the kernel pulls the factor out of the row's sum, the reference does not, and the two
   agree on every row, the infinite ones too, whose factor is zero. -/
module

public import Idealize.ShloMosaic.Lib.Pointwise

@[expose] public section

noncomputable section

namespace Cert.Proof.RmsBwd

open Idealize.ShloMosaic

theorem lit_1024 : Ideal.ofBits .f32 0x44800000#32 = ((1024 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- The small constant added to the mean square, as a real. -/
def eps : ℝ := (Ideal.ofBits .f32 0x358637BD#32).toReal

theorem lit_eps : Ideal.ofBits .f32 0x358637BD#32 = ((eps : ℝ) : EReal) ∧ 0 < eps := by
  have h : ∃ e : ℝ, 0 < e ∧ Ideal.ofBits .f32 0x358637BD#32 = (e : EReal) := by
    refine ⟨8796093 / 8796093022208, by norm_num, ?_⟩
    simp [Ideal.ofBits, Ideal.ieee, -EReal.coe_mul]; norm_num
  obtain ⟨e, he, h⟩ := h
  have : eps = e := by unfold eps; rw [h]; rfl
  rw [this]
  exact ⟨h, he⟩

theorem div_pos_coe (y : EReal) {w : ℝ} (hw : 0 < w) : Ideal.div y (w : EReal) = y * ((w⁻¹ : ℝ) : EReal) := by
  have h0 : (w : EReal) ≠ 0 := by exact_mod_cast hw.ne'
  unfold Ideal.div
  rw [if_neg h0, ← EReal.coe_inv]

theorem sq_nonneg' (x : EReal) : 0 ≤ x * x := by
  induction x using EReal.rec with
  | bot => rw [EReal.bot_mul_bot]; exact le_top
  | coe r => exact_mod_cast mul_self_nonneg r
  | top => rw [EReal.top_mul_top]; exact le_top

theorem coe_sum' {n : Nat} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem sum_mul' {n : Nat} (f : Fin n → EReal) {b : ℝ} (hb : 0 ≤ b) : ∑ k, f k * (b : EReal) = (∑ k, f k) * (b : EReal) := by
  induction n with
  | zero => simp
  | succ n ih =>
    rw [Fin.sum_univ_succ, Fin.sum_univ_succ, ih]
    exact (EReal.right_distrib_of_nonneg_of_ne_top (by exact_mod_cast hb) (EReal.coe_ne_top b) _ _).symm

section
variable {n : Nat} (x q : Fin n → EReal) (w e : ℝ)

/-- A row's mean square plus the constant. -/
def msq : EReal := Ideal.div (∑ k, x k * x k) (w : EReal) + (e : EReal)

/-- The factor that divides a row. -/
def inv : EReal := Ideal.rsqrt (msq x w e)

theorem msq_top (hw : 0 < w) (h : ∃ k, x k = ⊤ ∨ x k = ⊥) : msq x w e = ⊤ := by
  obtain ⟨k, hk⟩ := h
  have hs : x k * x k = ⊤ := by rcases hk with h | h <;> rw [h] <;> rfl
  have h1 : ∑ k, x k * x k = ⊤ := by
    refine top_le_iff.mp ?_
    rw [← hs]
    exact Finset.single_le_sum (f := fun k => x k * x k) (fun i _ => sq_nonneg' (x i)) (Finset.mem_univ k)
  unfold msq
  rw [div_pos_coe _ hw, h1, EReal.top_mul_coe_of_pos (inv_pos.mpr hw), EReal.top_add_coe]

theorem finite_or : (∃ k, x k = ⊤ ∨ x k = ⊥) ∨ ∃ a : Fin n → ℝ, x = fun k => ((a k : ℝ) : EReal) := by
  by_cases h : ∃ k, x k = ⊤ ∨ x k = ⊥
  · exact .inl h
  · simp only [not_exists, not_or] at h
    exact .inr ⟨fun k => (x k).toReal, funext fun k => (EReal.coe_toReal (h k).1 (h k).2).symm⟩

theorem inv_coe (a : Fin n → ℝ) (hw : 0 < w) (he : 0 < e) : ∃ ρ b : ℝ, 0 < ρ ∧ 0 < b ∧ b * b = ρ⁻¹ ∧
    msq (fun k => ((a k : ℝ) : EReal)) w e = (ρ : EReal) ∧ inv (fun k => ((a k : ℝ) : EReal)) w e = (b : EReal) := by
  have hm : msq (fun k => ((a k : ℝ) : EReal)) w e = (((∑ k, a k * a k) * w⁻¹ + e : ℝ) : EReal) := by
    unfold msq
    rw [div_pos_coe _ hw, EReal.coe_add, EReal.coe_mul, ← coe_sum']
    simp only [EReal.coe_mul]
  have hρ : 0 < (∑ k, a k * a k) * w⁻¹ + e :=
    add_pos_of_nonneg_of_pos (mul_nonneg (Finset.sum_nonneg fun k _ => mul_self_nonneg _) (inv_pos.mpr hw).le) he
  refine ⟨_, (Real.sqrt ((∑ k, a k * a k) * w⁻¹ + e))⁻¹, hρ, inv_pos.mpr (Real.sqrt_pos.mpr hρ), ?_, hm, ?_⟩
  · rw [← mul_inv, Real.mul_self_sqrt hρ.le]
  · unfold inv
    rw [hm, Ideal.rsqrt_coe, if_neg (not_lt.mpr hρ.le), if_neg hρ.ne']

theorem twice (z : EReal) {c : ℝ} (hc : 0 ≤ c) : z * (c : EReal) + z * (c : EReal) = z * ((c + c : ℝ) : EReal) := by
  rw [EReal.coe_add]
  exact (EReal.left_distrib_of_nonneg (by exact_mod_cast hc) (by exact_mod_cast hc)).symm

/-- The gradient that reaches a row's entry `j`, with the factor pulled out of the sum, is the sum of the reference's three
    terms: the factor's own, and the two of the square. -/
theorem grad (hw : 0 < w) (he : 0 < e) (j : Fin n) :
    inv x w e * (q j - x j * inv x w e * Ideal.div (∑ k, q k * (x k * inv x w e)) (w : EReal))
      = q j * inv x w e
        + x j * Ideal.div ((∑ k, x k * q k) * (((-(1 / 2) : ℝ) : EReal) * Ideal.div (inv x w e) (msq x w e))) (w : EReal)
        + Ideal.div ((∑ k, x k * q k) * (((-(1 / 2) : ℝ) : EReal) * Ideal.div (inv x w e) (msq x w e))) (w : EReal) * x j := by
  rcases finite_or x with h | ⟨a, rfl⟩
  · have h1 := msq_top x w e hw h
    have h2 : inv x w e = 0 := by unfold inv; rw [h1, Ideal.rsqrt_top]
    have h3 : Ideal.div 0 (⊤ : EReal) = 0 := by unfold Ideal.div; rw [if_neg (by simp), zero_mul]
    rw [h1, h2, h3]
    simp only [div_pos_coe _ hw, zero_mul, mul_zero, add_zero]
  · obtain ⟨ρ, b, hρ, hb, hbb, e1, e2⟩ := inv_coe w e a hw he
    have hs : ∑ k, q k * (((a k : ℝ) : EReal) * (b : EReal)) = (∑ k, ((a k : ℝ) : EReal) * q k) * (b : EReal) := by
      rw [← sum_mul' _ hb.le]
      exact Finset.sum_congr rfl fun k _ => by rw [← mul_assoc, mul_comm (q k)]
    rw [e1, e2]
    dsimp only
    rw [hs, div_pos_coe _ hw, div_pos_coe _ hw, div_pos_coe _ hρ]
    generalize ∑ k, ((a k : ℝ) : EReal) * q k = S
    generalize q j = y
    have hz (z t : EReal) : (b : EReal) * (z - t) = (b : EReal) * z + (b : EReal) * -t := by
      rw [sub_eq_add_neg]
      exact EReal.left_distrib_of_nonneg_of_ne_top (by exact_mod_cast hb.le) (EReal.coe_ne_top b) _ _
    rw [hz, mul_comm (b : EReal) y, add_assoc]
    congr 1
    have hc : 0 ≤ 1 / 2 * (b * ρ⁻¹) * w⁻¹ := by have := inv_pos.mpr hρ; have := inv_pos.mpr hw; positivity
    have ht := twice (-(((a j : ℝ) : EReal) * S)) hc
    have hd : 1 / 2 * (b * ρ⁻¹) * w⁻¹ + 1 / 2 * (b * ρ⁻¹) * w⁻¹ = b * b * b * w⁻¹ := by rw [← hbb]; ring
    rw [hd] at ht
    have l1 : ((a j : ℝ) : EReal) * (S * (((-(1 / 2) : ℝ) : EReal) * ((b : EReal) * ((ρ⁻¹ : ℝ) : EReal))) * ((w⁻¹ : ℝ) : EReal))
        = -(((a j : ℝ) : EReal) * S) * ((1 / 2 * (b * ρ⁻¹) * w⁻¹ : ℝ) : EReal) := by
      rw [neg_mul, ← mul_neg, ← EReal.coe_neg,
        show -(1 / 2 * (b * ρ⁻¹) * w⁻¹) = (-(1 / 2)) * (b * ρ⁻¹) * w⁻¹ by ring]
      simp only [EReal.coe_mul]
      ac_rfl
    rw [l1, mul_comm _ ((a j : ℝ) : EReal), l1, ht]
    rw [mul_neg, neg_mul]
    refine congrArg Neg.neg ?_
    simp only [EReal.coe_mul]
    ac_rfl
end

/-! ## The gradient as the programs print it, and sums over a run of positions -/

/-- The factor of a row of 1024 entries, with the programs' constants. -/
def rinv (x : Fin 1024 → EReal) : EReal := inv x 1024 eps

theorem rinv_eq (x : Fin 1024 → EReal) : Ideal.rsqrt (Ideal.div (∑ k, x k * x k) (Ideal.ofBits .f32 0x44800000#32) + Ideal.ofBits .f32 0x358637BD#32) = rinv x := by
  rw [lit_1024, lit_eps.1]; rfl

/-- The gradient at a row's entry `j`: the row `x`, the gradient at the normed row `q`. -/
def back (x q : Fin 1024 → EReal) (j : Fin 1024) : EReal :=
  rinv x * (q j - x j * rinv x * Ideal.div (∑ k, q k * (x k * rinv x)) (Ideal.ofBits .f32 0x44800000#32))

/-- The reference's three terms are that gradient. -/
theorem back_eq (x q : Fin 1024 → EReal) (d : EReal) (j : Fin 1024) :
    d + q j * rinv x
        + x j * Ideal.div ((∑ k, x k * q k) * (Ideal.ofBits .f32 0xBF000000#32 * Ideal.div (rinv x)
            (Ideal.div (∑ k, x k * x k) (Ideal.ofBits .f32 0x44800000#32) + Ideal.ofBits .f32 0x358637BD#32))) (Ideal.ofBits .f32 0x44800000#32)
        + Ideal.div ((∑ k, x k * q k) * (Ideal.ofBits .f32 0xBF000000#32 * Ideal.div (rinv x)
            (Ideal.div (∑ k, x k * x k) (Ideal.ofBits .f32 0x44800000#32) + Ideal.ofBits .f32 0x358637BD#32))) (Ideal.ofBits .f32 0x44800000#32) * x j
      = d + back x q j := by
  unfold back
  rw [lit_1024, lit_eps.1, lit_neg_half]
  rw [add_assoc, add_assoc, ← add_assoc (q j * rinv x)]
  exact congrArg (d + ·) (grad x q 1024 eps (by norm_num) lit_eps.2 j).symm

/-- A family over `N` positions, continued by zero. -/
def ext {N : Nat} (f : Fin N → EReal) (k : ℕ) : EReal := if h : k < N then f ⟨k, h⟩ else 0

theorem ext_sum {N : Nat} (f : Fin N → EReal) : ∑ k ∈ Finset.range N, ext f k = ∑ k, f k := by
  rw [Finset.sum_range]
  exact Finset.sum_congr rfl fun k _ => dif_pos k.2

/-- One more block of positions. -/
theorem ext_add {N : Nat} (f : Fin N → EReal) (a B : ℕ) (h : a + B ≤ N) :
    ∑ k ∈ Finset.range (a + B), ext f k = ∑ k ∈ Finset.range a, ext f k + ∑ k : Fin B, f ⟨a + k.val, by have := k.2; omega⟩ := by
  rw [Finset.sum_range_add, Finset.sum_range (fun k => ext f (a + k))]
  exact congrArg (_ + ·) (Finset.sum_congr rfl fun k _ => dif_pos (by have := k.2; omega))

end Cert.Proof.RmsBwd
-- ==== Proof.MemBwd.lean ====
/- Hand-written, untrusted: the gradients of the memory's keys and values at the reals. One grid point computes the projection
   again, head by head of the keys, each head's gradient through its norm, and from the eight blocks of the projection's gradient
   the gradient of the norm's gain. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import proofs.«01_k».proof.Proof.RmsBwd

@[expose] public section

noncomputable section

namespace Cert.Proof.MemBwd

open Cert.Kernel16Ideal Cert.Kernel16Ideal.Gen Cert.Kernel16Ideal.Value Idealize.ShloMosaic Idealize.ShloMosaic.TcCoe Idealize.SL.Sem
open Reference16Ideal.Read RmsBwd

section Math
theorem lit_256 : Ideal.ofBits .f32 0x43800000#32 = ((256 : ℝ) : EReal) := by
  simp [Ideal.ofBits, Ideal.ieee, -EReal.coe_mul]; norm_num

/-- The factor of a head's row of 256 entries. -/
def hinv (x : Fin 256 → EReal) : EReal := inv x 256 eps

theorem hinv_eq (x : Fin 256 → EReal) : Ideal.rsqrt (Ideal.div (∑ k, x k * x k) (Ideal.ofBits .f32 0x43800000#32) + Ideal.ofBits .f32 0x358637BD#32) = hinv x := by
  rw [lit_256, lit_eps.1]; rfl

/-- The gradient at a head's row: the row `x`, the gradient at the normed row `q`. -/
def hback (x q : Fin 256 → EReal) (j : Fin 256) : EReal :=
  hinv x * (q j - x j * hinv x * Ideal.div (∑ k, q k * (x k * hinv x)) (Ideal.ofBits .f32 0x43800000#32))

/-- The reference's three terms are that gradient. -/
theorem hback_eq (x q : Fin 256 → EReal) (j : Fin 256) :
    q j * hinv x
        + x j * Ideal.div ((∑ k, x k * q k) * (Ideal.ofBits .f32 0xBF000000#32 * Ideal.div (hinv x)
            (Ideal.div (∑ k, x k * x k) (Ideal.ofBits .f32 0x43800000#32) + Ideal.ofBits .f32 0x358637BD#32))) (Ideal.ofBits .f32 0x43800000#32)
        + Ideal.div ((∑ k, x k * q k) * (Ideal.ofBits .f32 0xBF000000#32 * Ideal.div (hinv x)
            (Ideal.div (∑ k, x k * x k) (Ideal.ofBits .f32 0x43800000#32) + Ideal.ofBits .f32 0x358637BD#32))) (Ideal.ofBits .f32 0x43800000#32) * x j
      = hback x q j := by
  unfold hback
  rw [lit_256, lit_eps.1, lit_neg_half]
  exact (grad x q 256 eps (by norm_num) lit_eps.2 j).symm

/-- A sum over 2048 columns, block by block. -/
theorem sum_blocks (f : Fin 2048 → EReal) : ∑ y, f y = ∑ d : Fin 8, ∑ k : Fin 256, f ⟨d.val * 256 + k.val, by omega⟩ := by
  rw [← Fintype.sum_prod_type']
  refine (Fintype.sum_equiv (finProdFinEquiv (m := 8) (n := 256)) _ _ fun p => congrArg f (Fin.ext ?_)).symm
  show p.1.val * 256 + p.2.val = p.2.val + 256 * p.1.val
  omega

/-- A sum over the first two axes of three. -/
theorem add_01 {a b : Nat} (h : (⟨3, ![a, b, 256]⟩ : Shape).ReducesTo [0, 1] ⟨1, ![256]⟩) (v : (⟨3, ![a, b, 256]⟩ : Shape).Idx → EReal) (z : EReal) (k : Fin 256) :
    Ideal.hostReduceAdd h v z (ix1 k) = z + ∑ q : Fin b, ∑ p : Fin a, v (ix3 p q k) := by
  rw [← Fintype.sum_prod_type_right' (fun p q => v (ix3 p q k))]
  refine congrArg (z + ·) (Finset.sum_filter_eq_sum_of_fiber _ (fun p : Fin a × Fin b => ix3 p.1 p.2 k) (fun p q e => Prod.ext (congrFun e 0) (congrFun e 1)) (fun i => ⟨fun e => ⟨(i 0, i 1), ?_⟩, ?_⟩) v)
  · funext c; apply Fin.ext
    match c with
    | ⟨0, _⟩ => rfl
    | ⟨1, _⟩ => rfl
    | ⟨2, _⟩ => exact (congrArg Fin.val (congrFun e 0)).symm
  · rintro ⟨p, rfl⟩
    funext c; apply Fin.ext
    match c with
    | ⟨0, _⟩ => rfl
end Math

section Pay
variable (x : Vec Ideal S256x1024 .f32) (g : Vec Ideal S1x1024 .f32) (h : Vec Ideal S256x1024 .bf16) (w w1 w2 w3 : Vec Ideal S1x1024x256 .bf16)
  (e : Vec Ideal S1x256 .f32) (d d1 d2 d3 : Vec Ideal S256x256 .f32) (a r : FVec Ideal S256x1024 .f32) (s : FVec Ideal S1x256 .f32)
  (D : FVec Ideal S256x256 .bf16) (u u1 u2 : FVec Ideal S256x1 .f32) (q q1 q2 : FVec Ideal S256x256 .f32) (i k : Fin 256) (j : Fin 1024)

theorem b0_eq : k0_pay12 (k0_pay7 x g w) (k0_pay8 x g w) (k0_pay10 e d) (k0_pay11 x g e w d) = k0_pay35 (k0_pay4 x g) e w d := rfl
theorem b1_eq : k0_pay21 (k0_pay15 h w) (k0_pay16 h w) (k0_pay18 e d) (k0_pay19 h e w d) k0_pay20 = k0_pay35 h e w d := rfl
theorem b2_eq : k0_pay29 (k0_pay27 h e w d) (k0_pay28 h w) = k0_pay35 h e w d := rfl
theorem g1_eq : k0_pay17 h s w d = k0_pay34 h s w d := rfl
theorem g2_eq : k0_pay26 h s w d = k0_pay34 h s w d := rfl
theorem c1_eq : k0_pay1 d = d := rfl
theorem c36_eq : k0_pay36 d = d := rfl
theorem c37_eq : k0_pay37 d = d := rfl
theorem c38_eq : k0_pay38 d = d := rfl

/-- A row of a head of keys. -/
abbrev key (p : Fin 256) (k : Fin 256) : EReal := ∑ q : Fin 1024, h (ix2 p q) * w (ix3 0 q k)

theorem pay34_at : k0_pay34 h s w d (ix2 0 k) = s (ix2 0 k) + ∑ p : Fin 256, d (ix2 p k) * (key h w p k * hinv (key h w p)) := by
  unfold_payloads
  pointwise
  simp only [hinv_eq]
theorem pay9_at : k0_pay9 x g w d (ix2 0 k) = ∑ p : Fin 256, d (ix2 p k) * (key (k0_pay4 x g) w p k * hinv (key (k0_pay4 x g) w p)) := by
  unfold k0_pay9 k0_pay8 k0_pay7 k0_pay6
  pointwise
  simp only [hinv_eq]
theorem pay35_at : k0_pay35 h e w d (ix2 i k) = hback (key h w i) (fun k => d (ix2 i k) * e (ix2 0 k)) k := by
  unfold_payloads
  pointwise
  simp only [hinv_eq]
  rfl
theorem pay3_at : k0_pay3 x (ix2 i j) = x (ix2 i j) * rinv fun q => x (ix2 i q) := by
  unfold_payloads
  pointwise
  simp only [rinv_eq]
theorem pay4_at : k0_pay4 x g (ix2 i j) = k0_pay3 x (ix2 i j) * g (ix2 0 j) := by
  unfold k0_pay4
  pointwise

/-- A block of the projection's gradient times a block of the weight. -/
abbrev prod (D : Vec Ideal S256x256 .bf16) (w : Vec Ideal S1x1024x256 .bf16) (i : Fin 256) (j : Fin 1024) : EReal := ∑ k : Fin 256, D (ix2 i k) * w (ix3 0 j k)

theorem pay13_at : k0_pay13 k0_pay5 u q q1 q2 w (ix2 i j) = prod (k0_pay12 u q q1 q2) w i j := by
  unfold k0_pay13 k0_pay5
  pointwise
theorem pay22_at : k0_pay22 a u q q1 u1 u2 w (ix2 i j) = a (ix2 i j) + prod (k0_pay21 u q q1 u1 u2) w i j := by
  unfold k0_pay22
  pointwise
theorem pay30_at : k0_pay30 a q q1 w (ix2 i j) = a (ix2 i j) + prod (k0_pay29 q q1) w i j := by
  unfold k0_pay30
  pointwise
theorem pay39_at : k0_pay39 a D w d1 w1 d2 w2 d3 w3 (ix2 i j) = a (ix2 i j) + prod D w i j + prod d1 w1 i j + prod d2 w2 i j + prod d3 w3 i j := by
  unfold k0_pay39 k0_pay36 k0_pay37 k0_pay38
  pointwise
theorem pay2_at : k0_pay2 r a d w (ix2 0 j) = ∑ p : Fin 256, (a (ix2 p j) + prod d w p j) * r (ix2 p j) := by
  unfold k0_pay2 k0_pay1
  pointwise
end Pay

section Ref
variable (x0 : (⟨S256x1024, .f32⟩ : BufTy).Contents (Elt Ideal)) (x1 : (⟨S1x1024, .f32⟩ : BufTy).Contents (Elt Ideal)) (x2 : (⟨S1024x2048, .f32⟩ : BufTy).Contents (Elt Ideal))
  (x3 : (⟨S1x256, .f32⟩ : BufTy).Contents (Elt Ideal)) (x4 x5 : (⟨S256x1024, .f32⟩ : BufTy).Contents (Elt Ideal)) (i : Fin 256) (b : Fin 4) (k : Fin 256) (j : Fin 1024)

theorem ref9_at : val_main_v9 (F := Ideal) x0 (ix2 i j) = x0 (ix2 i j) * rinv fun q => x0 (ix2 i q) := by
  pointwise [val_main_v0, val_main_cst, val_main_v1, val_main_v2, val_main_cst_0, val_main_v3, val_main_v4, val_main_cst_1, val_main_v5, val_main_v6, val_main_v7, val_main_v8, val_main_v9]
  simp only [rinv_eq]

theorem ref14_at : val_main_v14 (F := Ideal) x0 x1 x2 (ix3 i b k) = ∑ q : Fin 1024, val_main_v9 (F := Ideal) x0 (ix2 i q) * x1 (ix2 0 q) * x2 (ix2 q ⟨b.val * 256 + k.val, by omega⟩) := by
  pointwise [val_main_v10, val_main_v11, val_main_v12, val_main_v13, val_main_v14]

theorem ref22_at : val_main_v22 (F := Ideal) x0 x1 x2 (ix3 i b 0) = hinv fun k => val_main_v14 (F := Ideal) x0 x1 x2 (ix3 i b k) := by
  pointwise [val_main_v15, val_main_cst_2, val_main_v16, val_main_v17, val_main_cst_3, val_main_v18, val_main_v19, val_main_cst_4, val_main_v20, val_main_v21, val_main_v22]
  simp only [hinv_eq]

theorem ref33_at : val_main_v33 (F := Ideal) x0 x1 x2 x4 (ix3 i b k) = val_main_v14 (F := Ideal) x0 x1 x2 (ix3 i b k) * (hinv fun k => val_main_v14 (F := Ideal) x0 x1 x2 (ix3 i b k)) * x4 (ix2 i ⟨b.val * 256 + k.val, by omega⟩) := by
  pointwise [val_main_v26, val_main_v27, val_main_v32, val_main_v33]
  rw [ref22_at]

theorem ref39_at : val_main_v39 (F := Ideal) x0 x1 x2 x4 (ix2 0 k) = ∑ b : Fin 4, ∑ p : Fin 256, val_main_v33 (F := Ideal) x0 x1 x2 x4 (ix3 p b k) := by
  pointwise [val_main_v35, val_main_cst_7, val_main_v38, val_main_v39, val_main_cst_6, val_main_v34]
  rw [add_01]
  simp only [Fin.sum_univ_one]
  pointwise
  rw [add_01]
  pointwise

theorem ref54_at : val_main_v54 (F := Ideal) x0 x1 x2 x3 x4 (ix2 i ⟨b.val * 256 + k.val, by omega⟩)
    = hback (fun k => val_main_v14 (F := Ideal) x0 x1 x2 (ix3 i b k)) (fun k => x4 (ix2 i ⟨b.val * 256 + k.val, by omega⟩) * x3 (ix2 0 k)) k := by
  pointwise [val_main_v21, val_main_cst_4, val_main_v20, val_main_v19, val_main_cst_3, val_main_v18, val_main_v17, val_main_v16, val_main_cst_2, val_main_v15, val_main_v23, val_main_cst_5, val_main_v24, val_main_v25, val_main_v28, val_main_v32, val_main_v36, val_main_v37, val_main_v40, val_main_cst_8, val_main_v41, val_main_v42, val_main_v43, val_main_v44, val_main_v45, val_main_cst_9, val_main_v46, val_main_v47, val_main_cst_10, val_main_v48, val_main_v49, val_main_v50, val_main_v51, val_main_v52, val_main_v53, val_main_v54]
  simp only [Fin.sum_univ_one]
  rw [← hback_eq, ← ref22_at]

theorem key_col : val_main_v60 (F := Ideal) x0 x1 x2 x3 x4 x5 (ix2 i ⟨b.val * 256 + k.val, by omega⟩) = val_main_v54 (F := Ideal) x0 x1 x2 x3 x4 (ix2 i ⟨b.val * 256 + k.val, by omega⟩) := by
  pointwise [val_main_v55, val_main_v60]
  exact dif_pos (show b.val * 256 + k.val < 1024 by omega)

theorem val_col : val_main_v60 (F := Ideal) x0 x1 x2 x3 x4 x5 (ix2 i ⟨(4 + b.val) * 256 + k.val, by omega⟩) = x5 (ix2 i ⟨b.val * 256 + k.val, by omega⟩) := by
  pointwise [val_main_v55, val_main_v60]
  refine (dif_neg (show ¬ (4 + b.val) * 256 + k.val < 1024 by omega)).trans (congrArg (fun k => x5 (ix2 i k)) (Fin.ext ?_))
  show (4 + b.val) * 256 + k.val - 1024 = b.val * 256 + k.val
  omega

theorem ref59_at : val_main_v59 (F := Ideal) x0 x1 x2 x3 x4 x5 (ix2 0 j) = ∑ p : Fin 256, val_main_v9 (F := Ideal) x0 (ix2 p j)
    * ∑ d : Fin 8, ∑ k : Fin 256, val_main_v60 (F := Ideal) x0 x1 x2 x3 x4 x5 (ix2 p ⟨d.val * 256 + k.val, by omega⟩) * x2 (ix2 j ⟨d.val * 256 + k.val, by omega⟩) := by
  pointwise [val_main_v56, val_main_v57, val_main_cst_11, val_main_v58, val_main_v59]
  exact Finset.sum_congr rfl fun p _ => congrArg (_ * ·) (sum_blocks fun y => val_main_v55 (F := Ideal) x0 x1 x2 x3 x4 x5 (ix2 p y) * x2 (ix2 j y))
end Ref

theorem hz : (![0, 0] : Fin 2 → Nat) = fun _ => 0 := funext fun a => by fin_cases a <;> rfl

section Block
variable (x0 : Vec Ideal S256x1024 .f32) (x1 : Vec Ideal S1x1024 .f32) (w : Vec Ideal S8x1024x256 .bf16) (x2 : Vec Ideal S1024x2048 .f32)
  (x3 : Vec Ideal S1x256 .f32) (x4 x5 : Vec Ideal S256x1024 .f32)

/-- Block `d` of the weight's columns, and block `b` of the columns of a gradient. -/
abbrev wld (d : ℕ) (inb : ∀ a, (![d, 0, 0] : Fin 3 → ℕ) a + S1x1024x256.size a ≤ S8x1024x256.size a) : Vec Ideal S1x1024x256 .bf16 := View.ld w (.unit ![d, 0, 0] S1x1024x256.size inb)
abbrev cld (x : Vec Ideal S256x1024 .f32) (b : Fin 4) (inb : ∀ a, (![0, b.val * 256] : Fin 2 → ℕ) a + S256x256.size a ≤ S256x1024.size a) : Vec Ideal S256x256 .f32 :=
  View.ld x (.unit ![0, b.val * 256] S256x256.size inb)

theorem ld_blk (d : Fin 8) (inb) (q : Fin 1024) (k : Fin 256) :
    wld w d.val inb (ix3 0 q k) = w (ix3 d q k) :=
  congrArg w (funext fun a => Fin.ext (by match a with | ⟨0, _⟩ => rfl | ⟨1, _⟩ => show 0 + 1 * q.val = q.val; omega | ⟨2, _⟩ => show 0 + 1 * k.val = k.val; omega))
theorem ld_col (x : Vec Ideal S256x1024 .f32) (b : Fin 4) (inb) (p k : Fin 256) :
    cld x b inb (ix2 p k) = x (ix2 p ⟨b.val * 256 + k.val, by omega⟩) :=
  congrArg x (funext fun a => Fin.ext (by match a with | ⟨0, _⟩ => show 0 + 1 * p.val = p.val; omega | ⟨1, _⟩ => show b.val * 256 + 1 * k.val = b.val * 256 + k.val; omega))

variable (hw : ∀ (d : Fin 8) (q : Fin 1024) (k : Fin 256), w (ix3 d q k) = x2 (ix2 q ⟨d.val * 256 + k.val, by omega⟩))
include hw

/-- A row of head `b` is the reference's. -/
theorem key_eq (b : Fin 4) (inb) (p : Fin 256) :
    key (k0_pay4 x0 x1) (wld w b.val inb) p = fun k => val_main_v14 (F := Ideal) x0 x1 x2 (ix3 p b k) := by
  funext k
  rw [ref14_at]
  refine Finset.sum_congr rfl fun q _ => ?_
  rw [ld_blk w ⟨b.val, by omega⟩, hw, pay4_at, pay3_at, ref9_at]

/-- Head `b` of the projection's gradient. -/
theorem head_eq (b : Fin 4) (inb inb') (p j : Fin 256) :
    k0_pay35 (k0_pay4 x0 x1) x3 (wld w b.val inb) (cld x4 b inb') (ix2 p j)
      = val_main_v60 (F := Ideal) x0 x1 x2 x3 x4 x5 (ix2 p ⟨b.val * 256 + j.val, by omega⟩) := by
  rw [key_col, ref54_at, pay35_at, key_eq x0 x1 w x2 hw]
  exact congrArg (hback _ · j) (funext fun k => congrArg (· * x3 (ix2 0 k)) (ld_col x4 b inb' p k))

theorem head_at (b : Fin 4) (inb inb' inb'') (z : S256x256.Idx) :
    k0_pay35 (k0_pay4 x0 x1) x3 (wld w b.val inb) (cld x4 b inb') z
      = val_main_v60 (F := Ideal) x0 x1 x2 x3 x4 x5 ((Rect.unit (s := S256x2048) ![0, b.val * 256] S256x256.size inb'').emb z) := by
  obtain ⟨p, j, rfl⟩ : ∃ (p : Fin 256) (j : Fin 256), z = ix2 p j := ⟨z 0, z 1, eq_ix2 z⟩
  rw [show (Rect.unit (s := S256x2048) ![0, b.val * 256] S256x256.size inb'').emb (ix2 p j) = ix2 p ⟨b.val * 256 + j.val, by omega⟩ from funext fun a => Fin.ext (by
    match a with | ⟨0, _⟩ => show 0 + 1 * p.val = p.val; omega | ⟨1, _⟩ => show b.val * 256 + 1 * j.val = b.val * 256 + j.val; omega)]
  exact head_eq x0 x1 w x2 x3 x4 x5 hw b inb inb' p j

omit hw in
theorem value_at (b : Fin 4) (inb inb'') (z : S256x256.Idx) :
    cld x5 b inb z = val_main_v60 (F := Ideal) x0 x1 x2 x3 x4 x5 ((Rect.unit (s := S256x2048) ![0, (4 + b.val) * 256] S256x256.size inb'').emb z) := by
  obtain ⟨p, j, rfl⟩ : ∃ (p : Fin 256) (j : Fin 256), z = ix2 p j := ⟨z 0, z 1, eq_ix2 z⟩
  rw [show (Rect.unit (s := S256x2048) ![0, (4 + b.val) * 256] S256x256.size inb'').emb (ix2 p j) = ix2 p ⟨(4 + b.val) * 256 + j.val, by omega⟩ from funext fun a => Fin.ext (by
    match a with | ⟨0, _⟩ => show 0 + 1 * p.val = p.val; omega | ⟨1, _⟩ => show (4 + b.val) * 256 + 1 * j.val = (4 + b.val) * 256 + j.val; omega), val_col]
  exact ld_col x5 b inb p j

/-- Block `d` of the products with the weight, as the reference has it. -/
abbrev part (p : Fin 256) (j : Fin 1024) (d : Fin 8) : EReal :=
  ∑ k : Fin 256, val_main_v60 (F := Ideal) x0 x1 x2 x3 x4 x5 (ix2 p ⟨d.val * 256 + k.val, by omega⟩) * x2 (ix2 j ⟨d.val * 256 + k.val, by omega⟩)

theorem head_part (b : Fin 4) (inb inb') (p : Fin 256) (j : Fin 1024) :
    prod (k0_pay35 (k0_pay4 x0 x1) x3 (wld w b.val inb) (cld x4 b inb'))
      (wld w b.val inb) p j = part x0 x1 x2 x3 x4 x5 p j ⟨b.val, by omega⟩ :=
  Finset.sum_congr rfl fun k _ => by rw [head_eq x0 x1 w x2 x3 x4 x5 hw, ld_blk w ⟨b.val, by omega⟩, hw]

theorem value_part (b : Fin 4) (inb inb') (p : Fin 256) (j : Fin 1024) :
    prod (cld x5 b inb') (wld w (4 + b.val) inb) p j
      = part x0 x1 x2 x3 x4 x5 p j ⟨4 + b.val, by omega⟩ :=
  Finset.sum_congr rfl fun k _ => by rw [val_col, ld_col, ld_blk w ⟨4 + b.val, by omega⟩, hw]

/-- What head `b` adds to the gradient of the heads' gain. -/
theorem gain_part (b : Fin 4) (inb inb') (k : Fin 256) :
    (∑ p : Fin 256, cld x4 b inb' (ix2 p k) * (key (k0_pay4 x0 x1) (wld w b.val inb) p k
        * hinv (key (k0_pay4 x0 x1) (wld w b.val inb) p)))
      = ∑ p : Fin 256, val_main_v33 (F := Ideal) x0 x1 x2 x4 (ix3 p b k) :=
  Finset.sum_congr rfl fun p _ => by rw [ref33_at, key_eq x0 x1 w x2 hw, ld_col, mul_comm]

theorem out6_eq : out0_6 x0 x1 w x3 x4 x5 = val_main_v60 (F := Ideal) x0 x1 x2 x3 x4 x5 := by
  funext y
  unfold_out out0_6
  rw [View.ld_unit_zero hz, View.ld_unit_zero hz, View.ld_unit_zero hz, b0_eq, b1_eq, b2_eq, c1_eq, c36_eq, c37_eq, c38_eq]
  refine View.canon_apply_of_pieces (Val := Elt Ideal) _ _ ?_ y (cover0_6 _ _ _ _ _ _ _ _ y)
  simp only [List.forall_mem_cons]
  have hk := head_at x0 x1 w x2 x3 x4 x5 hw
  have hv := value_at x0 x1 x2 x3 x4 x5
  exact ⟨hv 3 _ _, hv 2 _ _, hv 1 _ _, hv 0 _ _, hk 3 _ _ _, hk 2 _ _ _, hk 1 _ _ _, hk 0 _ _ _, nofun⟩

theorem out7_eq : out0_7 x0 x1 w x3 x4 x5 = val_main_v59 (F := Ideal) x0 x1 x2 x3 x4 x5 := by
  funext y
  obtain ⟨i, j, rfl⟩ : ∃ (i : Fin 1) (j : Fin 1024), y = ix2 i j := ⟨y 0, y 1, eq_ix2 y⟩
  obtain rfl := Subsingleton.elim i 0
  unfold_out out0_7
  rw [View.canon_unit_zero hz, View.ld_unit_zero hz, View.ld_unit_zero hz, View.ld_unit_zero hz, ref59_at, pay2_at]
  refine Finset.sum_congr rfl fun p _ => ?_
  rw [pay39_at, pay30_at, pay22_at, pay13_at, b0_eq, b1_eq, b2_eq, mul_comm, pay3_at, ← ref9_at, Fin.sum_univ_eight]
  have hk := fun b inb inb' => head_part x0 x1 w x2 x3 x4 x5 hw b inb inb' p j
  have hv := fun b inb inb' => value_part x0 x1 w x2 x3 x4 x5 hw b inb inb' p j
  exact congrArg (_ * ·) (congrArg₂ (· + ·) (congrArg₂ (· + ·) (congrArg₂ (· + ·) (congrArg₂ (· + ·) (congrArg₂ (· + ·) (congrArg₂ (· + ·) (congrArg₂ (· + ·)
    (hk 0 _ _) (hk 1 _ _)) (hk 2 _ _)) (hk 3 _ _)) (hv 0 _ _)) (hv 1 _ _)) (hv 2 _ _)) (hv 3 _ _))

theorem out8_eq : out0_8 x0 x1 w x3 x4 x5 = val_main_v39 (F := Ideal) x0 x1 x2 x4 := by
  funext y
  obtain ⟨i, k, rfl⟩ : ∃ (i : Fin 1) (k : Fin 256), y = ix2 i k := ⟨y 0, y 1, eq_ix2 y⟩
  obtain rfl := Subsingleton.elim i 0
  unfold_out out0_8
  rw [View.canon_unit_zero hz, View.ld_unit_zero hz, View.ld_unit_zero hz, ref39_at, pay34_at, g2_eq, pay34_at, g1_eq, pay34_at, pay9_at, Fin.sum_univ_four]
  have hg := fun b inb inb' => gain_part x0 x1 w x2 x4 hw b inb inb' k
  exact congrArg₂ (· + ·) (congrArg₂ (· + ·) (congrArg₂ (· + ·) (hg 0 _ _) (hg 1 _ _)) (hg 2 _ _)) (hg 3 _ _)
end Block

theorem host_blocks (x : Vec Ideal S1024x2048 .f32) (d : Fin 8) (j : Fin 1024) (k : Fin 256) :
    transpose S8x1024x256 [1, 0, 2] (shapeCast S1024x8x256 (truncf (F := Ideal) .bf16 x bitsLt_bf16_f32) shapeCasts_S1024x2048_S1024x8x256)
      transposes_S1024x8x256_S8x1024x256_1_0_2 (ix3 d j k) = x (ix2 j ⟨d.val * 256 + k.val, by omega⟩) := by
  pointwise

variable (m : (ℓ : Loc nD τ sig) → Buf (Elt Ideal) ℓ) (c : Dev nD)

/-- The weight's blocks of columns, as the host lays them out. -/
theorem Vw_at (d : Fin 8) (j : Fin 1024) (k : Fin 256) :
    V m c main_v2 (ix3 d j k) = m ((c : Thread nD τ).loc main_arg2) (ix2 j ⟨d.val * 256 + k.val, by omega⟩) := by
  have h : V m c main_v2 = transpose S8x1024x256 [1, 0, 2] (shapeCast S1024x8x256 (truncf (F := Ideal) .bf16 (m ((c : Thread nD τ).loc main_arg2)) bitsLt_bf16_f32) shapeCasts_S1024x2048_S1024x8x256)
      transposes_S1024x8x256_S8x1024x256_1_0_2 := by
    unfold_abbrev_sides
    after_results
    rfl
  rw [h]
  exact host_blocks _ d j k

theorem emb0 (t : Fin cfg0.N) (y : S256x1024.Idx) : ((cfg0.win 0).blk t).view.emb y = y := by
  funext q; apply Fin.ext
  match q with
  | ⟨0, _⟩ => show 0 * 256 + 1 * (y 0).val = (y 0).val; omega
  | ⟨1, _⟩ => show 0 * 1024 + 1 * (y 1).val = (y 1).val; omega
theorem emb4 (t : Fin cfg0.N) (y : S256x1024.Idx) : ((cfg0.win 4).blk t).view.emb y = y := emb0 t y
theorem emb5 (t : Fin cfg0.N) (y : S256x1024.Idx) : ((cfg0.win 5).blk t).view.emb y = y := emb0 t y

theorem emb1 (t : Fin cfg0.N) (y : S1x1024.Idx) : ((cfg0.win 1).blk t).view.emb y = y := by
  funext q; apply Fin.ext
  match q with
  | ⟨0, _⟩ => show 0 * 1 + 1 * (y 0).val = (y 0).val; omega
  | ⟨1, _⟩ => show 0 * 1024 + 1 * (y 1).val = (y 1).val; omega
theorem emb7 (t : Fin cfg0.N) (y : S1x1024.Idx) : ((cfg0.win 7).blk t).view.emb y = y := emb1 t y

theorem emb3 (t : Fin cfg0.N) (y : S1x256.Idx) : ((cfg0.win 3).blk t).view.emb y = y := by
  funext q; apply Fin.ext
  match q with
  | ⟨0, _⟩ => show 0 * 1 + 1 * (y 0).val = (y 0).val; omega
  | ⟨1, _⟩ => show 0 * 256 + 1 * (y 1).val = (y 1).val; omega
theorem emb8 (t : Fin cfg0.N) (y : S1x256.Idx) : ((cfg0.win 8).blk t).view.emb y = y := emb3 t y

theorem emb2 (t : Fin cfg0.N) (y : S8x1024x256.Idx) : ((cfg0.win 2).blk t).view.emb y = y := by
  funext q; apply Fin.ext
  match q with
  | ⟨0, _⟩ => show 0 * 8 + 1 * (y 0).val = (y 0).val; omega
  | ⟨1, _⟩ => show 0 * 1024 + 1 * (y 1).val = (y 1).val; omega
  | ⟨2, _⟩ => show 0 * 256 + 1 * (y 2).val = (y 2).val; omega

theorem emb6 (t : Fin cfg0.N) (y : S256x2048.Idx) : ((cfg0.win 6).blk t).view.emb y = y := by
  funext q; apply Fin.ext
  match q with
  | ⟨0, _⟩ => show 0 * 256 + 1 * (y 0).val = (y 0).val; omega
  | ⟨1, _⟩ => show 0 * 2048 + 1 * (y 1).val = (y 1).val; omega

theorem iblk0_eq (t : Fin cfg0.N) : iblk m c 0 t = (m ((c : Thread nD τ).loc main_arg0)) :=
  funext fun y => congrArg (m ((c : Thread nD τ).loc main_arg0)) (emb0 t y)

theorem iblk1_eq (t : Fin cfg0.N) : iblk m c 1 t = (m ((c : Thread nD τ).loc main_arg1)) :=
  funext fun y => congrArg (m ((c : Thread nD τ).loc main_arg1)) (emb1 t y)

theorem iblk2_eq (t : Fin cfg0.N) : iblk m c 2 t = (V m c main_v2) :=
  funext fun y => congrArg (V m c main_v2) (emb2 t y)

theorem iblk3_eq (t : Fin cfg0.N) : iblk m c 3 t = (m ((c : Thread nD τ).loc main_arg3)) :=
  funext fun y => congrArg (m ((c : Thread nD τ).loc main_arg3)) (emb3 t y)

theorem iblk4_eq (t : Fin cfg0.N) : iblk m c 4 t = (m ((c : Thread nD τ).loc main_arg4)) :=
  funext fun y => congrArg (m ((c : Thread nD τ).loc main_arg4)) (emb4 t y)

theorem iblk5_eq (t : Fin cfg0.N) : iblk m c 5 t = (m ((c : Thread nD τ).loc main_arg5)) :=
  funext fun y => congrArg (m ((c : Thread nD τ).loc main_arg5)) (emb5 t y)

theorem final6 : (dats m 0 c).arrAt 6 cfg0.N = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 6 _ (fun t _ => ?_) (fun y => ⟨(⟨0, by decide⟩ : Fin cfg0.N), flush0_6 _, ?_⟩)
  · funext y
    show (dats m 0 c).after 6 t y = val_main_v60 (F := Ideal) _ _ _ _ _ _ (((cfg0.win 6).blk t).view.emb y)
    rw [emb6, after0_6, iblk0_eq, iblk1_eq, iblk2_eq, iblk3_eq, iblk4_eq, iblk5_eq]
    exact congrFun (out6_eq _ _ _ _ _ _ _ (Vw_at m c)) y
  · have h := ((cfg0.win 6).blk (⟨0, by decide⟩ : Fin cfg0.N)).view.emb_mem_set y
    rwa [emb6] at h

theorem final7 : (dats m 0 c).arrAt 7 cfg0.N = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 7 _ (fun t _ => ?_) (fun y => ⟨(⟨0, by decide⟩ : Fin cfg0.N), flush0_7 _, ?_⟩)
  · funext y
    show (dats m 0 c).after 7 t y = val_main_v59 (F := Ideal) _ _ _ _ _ _ (((cfg0.win 7).blk t).view.emb y)
    rw [emb7, after0_7, iblk0_eq, iblk1_eq, iblk2_eq, iblk3_eq, iblk4_eq, iblk5_eq]
    exact congrFun (out7_eq _ _ _ _ _ _ _ (Vw_at m c)) y
  · have h := ((cfg0.win 7).blk (⟨0, by decide⟩ : Fin cfg0.N)).view.emb_mem_set y
    rwa [emb7] at h

theorem final8 : (dats m 0 c).arrAt 8 cfg0.N = val_main_v39 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_cover 8 _ (fun t _ => ?_) (fun y => ⟨(⟨0, by decide⟩ : Fin cfg0.N), flush0_8 _, ?_⟩)
  · funext y
    show (dats m 0 c).after 8 t y = val_main_v39 (F := Ideal) _ _ _ _ (((cfg0.win 8).blk t).view.emb y)
    rw [emb8, after0_8, iblk0_eq, iblk1_eq, iblk2_eq, iblk3_eq, iblk4_eq, iblk5_eq]
    exact congrFun (out8_eq _ _ _ _ _ _ _ (Vw_at m c)) y
  · have h := ((cfg0.win 8).blk (⟨0, by decide⟩ : Fin cfg0.N)).view.emb_mem_set y
    rwa [emb8] at h

/-- The kernel and the reference end with equal results. -/
theorem algebraic : Cert.algebraic_Kernel16Ideal_Reference16Ideal
    (hKernel16Ideal := Cert.Kernel16Ideal.Gen.facts) (hReference16Ideal := Cert.Reference16Ideal.Gen.facts) := by
  intro m g m' g' _ hagree
  refine ⟨_, _, _, run_blocks m g, ?_⟩
  refine (θ_run _ _ _).mono (fun r h c => ?_) (Cert.Reference16Ideal.Value.run m' g')
  obtain ⟨h0, h1, h2, k⟩ := h c
  obtain ⟨a0, a1, a2, a3, a4, a5⟩ := hagree c
  refine ⟨(h0.trans (val_main_v60_eq _ _)).trans ?_, (h1.trans (val_main_v59_eq _ _)).trans ?_, (h2.trans (val_main_v39_eq _ _ _ _)).trans ?_, k⟩
  · rw [a0, a1, a2, a3, a4, a5]; exact (final6 m c).symm
  · rw [a0, a1, a2, a3, a4, a5]; exact (final7 m c).symm
  · rw [a0, a1, a2, a4]; exact (final8 m c).symm

end Cert.Proof.MemBwd

end
-- ==== Proof.Mem.lean ====
/- Hand-written, untrusted: the memory's keys and values at the reals. One grid point computes the normed rows, their products
   with the eight blocks of columns, and the norm of each of the four heads of keys. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import proofs.«01_k».proof.Proof.RmsBwd

@[expose] public section

noncomputable section

namespace Cert.Proof.Mem

open Cert.Kernel15Ideal Cert.Kernel15Ideal.Gen Cert.Kernel15Ideal.Value Idealize.ShloMosaic Idealize.ShloMosaic.TcCoe Idealize.SL.Sem
open Reference15Ideal.Read RmsBwd

/-- One entry of a head's row after its norm. -/
def hnorm (y g : Fin 256 → EReal) (j : Fin 256) : EReal :=
  y j * Ideal.rsqrt (Ideal.div (∑ k, y k * y k) (Ideal.ofBits .f32 0x43800000#32) + Ideal.ofBits .f32 0x358637BD#32) * g j

section Pay
variable (x : Vec Ideal S256x1024 .f32) (g : Vec Ideal S1x1024 .f32) (h : Vec Ideal S256x1024 .bf16) (w : Vec Ideal S1x1024x256 .bf16) (e : Vec Ideal S1x256 .f32)
  (i : Fin 256) (j : Fin 1024) (k : Fin 256)

theorem pay2_at : k0_pay2 x g (ix2 i j) = x (ix2 i j) * (rinv fun q => x (ix2 i q)) * g (ix2 0 j) := by
  unfold_payloads
  pointwise
  simp only [rinv_eq]

theorem pay1_at : k0_pay1 h w (ix2 i k) = ∑ q : Fin 1024, h (ix2 i q) * w (ix3 0 q k) := by
  unfold_payloads
  pointwise

theorem pay4_at : k0_pay4 h w e (ix2 i k) = hnorm (fun k => ∑ q : Fin 1024, h (ix2 i q) * w (ix3 0 q k)) (fun k => e (ix2 0 k)) k := by
  unfold_payloads
  pointwise
  rfl

theorem pay3_eq : k0_pay3 x g w e = k0_pay4 (k0_pay2 x g) w e := rfl
theorem pay5_eq : k0_pay5 h w e = k0_pay4 h w e := rfl
theorem pay6_eq : k0_pay6 h w e = k0_pay4 h w e := rfl
theorem pay7_eq : k0_pay7 h w = k0_pay1 h w := rfl
theorem pay8_eq : k0_pay8 h w = k0_pay1 h w := rfl
theorem pay9_eq : k0_pay9 h w = k0_pay1 h w := rfl
end Pay

section Ref
variable (x0 : (⟨S256x1024, .f32⟩ : BufTy).Contents (Elt Ideal)) (x1 : (⟨S1x1024, .f32⟩ : BufTy).Contents (Elt Ideal)) (x2 : (⟨S1024x2048, .f32⟩ : BufTy).Contents (Elt Ideal)) (x3 : (⟨S1x256, .f32⟩ : BufTy).Contents (Elt Ideal)) (i : Fin 256)

theorem ref11_at (j : Fin 1024) : val_main_v11 (F := Ideal) x0 x1 (ix2 i j) = x0 (ix2 i j) * (rinv fun q => x0 (ix2 i q)) * x1 (ix2 0 j) := by
  pointwise [val_main_v0, val_main_cst, val_main_v1, val_main_v2, val_main_cst_0, val_main_v3, val_main_v4, val_main_cst_1, val_main_v5, val_main_v6, val_main_v7, val_main_v8, val_main_v9, val_main_v10, val_main_v11]
  simp only [Fin.sum_univ_one, rinv_eq]

theorem ref12_at (k : Fin 2048) : val_main_v12 (F := Ideal) x0 x1 x2 (ix2 i k) = ∑ q : Fin 1024, val_main_v11 (F := Ideal) x0 x1 (ix2 i q) * x2 (ix2 q k) := by
  pointwise [val_main_v12]

theorem ref31_at (b : Fin 4) (j : Fin 256) : val_main_v31 (F := Ideal) x0 x1 x2 x3 (ix2 i ⟨b.val * 256 + j.val, by omega⟩)
    = hnorm (fun k => val_main_v12 (F := Ideal) x0 x1 x2 (ix2 i ⟨b.val * 256 + k.val, by omega⟩)) (fun k => x3 (ix2 0 k)) j := by
  pointwise [val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v31]
  rfl

theorem ref32_at (j : Fin 1024) : val_main_v32 (F := Ideal) x0 x1 x2 (ix2 i j) = val_main_v12 (F := Ideal) x0 x1 x2 (ix2 i ⟨1024 + j.val, by omega⟩) := by
  pointwise [val_main_v29, val_main_v32]
end Ref

theorem hz : (![0, 0] : Fin 2 → Nat) = fun _ => 0 := funext fun a => by fin_cases a <;> rfl

section Block
variable (x0 : Vec Ideal S256x1024 .f32) (x1 : Vec Ideal S1x1024 .f32) (w : Vec Ideal S8x1024x256 .bf16) (x3 : Vec Ideal S1x256 .f32) (x2 : Vec Ideal S1024x2048 .f32)

theorem norm_eq : k0_pay2 x0 x1 = val_main_v11 (F := Ideal) x0 x1 := by
  funext y
  obtain ⟨i, j, rfl⟩ : ∃ (i : Fin 256) (j : Fin 1024), y = ix2 i j := ⟨y 0, y 1, eq_ix2 y⟩
  rw [pay2_at, ref11_at]

theorem out4_eq : out0_4 x0 x1 w x3 = val_main_v30 (F := Ideal) x0 x1 := by
  unfold out0_4
  rw [View.canon_unit_zero hz, View.ld_unit_zero hz, View.ld_unit_zero hz]
  exact norm_eq x0 x1

/-- One block of columns of the weight. -/
theorem ld_blk (d : Fin 8) (inb) (q : Fin 1024) (k : Fin 256) :
    View.ld w (Rect.unit (s := S8x1024x256) ![d.val, 0, 0] S1x1024x256.size inb) (ix3 0 q k) = w (ix3 d q k) :=
  congrArg w (funext fun a => Fin.ext (by match a with | ⟨0, _⟩ => rfl | ⟨1, _⟩ => show 0 + 1 * q.val = q.val; omega | ⟨2, _⟩ => show 0 + 1 * k.val = k.val; omega))

variable (hw : ∀ (d : Fin 8) (q : Fin 1024) (k : Fin 256), w (ix3 d q k) = x2 (ix2 q ⟨d.val * 256 + k.val, by omega⟩))
include hw

/-- The products with one block of columns. -/
theorem cols (d : Fin 8) (inb) (p k : Fin 256) :
    ∑ q : Fin 1024, k0_pay2 x0 x1 (ix2 p q) * View.ld w (Rect.unit (s := S8x1024x256) ![d.val, 0, 0] S1x1024x256.size inb) (ix3 0 q k)
      = val_main_v12 (F := Ideal) x0 x1 x2 (ix2 p ⟨d.val * 256 + k.val, by omega⟩) := by
  rw [ref12_at]
  exact Finset.sum_congr rfl fun q _ => by rw [ld_blk, hw, norm_eq]

/-- One head of keys, at a place `y` of the result that lies under `z` of the head's block. -/
theorem key_at (b : Fin 4) (inb) (z : S256x256.Idx) (y : S256x1024.Idx) (h0 : (y 0).val = (z 0).val) (h1 : (y 1).val = b.val * 256 + (z 1).val) :
    k0_pay4 (k0_pay2 x0 x1) (View.ld w (Rect.unit (s := S8x1024x256) ![b.val, 0, 0] S1x1024x256.size inb)) x3 z = val_main_v31 (F := Ideal) x0 x1 x2 x3 y := by
  obtain ⟨p, j, rfl⟩ : ∃ (p : Fin 256) (j : Fin 256), z = ix2 p j := ⟨z 0, z 1, eq_ix2 z⟩
  have e : y = ix2 p ⟨b.val * 256 + j.val, by omega⟩ := funext fun a => Fin.ext (by match a with | ⟨0, _⟩ => exact h0 | ⟨1, _⟩ => exact h1)
  rw [e, ref31_at, pay4_at]
  exact congrArg (hnorm · _ j) (funext fun k => cols x0 x1 w x2 hw ⟨b.val, by omega⟩ inb p k)

/-- One block of values. -/
theorem value_at (b : Fin 4) (inb) (z : S256x256.Idx) (y : S256x1024.Idx) (h0 : (y 0).val = (z 0).val) (h1 : (y 1).val = b.val * 256 + (z 1).val) :
    k0_pay1 (k0_pay2 x0 x1) (View.ld w (Rect.unit (s := S8x1024x256) ![4 + b.val, 0, 0] S1x1024x256.size inb)) z = val_main_v32 (F := Ideal) x0 x1 x2 y := by
  obtain ⟨p, j, rfl⟩ : ∃ (p : Fin 256) (j : Fin 256), z = ix2 p j := ⟨z 0, z 1, eq_ix2 z⟩
  have e : y = ix2 p ⟨b.val * 256 + j.val, by omega⟩ := funext fun a => Fin.ext (by match a with | ⟨0, _⟩ => exact h0 | ⟨1, _⟩ => exact h1)
  rw [e, ref32_at, pay1_at]
  refine (cols x0 x1 w x2 hw ⟨4 + b.val, by omega⟩ inb p j).trans (congrArg (fun k => val_main_v12 (F := Ideal) x0 x1 x2 (ix2 p k)) (Fin.ext ?_))
  show (4 + b.val) * 256 + j.val = 1024 + (b.val * 256 + j.val)
  omega

theorem out5_eq : out0_5 x0 x1 w x3 = val_main_v31 (F := Ideal) x0 x1 x2 x3 := by
  funext y
  unfold out0_5 k0_pay10
  rw [View.ld_unit_zero hz, View.ld_unit_zero hz, View.ld_unit_zero hz, pay3_eq, pay5_eq, pay6_eq]
  refine View.canon_apply_of_pieces (Val := Elt Ideal) _ _ ?_ y (cover0_5 _ _ _ _ _)
  simp only [List.forall_mem_cons]
  refine ⟨fun z => key_at x0 x1 w x3 x2 hw 3 _ z _ ?_ ?_, fun z => key_at x0 x1 w x3 x2 hw 2 _ z _ ?_ ?_, fun z => key_at x0 x1 w x3 x2 hw 1 _ z _ ?_ ?_, fun z => key_at x0 x1 w x3 x2 hw 0 _ z _ ?_ ?_, nofun⟩
  · show 0 + 1 * (z 0).val = (z 0).val; omega
  · show 768 + 1 * (z 1).val = 3 * 256 + (z 1).val; omega
  · show 0 + 1 * (z 0).val = (z 0).val; omega
  · show 512 + 1 * (z 1).val = 2 * 256 + (z 1).val; omega
  · show 0 + 1 * (z 0).val = (z 0).val; omega
  · show 256 + 1 * (z 1).val = 1 * 256 + (z 1).val; omega
  · show 0 + 1 * (z 0).val = (z 0).val; omega
  · show 0 + 1 * (z 1).val = 0 * 256 + (z 1).val; omega

theorem out6_eq : out0_6 x0 x1 w x3 = val_main_v32 (F := Ideal) x0 x1 x2 := by
  funext y
  unfold out0_6 k0_pay10
  rw [View.ld_unit_zero hz, View.ld_unit_zero hz, pay7_eq, pay8_eq, pay9_eq]
  refine View.canon_apply_of_pieces (Val := Elt Ideal) _ _ ?_ y (cover0_6 _ _ _ _ _)
  simp only [List.forall_mem_cons]
  refine ⟨fun z => value_at x0 x1 w x2 hw 3 _ z _ ?_ ?_, fun z => value_at x0 x1 w x2 hw 2 _ z _ ?_ ?_, fun z => value_at x0 x1 w x2 hw 1 _ z _ ?_ ?_, fun z => value_at x0 x1 w x2 hw 0 _ z _ ?_ ?_, nofun⟩
  · show 0 + 1 * (z 0).val = (z 0).val; omega
  · show 768 + 1 * (z 1).val = 3 * 256 + (z 1).val; omega
  · show 0 + 1 * (z 0).val = (z 0).val; omega
  · show 512 + 1 * (z 1).val = 2 * 256 + (z 1).val; omega
  · show 0 + 1 * (z 0).val = (z 0).val; omega
  · show 256 + 1 * (z 1).val = 1 * 256 + (z 1).val; omega
  · show 0 + 1 * (z 0).val = (z 0).val; omega
  · show 0 + 1 * (z 1).val = 0 * 256 + (z 1).val; omega
end Block

theorem host_blocks (x : Vec Ideal S1024x2048 .f32) (d : Fin 8) (j : Fin 1024) (k : Fin 256) :
    transpose S8x1024x256 [1, 0, 2] (shapeCast S1024x8x256 (truncf (F := Ideal) .bf16 x bitsLt_bf16_f32) shapeCasts_S1024x2048_S1024x8x256)
      transposes_S1024x8x256_S8x1024x256_1_0_2 (ix3 d j k) = x (ix2 j ⟨d.val * 256 + k.val, by omega⟩) := by
  pointwise

variable (m : (ℓ : Loc nD τ sig) → Buf (Elt Ideal) ℓ) (c : Dev nD)

/-- The weight's blocks of columns, as the host lays them out. -/
theorem Vw_at (d : Fin 8) (j : Fin 1024) (k : Fin 256) :
    V m c main_v2 (ix3 d j k) = m ((c : Thread nD τ).loc main_arg2) (ix2 j ⟨d.val * 256 + k.val, by omega⟩) := by
  have h : V m c main_v2 = transpose S8x1024x256 [1, 0, 2] (shapeCast S1024x8x256 (truncf (F := Ideal) .bf16 (m ((c : Thread nD τ).loc main_arg2)) bitsLt_bf16_f32) shapeCasts_S1024x2048_S1024x8x256)
      transposes_S1024x8x256_S8x1024x256_1_0_2 := by
    unfold_abbrev_sides
    after_results
    rfl
  rw [h]
  exact host_blocks _ d j k

theorem iblk0_eq (t : Fin cfg0.N) : iblk m c 0 t = (m ((c : Thread nD τ).loc main_arg0)) := by
  refine funext fun y => congrArg (m ((c : Thread nD τ).loc main_arg0)) (funext fun q => Fin.ext ?_)
  match q with
  | ⟨0, _⟩ => show 0 * 256 + 1 * (y 0).val = (y 0).val; omega
  | ⟨1, _⟩ => show 0 * 1024 + 1 * (y 1).val = (y 1).val; omega

theorem iblk1_eq (t : Fin cfg0.N) : iblk m c 1 t = (m ((c : Thread nD τ).loc main_arg1)) := by
  refine funext fun y => congrArg (m ((c : Thread nD τ).loc main_arg1)) (funext fun q => Fin.ext ?_)
  match q with
  | ⟨0, _⟩ => show 0 * 1 + 1 * (y 0).val = (y 0).val; omega
  | ⟨1, _⟩ => show 0 * 1024 + 1 * (y 1).val = (y 1).val; omega

theorem iblk2_eq (t : Fin cfg0.N) : iblk m c 2 t = (V m c main_v2) := by
  refine funext fun y => congrArg (V m c main_v2) (funext fun q => Fin.ext ?_)
  match q with
  | ⟨0, _⟩ => show 0 * 8 + 1 * (y 0).val = (y 0).val; omega
  | ⟨1, _⟩ => show 0 * 1024 + 1 * (y 1).val = (y 1).val; omega
  | ⟨2, _⟩ => show 0 * 256 + 1 * (y 2).val = (y 2).val; omega

theorem iblk3_eq (t : Fin cfg0.N) : iblk m c 3 t = (m ((c : Thread nD τ).loc main_arg3)) := by
  refine funext fun y => congrArg (m ((c : Thread nD τ).loc main_arg3)) (funext fun q => Fin.ext ?_)
  match q with
  | ⟨0, _⟩ => show 0 * 1 + 1 * (y 0).val = (y 0).val; omega
  | ⟨1, _⟩ => show 0 * 256 + 1 * (y 1).val = (y 1).val; omega

theorem emb4 (t : Fin cfg0.N) (y : S256x1024.Idx) : ((cfg0.win 4).blk t).view.emb y = y := by
  funext q; apply Fin.ext
  match q with
  | ⟨0, _⟩ => show 0 * 256 + 1 * (y 0).val = (y 0).val; omega
  | ⟨1, _⟩ => show 0 * 1024 + 1 * (y 1).val = (y 1).val; omega

theorem final4 : (dats m 0 c).arrAt 4 cfg0.N = val_main_v30 (F := Ideal) (m ((c : Thread nD τ).loc main_arg0)) (m ((c : Thread nD τ).loc main_arg1)) := by
  refine (dats m 0 c).arrAt_eq_of_cover 4 _ (fun t _ => ?_) (fun y => ⟨(⟨0, by decide⟩ : Fin cfg0.N), flush0_4 _, ?_⟩)
  · funext y
    show (dats m 0 c).after 4 t y = val_main_v30 (F := Ideal) _ _ (((cfg0.win 4).blk t).view.emb y)
    rw [emb4, after0_4, iblk0_eq, iblk1_eq, iblk2_eq, iblk3_eq]
    exact congrFun (out4_eq _ _ _ _) y
  · have h := ((cfg0.win 4).blk (⟨0, by decide⟩ : Fin cfg0.N)).view.emb_mem_set y
    rwa [emb4] at h

theorem emb5 (t : Fin cfg0.N) (y : S256x1024.Idx) : ((cfg0.win 5).blk t).view.emb y = y := by
  funext q; apply Fin.ext
  match q with
  | ⟨0, _⟩ => show 0 * 256 + 1 * (y 0).val = (y 0).val; omega
  | ⟨1, _⟩ => show 0 * 1024 + 1 * (y 1).val = (y 1).val; omega

theorem final5 : (dats m 0 c).arrAt 5 cfg0.N = val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t _ => ?_) (fun y => ⟨(⟨0, by decide⟩ : Fin cfg0.N), flush0_5 _, ?_⟩)
  · funext y
    show (dats m 0 c).after 5 t y = val_main_v31 (F := Ideal) _ _ _ _ (((cfg0.win 5).blk t).view.emb y)
    rw [emb5, after0_5, iblk0_eq, iblk1_eq, iblk2_eq, iblk3_eq]
    exact congrFun (out5_eq _ _ _ _ _ (Vw_at m c)) y
  · have h := ((cfg0.win 5).blk (⟨0, by decide⟩ : Fin cfg0.N)).view.emb_mem_set y
    rwa [emb5] at h

theorem emb6 (t : Fin cfg0.N) (y : S256x1024.Idx) : ((cfg0.win 6).blk t).view.emb y = y := by
  funext q; apply Fin.ext
  match q with
  | ⟨0, _⟩ => show 0 * 256 + 1 * (y 0).val = (y 0).val; omega
  | ⟨1, _⟩ => show 0 * 1024 + 1 * (y 1).val = (y 1).val; omega

theorem final6 : (dats m 0 c).arrAt 6 cfg0.N = val_main_v32 (F := Ideal) (m ((c : Thread nD τ).loc main_arg0)) (m ((c : Thread nD τ).loc main_arg1)) (m ((c : Thread nD τ).loc main_arg2)) := by
  refine (dats m 0 c).arrAt_eq_of_cover 6 _ (fun t _ => ?_) (fun y => ⟨(⟨0, by decide⟩ : Fin cfg0.N), flush0_6 _, ?_⟩)
  · funext y
    show (dats m 0 c).after 6 t y = val_main_v32 (F := Ideal) _ _ _ (((cfg0.win 6).blk t).view.emb y)
    rw [emb6, after0_6, iblk0_eq, iblk1_eq, iblk2_eq, iblk3_eq]
    exact congrFun (out6_eq _ _ _ _ _ (Vw_at m c)) y
  · have h := ((cfg0.win 6).blk (⟨0, by decide⟩ : Fin cfg0.N)).view.emb_mem_set y
    rwa [emb6] at h

/-- The kernel and the reference end with equal results. -/
theorem algebraic : Cert.algebraic_Kernel15Ideal_Reference15Ideal
    (hKernel15Ideal := Cert.Kernel15Ideal.Gen.facts) (hReference15Ideal := Cert.Reference15Ideal.Gen.facts) := by
  intro m g m' g' _ hagree
  refine ⟨_, _, _, run_blocks m g, ?_⟩
  refine (θ_run _ _ _).mono (fun r h c => ?_) (Cert.Reference15Ideal.Value.run m' g')
  obtain ⟨h0, h1, h2, k⟩ := h c
  obtain ⟨a0, a1, a2, a3⟩ := hagree c
  refine ⟨(h0.trans (val_main_v30_eq _ _)).trans ?_, (h1.trans (val_main_v31_eq _ _ _ _)).trans ?_, (h2.trans (val_main_v32_eq _ _ _)).trans ?_, k⟩
  · rw [a0, a1]; exact (final4 m c).symm
  · rw [a0, a1, a2, a3]; exact (final5 m c).symm
  · rw [a0, a1, a2]; exact (final6 m c).symm

end Cert.Proof.Mem

end
-- ==== Proof.XFwd.lean ====
/- Hand-written, untrusted: the cross attention at the reals. A grid point computes the four heads of its block of 256 queries:
   the queries' norm, the scores against the 256 keys, their softmax and the sum of the values under it. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import proofs.«01_k».proof.Proof.Mem

@[expose] public section

noncomputable section

namespace Cert.Proof.XFwd

open Cert.Kernel13Ideal Cert.Kernel13Ideal.Gen Cert.Kernel13Ideal.Value Idealize.ShloMosaic Idealize.ShloMosaic.TcCoe Idealize.SL.Sem
open Reference13Ideal.Read

section Math
variable (q g : Fin 256 → EReal) (k : Fin 256 → Fin 256 → EReal)

/-- A query's score against one key. -/
def score (n : Fin 256) : EReal := (∑ j, Mem.hnorm q g j * k n j) * Ideal.ofBits .f32 0x3D800000#32

/-- The greatest of a query's scores. -/
def top : EReal := Finset.fold max (Ideal.ofBits .f32 0xFF800000#32) (score q g k) Finset.univ

/-- A score's exponential, less the greatest. -/
def weight (n : Fin 256) : EReal := Ideal.exp (score q g k n - top q g k)

/-- The sum of one column of values under the softmax. -/
def attend (v : Fin 256 → EReal) : EReal := ∑ n, Ideal.div (weight q g k n) (∑ l, weight q g k l) * v n

theorem attend_congr {q q' v v' : Fin 256 → EReal} {k k' : Fin 256 → Fin 256 → EReal} (hq : ∀ a, q a = q' a) (hk : ∀ n a, k n a = k' n a) (hv : ∀ n, v n = v' n) :
    attend q g k v = attend q' g k' v' := by
  rw [funext hq, funext fun n => funext (hk n), funext hv]

theorem max_top : max (Ideal.ofBits .f32 0xFF800000#32) (top q g k) = top q g k :=
  max_eq_right ((Finset.le_fold_max _).mpr (Or.inl le_rfl))
end Math

section Pay
variable (g : Vec Ideal S1x256 .f32) (x k v : Vec Ideal S256x256 .bf16) (i j : Fin 256)

theorem pay2_at : k0_pay2 g x k v (ix2 i j)
    = attend (fun a => x (ix2 i a)) (fun a => g (ix2 0 a)) (fun n a => k (ix2 n a)) (fun n => v (ix2 n j)) := by
  unfold_payloads
  pointwise
  rfl

theorem pay3_eq : k0_pay3 g x k v = k0_pay2 g x k v := rfl
theorem pay1_eq : k0_pay1 g (k0_pay8 x) k v = k0_pay2 g x k v := rfl
theorem pay7_eq : k0_pay7 g (k0_pay4 x) (k0_pay5 x) k0_pay6 k v = k0_pay2 g x k v := rfl
end Pay

section Ref
variable (x0 : (⟨S2048x10240, .bf16⟩ : BufTy).Contents (Elt Ideal)) (x1 : (⟨S1x256, .f32⟩ : BufTy).Contents (Elt Ideal))
  (x2 x3 : (⟨S256x1024, .bf16⟩ : BufTy).Contents (Elt Ideal)) (i : Fin 2048) (b : Fin 4) (n : Fin 256)

/-- A query of one head. -/
abbrev Q (j : Fin 256) : EReal := x0 (ix2 i ⟨6144 + (b.val * 256 + j.val), by omega⟩)
/-- The scale of the queries' norm. -/
abbrev G (j : Fin 256) : EReal := x1 (ix2 0 j)
/-- A head of keys or of values. -/
abbrev K (n j : Fin 256) : EReal := x2 (ix2 n ⟨b.val * 256 + j.val, by omega⟩)

theorem q_at (j : Fin 256) : val_main_v17 (F := Ideal) x0 x1 (ix3 i b j) = Mem.hnorm (Q x0 i b) (G x1) j := by
  pointwise [val_main_v0, val_main_v1, val_main_v4, val_main_v5, val_main_cst, val_main_v6, val_main_v7, val_main_cst_0, val_main_v8, val_main_v9, val_main_cst_1, val_main_v10, val_main_v11, val_main_v12, val_main_v13, val_main_v14, val_main_v15, val_main_v16, val_main_v17]
  rfl

theorem s_at : val_main_v22 (F := Ideal) x0 x1 x2 (ix3 b i n) = score (Q x0 i b) (G x1) (K x2 b) n := by
  pointwise [val_main_v2, val_main_v18, val_main_v20, val_main_cst_2, val_main_v21, val_main_v22]
  simp only [q_at]
  rfl

theorem e_at : val_main_v29 (F := Ideal) x0 x1 x2 (ix3 b i n) = weight (Q x0 i b) (G x1) (K x2 b) n := by
  pointwise [val_main_cst_3, val_main_v23, val_main_cst_4, val_main_v24, val_main_v25, val_main_v26, val_main_v27, val_main_v28, val_main_v29]
  simp only [s_at]
  exact congrArg (fun a => Ideal.exp (score (Q x0 i b) (G x1) (K x2 b) n - a)) (max_top _ _ _)

theorem ref_at (j : Fin 256) : val_main_v37 (F := Ideal) x0 x1 x2 x3 (ix2 i ⟨b.val * 256 + j.val, by omega⟩)
    = attend (Q x0 i b) (G x1) (K x2 b) (fun n => K x3 b n j) := by
  pointwise [val_main_v3, val_main_v19, val_main_cst_5, val_main_v30, val_main_v31, val_main_v32, val_main_v33, val_main_v34, val_main_v35, val_main_v36, val_main_v37]
  simp only [e_at]
  exact Finset.sum_congr rfl fun n _ => mul_comm _ _
end Ref

theorem hz : (![0, 0] : Fin 2 → Nat) = fun _ => 0 := funext fun a => by fin_cases a <;> rfl

section Block
variable (x0 : Vec Ideal S256x1024 .bf16) (x1 : Vec Ideal S1x256 .f32) (x2 x3 : Vec Ideal S256x1024 .bf16)
  (X0 : (⟨S2048x10240, .bf16⟩ : BufTy).Contents (Elt Ideal)) (t : Fin 8)
  (hx : ∀ (i : Fin 256) (j : Fin 1024), x0 (ix2 i j) = X0 (ix2 ⟨t.val * 256 + i.val, by omega⟩ ⟨6144 + j.val, by omega⟩))

/-- The block of the reference's result that one grid point computes. -/
abbrev want (y : S256x1024.Idx) : EReal := val_main_v37 (F := Ideal) X0 x1 x2 x3 (ix2 ⟨t.val * 256 + (y 0).val, by have : (y 0).val < 256 := (y 0).isLt; omega⟩ (y 1))

/-- One head of a block, read at an index. -/
theorem ld_head (x : Vec Ideal S256x1024 .bf16) (b : Fin 4) (inb) (i j : Fin 256) :
    View.ld x (Rect.unit (s := S256x1024) ![0, b.val * 256] S256x256.size inb) (ix2 i j) = x (ix2 i ⟨b.val * 256 + j.val, by omega⟩) :=
  congrArg x (funext fun a => Fin.ext (by match a with | ⟨0, _⟩ => show 0 + 1 * i.val = i.val; omega | ⟨1, _⟩ => show b.val * 256 + 1 * j.val = b.val * 256 + j.val; omega))

include hx in
/-- One head, at a place `y` of the block that lies under `z` of the head. -/
theorem head_at (b : Fin 4) (inb) (z : S256x256.Idx) (y : S256x1024.Idx) (h0 : (y 0).val = (z 0).val) (h1 : (y 1).val = b.val * 256 + (z 1).val) :
    k0_pay2 x1 (View.ld x0 (Rect.unit (s := S256x1024) ![0, b.val * 256] S256x256.size inb)) (View.ld x2 (Rect.unit (s := S256x1024) ![0, b.val * 256] S256x256.size inb))
      (View.ld x3 (Rect.unit (s := S256x1024) ![0, b.val * 256] S256x256.size inb)) z = want x1 x2 x3 X0 t y := by
  obtain ⟨p, j, rfl⟩ : ∃ (p : Fin 256) (j : Fin 256), z = ix2 p j := ⟨z 0, z 1, eq_ix2 z⟩
  have e : y = ix2 p ⟨b.val * 256 + j.val, by omega⟩ := funext fun a => Fin.ext (by match a with | ⟨0, _⟩ => exact h0 | ⟨1, _⟩ => exact h1)
  rw [e]
  refine Eq.trans ?_ (ref_at X0 x1 x2 x3 ⟨t.val * 256 + p.val, by omega⟩ b j).symm
  exact (pay2_at _ _ _ _ p j).trans (attend_congr _ (fun a => (ld_head x0 b inb p a).trans (hx p _)) (fun n a => ld_head x2 b inb n a) fun n => ld_head x3 b inb n j)

include hx in
theorem out_eq : out0_4 x0 x1 x2 x3 = want x1 x2 x3 X0 t := by
  funext y
  unfold out0_4
  rw [View.ld_unit_zero hz, pay1_eq, pay7_eq, pay3_eq]
  refine View.canon_apply_of_pieces (Val := Elt Ideal) _ _ ?_ y (cover0_4 _ _ _ _ y)
  simp only [List.forall_mem_cons]
  refine ⟨fun z => head_at x0 x1 x2 x3 X0 t hx 3 _ z _ ?_ ?_, fun z => head_at x0 x1 x2 x3 X0 t hx 2 _ z _ ?_ ?_, fun z => head_at x0 x1 x2 x3 X0 t hx 1 _ z _ ?_ ?_, fun z => head_at x0 x1 x2 x3 X0 t hx 0 _ z _ ?_ ?_, nofun⟩
  · show 0 + 1 * (z 0).val = (z 0).val; omega
  · show 768 + 1 * (z 1).val = 3 * 256 + (z 1).val; omega
  · show 0 + 1 * (z 0).val = (z 0).val; omega
  · show 512 + 1 * (z 1).val = 2 * 256 + (z 1).val; omega
  · show 0 + 1 * (z 0).val = (z 0).val; omega
  · show 256 + 1 * (z 1).val = 1 * 256 + (z 1).val; omega
  · show 0 + 1 * (z 0).val = (z 0).val; omega
  · show 0 + 1 * (z 1).val = 0 * 256 + (z 1).val; omega
end Block

variable (m : (ℓ : Loc nD τ sig) → Buf (Elt Ideal) ℓ) (c : Dev nD)

theorem t_lt (t : Fin cfg0.N) : t.val < 8 := t.isLt

theorem idx : ∀ t : Fin cfg0.N, (win0_0.index t (0 : Fin 2) = t.val ∧ win0_0.index t (1 : Fin 2) = 6) ∧ win0_4.index t (0 : Fin 2) = t.val ∧ win0_4.index t (1 : Fin 2) = 0 :=
  (by decide +kernel : ∀ t : Fin grid0.N, _)

theorem iblk0_at (t : Fin cfg0.N) (i : Fin 256) (j : Fin 1024) :
    iblk m c 0 t (ix2 i j) = m ((c : Thread nD τ).loc main_arg0) (ix2 ⟨t.val * 256 + i.val, by have := t_lt t; omega⟩ ⟨6144 + j.val, by omega⟩) := by
  obtain ⟨⟨h0, h1⟩, -⟩ := idx t
  refine congrArg (m ((c : Thread nD τ).loc main_arg0)) (funext fun q => Fin.ext ?_)
  match q with
  | ⟨0, _⟩ => show win0_0.index t (0 : Fin 2) * 256 + 1 * i.val = t.val * 256 + i.val; omega
  | ⟨1, _⟩ => show win0_0.index t (1 : Fin 2) * 1024 + 1 * j.val = 6144 + j.val; omega

theorem iblk1_eq (t : Fin cfg0.N) : iblk m c 1 t = m ((c : Thread nD τ).loc main_arg1) := by
  refine funext fun y => congrArg (m ((c : Thread nD τ).loc main_arg1)) (funext fun q => Fin.ext ?_)
  match q with
  | ⟨0, _⟩ => show 0 * 1 + 1 * (y 0).val = (y 0).val; omega
  | ⟨1, _⟩ => show 0 * 256 + 1 * (y 1).val = (y 1).val; omega

theorem iblk2_eq (t : Fin cfg0.N) : iblk m c 2 t = m ((c : Thread nD τ).loc main_arg2) := by
  refine funext fun y => congrArg (m ((c : Thread nD τ).loc main_arg2)) (funext fun q => Fin.ext ?_)
  match q with
  | ⟨0, _⟩ => show 0 * 256 + 1 * (y 0).val = (y 0).val; omega
  | ⟨1, _⟩ => show 0 * 1024 + 1 * (y 1).val = (y 1).val; omega

theorem iblk3_eq (t : Fin cfg0.N) : iblk m c 3 t = m ((c : Thread nD τ).loc main_arg3) := by
  refine funext fun y => congrArg (m ((c : Thread nD τ).loc main_arg3)) (funext fun q => Fin.ext ?_)
  match q with
  | ⟨0, _⟩ => show 0 * 256 + 1 * (y 0).val = (y 0).val; omega
  | ⟨1, _⟩ => show 0 * 1024 + 1 * (y 1).val = (y 1).val; omega

theorem emb4 (t : Fin cfg0.N) (y : S256x1024.Idx) :
    ((cfg0.win 4).blk t).view.emb y = ix2 (⟨t.val * 256 + (y 0).val, by have := t_lt t; have : (y 0).val < 256 := (y 0).isLt; omega⟩ : Fin 2048) (y 1) := by
  obtain ⟨-, h0, h1⟩ := idx t
  funext q; apply Fin.ext
  match q with
  | ⟨0, _⟩ => show win0_4.index t (0 : Fin 2) * 256 + 1 * (y 0).val = t.val * 256 + (y 0).val; omega
  | ⟨1, _⟩ => show win0_4.index t (1 : Fin 2) * 1024 + 1 * (y 1).val = (y 1).val; omega

theorem final4 : (dats m 0 c).arrAt 4 cfg0.N = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) (fun y => ?_)
  · rw [flushed4, iblk1_eq, iblk2_eq, iblk3_eq]
    funext y
    show out0_4 (iblk m c 0 t) _ _ _ y = val_main_v37 (F := Ideal) _ _ _ _ (((cfg0.win 4).blk t).view.emb y)
    rw [emb4]
    exact congrFun (out_eq _ _ _ _ _ ⟨t.val, t_lt t⟩ (iblk0_at m c t)) y
  · obtain ⟨i, j, rfl⟩ : ∃ (i : Fin 2048) (j : Fin 1024), y = ix2 i j := ⟨y 0, y 1, eq_ix2 y⟩
    let t : Fin cfg0.N := ⟨i.val / 256, by show i.val / 256 < 8; omega⟩
    have ht : t.val = i.val / 256 := rfl
    refine ⟨t, flush0_4 t, ?_⟩
    have h := ((cfg0.win 4).blk t).view.emb_mem_set (ix2 (⟨i.val % 256, by omega⟩ : Fin 256) j)
    rw [emb4] at h
    refine (congrArg (· ∈ ((cfg0.win 4).blk t).view.set) ?_).mp h
    funext q; apply Fin.ext
    match q with
    | ⟨0, _⟩ => show t.val * 256 + i.val % 256 = i.val; omega
    | ⟨1, _⟩ => rfl

/-- The kernel and the reference end with equal results. -/
theorem algebraic : Cert.algebraic_Kernel13Ideal_Reference13Ideal
    (hKernel13Ideal := Cert.Kernel13Ideal.Gen.facts) (hReference13Ideal := Cert.Reference13Ideal.Gen.facts) := by
  intro m g m' g' _ hagree
  refine ⟨fun c => (dats m 0 c).arrAt 4 cfg0.N, run_blocks m g, ?_⟩
  refine (θ_run _ _ _).mono (fun r h c => ?_) (Cert.Reference13Ideal.Value.run m' g')
  obtain ⟨h0, k⟩ := h c
  obtain ⟨a0, a1, a2, a3⟩ := hagree c
  refine ⟨?_, k⟩
  exact (h0.trans (val_main_v37_eq _ _)).trans (by rw [a0, a1, a2, a3]; exact (final4 m c).symm)

end Cert.Proof.XFwd

end
-- ==== Proof.XBwd.lean ====
/- Hand-written, untrusted: the gradient of the cross attention at the reals. A grid point takes the four heads of its block of 256
   queries: the softmax again, its gradient, and from it the gradients of the queries, of the keys, of the values and of the gain of
   the queries' norm; the last three are added up over the eight points. -/
module

public import proofs.«01_k».proof.Defs
public import proofs.«01_k».proof.Proof.Gen.Kernel2Ideal.Value
public import proofs.«01_k».proof.Proof.Gen.Pre_finite_scores
public import proofs.«01_k».proof.Proof.Gen.Reference2Ideal.Run
public import proofs.«01_k».proof.Proof.Gen.Reference2Ideal.Read
public import Idealize.ShloMosaic.Lib.Pointwise
public import proofs.«01_k».proof.Proof.MemBwd
public import proofs.«01_k».proof.Proof.XFwd
public import Idealize.ShloMosaic.Lib.Pipeline.Value
public import Idealize.ShloMosaic.Lib.Pipeline.ReadBack
public import Idealize.ShloMosaic.Lib.Tactic

@[expose] public section

noncomputable section

namespace Cert.Proof.XBwd

open Cert.Kernel2Ideal Cert.Kernel2Ideal.Gen Cert.Kernel2Ideal.Value Idealize.ShloMosaic Idealize.ShloMosaic.TcCoe Idealize.SL.Sem
open Reference2Ideal.Read
open RmsBwd hiding inv
open XFwd (score top weight)

section Math
variable (q g : Fin 256 → EReal) (k : Fin 256 → Fin 256 → EReal) (d : Fin 256 → EReal)

/-- The scale of the scores. -/
abbrev lit : EReal := Ideal.ofBits .f32 0x3D800000#32

/-- The sum of a query's weights. -/
def total : EReal := ∑ l, weight q g k l

/-- The softmax of a query's scores. -/
def prob (n : Fin 256) : EReal := Ideal.div (weight q g k n) (total q g k)

/-- The gradient of a query's scores: `d` is the gradient of the softmax. -/
def dscore (n : Fin 256) : EReal := prob q g k n * (d n - ∑ l, d l * prob q g k l) * lit

/-- The gradient of a normed query. -/
def dquery (a : Fin 256) : EReal := ∑ n, dscore q g k d n * k n a

theorem lit_coe : lit = ((2 ^ (-4 : ℤ) : ℝ) : EReal) := by
  simp [lit, Ideal.ofBits, Ideal.ieee, -EReal.coe_mul]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]

theorem hnorm_coe (a : Fin 256 → ℝ) (j : Fin 256) : ∃ r : ℝ, Mem.hnorm q (fun j => ((a j : ℝ) : EReal)) j = (r : EReal) := by
  unfold Mem.hnorm
  rw [MemBwd.hinv_eq]
  unfold MemBwd.hinv
  rcases finite_or q with h | ⟨b, rfl⟩
  · refine ⟨0, ?_⟩
    unfold RmsBwd.inv
    rw [msq_top q 256 eps (by norm_num) h]
    show q j * (0 : EReal) * (a j : EReal) = _
    rw [mul_zero, zero_mul]; rfl
  · obtain ⟨-, ρ, -, -, -, -, h⟩ := inv_coe 256 eps b (by norm_num) lit_eps.2
    exact ⟨b j * ρ * a j, by rw [h, EReal.coe_mul, EReal.coe_mul]⟩

variable (hg : ∀ j, g j ≠ ⊤ ∧ g j ≠ ⊥) (hk : ∀ n j, k n j ≠ ⊤ ∧ k n j ≠ ⊥)
include hg hk

theorem score_coe (n : Fin 256) : ∃ r : ℝ, score q g k n = (r : EReal) := by
  obtain ⟨a, rfl⟩ : ∃ a : Fin 256 → ℝ, g = fun j => ((a j : ℝ) : EReal) := ⟨fun j => (g j).toReal, funext fun j => (EReal.coe_toReal (hg j).1 (hg j).2).symm⟩
  choose h hh using hnorm_coe q a
  unfold score
  simp only [hh]
  refine ⟨(∑ j, h j * (k n j).toReal) * 2 ^ (-4 : ℤ), ?_⟩
  rw [EReal.coe_mul, ← coe_sum', ← lit_coe]
  simp only [EReal.coe_mul, EReal.coe_toReal (hk n _).1 (hk n _).2]

/-- The weights are positive numbers, and so is their sum. -/
theorem weight_coe : ∃ (e : Fin 256 → ℝ) (L : ℝ), 0 < L ∧ (∀ n, weight q g k n = (e n : EReal)) ∧ total q g k = (L : EReal) := by
  choose s hs using score_coe q g k hg hk
  have h1 : top q g k ≠ ⊥ := fun h => by
    have : score q g k 0 ≤ top q g k := (Finset.le_fold_max _).mpr (.inr ⟨0, Finset.mem_univ _, le_rfl⟩)
    rw [h, hs] at this
    exact EReal.coe_ne_bot _ (le_bot_iff.mp this)
  have h2 : top q g k ≠ ⊤ := ((Finset.fold_max_lt _).mpr ⟨by rw [lit_bot]; exact bot_lt_top, fun n _ => by rw [hs]; exact EReal.coe_lt_top _⟩).ne
  have he : ∀ n, weight q g k n = ((Real.exp (s n - (top q g k).toReal) : ℝ) : EReal) := fun n => by
    unfold weight
    rw [← EReal.coe_toReal h2 h1, hs, ← EReal.coe_sub, EReal.toReal_coe]; rfl
  exact ⟨_, ∑ n, Real.exp (s n - (top q g k).toReal), Finset.sum_pos (fun _ _ => Real.exp_pos _) Finset.univ_nonempty, he, by
    unfold total; simp only [he]; exact coe_sum' _⟩

/-- The reference's gradient of the scores is the kernel's. -/
theorem dscore_eq (n : Fin 256) :
    (Ideal.div (d n) (total q g k) + -(∑ l, d l * Ideal.div 1 (total q g k * total q g k) * weight q g k l)) * weight q g k n * lit
      = dscore q g k d n := by
  obtain ⟨e, L, hL, he, ht⟩ := weight_coe q g k hg hk
  have hc : (0 : ℝ) ≤ L⁻¹ := (inv_pos.mpr hL).le
  unfold dscore prob
  simp only [he, ht, div_pos_coe _ hL]
  have h : ∀ l, d l * Ideal.div 1 ((L : EReal) * (L : EReal)) * (e l : EReal) = d l * ((e l : EReal) * ((L⁻¹ : ℝ) : EReal)) * ((L⁻¹ : ℝ) : EReal) := fun l => by
    rw [← EReal.coe_mul, div_pos_coe _ (mul_pos hL hL), ← EReal.coe_one, ← EReal.coe_mul, ← EReal.coe_mul, mul_assoc, mul_assoc, ← EReal.coe_mul, ← EReal.coe_mul]
    congr 2
    rw [one_mul, mul_inv]; ring
  simp only [h]
  rw [sum_mul' _ hc, ← EReal.neg_mul, ← EReal.right_distrib_of_nonneg_of_ne_top (by exact_mod_cast hc) (EReal.coe_ne_top _), ← sub_eq_add_neg]
  congr 1
  rw [mul_assoc, mul_comm, mul_comm ((L⁻¹ : ℝ) : EReal)]
end Math

section Pay
variable (g : Vec Ideal S1x256 .f32) (x k v d : Vec Ideal S256x256 .bf16) (a : Vec Ideal S256x256 .f32) (b : Vec Ideal S1x256 .f32) (i j n : Fin 256)

abbrev Qr (j : Fin 256) : EReal := x (ix2 i j)
abbrev Gr (j : Fin 256) : EReal := g (ix2 0 j)
abbrev Kr (n j : Fin 256) : EReal := k (ix2 n j)
abbrev Dr (n : Fin 256) : EReal := ∑ j : Fin 256, d (ix2 i j) * v (ix2 n j)

theorem pay7_at : k0_pay7 g x (ix2 i j) = Mem.hnorm (Qr x i) (Gr g) j := by
  unfold_payloads
  pointwise
  rfl
theorem pay8_at : k0_pay8 g x k (ix2 i n) = prob (Qr x i) (Gr g) (Kr k) n := by
  unfold_payloads
  pointwise
  rfl
theorem pay9_at : k0_pay9 d v (ix2 i n) = Dr v d i n := by
  unfold_payloads
  pointwise

/-- A head's gradient of the scores. -/
abbrev DS : FVec Ideal S256x256 .bf16 := k0_pay11 (k0_pay8 g x k) (k0_pay9 d v) (k0_pay10 g x k d v)
/-- A head's gradient of the normed queries. -/
abbrev DQ : FVec Ideal S256x256 .f32 := k0_pay12 (k0_pay8 g x k) (k0_pay9 d v) (k0_pay10 g x k d v) k

theorem DS_at : DS g x k v d (ix2 i n) = dscore (Qr x i) (Gr g) (Kr k) (Dr v d i) n := by
  unfold DS k0_pay11 k0_pay10
  pointwise
  simp only [pay8_at, pay9_at]
  rfl
theorem DQ_at : DQ g x k v d (ix2 i j) = dquery (Qr x i) (Gr g) (Kr k) (Dr v d i) j := by
  unfold DQ k0_pay12
  pointwise
  exact Finset.sum_congr rfl fun n _ => congrArg (· * k (ix2 n j)) (DS_at g x k v d i n)

/-- What a head leaves of the keys', of the values' and of the gain's gradient, and of the queries'. -/
abbrev KN : FVec Ideal S256x256 .f32 := k0_pay13 (k0_pay7 g x) (k0_pay8 g x k) (k0_pay9 d v) (k0_pay10 g x k d v) a
abbrev VN : FVec Ideal S256x256 .f32 := k0_pay14 (k0_pay8 g x k) d a
abbrev GN : FVec Ideal S1x256 .f32 := k0_pay15 (k0_pay6 x) (k0_pay8 g x k) (k0_pay9 d v) (k0_pay10 g x k d v) k b
abbrev XN : FVec Ideal S256x256 .bf16 := k0_pay18 (k0_pay5 x) (k0_pay16 g (k0_pay8 g x k) (k0_pay9 d v) (k0_pay10 g x k d v) k)
  (k0_pay17 g (k0_pay6 x) (k0_pay8 g x k) (k0_pay9 d v) (k0_pay10 g x k d v) k)

theorem KN_at : KN g x k v d a (ix2 n j) = a (ix2 n j) + ∑ i : Fin 256, dscore (Qr x i) (Gr g) (Kr k) (Dr v d i) n * Mem.hnorm (Qr x i) (Gr g) j := by
  unfold KN k0_pay13
  pointwise
  exact congrArg (a (ix2 n j) + ·) (Finset.sum_congr rfl fun i _ => congrArg₂ (· * ·) (DS_at g x k v d i n) (pay7_at g x i j))
theorem VN_at : VN g x k d a (ix2 n j) = a (ix2 n j) + ∑ i : Fin 256, prob (Qr x i) (Gr g) (Kr k) n * d (ix2 i j) := by
  unfold VN k0_pay14
  pointwise
  exact congrArg (a (ix2 n j) + ·) (Finset.sum_congr rfl fun i _ => congrArg (· * d (ix2 i j)) (pay8_at g x k i n))
theorem GN_at : GN g x k v d b (ix2 0 j) = b (ix2 0 j) + ∑ i : Fin 256, dquery (Qr x i) (Gr g) (Kr k) (Dr v d i) j * (Qr x i j * MemBwd.hinv (Qr x i)) := by
  unfold GN k0_pay15 k0_pay6 k0_pay5 k0_pay4
  pointwise
  simp only [MemBwd.hinv_eq]
  exact congrArg (b (ix2 0 j) + ·) (Finset.sum_congr rfl fun i _ => congrArg (· * _) (DQ_at g x k v d i j))
theorem XN_at : XN g x k v d (ix2 i j) = MemBwd.hback (Qr x i) (fun a => dquery (Qr x i) (Gr g) (Kr k) (Dr v d i) a * g (ix2 0 a)) j := by
  unfold XN k0_pay18 k0_pay17 k0_pay16 k0_pay6 k0_pay5 k0_pay4
  pointwise
  simp only [MemBwd.hinv_eq]
  simp only [show ∀ a, k0_pay12 (k0_pay8 g x k) (k0_pay9 d v) (k0_pay10 g x k d v) k (ix2 i a) = dquery (Qr x i) (Gr g) (Kr k) (Dr v d i) a from DQ_at g x k v d i]
  rfl
end Pay

section Same
variable (g : Vec Ideal S1x256 .f32) (x k v d : Vec Ideal S256x256 .bf16) (a : Vec Ideal S256x256 .f32) (b : Vec Ideal S1x256 .f32)

/-! The four heads compute the same. -/

theorem pay28_eq : k0_pay28 (k0_pay22 g x) (k0_pay23 g x k) (k0_pay24 d v) (k0_pay25 g x k d v) a = KN g x k v d a := rfl
theorem pay42_eq : k0_pay42 (k0_pay37 g x) (k0_pay39 g x k d v) a = KN g x k v d a := rfl
theorem pay55_eq : k0_pay55 (k0_pay49 g x) (k0_pay51 g x k d v) k0_pay52 a = KN g x k v d a := rfl
theorem pay29_eq : k0_pay29 (k0_pay23 g x k) d a = VN g x k d a := rfl
theorem pay43_eq : k0_pay43 (k0_pay38 g x k) d a = VN g x k d a := rfl
theorem pay56_eq : k0_pay56 (k0_pay50 g x k) d a = VN g x k d a := rfl
theorem pay30_eq : k0_pay30 (k0_pay21 x) (k0_pay23 g x k) (k0_pay24 d v) (k0_pay25 g x k d v) k b = GN g x k v d b := rfl
theorem pay44_eq : k0_pay44 (k0_pay36 x) (k0_pay39 g x k d v) k b = GN g x k v d b := rfl
theorem pay57_eq : k0_pay57 (k0_pay48 x) (k0_pay51 g x k d v) k0_pay52 k b = GN g x k v d b := rfl
theorem pay33_eq : k0_pay33 (k0_pay31 g (k0_pay21 x) (k0_pay23 g x k) (k0_pay24 d v) (k0_pay25 g x k d v) k) (k0_pay32 (k0_pay20 x)) = XN g x k v d := rfl
theorem pay45_eq : k0_pay45 g (k0_pay35 x) (k0_pay36 x) (k0_pay39 g x k d v) k = XN g x k v d := rfl
theorem pay58_eq : k0_pay58 g (k0_pay47 x) (k0_pay48 x) (k0_pay51 g x k d v) k0_pay52 k = XN g x k v d := rfl

theorem pay1_at (y : S256x1024.Idx) : k0_pay1 (F := Ideal) y = 0 := by
  obtain ⟨i, j, rfl⟩ : ∃ (i : Fin 256) (j : Fin 1024), y = ix2 i j := ⟨y 0, y 1, eq_ix2 y⟩
  unfold k0_pay1
  pointwise
theorem pay2_at (y : S256x1024.Idx) : k0_pay2 (F := Ideal) y = 0 := pay1_at y
theorem pay3_at (y : S1x256.Idx) : k0_pay3 (F := Ideal) y = 0 := by
  obtain ⟨i, j, rfl⟩ : ∃ (i : Fin 1) (j : Fin 256), y = ix2 i j := ⟨y 0, y 1, eq_ix2 y⟩
  unfold k0_pay3
  pointwise
end Same

theorem hz : (![0, 0] : Fin 2 → Nat) = fun _ => 0 := funext fun a => by fin_cases a <;> rfl

section Outs
variable (x0 : Vec Ideal S256x1024 .bf16) (x1 : Vec Ideal S1x256 .f32) (x2 x3 x4 : Vec Ideal S256x1024 .bf16) (i : Fin 256) (b : Fin 4) (n j : Fin 256)

/-- The head of a column, and its place in the head. -/
abbrev hd (y : Fin 1024) : Fin 4 := ⟨y.val / 256, by omega⟩
abbrev cl (y : Fin 1024) : Fin 256 := ⟨y.val % 256, by omega⟩

/-! A head of a block: its queries, its keys, the gradient of its softmax. -/

abbrev Qb (j : Fin 256) : EReal := x0 (ix2 i ⟨b.val * 256 + j.val, by omega⟩)
abbrev Kb (n j : Fin 256) : EReal := x2 (ix2 n ⟨b.val * 256 + j.val, by omega⟩)
abbrev Db (n : Fin 256) : EReal := ∑ j : Fin 256, x4 (ix2 i ⟨b.val * 256 + j.val, by omega⟩) * x3 (ix2 n ⟨b.val * 256 + j.val, by omega⟩)

/-! What a block adds to each of the gradients, at one place. -/

def A5 : EReal := MemBwd.hback (Qb x0 i b) (fun a => dquery (Qb x0 i b) (Gr x1) (Kb x2 b) (Db x3 x4 i b) a * x1 (ix2 0 a)) j
def A6 : EReal := dscore (Qb x0 i b) (Gr x1) (Kb x2 b) (Db x3 x4 i b) n * Mem.hnorm (Qb x0 i b) (Gr x1) j
def A7 : EReal := prob (Qb x0 i b) (Gr x1) (Kb x2 b) n * x4 (ix2 i ⟨b.val * 256 + j.val, by omega⟩)
def A8 : EReal := dquery (Qb x0 i b) (Gr x1) (Kb x2 b) (Db x3 x4 i b) j * (Qb x0 i b j * MemBwd.hinv (Qb x0 i b))
def T5 (y : S256x1024.Idx) : EReal := A5 x0 x1 x2 x3 x4 (y 0) (hd (y 1)) (cl (y 1))
def T6 (y : S256x1024.Idx) : EReal := ∑ i, A6 x0 x1 x2 x3 x4 i (hd (y 1)) (y 0) (cl (y 1))
def T7 (y : S256x1024.Idx) : EReal := ∑ i, A7 x0 x1 x2 x4 i (hd (y 1)) (y 0) (cl (y 1))
def T8 (y : S1x256.Idx) : EReal := ∑ b, ∑ i, A8 x0 x1 x2 x3 x4 i b (y 1)

theorem ld_hd {e : EltTy} (x : Vec Ideal S256x1024 e) (inb) :
    View.ld x (Rect.unit (s := S256x1024) ![0, b.val * 256] S256x256.size inb) (ix2 i j) = x (ix2 i ⟨b.val * 256 + j.val, by omega⟩) :=
  congrArg x (funext fun a => Fin.ext (by match a with | ⟨0, _⟩ => show 0 + 1 * i.val = i.val; omega | ⟨1, _⟩ => show b.val * 256 + 1 * j.val = b.val * 256 + j.val; omega))

theorem inbh : ∀ a : Fin 2, (![0, b.val * 256] : Fin 2 → Nat) a + S256x256.size a ≤ S256x1024.size a := fun a => by
  match a with
  | ⟨0, _⟩ => show 0 + 256 ≤ 256; omega
  | ⟨1, _⟩ => show b.val * 256 + 256 ≤ 1024; omega

/-- The columns of a head. -/
abbrev RT : Rect S256x1024 := Rect.unit (s := S256x1024) ![0, b.val * 256] S256x256.size (inbh b)

theorem ld_RT {e : EltTy} (x : Vec Ideal S256x1024 e) : View.ld x (RT b) (ix2 i j) = x (ix2 i ⟨b.val * 256 + j.val, by omega⟩) := ld_hd i b j x _

abbrev P5 : S256x256.Idx → Elt Ideal .bf16 := XN x1 (View.ld x0 (RT b)) (View.ld x2 (RT b)) (View.ld x3 (RT b)) (View.ld x4 (RT b))
abbrev P6 (acc : Vec Ideal S256x1024 .f32) : S256x256.Idx → Elt Ideal .f32 := KN x1 (View.ld x0 (RT b)) (View.ld x2 (RT b)) (View.ld x3 (RT b)) (View.ld x4 (RT b)) (View.ld acc (RT b))
abbrev P7 (acc : Vec Ideal S256x1024 .f32) : S256x256.Idx → Elt Ideal .f32 := VN x1 (View.ld x0 (RT b)) (View.ld x2 (RT b)) (View.ld x4 (RT b)) (View.ld acc (RT b))
abbrev P8 (a : Vec Ideal S1x256 .f32) : FVec Ideal S1x256 .f32 := GN x1 (View.ld x0 (RT b)) (View.ld x2 (RT b)) (View.ld x3 (RT b)) (View.ld x4 (RT b)) a

theorem Qr_ld : Qr (View.ld x0 (RT b)) i = Qb x0 i b := funext fun j => ld_hd i b j x0 _
theorem Kr_ld : Kr (View.ld x2 (RT b)) = Kb x2 b := funext fun n => funext fun j => ld_hd n b j x2 _
theorem Dr_ld : Dr (View.ld x3 (RT b)) (View.ld x4 (RT b)) i = Db x3 x4 i b :=
  funext fun n => Finset.sum_congr rfl fun j _ => congrArg₂ (· * ·) (ld_hd i b j x4 _) (ld_hd n b j x3 _)

theorem emb_hd (z : S256x256.Idx) : (RT b).emb z = ix2 (z 0) ⟨b.val * 256 + (z 1).val, by have : (z 1).val < 256 := (z 1).isLt; omega⟩ :=
  funext fun a => Fin.ext (by match a with | ⟨0, _⟩ => show 0 + 1 * (z 0).val = (z 0).val; omega | ⟨1, _⟩ => show b.val * 256 + 1 * (z 1).val = b.val * 256 + (z 1).val; omega)
theorem hd_of (h) : hd ⟨b.val * 256 + j.val, h⟩ = b := Fin.ext (by show (b.val * 256 + j.val) / 256 = b.val; omega)
theorem cl_of (h) : cl ⟨b.val * 256 + j.val, h⟩ = j := Fin.ext (by show (b.val * 256 + j.val) % 256 = j.val; omega)

theorem T5_at (h) : T5 x0 x1 x2 x3 x4 (ix2 i ⟨b.val * 256 + j.val, h⟩) = A5 x0 x1 x2 x3 x4 i b j := by
  unfold T5
  rw [show hd ((ix2 i ⟨b.val * 256 + j.val, h⟩ : S256x1024.Idx) 1) = b from hd_of b j h, show cl ((ix2 i ⟨b.val * 256 + j.val, h⟩ : S256x1024.Idx) 1) = j from cl_of b j h]; rfl
theorem T6_at (h) : T6 x0 x1 x2 x3 x4 (ix2 n ⟨b.val * 256 + j.val, h⟩) = ∑ i, A6 x0 x1 x2 x3 x4 i b n j := by
  unfold T6
  rw [show hd ((ix2 n ⟨b.val * 256 + j.val, h⟩ : S256x1024.Idx) 1) = b from hd_of b j h, show cl ((ix2 n ⟨b.val * 256 + j.val, h⟩ : S256x1024.Idx) 1) = j from cl_of b j h]; rfl
theorem T7_at (h) : T7 x0 x1 x2 x4 (ix2 n ⟨b.val * 256 + j.val, h⟩) = ∑ i, A7 x0 x1 x2 x4 i b n j := by
  unfold T7
  rw [show hd ((ix2 n ⟨b.val * 256 + j.val, h⟩ : S256x1024.Idx) 1) = b from hd_of b j h, show cl ((ix2 n ⟨b.val * 256 + j.val, h⟩ : S256x1024.Idx) 1) = j from cl_of b j h]; rfl

theorem P5_at (z : S256x256.Idx) : P5 x0 x1 x2 x3 x4 b z = T5 x0 x1 x2 x3 x4 ((RT b).emb z) := by
  obtain ⟨i, j, rfl⟩ : ∃ (i j : Fin 256), z = ix2 i j := ⟨z 0, z 1, eq_ix2 z⟩
  rw [emb_hd]
  refine Eq.trans ?_ (T5_at x0 x1 x2 x3 x4 i b j _).symm
  unfold P5 A5
  rw [XN_at, Qr_ld, Kr_ld, Dr_ld]
theorem P6_at (acc : Vec Ideal S256x1024 .f32) (z : S256x256.Idx) : P6 x0 x1 x2 x3 x4 b acc z = acc ((RT b).emb z) + T6 x0 x1 x2 x3 x4 ((RT b).emb z) := by
  obtain ⟨n, j, rfl⟩ : ∃ (i j : Fin 256), z = ix2 i j := ⟨z 0, z 1, eq_ix2 z⟩
  rw [emb_hd]
  refine Eq.trans ?_ (congrArg (acc _ + ·) (T6_at x0 x1 x2 x3 x4 b n j _).symm)
  unfold P6 A6
  rw [KN_at, ld_RT]
  simp only [Qr_ld, Kr_ld, Dr_ld]
  rfl
theorem P7_at (acc : Vec Ideal S256x1024 .f32) (z : S256x256.Idx) : P7 x0 x1 x2 x4 b acc z = acc ((RT b).emb z) + T7 x0 x1 x2 x4 ((RT b).emb z) := by
  obtain ⟨n, j, rfl⟩ : ∃ (i j : Fin 256), z = ix2 i j := ⟨z 0, z 1, eq_ix2 z⟩
  rw [emb_hd]
  refine Eq.trans ?_ (congrArg (acc _ + ·) (T7_at x0 x1 x2 x4 b n j _).symm)
  unfold P7 A7
  rw [VN_at, ld_RT]
  simp only [Qr_ld, Kr_ld]
  exact congrArg (acc _ + ·) (Finset.sum_congr rfl fun i _ => congrArg (_ * ·) (ld_RT i b j x4))

theorem P8_at (a : Vec Ideal S1x256 .f32) : P8 x0 x1 x2 x3 x4 b a (ix2 0 j) = a (ix2 0 j) + ∑ i, A8 x0 x1 x2 x3 x4 i b j := by
  unfold P8 A8
  rw [GN_at]
  simp only [Qr_ld, Kr_ld, Dr_ld]
  exact congrArg (a _ + ·) (Finset.sum_congr rfl fun i _ => congrArg (fun w => _ * (w * _)) (ld_RT i b j x0))

theorem four8 (a : Vec Ideal S1x256 .f32) (y : S1x256.Idx) {z : EReal} (h : a y = z) :
    P8 x0 x1 x2 x3 x4 3 (P8 x0 x1 x2 x3 x4 2 (P8 x0 x1 x2 x3 x4 1 (P8 x0 x1 x2 x3 x4 0 a))) y = z + T8 x0 x1 x2 x3 x4 y := by
  obtain ⟨j, rfl⟩ : ∃ j : Fin 256, y = ix2 0 j := ⟨y 1, (eq_ix2 y).trans (congrArg (ix2 · (y 1)) (Subsingleton.elim _ _))⟩
  rw [P8_at, P8_at, P8_at, P8_at, h]
  unfold T8
  rw [Fin.sum_univ_four]
  simp only [add_assoc]
  rfl

theorem cover4 {e : EltTy} (w3 w2 w1 w0 : S256x256.Idx → Elt Ideal e) (y : S256x1024.Idx) :
    ∃ p ∈ ([⟨RT 3, w3⟩, ⟨RT 2, w2⟩, ⟨RT 1, w1⟩, ⟨RT 0, w0⟩] : List (View.Piece (Elt Ideal) S256x1024 e)), y ∈ p.1.set :=
  View.cover_of_tiledL (s := S256x1024) [⟨RT 3, w3⟩, ⟨RT 2, w2⟩, ⟨RT 1, w1⟩, ⟨RT 0, w0⟩] S256x256.size (by sl_kernel_rfl) y

theorem canon5 (L' : List (View.Piece (Elt Ideal) S256x1024 .bf16)) (y : S256x1024.Idx) :
    View.canon ([⟨RT 3, P5 x0 x1 x2 x3 x4 3⟩, ⟨RT 2, P5 x0 x1 x2 x3 x4 2⟩, ⟨RT 1, P5 x0 x1 x2 x3 x4 1⟩, ⟨RT 0, P5 x0 x1 x2 x3 x4 0⟩] ++ L') y = T5 x0 x1 x2 x3 x4 y :=
  View.canon_append_of_piecesOf (Val := Elt Ideal) (e := .bf16) (T5 x0 x1 x2 x3 x4) L' [⟨RT 3, P5 x0 x1 x2 x3 x4 3⟩, ⟨RT 2, P5 x0 x1 x2 x3 x4 2⟩, ⟨RT 1, P5 x0 x1 x2 x3 x4 1⟩, ⟨RT 0, P5 x0 x1 x2 x3 x4 0⟩] ⟨P5_at x0 x1 x2 x3 x4 3, P5_at x0 x1 x2 x3 x4 2, P5_at x0 x1 x2 x3 x4 1, P5_at x0 x1 x2 x3 x4 0, trivial⟩ y (cover4 _ _ _ _ y)
theorem canon6 (acc : Vec Ideal S256x1024 .f32) (Z : S256x1024.Idx → EReal) (L' : List (View.Piece (Elt Ideal) S256x1024 .f32)) (h : ∀ y, acc y = Z y) (y : S256x1024.Idx) :
    View.canon ([⟨RT 3, P6 x0 x1 x2 x3 x4 3 acc⟩, ⟨RT 2, P6 x0 x1 x2 x3 x4 2 acc⟩, ⟨RT 1, P6 x0 x1 x2 x3 x4 1 acc⟩, ⟨RT 0, P6 x0 x1 x2 x3 x4 0 acc⟩] ++ L') y = Z y + T6 x0 x1 x2 x3 x4 y := by
  rw [← h]
  exact View.canon_append_of_piecesOf (fun y => acc y + T6 x0 x1 x2 x3 x4 y) L' [⟨RT 3, P6 x0 x1 x2 x3 x4 3 acc⟩, ⟨RT 2, P6 x0 x1 x2 x3 x4 2 acc⟩, ⟨RT 1, P6 x0 x1 x2 x3 x4 1 acc⟩, ⟨RT 0, P6 x0 x1 x2 x3 x4 0 acc⟩] ⟨P6_at x0 x1 x2 x3 x4 3 acc, P6_at x0 x1 x2 x3 x4 2 acc, P6_at x0 x1 x2 x3 x4 1 acc, P6_at x0 x1 x2 x3 x4 0 acc, trivial⟩ y (cover4 _ _ _ _ y)
theorem canon7 (acc : Vec Ideal S256x1024 .f32) (Z : S256x1024.Idx → EReal) (L' : List (View.Piece (Elt Ideal) S256x1024 .f32)) (h : ∀ y, acc y = Z y) (y : S256x1024.Idx) :
    View.canon ([⟨RT 3, P7 x0 x1 x2 x4 3 acc⟩, ⟨RT 2, P7 x0 x1 x2 x4 2 acc⟩, ⟨RT 1, P7 x0 x1 x2 x4 1 acc⟩, ⟨RT 0, P7 x0 x1 x2 x4 0 acc⟩] ++ L') y = Z y + T7 x0 x1 x2 x4 y := by
  rw [← h]
  exact View.canon_append_of_piecesOf (fun y => acc y + T7 x0 x1 x2 x4 y) L' [⟨RT 3, P7 x0 x1 x2 x4 3 acc⟩, ⟨RT 2, P7 x0 x1 x2 x4 2 acc⟩, ⟨RT 1, P7 x0 x1 x2 x4 1 acc⟩, ⟨RT 0, P7 x0 x1 x2 x4 0 acc⟩] ⟨P7_at x0 x1 x2 x4 3 acc, P7_at x0 x1 x2 x4 2 acc, P7_at x0 x1 x2 x4 1 acc, P7_at x0 x1 x2 x4 0 acc, trivial⟩ y (cover4 _ _ _ _ y)

section Points
variable (c : Dev nD) (i : grid0.Coords) (arg1 : Memref sig .tc .vmem S256x1024 .bf16) (harg1 : arg1.IsWhole) (arg2 : Memref sig .tc .vmem S1x256 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x256 .f32) (harg9 : arg9.IsWhole)

/-- The queries' gradient at the first point. -/
theorem out0_A_5_eq (hc0 : cond0_0 i) (x0 : Vec Ideal S256x1024 .bf16) (x1 : Vec Ideal S1x256 .f32) (x2 : Vec Ideal S256x1024 .bf16) (x3 : Vec Ideal S256x1024 .bf16) (x4 : Vec Ideal S256x1024 .bf16) :
    out0_A_5 c i arg1 harg1 arg2 harg2 arg3 harg3 arg4 harg4 arg5 harg5 arg6 harg6 arg7 harg7 arg8 harg8 arg9 harg9 hc0 x0 x1 x2 x3 x4 = fun y => T5 x0 x1 x2 x3 x4 y := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, Memref.IsWhole.read_unread, View.ld_unit_zero (S := S1x256) hz]
  simp only [pay33_eq, pay45_eq, pay58_eq]
  funext y
  exact canon5 x0 x1 x2 x3 x4 [] y

/-- The keys' gradient at the first point. -/
theorem out0_A_6_eq (hc0 : cond0_0 i) (x0 : Vec Ideal S256x1024 .bf16) (x1 : Vec Ideal S1x256 .f32) (x2 : Vec Ideal S256x1024 .bf16) (x3 : Vec Ideal S256x1024 .bf16) (x4 : Vec Ideal S256x1024 .bf16) :
    out0_A_6 c i arg1 harg1 arg2 harg2 arg3 harg3 arg4 harg4 arg5 harg5 arg6 harg6 arg7 harg7 arg8 harg8 arg9 harg9 hc0 x0 x1 x2 x3 x4 = fun y => 0 + T6 x0 x1 x2 x3 x4 y := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, Memref.IsWhole.read_unread, View.ld_unit_zero (S := S1x256) hz]
  simp (decide := true) only [↓View.readCov_skip, View.readCov_fill (s := S256x1024) _ _ _ _ _ (congrFun hz)]
  simp only [pay28_eq, pay42_eq, pay55_eq]
  funext y
  exact canon6 x0 x1 x2 x3 x4 _ (fun _ => 0) [_] pay1_at y

/-- The values' gradient at the first point. -/
theorem out0_A_7_eq (hc0 : cond0_0 i) (x0 : Vec Ideal S256x1024 .bf16) (x1 : Vec Ideal S1x256 .f32) (x2 : Vec Ideal S256x1024 .bf16) (x3 : Vec Ideal S256x1024 .bf16) (x4 : Vec Ideal S256x1024 .bf16) :
    out0_A_7 c i arg1 harg1 arg2 harg2 arg3 harg3 arg4 harg4 arg5 harg5 arg6 harg6 arg7 harg7 arg8 harg8 arg9 harg9 hc0 x0 x1 x2 x3 x4 = fun y => 0 + T7 x0 x1 x2 x4 y := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, Memref.IsWhole.read_unread, View.ld_unit_zero (S := S1x256) hz]
  simp (decide := true) only [↓View.readCov_skip, View.readCov_fill (s := S256x1024) _ _ _ _ _ (congrFun hz)]
  simp only [pay29_eq, pay43_eq, pay56_eq]
  funext y
  exact canon7 x0 x1 x2 x4 _ (fun _ => 0) [_] pay2_at y

/-- The gain's gradient at the first point. -/
theorem out0_A_8_eq (hc0 : cond0_0 i) (x0 : Vec Ideal S256x1024 .bf16) (x1 : Vec Ideal S1x256 .f32) (x2 : Vec Ideal S256x1024 .bf16) (x3 : Vec Ideal S256x1024 .bf16) (x4 : Vec Ideal S256x1024 .bf16) :
    out0_A_8 c i arg1 harg1 arg2 harg2 arg3 harg3 arg4 harg4 arg5 harg5 arg6 harg6 arg7 harg7 arg8 harg8 arg9 harg9 hc0 x0 x1 x2 x3 x4 = fun y => 0 + T8 x0 x1 x2 x3 x4 y := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, Memref.IsWhole.read_unread, View.ld_unit_zero (S := S1x256) hz]
  rw [View.canon_cons_unit_zero (S := S1x256) hz]
  simp only [↓View.readCov_cons_toLoadRect]
  simp only [pay30_eq, pay44_eq, pay57_eq]
  funext y
  exact four8 x0 x1 x2 x3 x4 _ y (pay3_at y)

/-- The queries' gradient at a later point. -/
theorem out0_B_5_eq (hc0 : ¬cond0_0 i) (x0 : Vec Ideal S256x1024 .bf16) (x1 : Vec Ideal S1x256 .f32) (x2 : Vec Ideal S256x1024 .bf16) (x3 : Vec Ideal S256x1024 .bf16) (x4 : Vec Ideal S256x1024 .bf16) (xo6 : Vec Ideal S256x1024 .f32) (xo7 : Vec Ideal S256x1024 .f32) (xo8 : Vec Ideal S1x256 .f32) :
    out0_B_5 c i arg1 harg1 arg2 harg2 arg3 harg3 arg4 harg4 arg5 harg5 arg6 harg6 arg7 harg7 arg8 harg8 arg9 harg9 hc0 x0 x1 x2 x3 x4 xo6 xo7 xo8 = fun y => T5 x0 x1 x2 x3 x4 y := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  simp only [View.readAt_eq_ld, Memref.IsWhole.read_unread, View.ld_unit_zero (S := S1x256) hz]
  simp only [pay33_eq, pay45_eq, pay58_eq]
  funext y
  exact canon5 x0 x1 x2 x3 x4 [] y

/-- The keys' gradient at a later point. -/
theorem out0_B_6_eq (hc0 : ¬cond0_0 i) (x0 : Vec Ideal S256x1024 .bf16) (x1 : Vec Ideal S1x256 .f32) (x2 : Vec Ideal S256x1024 .bf16) (x3 : Vec Ideal S256x1024 .bf16) (x4 : Vec Ideal S256x1024 .bf16) (xo6 : Vec Ideal S256x1024 .f32) (xo7 : Vec Ideal S256x1024 .f32) (xo8 : Vec Ideal S1x256 .f32) :
    out0_B_6 c i arg1 harg1 arg2 harg2 arg3 harg3 arg4 harg4 arg5 harg5 arg6 harg6 arg7 harg7 arg8 harg8 arg9 harg9 hc0 x0 x1 x2 x3 x4 xo6 xo7 xo8 = fun y => xo6 y + T6 x0 x1 x2 x3 x4 y := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  simp only [View.readAt_eq_ld, Memref.IsWhole.read_unread, View.ld_unit_zero (S := S1x256) hz]
  simp only [pay28_eq, pay42_eq, pay55_eq]
  funext y
  exact canon6 x0 x1 x2 x3 x4 _ xo6 [] (fun _ => rfl) y

/-- The values' gradient at a later point. -/
theorem out0_B_7_eq (hc0 : ¬cond0_0 i) (x0 : Vec Ideal S256x1024 .bf16) (x1 : Vec Ideal S1x256 .f32) (x2 : Vec Ideal S256x1024 .bf16) (x3 : Vec Ideal S256x1024 .bf16) (x4 : Vec Ideal S256x1024 .bf16) (xo6 : Vec Ideal S256x1024 .f32) (xo7 : Vec Ideal S256x1024 .f32) (xo8 : Vec Ideal S1x256 .f32) :
    out0_B_7 c i arg1 harg1 arg2 harg2 arg3 harg3 arg4 harg4 arg5 harg5 arg6 harg6 arg7 harg7 arg8 harg8 arg9 harg9 hc0 x0 x1 x2 x3 x4 xo6 xo7 xo8 = fun y => xo7 y + T7 x0 x1 x2 x4 y := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  simp only [View.readAt_eq_ld, Memref.IsWhole.read_unread, View.ld_unit_zero (S := S1x256) hz]
  simp only [pay29_eq, pay43_eq, pay56_eq]
  funext y
  exact canon7 x0 x1 x2 x4 _ xo7 [] (fun _ => rfl) y

/-- The gain's gradient at a later point. -/
theorem out0_B_8_eq (hc0 : ¬cond0_0 i) (x0 : Vec Ideal S256x1024 .bf16) (x1 : Vec Ideal S1x256 .f32) (x2 : Vec Ideal S256x1024 .bf16) (x3 : Vec Ideal S256x1024 .bf16) (x4 : Vec Ideal S256x1024 .bf16) (xo6 : Vec Ideal S256x1024 .f32) (xo7 : Vec Ideal S256x1024 .f32) (xo8 : Vec Ideal S1x256 .f32) :
    out0_B_8 c i arg1 harg1 arg2 harg2 arg3 harg3 arg4 harg4 arg5 harg5 arg6 harg6 arg7 harg7 arg8 harg8 arg9 harg9 hc0 x0 x1 x2 x3 x4 xo6 xo7 xo8 = fun y => xo8 y + T8 x0 x1 x2 x3 x4 y := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  simp only [View.readAt_eq_ld, Memref.IsWhole.read_unread, View.ld_unit_zero (S := S1x256) hz]
  rw [View.canon_cons_unit_zero (S := S1x256) hz]
  simp only [↓View.readCov_cons_toLoadRect]
  simp only [pay30_eq, pay44_eq, pay57_eq]
  funext y
  exact four8 x0 x1 x2 x3 x4 _ y rfl

end Points

end Outs

section Ref
variable (x0 : (⟨S2048x10240, .bf16⟩ : BufTy).Contents (Elt Ideal)) (x1 : (⟨S1x256, .f32⟩ : BufTy).Contents (Elt Ideal))
  (x2 x3 : (⟨S256x1024, .bf16⟩ : BufTy).Contents (Elt Ideal)) (x4 : (⟨S2048x1024, .bf16⟩ : BufTy).Contents (Elt Ideal)) (i : Fin 2048) (b : Fin 4) (n j : Fin 256)

open XFwd (Q G K)

/-- The gradient of the softmax at one key. -/
abbrev D (n : Fin 256) : EReal := ∑ j : Fin 256, x4 (ix2 i ⟨b.val * 256 + j.val, by omega⟩) * x3 (ix2 n ⟨b.val * 256 + j.val, by omega⟩)

theorem ref20_at : val_main_v20 (F := Ideal) x0 x1 (ix3 i b j) = Mem.hnorm (Q x0 i b) (G x1) j := by
  pointwise [val_main_v0, val_main_v1, val_main_v4, val_main_v5, val_main_cst, val_main_v6, val_main_v7, val_main_cst_0, val_main_v8, val_main_v9, val_main_cst_1, val_main_v10, val_main_v11, val_main_v12, val_main_v16, val_main_v17, val_main_v18, val_main_v19, val_main_v20]
  rfl
theorem ref17_at : val_main_v17 (F := Ideal) x0 (ix3 i b j) = Q x0 i b j * MemBwd.hinv (Q x0 i b) := by
  pointwise [val_main_v0, val_main_v1, val_main_v4, val_main_v5, val_main_cst, val_main_v6, val_main_v7, val_main_cst_0, val_main_v8, val_main_v9, val_main_cst_1, val_main_v10, val_main_v11, val_main_v12, val_main_v16, val_main_v17]
  simp only [MemBwd.hinv_eq]
theorem ref25_at : val_main_v25 (F := Ideal) x0 x1 x2 (ix3 b i n) = score (Q x0 i b) (G x1) (K x2 b) n := by
  pointwise [val_main_v2, val_main_v21, val_main_v23, val_main_cst_3, val_main_v24, val_main_v25]
  simp only [ref20_at]
  rfl
theorem ref46_at : val_main_v46 (F := Ideal) x0 x1 x2 (ix3 b i n) = weight (Q x0 i b) (G x1) (K x2 b) n := by
  pointwise [val_main_cst_4, val_main_v26, val_main_cst_6, val_main_v32, val_main_v33, val_main_v43, val_main_v44, val_main_v45, val_main_v46]
  simp only [ref25_at]
  exact congrArg (fun a => Ideal.exp (score (Q x0 i b) (G x1) (K x2 b) n - a)) (XFwd.max_top _ _ _)
theorem ref48_at : val_main_v48 (F := Ideal) x0 x1 x2 (ix3 b i 0) = total (Q x0 i b) (G x1) (K x2 b) := by
  pointwise [val_main_cst_12, val_main_v47, val_main_v48]
  simp only [ref46_at]
  rfl
theorem ref50_at : val_main_v50 (F := Ideal) x0 x1 x2 (ix3 b i n) = prob (Q x0 i b) (G x1) (K x2 b) n := by
  pointwise [val_main_v49, val_main_v50]
  simp only [ref46_at, ref48_at]
  rfl
theorem ref60_at : val_main_v60 (F := Ideal) x3 x4 (ix3 b i n) = D x3 x4 i b n := by
  pointwise [val_main_v3, val_main_v22, val_main_v57, val_main_v58, val_main_v59, val_main_v60]

variable (h1 : ∀ j, x1 (ix2 0 j) ≠ ⊤ ∧ x1 (ix2 0 j) ≠ ⊥) (h2 : ∀ n j, x2 (ix2 n j) ≠ ⊤ ∧ x2 (ix2 n j) ≠ ⊥)
include h1 h2

theorem ref76_at : val_main_v76 (F := Ideal) x0 x1 x2 x3 x4 (ix3 b i n) = dscore (Q x0 i b) (G x1) (K x2 b) (D x3 x4 i b) n := by
  pointwise [val_main_v51, val_main_cst_13, val_main_v52, val_main_v53, val_main_v63, val_main_v64, val_main_v65, val_main_cst_14, val_main_v66, val_main_v67, val_main_v68, val_main_v69, val_main_v70, val_main_cst_15, val_main_v71, val_main_v72, val_main_v73, val_main_v74, val_main_cst_16, val_main_v75, val_main_v76]
  simp only [Fin.sum_univ_one, ref46_at, ref48_at, ref60_at]
  exact dscore_eq _ _ _ _ h1 (fun n j => h2 n _) n
theorem ref80_at : val_main_v80 (F := Ideal) x0 x1 x2 x3 x4 (ix3 i b j) = dquery (Q x0 i b) (G x1) (K x2 b) (D x3 x4 i b) j := by
  pointwise [val_main_v2, val_main_v21, val_main_v79, val_main_v80]
  simp only [ref76_at x0 x1 x2 x3 x4 _ _ _ h1 h2]
  rfl
theorem ref82_at : val_main_v82 (F := Ideal) x0 x1 x2 x3 x4 (ix2 n ⟨b.val * 256 + j.val, by omega⟩)
    = ∑ i : Fin 2048, dscore (Q x0 i b) (G x1) (K x2 b) (D x3 x4 i b) n * Mem.hnorm (Q x0 i b) (G x1) j := by
  pointwise [val_main_v77, val_main_v78, val_main_v82]
  simp only [ref76_at x0 x1 x2 x3 x4 _ _ _ h1 h2, ref20_at]
theorem ref89_at : val_main_v89 (F := Ideal) x0 x1 x2 x3 x4 (ix2 0 j)
    = ∑ b : Fin 4, ∑ i : Fin 2048, Q x0 i b j * MemBwd.hinv (Q x0 i b) * dquery (Q x0 i b) (G x1) (K x2 b) (D x3 x4 i b) j := by
  pointwise [val_main_v85, val_main_cst_18, val_main_v88, val_main_v89, val_main_cst_17, val_main_v84]
  rw [MemBwd.add_01]
  simp only [Fin.sum_univ_one]
  pointwise
  rw [MemBwd.add_01]
  pointwise [val_main_v83]
  simp only [ref17_at, ref80_at x0 x1 x2 x3 x4 _ _ _ h1 h2]
theorem ref105_at : val_main_v105 (F := Ideal) x0 x1 x2 x3 x4 (ix2 i ⟨b.val * 256 + j.val, by omega⟩)
    = MemBwd.hback (Q x0 i b) (fun a => dquery (Q x0 i b) (G x1) (K x2 b) (D x3 x4 i b) a * x1 (ix2 0 a)) j := by
  pointwise [val_main_v0, val_main_v1, val_main_v4, val_main_v5, val_main_cst, val_main_v6, val_main_v7, val_main_cst_0, val_main_v8, val_main_v9, val_main_cst_1, val_main_v10, val_main_v11, val_main_v12, val_main_v13, val_main_cst_2, val_main_v14, val_main_v15, val_main_v18, val_main_v86, val_main_v87, val_main_v90, val_main_cst_19, val_main_v91, val_main_v92, val_main_v93, val_main_v94, val_main_v95, val_main_cst_20, val_main_v96, val_main_v97, val_main_cst_21, val_main_v98, val_main_v99, val_main_v100, val_main_v101, val_main_v102, val_main_v103, val_main_v104, val_main_v105]
  simp only [Fin.sum_univ_one, MemBwd.hinv_eq, ref80_at x0 x1 x2 x3 x4 _ _ _ h1 h2]
  exact MemBwd.hback_eq (Q x0 i b) (fun a => dquery (Q x0 i b) (G x1) (K x2 b) (D x3 x4 i b) a * x1 (ix2 0 a)) j

omit h1 h2 in
theorem ref81_at : val_main_v81 (F := Ideal) x0 x1 x2 x4 (ix2 n ⟨b.val * 256 + j.val, by omega⟩)
    = ∑ i : Fin 2048, prob (Q x0 i b) (G x1) (K x2 b) n * x4 (ix2 i ⟨b.val * 256 + j.val, by omega⟩) := by
  pointwise [val_main_v57, val_main_v58, val_main_v59, val_main_v61, val_main_v62, val_main_v81]
  simp only [ref50_at]
  exact Finset.sum_congr rfl fun i _ => mul_comm _ _
end Ref

section Pre
variable (x0 : FVec Ideal Pre_finite_scores.S2048x10240 .bf16) (x1 : FVec Ideal Pre_finite_scores.S1x256 .f32) (x2 x3 : FVec Ideal Pre_finite_scores.S256x1024 .bf16) (x4 : FVec Ideal Pre_finite_scores.S2048x1024 .bf16)

theorem finite_of {x : EReal} (h : max x (-x) < ⊤) : x ≠ ⊤ ∧ x ≠ ⊥ :=
  ⟨(lt_of_le_of_lt (le_max_left _ _) h).ne, fun e => absurd (lt_of_le_of_lt (le_max_right _ _) h) (by rw [e]; simp)⟩

/-- The precondition at an index: an entry of the gain and one of the keys are finite. -/
theorem pre_at (h : Cert.Pre_finite_scores.fn (F := Ideal) x0 x1 x2 x3 x4 = fun _ => 1#1) (n : Fin 256) (b : Fin 4) (j : Fin 256) :
    (x1 (ix2 0 j) ≠ ⊤ ∧ x1 (ix2 0 j) ≠ ⊥) ∧ x2 (ix2 n ⟨b.val * 256 + j.val, by omega⟩) ≠ ⊤ ∧ x2 (ix2 n ⟨b.val * 256 + j.val, by omega⟩) ≠ ⊥ := by
  have e : Cert.Pre_finite_scores.fn (F := Ideal) x0 x1 x2 x3 x4 (ix2 ⟨n.val * 4 + b.val, by omega⟩ j)
      = BitVec.ofBool (decide (max (x1 (ix2 0 j)) (-x1 (ix2 0 j)) < ⊤)) &&& BitVec.ofBool (decide (max (x2 (ix2 n ⟨b.val * 256 + j.val, by omega⟩)) (-x2 (ix2 n ⟨b.val * 256 + j.val, by omega⟩)) < ⊤)) := by
    unfold Cert.Pre_finite_scores.fn
    pointwise
    rw [lit_top]
    simp only [show (n.val * 4 + b.val) % 4 = b.val by omega]
    rfl
  rw [h] at e
  by_cases h1 : max (x1 (ix2 0 j)) (-x1 (ix2 0 j)) < ⊤ <;> by_cases h2 : max (x2 (ix2 n ⟨b.val * 256 + j.val, by omega⟩)) (-x2 (ix2 n ⟨b.val * 256 + j.val, by omega⟩)) < ⊤
  · exact ⟨finite_of h1, finite_of h2⟩
  all_goals simp [h1, h2] at e
end Pre

section Final
variable (m : (ℓ : Loc nD τ sig) → Buf (Elt Ideal) ℓ) (c : Dev nD)

abbrev X0 : S2048x10240.Idx → EReal := m ((c : Thread nD τ).loc main_arg0)
abbrev X1 : S1x256.Idx → EReal := m ((c : Thread nD τ).loc main_arg1)
abbrev X2 : S256x1024.Idx → EReal := m ((c : Thread nD τ).loc main_arg2)
abbrev X3 : S256x1024.Idx → EReal := m ((c : Thread nD τ).loc main_arg3)
abbrev X4 : S2048x1024.Idx → EReal := m ((c : Thread nD τ).loc main_arg4)

theorem t_lt (t : Fin cfg0.N) : t.val < 8 := t.isLt

/-- A point's row in the whole array. -/
abbrev row (t : Fin cfg0.N) (i : Fin 256) : Fin 2048 := ⟨t.val * 256 + i.val, by have := t_lt t; omega⟩

theorem idx : ∀ t : Fin cfg0.N, (win0_0.index t (0 : Fin 2) = t.val ∧ win0_0.index t (1 : Fin 2) = 6) ∧ (win0_4.index t (0 : Fin 2) = t.val ∧ win0_4.index t (1 : Fin 2) = 0) ∧ win0_5.index t (0 : Fin 2) = t.val ∧ win0_5.index t (1 : Fin 2) = 0 :=
  (by decide +kernel : ∀ t : Fin grid0.N, _)

theorem iblk0_at (t : Fin cfg0.N) (i : Fin 256) (j : Fin 1024) : iblk m c 0 t (ix2 i j) = X0 m c (ix2 (row t i) ⟨6144 + j.val, by omega⟩) := by
  obtain ⟨⟨h0, h1⟩, -⟩ := idx t
  refine congrArg (X0 m c) (funext fun q => Fin.ext ?_)
  match q with
  | ⟨0, _⟩ => show win0_0.index t (0 : Fin 2) * 256 + 1 * i.val = t.val * 256 + i.val; omega
  | ⟨1, _⟩ => show win0_0.index t (1 : Fin 2) * 1024 + 1 * j.val = 6144 + j.val; omega

theorem iblk4_at (t : Fin cfg0.N) (i : Fin 256) (j : Fin 1024) : iblk m c 4 t (ix2 i j) = X4 m c (ix2 (row t i) j) := by
  obtain ⟨-, ⟨h0, h1⟩, -⟩ := idx t
  refine congrArg (X4 m c) (funext fun q => Fin.ext ?_)
  match q with
  | ⟨0, _⟩ => show win0_4.index t (0 : Fin 2) * 256 + 1 * i.val = t.val * 256 + i.val; omega
  | ⟨1, _⟩ => show win0_4.index t (1 : Fin 2) * 1024 + 1 * j.val = j.val; omega

theorem iblk1_eq (t : Fin cfg0.N) : iblk m c 1 t = X1 m c := by
  refine funext fun y => congrArg (X1 m c) (funext fun q => Fin.ext ?_)
  match q with
  | ⟨0, _⟩ => show 0 * 1 + 1 * (y 0).val = (y 0).val; omega
  | ⟨1, _⟩ => show 0 * 256 + 1 * (y 1).val = (y 1).val; omega

theorem whole (y : S256x1024.Idx) (f : S256x1024.Idx → EReal) (z : S256x1024.Idx) (h0 : (z 0).val = 0 * 256 + 1 * (y 0).val) (h1 : (z 1).val = 0 * 1024 + 1 * (y 1).val) : f z = f y :=
  congrArg f (funext fun q => Fin.ext (by match q with | ⟨0, _⟩ => exact h0.trans (by show _ = (y 0).val; omega) | ⟨1, _⟩ => exact h1.trans (by show _ = (y 1).val; omega)))

theorem iblk2_eq (t : Fin cfg0.N) : iblk m c 2 t = X2 m c := funext fun y => whole y (X2 m c) _ rfl rfl
theorem iblk3_eq (t : Fin cfg0.N) : iblk m c 3 t = X3 m c := funext fun y => whole y (X3 m c) _ rfl rfl

theorem emb5 (t : Fin cfg0.N) (y : S256x1024.Idx) : ((cfg0.win 5).blk t).view.emb y = ix2 (row t (y 0)) (y 1) := by
  obtain ⟨-, -, h0, h1⟩ := idx t
  funext q; apply Fin.ext
  match q with
  | ⟨0, _⟩ => show win0_5.index t (0 : Fin 2) * 256 + 1 * (y 0).val = t.val * 256 + (y 0).val; omega
  | ⟨1, _⟩ => show win0_5.index t (1 : Fin 2) * 1024 + 1 * (y 1).val = (y 1).val; omega

theorem emb6 (t : Fin cfg0.N) (y : S256x1024.Idx) : ((cfg0.win 6).blk t).view.emb y = y := by
  funext q; apply Fin.ext
  match q with
  | ⟨0, _⟩ => show 0 * 256 + 1 * (y 0).val = (y 0).val; omega
  | ⟨1, _⟩ => show 0 * 1024 + 1 * (y 1).val = (y 1).val; omega

theorem emb7 (t : Fin cfg0.N) (y : S256x1024.Idx) : ((cfg0.win 7).blk t).view.emb y = y := emb6 t y

theorem emb8 (t : Fin cfg0.N) (y : S1x256.Idx) : ((cfg0.win 8).blk t).view.emb y = y := by
  funext q; apply Fin.ext
  match q with
  | ⟨0, _⟩ => show 0 * 1 + 1 * (y 0).val = (y 0).val; omega
  | ⟨1, _⟩ => show 0 * 256 + 1 * (y 1).val = (y 1).val; omega

/-! ## A point's blocks are its rows -/

open XFwd (Q G K)
variable (t : Fin cfg0.N) (i : Fin 256) (b : Fin 4) (n j : Fin 256)

theorem Qb_blk : Qb (iblk m c 0 t) i b = Q (X0 m c) (row t i) b := funext fun j => iblk0_at m c t i _
theorem Db_blk : Db (X3 m c) (iblk m c 4 t) i b = D (X3 m c) (X4 m c) (row t i) b :=
  funext fun n => Finset.sum_congr rfl fun j _ => congrArg (· * _) (iblk4_at m c t i _)

/-! What a row adds to each of the gradients. -/

def R6 (r : Fin 2048) : EReal := dscore (Q (X0 m c) r b) (G (X1 m c)) (K (X2 m c) b) (D (X3 m c) (X4 m c) r b) n * Mem.hnorm (Q (X0 m c) r b) (G (X1 m c)) j
def R7 (r : Fin 2048) : EReal := prob (Q (X0 m c) r b) (G (X1 m c)) (K (X2 m c) b) n * X4 m c (ix2 r ⟨b.val * 256 + j.val, by omega⟩)
def R8 (r : Fin 2048) : EReal := ∑ b : Fin 4, Q (X0 m c) r b j * MemBwd.hinv (Q (X0 m c) r b) * dquery (Q (X0 m c) r b) (G (X1 m c)) (K (X2 m c) b) (D (X3 m c) (X4 m c) r b) j

theorem T6_blk (h) : T6 (iblk m c 0 t) (iblk m c 1 t) (iblk m c 2 t) (iblk m c 3 t) (iblk m c 4 t) (ix2 n ⟨b.val * 256 + j.val, h⟩) = ∑ i, R6 m c b n j (row t i) := by
  rw [iblk1_eq, iblk2_eq, iblk3_eq, T6_at]
  refine Finset.sum_congr rfl fun i _ => ?_
  unfold A6
  rw [Qb_blk, Db_blk]
  rfl
theorem T7_blk (h) : T7 (iblk m c 0 t) (iblk m c 1 t) (iblk m c 2 t) (iblk m c 4 t) (ix2 n ⟨b.val * 256 + j.val, h⟩) = ∑ i, R7 m c b n j (row t i) := by
  rw [iblk1_eq, iblk2_eq, T7_at]
  refine Finset.sum_congr rfl fun i _ => ?_
  unfold A7
  rw [Qb_blk, iblk4_at]
  rfl
theorem T8_blk : T8 (iblk m c 0 t) (iblk m c 1 t) (iblk m c 2 t) (iblk m c 3 t) (iblk m c 4 t) (ix2 0 j) = ∑ i, R8 m c j (row t i) := by
  rw [iblk1_eq, iblk2_eq, iblk3_eq]
  unfold T8 R8
  rw [Finset.sum_comm]
  refine Finset.sum_congr rfl fun i _ => Finset.sum_congr rfl fun b _ => ?_
  unfold A8
  rw [Qb_blk, Db_blk]
  exact mul_comm _ _

/-! ## The sums over the points -/

theorem sweep (o : (n : ℕ) → n < cfg0.N → EReal) (f : Fin 2048 → EReal)
    (h0 : ∀ t : Fin cfg0.N, t.val % 8 = 0 → o t.val t.isLt = 0 + ∑ i, f (row t i))
    (hs : ∀ t : Fin cfg0.N, ¬ t.val % 8 = 0 → o t.val t.isLt = o (t.val - 1) (Nat.lt_of_le_of_lt (Nat.sub_le _ _) t.isLt) + ∑ i, f (row t i)) :
    ∀ (n : ℕ) (hn : n < cfg0.N), o n hn = ∑ r ∈ Finset.range (n * 256 + 256), ext f r := by
  intro n
  induction n with
  | zero =>
    intro hn
    rw [ext_add _ _ _ (by omega)]
    exact (h0 ⟨0, hn⟩ rfl).trans (congrArg (· + _) (by simp : (0 : EReal) = ∑ r ∈ Finset.range (0 * 256), ext f r))
  | succ n ih =>
    intro hn
    have h8 : n + 1 < 8 := hn
    rw [ext_add _ _ _ (by omega)]
    refine (hs ⟨n + 1, hn⟩ (by show ¬ (n + 1) % 8 = 0; omega)).trans (congrArg (· + _) ((ih (Nat.lt_of_succ_lt hn)).trans ?_))
    rw [show (n + 1) * 256 = n * 256 + 256 by omega]

theorem last (o : (n : ℕ) → n < cfg0.N → EReal) (f : Fin 2048 → EReal)
    (h0 : ∀ t : Fin cfg0.N, t.val % 8 = 0 → o t.val t.isLt = 0 + ∑ i, f (row t i))
    (hs : ∀ t : Fin cfg0.N, ¬ t.val % 8 = 0 → o t.val t.isLt = o (t.val - 1) (Nat.lt_of_le_of_lt (Nat.sub_le _ _) t.isLt) + ∑ i, f (row t i))
    (t : Fin cfg0.N) (h : t.val % 8 = 7) : o t.val t.isLt = ∑ r, f r := by
  rw [sweep o f h0 hs, ← ext_sum f, show t.val * 256 + 256 = 2048 by have := t_lt t; omega]

theorem o5 : (outsAt0 m c t.val t.isLt).1 = fun y => T5 (iblk m c 0 t) (iblk m c 1 t) (iblk m c 2 t) (iblk m c 3 t) (iblk m c 4 t) y := by
  by_cases h : t.val % 8 = 0
  · rw [outsAt0_A m c t h]; dsimp only; rw [out0_A_5_eq]
  · rw [outsAt0_B m c t h]; dsimp only; rw [out0_B_5_eq]

theorem o6 (h : t.val % 8 = 7) (hc) : (outsAt0 m c t.val t.isLt).2.1 (ix2 n ⟨b.val * 256 + j.val, hc⟩) = ∑ r, R6 m c b n j r :=
  last (fun k hk => (outsAt0 m c k hk).2.1 (ix2 n ⟨b.val * 256 + j.val, hc⟩)) _
    (fun t h => by rw [outsAt0_A m c t h]; dsimp only; rw [out0_A_6_eq]; dsimp only; rw [T6_blk])
    (fun t h => by rw [outsAt0_B m c t h]; dsimp only; rw [out0_B_6_eq]; dsimp only; rw [T6_blk]) t h

theorem o7 (h : t.val % 8 = 7) (hc) : (outsAt0 m c t.val t.isLt).2.2.1 (ix2 n ⟨b.val * 256 + j.val, hc⟩) = ∑ r, R7 m c b n j r :=
  last (fun k hk => (outsAt0 m c k hk).2.2.1 (ix2 n ⟨b.val * 256 + j.val, hc⟩)) _
    (fun t h => by rw [outsAt0_A m c t h]; dsimp only; rw [out0_A_7_eq]; dsimp only; rw [T7_blk])
    (fun t h => by rw [outsAt0_B m c t h]; dsimp only; rw [out0_B_7_eq]; dsimp only; rw [T7_blk]) t h

theorem o8 (h : t.val % 8 = 7) : (outsAt0 m c t.val t.isLt).2.2.2 (ix2 0 j) = ∑ r, R8 m c j r :=
  last (fun k hk => (outsAt0 m c k hk).2.2.2 (ix2 0 j)) _
    (fun t h => by rw [outsAt0_A m c t h]; dsimp only; rw [out0_A_8_eq]; dsimp only; rw [T8_blk])
    (fun t h => by rw [outsAt0_B m c t h]; dsimp only; rw [out0_B_8_eq]; dsimp only; rw [T8_blk]) t h

/-! ## The results -/

theorem col (k : Fin 1024) : ∃ (b : Fin 4) (j : Fin 256) (h : b.val * 256 + j.val < 1024), k = ⟨b.val * 256 + j.val, h⟩ :=
  ⟨⟨k.val / 256, by omega⟩, ⟨k.val % 256, by omega⟩, by show k.val / 256 * 256 + k.val % 256 < 1024; omega, Fin.ext (by show k.val = k.val / 256 * 256 + k.val % 256; omega)⟩

/-- The last point. -/
abbrev t7 : Fin cfg0.N := ⟨7, lt_of_lt_of_eq (by decide) N_0.symm⟩

theorem final7 : (dats m 0 c).arrAt 7 cfg0.N = val_main_v81 (F := Ideal) (X0 m c) (X1 m c) (X2 m c) (X4 m c) := by
  refine (dats m 0 c).arrAt_eq_of_cover 7 _ (fun t hf => ?_) (fun y => ⟨t7, (flush0_7 _).mpr rfl, ?_⟩)
  · rw [flushed7]
    funext y
    show (outsAt0 m c t.val t.isLt).2.2.1 y = val_main_v81 (F := Ideal) _ _ _ _ (((cfg0.win 7).blk t).view.emb y)
    rw [emb7]
    obtain ⟨n, k, rfl⟩ : ∃ (n : Fin 256) (k : Fin 1024), y = ix2 n k := ⟨y 0, y 1, eq_ix2 y⟩
    obtain ⟨b, j, hc, rfl⟩ := col k
    rw [o7 m c t b n j ((flush0_7 t).mp hf) hc, ref81_at]
    rfl
  · have h := ((cfg0.win 7).blk t7).view.emb_mem_set y
    rwa [emb7] at h

variable (h1 : ∀ j, X1 m c (ix2 0 j) ≠ ⊤ ∧ X1 m c (ix2 0 j) ≠ ⊥) (h2 : ∀ n j, X2 m c (ix2 n j) ≠ ⊤ ∧ X2 m c (ix2 n j) ≠ ⊥)
include h1 h2

theorem final6 : (dats m 0 c).arrAt 6 cfg0.N = val_main_v82 (F := Ideal) (X0 m c) (X1 m c) (X2 m c) (X3 m c) (X4 m c) := by
  refine (dats m 0 c).arrAt_eq_of_cover 6 _ (fun t hf => ?_) (fun y => ⟨t7, (flush0_6 _).mpr rfl, ?_⟩)
  · rw [flushed6]
    funext y
    show (outsAt0 m c t.val t.isLt).2.1 y = val_main_v82 (F := Ideal) _ _ _ _ _ (((cfg0.win 6).blk t).view.emb y)
    rw [emb6]
    obtain ⟨n, k, rfl⟩ : ∃ (n : Fin 256) (k : Fin 1024), y = ix2 n k := ⟨y 0, y 1, eq_ix2 y⟩
    obtain ⟨b, j, hc, rfl⟩ := col k
    rw [o6 m c t b n j ((flush0_6 t).mp hf) hc, ref82_at _ _ _ _ _ _ _ _ h1 h2]
    rfl
  · have h := ((cfg0.win 6).blk t7).view.emb_mem_set y
    rwa [emb6] at h

theorem final8 : (dats m 0 c).arrAt 8 cfg0.N = val_main_v89 (F := Ideal) (X0 m c) (X1 m c) (X2 m c) (X3 m c) (X4 m c) := by
  refine (dats m 0 c).arrAt_eq_of_cover 8 _ (fun t hf => ?_) (fun y => ⟨t7, (flush0_8 _).mpr rfl, ?_⟩)
  · rw [flushed8]
    funext y
    show (outsAt0 m c t.val t.isLt).2.2.2 y = val_main_v89 (F := Ideal) _ _ _ _ _ (((cfg0.win 8).blk t).view.emb y)
    rw [emb8]
    obtain ⟨j, rfl⟩ : ∃ j : Fin 256, y = ix2 0 j := ⟨y 1, (eq_ix2 y).trans (congrArg (ix2 · (y 1)) (Subsingleton.elim _ _))⟩
    rw [o8 m c t j ((flush0_8 t).mp hf), ref89_at _ _ _ _ _ _ h1 h2, Finset.sum_comm]
    rfl
  · have h := ((cfg0.win 8).blk t7).view.emb_mem_set y
    rwa [emb8] at h

theorem final5 : (dats m 0 c).arrAt 5 cfg0.N = val_main_v105 (F := Ideal) (X0 m c) (X1 m c) (X2 m c) (X3 m c) (X4 m c) := by
  refine (dats m 0 c).arrAt_eq_of_cover 5 _ (fun t _ => ?_) (fun y => ?_)
  · rw [flushed5]
    funext y
    show (outsAt0 m c t.val t.isLt).1 y = val_main_v105 (F := Ideal) _ _ _ _ _ (((cfg0.win 5).blk t).view.emb y)
    rw [emb5]
    obtain ⟨i, k, rfl⟩ : ∃ (i : Fin 256) (k : Fin 1024), y = ix2 i k := ⟨y 0, y 1, eq_ix2 y⟩
    obtain ⟨b, j, hc, rfl⟩ := col k
    refine Eq.trans ?_ (ref105_at (X0 m c) (X1 m c) (X2 m c) (X3 m c) (X4 m c) (row t i) b j h1 h2).symm
    rw [o5, iblk1_eq, iblk2_eq, iblk3_eq]
    dsimp only
    rw [T5_at]
    unfold A5
    rw [Qb_blk, Db_blk]
  · obtain ⟨i, j, rfl⟩ : ∃ (i : Fin 2048) (j : Fin 1024), y = ix2 i j := ⟨y 0, y 1, eq_ix2 y⟩
    let t : Fin cfg0.N := ⟨i.val / 256, by show i.val / 256 < 8; omega⟩
    refine ⟨t, flush0_5 t, ?_⟩
    have h := ((cfg0.win 5).blk t).view.emb_mem_set (ix2 (⟨i.val % 256, by omega⟩ : Fin 256) j)
    rw [emb5] at h
    refine (congrArg (· ∈ ((cfg0.win 5).blk t).view.set) ?_).mp h
    funext q; apply Fin.ext
    match q with
    | ⟨0, _⟩ => show i.val / 256 * 256 + i.val % 256 = i.val; omega
    | ⟨1, _⟩ => rfl
end Final

/-- Where the keys and the gain are finite, the kernel and the reference end with equal results. -/
theorem algebraic : Cert.algebraic_Kernel2Ideal_Reference2Ideal_pre_finite_scores (hKernel2Ideal := Cert.Kernel2Ideal.Gen.facts)
    (hReference2Ideal := Cert.Reference2Ideal.Gen.facts) (hPre_finite_scores := Cert.Pre_finite_scores.Gen.facts) := by
  intro m g m' g' hp hagree
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run _ _ _).mono (fun r h c => ?_) (Cert.Reference2Ideal.Value.run m' g')
  obtain ⟨e0, e1, e2, e3, k⟩ := h c
  obtain ⟨a0, a1, a2, a3, a4⟩ := hagree c
  have f1 : ∀ j, X1 m c (ix2 0 j) ≠ ⊤ ∧ X1 m c (ix2 0 j) ≠ ⊥ := fun j => (pre_at _ _ _ _ _ (hp c) 0 0 j).1
  have f2 : ∀ n j, X2 m c (ix2 n j) ≠ ⊤ ∧ X2 m c (ix2 n j) ≠ ⊥ := fun n k => by
    obtain ⟨b, j, hc, rfl⟩ := col k
    exact (pre_at _ _ _ _ _ (hp c) n b j).2
  refine ⟨?_, ?_, ?_, ?_, k⟩
  · exact (e0.trans (val_main_v105_eq _ _)).trans (by rw [a0, a1, a2, a3, a4]; exact (final5 m c f1 f2).symm)
  · exact (e1.trans (val_main_v82_eq _ _)).trans (by rw [a0, a1, a2, a3, a4]; exact (final6 m c f1 f2).symm)
  · exact (e2.trans (val_main_v81_eq _ _)).trans (by rw [a0, a1, a2, a4]; exact (final7 m c).symm)
  · exact (e3.trans (val_main_v89_eq _ _)).trans (by rw [a0, a1, a2, a3, a4]; exact (final8 m c f1 f2).symm)

end Cert.Proof.XBwd

end
-- ==== Proof.MergeFwd.lean ====
/- Hand-written, untrusted: the gated merge of the three branches at the reals. Each block of rows is the reference's, index by index. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise

@[expose] public section

noncomputable section

namespace Cert.Proof.MergeFwd

open Cert.Kernel12Ideal Cert.Kernel12Ideal.Gen Cert.Kernel12Ideal.Value Idealize.ShloMosaic Idealize.ShloMosaic.TcCoe Idealize.SL.Sem
open Reference12Ideal.Read

theorem hz : (![0, 0] : Fin 2 → Nat) = fun _ => 0 := funext fun a => by fin_cases a <;> rfl
theorem hz3 : (![0, 0, 0] : Fin 3 → Nat) = fun _ => 0 := funext fun a => by fin_cases a <;> rfl

/-- A gate's sigmoid. -/
def sg (x : EReal) : EReal := Ideal.div 1 (1 + Ideal.exp (-x))

/-- The three gated branches, summed. -/
def merged (g0 g1 g2 y0 y1 y2 : EReal) : EReal := sg g0 * y0 + sg g1 * y1 + sg g2 * y2

theorem ldT (x : Vec Ideal S256x1024 .bf16) : View.ld x r0_0 = x := View.ld_unit_zero hz ..
theorem ldF (x : Vec Ideal S256x1024 .f32) : View.ld x r0_0 = x := View.ld_unit_zero hz ..
theorem ldW (x : Vec Ideal S1024x1024 .bf16) : View.ld x r0_1 = x := View.ld_unit_zero hz ..

section Pay
variable (x0 : Vec Ideal S256x1024 .f32) (x1 x2 x3 x4 : Vec Ideal S256x1024 .bf16) (x5 : Vec Ideal S256x1024 .f32) (x6 : Vec Ideal S256x1024 .bf16) (x7 x8 x9 x10 : Vec Ideal S1024x1024 .bf16) (i : Fin 256) (j : Fin 1024)

theorem out11_at : out0_11 x0 x1 x2 x3 x4 x5 x6 x7 x8 x9 x10 (ix2 i j) = x0 (ix2 i j) + ∑ k : Fin 1024, merged (x1 (ix2 i k)) (x2 (ix2 i k)) (x3 (ix2 i k))
      (∑ l : Fin 1024, x4 (ix2 i l) * x7 (ix2 l k)) (∑ l : Fin 1024, x5 (ix2 i l) * x8 (ix2 l k)) (∑ l : Fin 1024, x6 (ix2 i l) * x9 (ix2 l k))
      * x10 (ix2 k j) := by
  unfold_out out0_11
  rw [View.canon_unit_zero hz]
  simp only [ldT, ldW, ldF, merged, sg]
  unfold_payloads
  pointwise
  simp only [zero_sub]

theorem out15_at : out0_15 x0 x1 x2 x3 x4 x5 x6 x7 x8 x9 x10 (ix2 i j) = merged (x1 (ix2 i j)) (x2 (ix2 i j)) (x3 (ix2 i j))
      (∑ l : Fin 1024, x4 (ix2 i l) * x7 (ix2 l j)) (∑ l : Fin 1024, x5 (ix2 i l) * x8 (ix2 l j)) (∑ l : Fin 1024, x6 (ix2 i l) * x9 (ix2 l j)) := by
  unfold_out out0_15
  rw [View.canon_unit_zero hz]
  simp only [ldT, ldW, ldF, merged, sg]
  unfold_payloads
  pointwise
  simp only [zero_sub]

theorem out12_at : out0_12 x0 x1 x2 x3 x4 x5 x6 x7 x8 x9 x10 (ix2 i j) = ∑ l : Fin 1024, x4 (ix2 i l) * x7 (ix2 l j) := by
  unfold_out out0_12
  rw [View.canon_unit_zero hz]
  simp only [ldT, ldW, ldF]
  unfold_payloads
  pointwise

theorem out13_at : out0_13 x0 x1 x2 x3 x4 x5 x6 x7 x8 x9 x10 (ix2 i j) = ∑ l : Fin 1024, x5 (ix2 i l) * x8 (ix2 l j) := by
  unfold_out out0_13
  rw [View.canon_unit_zero hz]
  simp only [ldT, ldW, ldF]
  unfold_payloads
  pointwise

theorem out14_at : out0_14 x0 x1 x2 x3 x4 x5 x6 x7 x8 x9 x10 (ix2 i j) = ∑ l : Fin 1024, x6 (ix2 i l) * x9 (ix2 l j) := by
  unfold_out out0_14
  rw [View.canon_unit_zero hz]
  simp only [ldT, ldW, ldF]
  unfold_payloads
  pointwise
end Pay

section Ref
variable (a0 : Vec Ideal S2048x1024 .f32) (a1 : Vec Ideal S2048x10240 .bf16) (a2 : Vec Ideal S2048x1024 .bf16) (a3 : Vec Ideal S2048x1024 .f32) (a4 : Vec Ideal S2048x1024 .bf16) (a5 a6 a7 a8 : Vec Ideal S1024x1024 .f32) (i : Fin 2048) (j : Fin 1024)

set_option maxRecDepth 10000 in
/-- The reference's merged row at one index. -/
theorem ref15_at : val_main_v26 (F := Ideal) a1 a2 a3 a4 a5 a6 a7 (ix2 i j)
    = merged (a1 (ix2 i ⟨7 * 1024 + j.val, by omega⟩)) (a1 (ix2 i ⟨8 * 1024 + j.val, by omega⟩)) (a1 (ix2 i ⟨9 * 1024 + j.val, by omega⟩))
      (∑ l : Fin 1024, a2 (ix2 i l) * a5 (ix2 l j)) (∑ l : Fin 1024, a3 (ix2 i l) * a6 (ix2 l j)) (∑ l : Fin 1024, a4 (ix2 i l) * a7 (ix2 l j)) := by
  unfold merged sg
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_v20, val_main_v21, val_main_v22, val_main_v23, val_main_v24, val_main_v25, val_main_v26]
  have e1 : (⟨7168 + (1024 + j.val), by omega⟩ : Fin 10240) = ⟨8 * 1024 + j.val, by omega⟩ := Fin.ext (by show 7168 + (1024 + j.val) = 8 * 1024 + j.val; omega)
  have e2 : (⟨7168 + (2048 + j.val), by omega⟩ : Fin 10240) = ⟨9 * 1024 + j.val, by omega⟩ := Fin.ext (by show 7168 + (2048 + j.val) = 9 * 1024 + j.val; omega)
  rw [e1, e2]

set_option maxRecDepth 10000 in
theorem ref11_at : val_main_v22 (F := Ideal) a0 a1 a2 a3 a4 a5 a6 a7 a8 (ix2 i j)
    = a0 (ix2 i j) + ∑ k : Fin 1024, val_main_v26 (F := Ideal) a1 a2 a3 a4 a5 a6 a7 (ix2 i k) * a8 (ix2 k j) := by
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_v20, val_main_v21, val_main_v22, val_main_v23, val_main_v24, val_main_v25, val_main_v26]

theorem ref12_at : val_main_v23 (F := Ideal) a2 a5 (ix2 i j) = ∑ l : Fin 1024, a2 (ix2 i l) * a5 (ix2 l j) := by
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_v20, val_main_v21, val_main_v22, val_main_v23, val_main_v24, val_main_v25, val_main_v26]

theorem ref13_at : val_main_v24 (F := Ideal) a3 a6 (ix2 i j) = ∑ l : Fin 1024, a3 (ix2 i l) * a6 (ix2 l j) := by
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_v20, val_main_v21, val_main_v22, val_main_v23, val_main_v24, val_main_v25, val_main_v26]

theorem ref14_at : val_main_v25 (F := Ideal) a4 a7 (ix2 i j) = ∑ l : Fin 1024, a4 (ix2 i l) * a7 (ix2 l j) := by
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_v20, val_main_v21, val_main_v22, val_main_v23, val_main_v24, val_main_v25, val_main_v26]
end Ref

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)

/-- The weight that window 7 stages is the host's cast of the argument: over the extended reals, the argument. -/
theorem Vw0 : V m c main_v0 = X5 m c := by
  unfold_abbrev_sides
  after_results
  rfl

/-- The weight that window 8 stages is the host's cast of the argument: over the extended reals, the argument. -/
theorem Vw1 : V m c main_v1 = X6 m c := by
  unfold_abbrev_sides
  after_results
  rfl

/-- The weight that window 9 stages is the host's cast of the argument: over the extended reals, the argument. -/
theorem Vw2 : V m c main_v2 = X7 m c := by
  unfold_abbrev_sides
  after_results
  rfl

/-- The weight that window 10 stages is the host's cast of the argument: over the extended reals, the argument. -/
theorem Vw3 : V m c main_v3 = X8 m c := by
  unfold_abbrev_sides
  after_results
  rfl

theorem t_lt (t : Fin cfg0.N) : t.val < 8 := t.2

theorem idx0 : ∀ t : Fin cfg0.N, win0_0.index t (0 : Fin 2) = t.val ∧ win0_0.index t (1 : Fin 2) = 0 :=
  (by decide +kernel : ∀ t : Fin grid0.N, _)

/-- Point `t`'s block of input window 0, at an index. -/
theorem iblk0_at (t : Fin cfg0.N) (i : Fin 256) (j : Fin 1024) :
    iblk m c 0 t (ix2 i j) = (X0 m c) (ix2 ⟨(t.val) * 256 + i.val, by have := t_lt t; omega⟩ j) := by
  obtain ⟨h0, h1⟩ := idx0 t
  refine congrArg ((X0 m c)) (funext fun q => Fin.ext ?_)
  match q with
  | ⟨0, _⟩ => show win0_0.index t (0 : Fin 2) * 256 + 1 * i.val = (t.val) * 256 + i.val; omega
  | ⟨1, _⟩ => show win0_0.index t (1 : Fin 2) * 1024 + 1 * j.val = j.val; omega

theorem idx1 : ∀ t : Fin cfg0.N, win0_1.index t (0 : Fin 2) = t.val ∧ win0_1.index t (1 : Fin 2) = 7 :=
  (by decide +kernel : ∀ t : Fin grid0.N, _)

/-- Point `t`'s block of input window 1, at an index. -/
theorem iblk1_at (t : Fin cfg0.N) (i : Fin 256) (j : Fin 1024) :
    iblk m c 1 t (ix2 i j) = (X1 m c) (ix2 ⟨(t.val) * 256 + i.val, by have := t_lt t; omega⟩ ⟨(7) * 1024 + j.val, by have := t_lt t; omega⟩) := by
  obtain ⟨h0, h1⟩ := idx1 t
  refine congrArg ((X1 m c)) (funext fun q => Fin.ext ?_)
  match q with
  | ⟨0, _⟩ => show win0_1.index t (0 : Fin 2) * 256 + 1 * i.val = (t.val) * 256 + i.val; omega
  | ⟨1, _⟩ => show win0_1.index t (1 : Fin 2) * 1024 + 1 * j.val = (7) * 1024 + j.val; omega

theorem idx2 : ∀ t : Fin cfg0.N, win0_2.index t (0 : Fin 2) = t.val ∧ win0_2.index t (1 : Fin 2) = 8 :=
  (by decide +kernel : ∀ t : Fin grid0.N, _)

/-- Point `t`'s block of input window 2, at an index. -/
theorem iblk2_at (t : Fin cfg0.N) (i : Fin 256) (j : Fin 1024) :
    iblk m c 2 t (ix2 i j) = (X1 m c) (ix2 ⟨(t.val) * 256 + i.val, by have := t_lt t; omega⟩ ⟨(8) * 1024 + j.val, by have := t_lt t; omega⟩) := by
  obtain ⟨h0, h1⟩ := idx2 t
  refine congrArg ((X1 m c)) (funext fun q => Fin.ext ?_)
  match q with
  | ⟨0, _⟩ => show win0_2.index t (0 : Fin 2) * 256 + 1 * i.val = (t.val) * 256 + i.val; omega
  | ⟨1, _⟩ => show win0_2.index t (1 : Fin 2) * 1024 + 1 * j.val = (8) * 1024 + j.val; omega

theorem idx3 : ∀ t : Fin cfg0.N, win0_3.index t (0 : Fin 2) = t.val ∧ win0_3.index t (1 : Fin 2) = 9 :=
  (by decide +kernel : ∀ t : Fin grid0.N, _)

/-- Point `t`'s block of input window 3, at an index. -/
theorem iblk3_at (t : Fin cfg0.N) (i : Fin 256) (j : Fin 1024) :
    iblk m c 3 t (ix2 i j) = (X1 m c) (ix2 ⟨(t.val) * 256 + i.val, by have := t_lt t; omega⟩ ⟨(9) * 1024 + j.val, by have := t_lt t; omega⟩) := by
  obtain ⟨h0, h1⟩ := idx3 t
  refine congrArg ((X1 m c)) (funext fun q => Fin.ext ?_)
  match q with
  | ⟨0, _⟩ => show win0_3.index t (0 : Fin 2) * 256 + 1 * i.val = (t.val) * 256 + i.val; omega
  | ⟨1, _⟩ => show win0_3.index t (1 : Fin 2) * 1024 + 1 * j.val = (9) * 1024 + j.val; omega

theorem idx4 : ∀ t : Fin cfg0.N, win0_4.index t (0 : Fin 2) = t.val ∧ win0_4.index t (1 : Fin 2) = 0 :=
  (by decide +kernel : ∀ t : Fin grid0.N, _)

/-- Point `t`'s block of input window 4, at an index. -/
theorem iblk4_at (t : Fin cfg0.N) (i : Fin 256) (j : Fin 1024) :
    iblk m c 4 t (ix2 i j) = (X2 m c) (ix2 ⟨(t.val) * 256 + i.val, by have := t_lt t; omega⟩ j) := by
  obtain ⟨h0, h1⟩ := idx4 t
  refine congrArg ((X2 m c)) (funext fun q => Fin.ext ?_)
  match q with
  | ⟨0, _⟩ => show win0_4.index t (0 : Fin 2) * 256 + 1 * i.val = (t.val) * 256 + i.val; omega
  | ⟨1, _⟩ => show win0_4.index t (1 : Fin 2) * 1024 + 1 * j.val = j.val; omega

theorem idx5 : ∀ t : Fin cfg0.N, win0_5.index t (0 : Fin 2) = t.val ∧ win0_5.index t (1 : Fin 2) = 0 :=
  (by decide +kernel : ∀ t : Fin grid0.N, _)

/-- Point `t`'s block of input window 5, at an index. -/
theorem iblk5_at (t : Fin cfg0.N) (i : Fin 256) (j : Fin 1024) :
    iblk m c 5 t (ix2 i j) = (X3 m c) (ix2 ⟨(t.val) * 256 + i.val, by have := t_lt t; omega⟩ j) := by
  obtain ⟨h0, h1⟩ := idx5 t
  refine congrArg ((X3 m c)) (funext fun q => Fin.ext ?_)
  match q with
  | ⟨0, _⟩ => show win0_5.index t (0 : Fin 2) * 256 + 1 * i.val = (t.val) * 256 + i.val; omega
  | ⟨1, _⟩ => show win0_5.index t (1 : Fin 2) * 1024 + 1 * j.val = j.val; omega

theorem idx6 : ∀ t : Fin cfg0.N, win0_6.index t (0 : Fin 2) = t.val ∧ win0_6.index t (1 : Fin 2) = 0 :=
  (by decide +kernel : ∀ t : Fin grid0.N, _)

/-- Point `t`'s block of input window 6, at an index. -/
theorem iblk6_at (t : Fin cfg0.N) (i : Fin 256) (j : Fin 1024) :
    iblk m c 6 t (ix2 i j) = (X4 m c) (ix2 ⟨(t.val) * 256 + i.val, by have := t_lt t; omega⟩ j) := by
  obtain ⟨h0, h1⟩ := idx6 t
  refine congrArg ((X4 m c)) (funext fun q => Fin.ext ?_)
  match q with
  | ⟨0, _⟩ => show win0_6.index t (0 : Fin 2) * 256 + 1 * i.val = (t.val) * 256 + i.val; omega
  | ⟨1, _⟩ => show win0_6.index t (1 : Fin 2) * 1024 + 1 * j.val = j.val; omega

theorem idx7 : ∀ t : Fin cfg0.N, win0_7.index t (0 : Fin 2) = 0 ∧ win0_7.index t (1 : Fin 2) = 0 :=
  (by decide +kernel : ∀ t : Fin grid0.N, _)

/-- Point `t`'s block of input window 7, at an index. -/
theorem iblk7_at (t : Fin cfg0.N) (i : Fin 1024) (j : Fin 1024) :
    iblk m c 7 t (ix2 i j) = (V m c main_v0) (ix2 i j) := by
  obtain ⟨h0, h1⟩ := idx7 t
  refine congrArg ((V m c main_v0)) (funext fun q => Fin.ext ?_)
  match q with
  | ⟨0, _⟩ => show win0_7.index t (0 : Fin 2) * 1024 + 1 * i.val = i.val; omega
  | ⟨1, _⟩ => show win0_7.index t (1 : Fin 2) * 1024 + 1 * j.val = j.val; omega

theorem idx8 : ∀ t : Fin cfg0.N, win0_8.index t (0 : Fin 2) = 0 ∧ win0_8.index t (1 : Fin 2) = 0 :=
  (by decide +kernel : ∀ t : Fin grid0.N, _)

/-- Point `t`'s block of input window 8, at an index. -/
theorem iblk8_at (t : Fin cfg0.N) (i : Fin 1024) (j : Fin 1024) :
    iblk m c 8 t (ix2 i j) = (V m c main_v1) (ix2 i j) := by
  obtain ⟨h0, h1⟩ := idx8 t
  refine congrArg ((V m c main_v1)) (funext fun q => Fin.ext ?_)
  match q with
  | ⟨0, _⟩ => show win0_8.index t (0 : Fin 2) * 1024 + 1 * i.val = i.val; omega
  | ⟨1, _⟩ => show win0_8.index t (1 : Fin 2) * 1024 + 1 * j.val = j.val; omega

theorem idx9 : ∀ t : Fin cfg0.N, win0_9.index t (0 : Fin 2) = 0 ∧ win0_9.index t (1 : Fin 2) = 0 :=
  (by decide +kernel : ∀ t : Fin grid0.N, _)

/-- Point `t`'s block of input window 9, at an index. -/
theorem iblk9_at (t : Fin cfg0.N) (i : Fin 1024) (j : Fin 1024) :
    iblk m c 9 t (ix2 i j) = (V m c main_v2) (ix2 i j) := by
  obtain ⟨h0, h1⟩ := idx9 t
  refine congrArg ((V m c main_v2)) (funext fun q => Fin.ext ?_)
  match q with
  | ⟨0, _⟩ => show win0_9.index t (0 : Fin 2) * 1024 + 1 * i.val = i.val; omega
  | ⟨1, _⟩ => show win0_9.index t (1 : Fin 2) * 1024 + 1 * j.val = j.val; omega

theorem idx10 : ∀ t : Fin cfg0.N, win0_10.index t (0 : Fin 2) = 0 ∧ win0_10.index t (1 : Fin 2) = 0 :=
  (by decide +kernel : ∀ t : Fin grid0.N, _)

/-- Point `t`'s block of input window 10, at an index. -/
theorem iblk10_at (t : Fin cfg0.N) (i : Fin 1024) (j : Fin 1024) :
    iblk m c 10 t (ix2 i j) = (V m c main_v3) (ix2 i j) := by
  obtain ⟨h0, h1⟩ := idx10 t
  refine congrArg ((V m c main_v3)) (funext fun q => Fin.ext ?_)
  match q with
  | ⟨0, _⟩ => show win0_10.index t (0 : Fin 2) * 1024 + 1 * i.val = i.val; omega
  | ⟨1, _⟩ => show win0_10.index t (1 : Fin 2) * 1024 + 1 * j.val = j.val; omega

theorem wblk7_at (t : Fin cfg0.N) (i : Fin 1024) (j : Fin 1024) : iblk m c 7 t (ix2 i j) = (X5 m c) (ix2 i j) :=
  (iblk7_at m c t i j).trans (congrFun (Vw0 m c) _)

theorem wblk8_at (t : Fin cfg0.N) (i : Fin 1024) (j : Fin 1024) : iblk m c 8 t (ix2 i j) = (X6 m c) (ix2 i j) :=
  (iblk8_at m c t i j).trans (congrFun (Vw1 m c) _)

theorem wblk9_at (t : Fin cfg0.N) (i : Fin 1024) (j : Fin 1024) : iblk m c 9 t (ix2 i j) = (X7 m c) (ix2 i j) :=
  (iblk9_at m c t i j).trans (congrFun (Vw2 m c) _)

theorem wblk10_at (t : Fin cfg0.N) (i : Fin 1024) (j : Fin 1024) : iblk m c 10 t (ix2 i j) = (X8 m c) (ix2 i j) :=
  (iblk10_at m c t i j).trans (congrFun (Vw3 m c) _)

theorem idx11 : ∀ t : Fin cfg0.N, win0_11.index t (0 : Fin 2) = t.val ∧ win0_11.index t (1 : Fin 2) = 0 :=
  (by decide +kernel : ∀ t : Fin grid0.N, _)

/-- Where an index of point `t`'s block of result window 11 lies in the array. -/
theorem emb11 (t : Fin cfg0.N) (i : Fin 256) (j : Fin 1024) :
    ((cfg0.win 11).blk t).view.emb (ix2 i j) = ix2 ⟨(t.val) * 256 + i.val, by have := t_lt t; omega⟩ j := by
  obtain ⟨h0, h1⟩ := idx11 t
  funext q; apply Fin.ext
  match q with
  | ⟨0, _⟩ => show win0_11.index t (0 : Fin 2) * 256 + 1 * i.val = (t.val) * 256 + i.val; omega
  | ⟨1, _⟩ => show win0_11.index t (1 : Fin 2) * 1024 + 1 * j.val = j.val; omega

/-- Every index of the array of window 11 lies in some point's block. -/
theorem covered11 (y : S2048x1024.Idx) : ∃ t : Fin cfg0.N, (cfg0.win 11).flush t = true ∧ y ∈ ((cfg0.win 11).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_11 t, ?_⟩
  have h := ((cfg0.win 11).blk t).view.emb_mem_set (ix2 ⟨i.val % 256, by omega⟩ j)
  rw [emb11] at h
  refine (congrArg (· ∈ ((cfg0.win 11).blk t).view.set) ?_).mp h
  funext q; apply Fin.ext
  match q with
  | ⟨0, _⟩ => show (t.val) * 256 + i.val % 256 = i.val; omega
  | ⟨1, _⟩ => rfl

theorem idx12 : ∀ t : Fin cfg0.N, win0_12.index t (0 : Fin 2) = t.val ∧ win0_12.index t (1 : Fin 2) = 0 :=
  (by decide +kernel : ∀ t : Fin grid0.N, _)

/-- Where an index of point `t`'s block of result window 12 lies in the array. -/
theorem emb12 (t : Fin cfg0.N) (i : Fin 256) (j : Fin 1024) :
    ((cfg0.win 12).blk t).view.emb (ix2 i j) = ix2 ⟨(t.val) * 256 + i.val, by have := t_lt t; omega⟩ j := by
  obtain ⟨h0, h1⟩ := idx12 t
  funext q; apply Fin.ext
  match q with
  | ⟨0, _⟩ => show win0_12.index t (0 : Fin 2) * 256 + 1 * i.val = (t.val) * 256 + i.val; omega
  | ⟨1, _⟩ => show win0_12.index t (1 : Fin 2) * 1024 + 1 * j.val = j.val; omega

/-- Every index of the array of window 12 lies in some point's block. -/
theorem covered12 (y : S2048x1024.Idx) : ∃ t : Fin cfg0.N, (cfg0.win 12).flush t = true ∧ y ∈ ((cfg0.win 12).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_12 t, ?_⟩
  have h := ((cfg0.win 12).blk t).view.emb_mem_set (ix2 ⟨i.val % 256, by omega⟩ j)
  rw [emb12] at h
  refine (congrArg (· ∈ ((cfg0.win 12).blk t).view.set) ?_).mp h
  funext q; apply Fin.ext
  match q with
  | ⟨0, _⟩ => show (t.val) * 256 + i.val % 256 = i.val; omega
  | ⟨1, _⟩ => rfl

theorem idx13 : ∀ t : Fin cfg0.N, win0_13.index t (0 : Fin 2) = t.val ∧ win0_13.index t (1 : Fin 2) = 0 :=
  (by decide +kernel : ∀ t : Fin grid0.N, _)

/-- Where an index of point `t`'s block of result window 13 lies in the array. -/
theorem emb13 (t : Fin cfg0.N) (i : Fin 256) (j : Fin 1024) :
    ((cfg0.win 13).blk t).view.emb (ix2 i j) = ix2 ⟨(t.val) * 256 + i.val, by have := t_lt t; omega⟩ j := by
  obtain ⟨h0, h1⟩ := idx13 t
  funext q; apply Fin.ext
  match q with
  | ⟨0, _⟩ => show win0_13.index t (0 : Fin 2) * 256 + 1 * i.val = (t.val) * 256 + i.val; omega
  | ⟨1, _⟩ => show win0_13.index t (1 : Fin 2) * 1024 + 1 * j.val = j.val; omega

/-- Every index of the array of window 13 lies in some point's block. -/
theorem covered13 (y : S2048x1024.Idx) : ∃ t : Fin cfg0.N, (cfg0.win 13).flush t = true ∧ y ∈ ((cfg0.win 13).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_13 t, ?_⟩
  have h := ((cfg0.win 13).blk t).view.emb_mem_set (ix2 ⟨i.val % 256, by omega⟩ j)
  rw [emb13] at h
  refine (congrArg (· ∈ ((cfg0.win 13).blk t).view.set) ?_).mp h
  funext q; apply Fin.ext
  match q with
  | ⟨0, _⟩ => show (t.val) * 256 + i.val % 256 = i.val; omega
  | ⟨1, _⟩ => rfl

theorem idx14 : ∀ t : Fin cfg0.N, win0_14.index t (0 : Fin 2) = t.val ∧ win0_14.index t (1 : Fin 2) = 0 :=
  (by decide +kernel : ∀ t : Fin grid0.N, _)

/-- Where an index of point `t`'s block of result window 14 lies in the array. -/
theorem emb14 (t : Fin cfg0.N) (i : Fin 256) (j : Fin 1024) :
    ((cfg0.win 14).blk t).view.emb (ix2 i j) = ix2 ⟨(t.val) * 256 + i.val, by have := t_lt t; omega⟩ j := by
  obtain ⟨h0, h1⟩ := idx14 t
  funext q; apply Fin.ext
  match q with
  | ⟨0, _⟩ => show win0_14.index t (0 : Fin 2) * 256 + 1 * i.val = (t.val) * 256 + i.val; omega
  | ⟨1, _⟩ => show win0_14.index t (1 : Fin 2) * 1024 + 1 * j.val = j.val; omega

/-- Every index of the array of window 14 lies in some point's block. -/
theorem covered14 (y : S2048x1024.Idx) : ∃ t : Fin cfg0.N, (cfg0.win 14).flush t = true ∧ y ∈ ((cfg0.win 14).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_14 t, ?_⟩
  have h := ((cfg0.win 14).blk t).view.emb_mem_set (ix2 ⟨i.val % 256, by omega⟩ j)
  rw [emb14] at h
  refine (congrArg (· ∈ ((cfg0.win 14).blk t).view.set) ?_).mp h
  funext q; apply Fin.ext
  match q with
  | ⟨0, _⟩ => show (t.val) * 256 + i.val % 256 = i.val; omega
  | ⟨1, _⟩ => rfl

theorem idx15 : ∀ t : Fin cfg0.N, win0_15.index t (0 : Fin 2) = t.val ∧ win0_15.index t (1 : Fin 2) = 0 :=
  (by decide +kernel : ∀ t : Fin grid0.N, _)

/-- Where an index of point `t`'s block of result window 15 lies in the array. -/
theorem emb15 (t : Fin cfg0.N) (i : Fin 256) (j : Fin 1024) :
    ((cfg0.win 15).blk t).view.emb (ix2 i j) = ix2 ⟨(t.val) * 256 + i.val, by have := t_lt t; omega⟩ j := by
  obtain ⟨h0, h1⟩ := idx15 t
  funext q; apply Fin.ext
  match q with
  | ⟨0, _⟩ => show win0_15.index t (0 : Fin 2) * 256 + 1 * i.val = (t.val) * 256 + i.val; omega
  | ⟨1, _⟩ => show win0_15.index t (1 : Fin 2) * 1024 + 1 * j.val = j.val; omega

/-- Every index of the array of window 15 lies in some point's block. -/
theorem covered15 (y : S2048x1024.Idx) : ∃ t : Fin cfg0.N, (cfg0.win 15).flush t = true ∧ y ∈ ((cfg0.win 15).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_15 t, ?_⟩
  have h := ((cfg0.win 15).blk t).view.emb_mem_set (ix2 ⟨i.val % 256, by omega⟩ j)
  rw [emb15] at h
  refine (congrArg (· ∈ ((cfg0.win 15).blk t).view.set) ?_).mp h
  funext q; apply Fin.ext
  match q with
  | ⟨0, _⟩ => show (t.val) * 256 + i.val % 256 = i.val; omega
  | ⟨1, _⟩ => rfl

/-- What point `t` writes back to window 11 is its block of the reference's result. -/
theorem flushed11_eq (t : Fin cfg0.N) : (dats m 0 c).flushed 11 t
    = ((cfg0.win 11).blk t).view.read (Elt Ideal) (val_main_v22 (F := Ideal) (X0 m c) (X1 m c) (X2 m c) (X3 m c) (X4 m c) (X5 m c) (X6 m c) (X7 m c) (X8 m c)) := by
  rw [flushed11]
  funext y
  obtain ⟨i, j, rfl⟩ : ∃ (i : Fin 256) (j : Fin 1024), y = ix2 i j := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v22 (F := Ideal) (X0 m c) (X1 m c) (X2 m c) (X3 m c) (X4 m c) (X5 m c) (X6 m c) (X7 m c) (X8 m c) (((cfg0.win 11).blk t).view.emb (ix2 i j))
  rw [emb11]
  rw [out11_at, ref11_at]
  simp only [ref15_at, iblk0_at, iblk1_at, iblk2_at, iblk3_at, iblk4_at, iblk5_at, iblk6_at, wblk7_at, wblk8_at, wblk9_at, wblk10_at]

theorem final11 : (dats m 0 c).arrAt 11 cfg0.N = val_main_v22 (F := Ideal) (X0 m c) (X1 m c) (X2 m c) (X3 m c) (X4 m c) (X5 m c) (X6 m c) (X7 m c) (X8 m c) :=
  (dats m 0 c).arrAt_eq_of_cover 11 _ (fun t _ => flushed11_eq m c t) covered11

/-- What point `t` writes back to window 12 is its block of the reference's result. -/
theorem flushed12_eq (t : Fin cfg0.N) : (dats m 0 c).flushed 12 t
    = ((cfg0.win 12).blk t).view.read (Elt Ideal) (val_main_v23 (F := Ideal) (X2 m c) (X5 m c)) := by
  rw [flushed12]
  funext y
  obtain ⟨i, j, rfl⟩ : ∃ (i : Fin 256) (j : Fin 1024), y = ix2 i j := ⟨y 0, y 1, eq_ix2 y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v23 (F := Ideal) (X2 m c) (X5 m c) (((cfg0.win 12).blk t).view.emb (ix2 i j))
  rw [emb12]
  rw [out12_at, ref12_at]
  simp only [iblk0_at, iblk1_at, iblk2_at, iblk3_at, iblk4_at, iblk5_at, iblk6_at, wblk7_at, wblk8_at, wblk9_at, wblk10_at]

theorem final12 : (dats m 0 c).arrAt 12 cfg0.N = val_main_v23 (F := Ideal) (X2 m c) (X5 m c) :=
  (dats m 0 c).arrAt_eq_of_cover 12 _ (fun t _ => flushed12_eq m c t) covered12

/-- What point `t` writes back to window 13 is its block of the reference's result. -/
theorem flushed13_eq (t : Fin cfg0.N) : (dats m 0 c).flushed 13 t
    = ((cfg0.win 13).blk t).view.read (Elt Ideal) (val_main_v24 (F := Ideal) (X3 m c) (X6 m c)) := by
  rw [flushed13]
  funext y
  obtain ⟨i, j, rfl⟩ : ∃ (i : Fin 256) (j : Fin 1024), y = ix2 i j := ⟨y 0, y 1, eq_ix2 y⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v24 (F := Ideal) (X3 m c) (X6 m c) (((cfg0.win 13).blk t).view.emb (ix2 i j))
  rw [emb13]
  rw [out13_at, ref13_at]
  simp only [iblk0_at, iblk1_at, iblk2_at, iblk3_at, iblk4_at, iblk5_at, iblk6_at, wblk7_at, wblk8_at, wblk9_at, wblk10_at]

theorem final13 : (dats m 0 c).arrAt 13 cfg0.N = val_main_v24 (F := Ideal) (X3 m c) (X6 m c) :=
  (dats m 0 c).arrAt_eq_of_cover 13 _ (fun t _ => flushed13_eq m c t) covered13

/-- What point `t` writes back to window 14 is its block of the reference's result. -/
theorem flushed14_eq (t : Fin cfg0.N) : (dats m 0 c).flushed 14 t
    = ((cfg0.win 14).blk t).view.read (Elt Ideal) (val_main_v25 (F := Ideal) (X4 m c) (X7 m c)) := by
  rw [flushed14]
  funext y
  obtain ⟨i, j, rfl⟩ : ∃ (i : Fin 256) (j : Fin 1024), y = ix2 i j := ⟨y 0, y 1, eq_ix2 y⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v25 (F := Ideal) (X4 m c) (X7 m c) (((cfg0.win 14).blk t).view.emb (ix2 i j))
  rw [emb14]
  rw [out14_at, ref14_at]
  simp only [iblk0_at, iblk1_at, iblk2_at, iblk3_at, iblk4_at, iblk5_at, iblk6_at, wblk7_at, wblk8_at, wblk9_at, wblk10_at]

theorem final14 : (dats m 0 c).arrAt 14 cfg0.N = val_main_v25 (F := Ideal) (X4 m c) (X7 m c) :=
  (dats m 0 c).arrAt_eq_of_cover 14 _ (fun t _ => flushed14_eq m c t) covered14

/-- What point `t` writes back to window 15 is its block of the reference's result. -/
theorem flushed15_eq (t : Fin cfg0.N) : (dats m 0 c).flushed 15 t
    = ((cfg0.win 15).blk t).view.read (Elt Ideal) (val_main_v26 (F := Ideal) (X1 m c) (X2 m c) (X3 m c) (X4 m c) (X5 m c) (X6 m c) (X7 m c)) := by
  rw [flushed15]
  funext y
  obtain ⟨i, j, rfl⟩ : ∃ (i : Fin 256) (j : Fin 1024), y = ix2 i j := ⟨y 0, y 1, eq_ix2 y⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v26 (F := Ideal) (X1 m c) (X2 m c) (X3 m c) (X4 m c) (X5 m c) (X6 m c) (X7 m c) (((cfg0.win 15).blk t).view.emb (ix2 i j))
  rw [emb15]
  rw [out15_at, ref15_at]
  simp only [iblk0_at, iblk1_at, iblk2_at, iblk3_at, iblk4_at, iblk5_at, iblk6_at, wblk7_at, wblk8_at, wblk9_at, wblk10_at]

theorem final15 : (dats m 0 c).arrAt 15 cfg0.N = val_main_v26 (F := Ideal) (X1 m c) (X2 m c) (X3 m c) (X4 m c) (X5 m c) (X6 m c) (X7 m c) :=
  (dats m 0 c).arrAt_eq_of_cover 15 _ (fun t _ => flushed15_eq m c t) covered15

/-- The kernel and the reference end with equal results. -/
theorem algebraic : Cert.algebraic_Kernel12Ideal_Reference12Ideal
    (hKernel12Ideal := Cert.Kernel12Ideal.Gen.facts) (hReference12Ideal := Cert.Reference12Ideal.Gen.facts) := by
  intro m g m' g' _ hagree
  refine ⟨fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, run_blocks m g, ?_⟩
  refine (θ_run _ _ _).mono (fun r h c => ?_) (Cert.Reference12Ideal.Value.run m' g')
  obtain ⟨h0, h1, h2, h3, h4, k0, k1, k2, k3, k4, k5, k6, k7, k8⟩ := h c
  obtain ⟨a0, a1, a2, a3, a4, a5, a6, a7, a8⟩ := hagree c
  refine ⟨?_, ?_, ?_, ?_, ?_, k0, k1, k2, k3, k4, k5, k6, k7, k8⟩
  · exact (h0.trans (val_main_v22_eq _ _ _ _ _ _ _ _ _)).trans (by rw [a0, a1, a2, a3, a4, a5, a6, a7, a8]; exact (final11 m c).symm)
  · exact (h1.trans (val_main_v23_eq _ _)).trans (by rw [a2, a5]; exact (final12 m c).symm)
  · exact (h2.trans (val_main_v24_eq _ _)).trans (by rw [a3, a6]; exact (final13 m c).symm)
  · exact (h3.trans (val_main_v25_eq _ _)).trans (by rw [a4, a7]; exact (final14 m c).symm)
  · exact (h4.trans (val_main_v26_eq _ _ _ _ _ _ _)).trans (by rw [a1, a2, a3, a4, a5, a6, a7]; exact (final15 m c).symm)

end Cert.Proof.MergeFwd
-- ==== Proof.MergeBwd.lean ====
/- Hand-written, untrusted: the gated merge's gradient at the reals. Each block of rows is the reference's, index by index: the gradient
   of a gate's argument is the kernel's third of its wide block, and the reference's sum of three padded arrays. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import proofs.«01_k».proof.Proof.MergeFwd

@[expose] public section

noncomputable section

namespace Cert.Proof.MergeBwd

open Cert.Kernel3Ideal Cert.Kernel3Ideal.Gen Cert.Kernel3Ideal.Value Idealize.ShloMosaic Idealize.ShloMosaic.TcCoe Idealize.SL.Sem
open Reference3Ideal.Read

theorem hz : (![0, 0] : Fin 2 → Nat) = fun _ => 0 := funext fun a => by fin_cases a <;> rfl
theorem hz3 : (![0, 0, 0] : Fin 3 → Nat) = fun _ => 0 := funext fun a => by fin_cases a <;> rfl

open MergeFwd (sg)

/-- The gradient that reaches a gate's argument: the merged gradient `d`, the branch's output `y`, the argument `g`. -/
def dgate (d y g : EReal) : EReal := d * y * (sg g * (1 - sg g))

/-- Three rows side by side. -/
def beside (f0 f1 f2 : Fin 1024 → EReal) (j : Fin 3072) : EReal :=
  if h0 : j.val < 1024 then f0 ⟨j.val, h0⟩ else if h1 : j.val < 2048 then f1 ⟨j.val - 1024, by omega⟩ else f2 ⟨j.val - 2048, by omega⟩

section Beside
variable (f0 f1 f2 : Fin 1024 → EReal) (q : Fin 1024)
theorem beside0 (h : 0 * 1024 + q.val < 3072) : beside f0 f1 f2 ⟨0 * 1024 + q.val, h⟩ = f0 q := by
  unfold beside
  rw [dif_pos (by show 0 * 1024 + q.val < 1024; omega)]
  exact congrArg f0 (Fin.ext (by show 0 * 1024 + q.val = q.val; omega))
theorem beside1 (h : 1 * 1024 + q.val < 3072) : beside f0 f1 f2 ⟨1 * 1024 + q.val, h⟩ = f1 q := by
  unfold beside
  rw [dif_neg (by show ¬ 1 * 1024 + q.val < 1024; omega), dif_pos (by show 1 * 1024 + q.val < 2048; omega)]
  exact congrArg f1 (Fin.ext (by show 1 * 1024 + q.val - 1024 = q.val; omega))
theorem beside2 (h : 2 * 1024 + q.val < 3072) : beside f0 f1 f2 ⟨2 * 1024 + q.val, h⟩ = f2 q := by
  unfold beside
  rw [dif_neg (by show ¬ 2 * 1024 + q.val < 1024; omega), dif_neg (by show ¬ 2 * 1024 + q.val < 2048; omega)]
  exact congrArg f2 (Fin.ext (by show 2 * 1024 + q.val - 2048 = q.val; omega))
end Beside

theorem ldT (x : Vec Ideal S256x1024 .bf16) : View.ld x r0_0 = x := View.ld_unit_zero hz ..
theorem ldF (x : Vec Ideal S256x1024 .f32) : View.ld x r0_0 = x := View.ld_unit_zero hz ..
theorem ldW (x : Vec Ideal S1024x1024 .bf16) : View.ld x r0_1 = x := View.ld_unit_zero hz ..

section Pay
variable (x0 : Vec Ideal S256x1024 .f32) (x1 x2 x3 x4 x5 x6 : Vec Ideal S256x1024 .bf16) (x7 x8 x9 x10 : Vec Ideal S1024x1024 .bf16) (i : Fin 256) (j : Fin 1024)

/-- The gradient at the merged row, one row of a block. -/
abbrev dmb (j : Fin 1024) : EReal := ∑ k : Fin 1024, x0 (ix2 i k) * x10 (ix2 j k)

/-- The wide block that the three stores of a grid point leave. -/
def wideRow (i : Fin 256) (j : Fin 3072) : EReal := beside (fun j => dgate (dmb x0 x10 i j) (x4 (ix2 i j)) (x1 (ix2 i j)))
  (fun j => dgate (dmb x0 x10 i j) (x5 (ix2 i j)) (x2 (ix2 i j))) (fun j => dgate (dmb x0 x10 i j) (x6 (ix2 i j)) (x3 (ix2 i j))) j

def wide : Vec Ideal S256x3072 .bf16 := fun y => wideRow x0 x1 x2 x3 x4 x5 x6 x10 (y 0) (y 1)

theorem wide_at (j : Fin 3072) : wide x0 x1 x2 x3 x4 x5 x6 x10 (ix2 i j) = wideRow x0 x1 x2 x3 x4 x5 x6 x10 i j := rfl

theorem out11_at (j : Fin 3072) : out0_11 x0 x1 x2 x3 x4 x5 x6 x7 x8 x9 x10 (ix2 i j) = wideRow x0 x1 x2 x3 x4 x5 x6 x10 i j := by
  unfold_out out0_11
  simp only [ldT, ldW, ldF]
  refine View.canon_apply_of_pieces (Val := Elt Ideal) (wide x0 x1 x2 x3 x4 x5 x6 x10) _ ?_ (ix2 i j) (cover0_11 _ _ _ _)
  intro pc hpc
  rcases List.mem_cons.mp hpc with rfl | hpc
  · intro y
    obtain ⟨p, q, rfl⟩ : ∃ p q, y = ix2 p q := ⟨y 0, y 1, eq_ix2 y⟩
    have e : r0_4.idx (ix2 p q) = ix2 p ⟨2 * 1024 + q.val, by have := q.2; show 2 * 1024 + q.val < 3072; have h : q.val < 1024 := q.2; omega⟩ := funext fun a => Fin.ext (by
      match a with | ⟨0, _⟩ => show 0 + 1 * p.val = p.val; omega | ⟨1, _⟩ => show 2048 + 1 * q.val = 2 * 1024 + q.val; omega)
    show k0_pay2 (F := Ideal) _ _ _ (ix2 p q) = wide x0 x1 x2 x3 x4 x5 x6 x10 (r0_4.idx (ix2 p q))
    rw [e, wide_at]
    unfold wideRow
    rw [beside2]
    unfold dmb dgate sg
    unfold_payloads
    pointwise
    simp only [zero_sub]
    exact mul_assoc _ _ _
  rcases List.mem_cons.mp hpc with rfl | hpc
  · intro y
    obtain ⟨p, q, rfl⟩ : ∃ p q, y = ix2 p q := ⟨y 0, y 1, eq_ix2 y⟩
    have e : r0_3.idx (ix2 p q) = ix2 p ⟨1 * 1024 + q.val, by have := q.2; show 1 * 1024 + q.val < 3072; have h : q.val < 1024 := q.2; omega⟩ := funext fun a => Fin.ext (by
      match a with | ⟨0, _⟩ => show 0 + 1 * p.val = p.val; omega | ⟨1, _⟩ => show 1024 + 1 * q.val = 1 * 1024 + q.val; omega)
    show k0_pay11 (F := Ideal) _ _ _ (ix2 p q) = wide x0 x1 x2 x3 x4 x5 x6 x10 (r0_3.idx (ix2 p q))
    rw [e, wide_at]
    unfold wideRow
    rw [beside1]
    unfold dmb dgate sg
    unfold_payloads
    pointwise
    simp only [zero_sub]
    exact mul_assoc _ _ _
  obtain rfl := List.mem_singleton.mp hpc
  · intro y
    obtain ⟨p, q, rfl⟩ : ∃ p q, y = ix2 p q := ⟨y 0, y 1, eq_ix2 y⟩
    have e : r0_2.idx (ix2 p q) = ix2 p ⟨0 * 1024 + q.val, by have := q.2; show 0 * 1024 + q.val < 3072; have h : q.val < 1024 := q.2; omega⟩ := funext fun a => Fin.ext (by
      match a with | ⟨0, _⟩ => show 0 + 1 * p.val = p.val; omega | ⟨1, _⟩ => show 0 + 1 * q.val = 0 * 1024 + q.val; omega)
    show k0_pay7 (F := Ideal) _ _ _ _ (ix2 p q) = wide x0 x1 x2 x3 x4 x5 x6 x10 (r0_2.idx (ix2 p q))
    rw [e, wide_at]
    unfold wideRow
    rw [beside0]
    unfold dmb dgate sg
    unfold_payloads
    pointwise
    simp only [zero_sub]
    exact mul_assoc _ _ _

theorem out12_at : out0_12 x0 x1 x2 x3 x4 x5 x6 x7 x8 x9 x10 (ix2 i j) = dmb x0 x10 i j * sg (x1 (ix2 i j)) := by
  unfold_out out0_12
  rw [View.canon_unit_zero hz]
  simp only [ldT, ldW, ldF, sg]
  unfold_payloads
  pointwise
  simp only [zero_sub]

theorem out15_at : out0_15 x0 x1 x2 x3 x4 x5 x6 x7 x8 x9 x10 (ix2 i j) = ∑ k : Fin 1024, dmb x0 x10 i k * sg (x1 (ix2 i k)) * x7 (ix2 j k) := by
  unfold_out out0_15
  rw [View.canon_unit_zero hz]
  simp only [ldT, ldW, ldF, sg]
  unfold_payloads
  pointwise
  simp only [zero_sub]

theorem out13_at : out0_13 x0 x1 x2 x3 x4 x5 x6 x7 x8 x9 x10 (ix2 i j) = dmb x0 x10 i j * sg (x2 (ix2 i j)) := by
  unfold_out out0_13
  rw [View.canon_unit_zero hz]
  simp only [ldT, ldW, ldF, sg]
  unfold_payloads
  pointwise
  simp only [zero_sub]

theorem out16_at : out0_16 x0 x1 x2 x3 x4 x5 x6 x7 x8 x9 x10 (ix2 i j) = ∑ k : Fin 1024, dmb x0 x10 i k * sg (x2 (ix2 i k)) * x8 (ix2 j k) := by
  unfold_out out0_16
  rw [View.canon_unit_zero hz]
  simp only [ldT, ldW, ldF, sg]
  unfold_payloads
  pointwise
  simp only [zero_sub]

theorem out14_at : out0_14 x0 x1 x2 x3 x4 x5 x6 x7 x8 x9 x10 (ix2 i j) = dmb x0 x10 i j * sg (x3 (ix2 i j)) := by
  unfold_out out0_14
  rw [View.canon_unit_zero hz]
  simp only [ldT, ldW, ldF, sg]
  unfold_payloads
  pointwise
  simp only [zero_sub]

theorem out17_at : out0_17 x0 x1 x2 x3 x4 x5 x6 x7 x8 x9 x10 (ix2 i j) = ∑ k : Fin 1024, dmb x0 x10 i k * sg (x3 (ix2 i k)) * x9 (ix2 j k) := by
  unfold_out out0_17
  rw [View.canon_unit_zero hz]
  simp only [ldT, ldW, ldF, sg]
  unfold_payloads
  pointwise
  simp only [zero_sub]
end Pay

section Ref
variable (a0 : Vec Ideal S2048x1024 .f32) (a1 : Vec Ideal S2048x10240 .bf16) (a2 : Vec Ideal S2048x1024 .bf16) (a3 : Vec Ideal S2048x1024 .f32) (a4 : Vec Ideal S2048x1024 .bf16) (a5 a6 a7 a8 : Vec Ideal S1024x1024 .f32) (i : Fin 2048) (j : Fin 1024)

/-- The gradient at the reference's merged row. -/
abbrev dmr (j : Fin 1024) : EReal := ∑ k : Fin 1024, a0 (ix2 i k) * a8 (ix2 j k)

theorem y34_at : val_main_v34 (F := Ideal) a0 a2 a5 a8 (ix2 i j) = dmr a0 a8 i j * ∑ k : Fin 1024, a2 (ix2 i k) * a5 (ix2 k j) := by
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]

theorem y30_at : val_main_v30 (F := Ideal) a0 a3 a6 a8 (ix2 i j) = dmr a0 a8 i j * ∑ k : Fin 1024, a3 (ix2 i k) * a6 (ix2 k j) := by
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]

theorem y27_at : val_main_v27 (F := Ideal) a0 a4 a7 a8 (ix2 i j) = dmr a0 a8 i j * ∑ k : Fin 1024, a4 (ix2 i k) * a7 (ix2 k j) := by
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]

theorem v15_at (j : Fin 3072) : val_main_v15 (F := Ideal) a1 (ix2 i j) = sg (a1 (ix2 i ⟨7168 + j.val, by omega⟩)) * (1 - sg (a1 (ix2 i ⟨7168 + j.val, by omega⟩))) := by
  unfold sg
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]

/-- The reference's gradient of the gates' arguments at one index. -/
theorem ref11_at (j : Fin 3072) : val_main_v41 (F := Ideal) a0 a1 a2 a3 a4 a5 a6 a7 a8 (ix2 i j)
    = beside (fun j => dgate (dmr a0 a8 i j) (∑ k : Fin 1024, a2 (ix2 i k) * a5 (ix2 k j)) (a1 (ix2 i ⟨7 * 1024 + j.val, by omega⟩)))
        (fun j => dgate (dmr a0 a8 i j) (∑ k : Fin 1024, a3 (ix2 i k) * a6 (ix2 k j)) (a1 (ix2 i ⟨8 * 1024 + j.val, by omega⟩)))
        (fun j => dgate (dmr a0 a8 i j) (∑ k : Fin 1024, a4 (ix2 i k) * a7 (ix2 k j)) (a1 (ix2 i ⟨9 * 1024 + j.val, by omega⟩))) j := by
  pointwise [val_main_v41, val_main_v37, val_main_v36, val_main_v35, val_main_v32, val_main_v31, val_main_v28, val_main_cst_2, val_main_cst_3, val_main_cst_4]
  rw [v15_at]
  unfold beside
  have hj := j.2
  by_cases h0 : j.val < 1024
  · rw [dif_neg (fun h => by have := h.1; omega), dif_neg (fun h => by have := h.1; omega), dif_pos h0, dif_pos h0, zero_add, zero_add, y34_at]
    rfl
  by_cases h1 : j.val < 2048
  · rw [dif_neg (fun h => by have := h.1; omega), dif_pos (by constructor <;> omega), dif_neg h0, dif_neg h0, dif_pos h1, zero_add, add_zero, y30_at]
    have e : (⟨7168 + j.val, by omega⟩ : Fin 10240) = ⟨8 * 1024 + (j.val - 1024), by omega⟩ := Fin.ext (by show 7168 + j.val = 8 * 1024 + (j.val - 1024); omega)
    rw [e]
    rfl
  · rw [dif_pos (by constructor <;> omega), dif_neg (fun h => by have := h.2; omega), dif_neg h0, dif_neg h0, dif_neg h1, add_zero, add_zero, y27_at]
    have e : (⟨7168 + j.val, by omega⟩ : Fin 10240) = ⟨9 * 1024 + (j.val - 2048), by omega⟩ := Fin.ext (by show 7168 + j.val = 9 * 1024 + (j.val - 2048); omega)
    rw [e]
    rfl

theorem ref12_at : val_main_v42 (F := Ideal) a0 a1 a8 (ix2 i j) = dmr a0 a8 i j * sg (a1 (ix2 i ⟨7 * 1024 + j.val, by omega⟩)) := by
  unfold sg
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]
  have e1 : (⟨7168 + j.val, by omega⟩ : Fin 10240) = ⟨7 * 1024 + j.val, by omega⟩ := Fin.ext (by show 7168 + j.val = 7 * 1024 + j.val; omega)
  rw [e1]
  exact mul_comm _ _

theorem ref15_at : val_main_v45 (F := Ideal) a0 a1 a5 a8 (ix2 i j)
    = ∑ k : Fin 1024, dmr a0 a8 i k * sg (a1 (ix2 i ⟨7 * 1024 + k.val, by omega⟩)) * a5 (ix2 j k) := by
  rw [show (∑ k : Fin 1024, dmr a0 a8 i k * sg (a1 (ix2 i ⟨7 * 1024 + k.val, by omega⟩)) * a5 (ix2 j k))
    = ∑ k : Fin 1024, val_main_v42 (F := Ideal) a0 a1 a8 (ix2 i k) * a5 (ix2 j k) from Finset.sum_congr rfl fun k _ => by rw [ref12_at]]
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]

theorem ref13_at : val_main_v43 (F := Ideal) a0 a1 a8 (ix2 i j) = dmr a0 a8 i j * sg (a1 (ix2 i ⟨8 * 1024 + j.val, by omega⟩)) := by
  unfold sg
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]
  have e1 : (⟨7168 + (1024 + j.val), by omega⟩ : Fin 10240) = ⟨8 * 1024 + j.val, by omega⟩ := Fin.ext (by show 7168 + (1024 + j.val) = 8 * 1024 + j.val; omega)
  rw [e1]
  exact mul_comm _ _

theorem ref16_at : val_main_v46 (F := Ideal) a0 a1 a6 a8 (ix2 i j)
    = ∑ k : Fin 1024, dmr a0 a8 i k * sg (a1 (ix2 i ⟨8 * 1024 + k.val, by omega⟩)) * a6 (ix2 j k) := by
  rw [show (∑ k : Fin 1024, dmr a0 a8 i k * sg (a1 (ix2 i ⟨8 * 1024 + k.val, by omega⟩)) * a6 (ix2 j k))
    = ∑ k : Fin 1024, val_main_v43 (F := Ideal) a0 a1 a8 (ix2 i k) * a6 (ix2 j k) from Finset.sum_congr rfl fun k _ => by rw [ref13_at]]
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]

theorem ref14_at : val_main_v44 (F := Ideal) a0 a1 a8 (ix2 i j) = dmr a0 a8 i j * sg (a1 (ix2 i ⟨9 * 1024 + j.val, by omega⟩)) := by
  unfold sg
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]
  have e1 : (⟨7168 + (2048 + j.val), by omega⟩ : Fin 10240) = ⟨9 * 1024 + j.val, by omega⟩ := Fin.ext (by show 7168 + (2048 + j.val) = 9 * 1024 + j.val; omega)
  rw [e1]
  exact mul_comm _ _

theorem ref17_at : val_main_v47 (F := Ideal) a0 a1 a7 a8 (ix2 i j)
    = ∑ k : Fin 1024, dmr a0 a8 i k * sg (a1 (ix2 i ⟨9 * 1024 + k.val, by omega⟩)) * a7 (ix2 j k) := by
  rw [show (∑ k : Fin 1024, dmr a0 a8 i k * sg (a1 (ix2 i ⟨9 * 1024 + k.val, by omega⟩)) * a7 (ix2 j k))
    = ∑ k : Fin 1024, val_main_v44 (F := Ideal) a0 a1 a8 (ix2 i k) * a7 (ix2 j k) from Finset.sum_congr rfl fun k _ => by rw [ref14_at]]
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_v30, val_main_cst_3, val_main_v31, val_main_v32, val_main_v33, val_main_v34, val_main_cst_4, val_main_v35, val_main_v36, val_main_v37, val_main_v38, val_main_v39, val_main_v40, val_main_v41, val_main_v42, val_main_v43, val_main_v44, val_main_v45, val_main_v46, val_main_v47]

end Ref

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)

/-- The weight that window 7 stages is the host's cast of the argument: over the extended reals, the argument. -/
theorem Vw0 : V m c main_v0 = X5 m c := by
  unfold_abbrev_sides
  after_results
  rfl

/-- The weight that window 8 stages is the host's cast of the argument: over the extended reals, the argument. -/
theorem Vw1 : V m c main_v1 = X6 m c := by
  unfold_abbrev_sides
  after_results
  rfl

/-- The weight that window 9 stages is the host's cast of the argument: over the extended reals, the argument. -/
theorem Vw2 : V m c main_v2 = X7 m c := by
  unfold_abbrev_sides
  after_results
  rfl

/-- The weight that window 10 stages is the host's cast of the argument: over the extended reals, the argument. -/
theorem Vw3 : V m c main_v3 = X8 m c := by
  unfold_abbrev_sides
  after_results
  rfl

/-- A product of two arrays at one index. -/
def mm (a : S2048x1024.Idx → EReal) (b : S1024x1024.Idx → EReal) (i : Fin 2048) (j : Fin 1024) : EReal := ∑ k : Fin 1024, a (ix2 i k) * b (ix2 k j)

/-- A product of the host, with its casts, at one index. -/
theorem host_dot (a : FVec Ideal S2048x1024 .bf16) (b : FVec Ideal S1024x1024 .bf16) (i : Fin 2048) (j : Fin 1024) :
    (truncf .bf16 (Host.dotGeneral dot_S2048x1024_S1024x1024_S2048x1024_1_0_0_1_n_n none a b) bitsLt_bf16_f32) (ix2 i j)
      = mm a b i j := by
  unfold mm
  pointwise

/-- The branch's output that window 4 stages: the host's product. -/
theorem Vy5 (i : Fin 2048) (j : Fin 1024) : V m c main_v5 (ix2 i j) = mm (X2 m c) (X5 m c) i j := by
  have h : V m c main_v5 = truncf (F := Ideal) .bf16 (Host.dotGeneral (φ₁ := .bf16) dot_S2048x1024_S1024x1024_S2048x1024_1_0_0_1_n_n none
      (X2 m c) (truncf .bf16 (X5 m c) bitsLt_bf16_f32)) bitsLt_bf16_f32 := by
    unfold_abbrev_sides
    after_results
  rw [h, host_dot]
  rfl

/-- The branch's output that window 5 stages: the host's product. -/
theorem Vy8 (i : Fin 2048) (j : Fin 1024) : V m c main_v8 (ix2 i j) = mm (X3 m c) (X6 m c) i j := by
  have h : V m c main_v8 = truncf (F := Ideal) .bf16 (Host.dotGeneral (φ₁ := .bf16) dot_S2048x1024_S1024x1024_S2048x1024_1_0_0_1_n_n none
      (truncf (F := Ideal) .bf16 (X3 m c) bitsLt_bf16_f32) (truncf .bf16 (X6 m c) bitsLt_bf16_f32)) bitsLt_bf16_f32 := by
    unfold_abbrev_sides
    after_results
  rw [h, host_dot]
  rfl

/-- The branch's output that window 6 stages: the host's product. -/
theorem Vy10 (i : Fin 2048) (j : Fin 1024) : V m c main_v10 (ix2 i j) = mm (X4 m c) (X7 m c) i j := by
  have h : V m c main_v10 = truncf (F := Ideal) .bf16 (Host.dotGeneral (φ₁ := .bf16) dot_S2048x1024_S1024x1024_S2048x1024_1_0_0_1_n_n none
      (X4 m c) (truncf .bf16 (X7 m c) bitsLt_bf16_f32)) bitsLt_bf16_f32 := by
    unfold_abbrev_sides
    after_results
  rw [h, host_dot]
  rfl

theorem t_lt (t : Fin cfg0.N) : t.val < 8 := t.2

theorem idx0 : ∀ t : Fin cfg0.N, win0_0.index t (0 : Fin 2) = t.val ∧ win0_0.index t (1 : Fin 2) = 0 :=
  (by decide +kernel : ∀ t : Fin grid0.N, _)

/-- Point `t`'s block of input window 0, at an index. -/
theorem iblk0_at (t : Fin cfg0.N) (i : Fin 256) (j : Fin 1024) :
    iblk m c 0 t (ix2 i j) = (X0 m c) (ix2 ⟨(t.val) * 256 + i.val, by have := t_lt t; omega⟩ j) := by
  obtain ⟨h0, h1⟩ := idx0 t
  refine congrArg ((X0 m c)) (funext fun q => Fin.ext ?_)
  match q with
  | ⟨0, _⟩ => show win0_0.index t (0 : Fin 2) * 256 + 1 * i.val = (t.val) * 256 + i.val; omega
  | ⟨1, _⟩ => show win0_0.index t (1 : Fin 2) * 1024 + 1 * j.val = j.val; omega

theorem idx1 : ∀ t : Fin cfg0.N, win0_1.index t (0 : Fin 2) = t.val ∧ win0_1.index t (1 : Fin 2) = 7 :=
  (by decide +kernel : ∀ t : Fin grid0.N, _)

/-- Point `t`'s block of input window 1, at an index. -/
theorem iblk1_at (t : Fin cfg0.N) (i : Fin 256) (j : Fin 1024) :
    iblk m c 1 t (ix2 i j) = (X1 m c) (ix2 ⟨(t.val) * 256 + i.val, by have := t_lt t; omega⟩ ⟨(7) * 1024 + j.val, by have := t_lt t; omega⟩) := by
  obtain ⟨h0, h1⟩ := idx1 t
  refine congrArg ((X1 m c)) (funext fun q => Fin.ext ?_)
  match q with
  | ⟨0, _⟩ => show win0_1.index t (0 : Fin 2) * 256 + 1 * i.val = (t.val) * 256 + i.val; omega
  | ⟨1, _⟩ => show win0_1.index t (1 : Fin 2) * 1024 + 1 * j.val = (7) * 1024 + j.val; omega

theorem idx2 : ∀ t : Fin cfg0.N, win0_2.index t (0 : Fin 2) = t.val ∧ win0_2.index t (1 : Fin 2) = 8 :=
  (by decide +kernel : ∀ t : Fin grid0.N, _)

/-- Point `t`'s block of input window 2, at an index. -/
theorem iblk2_at (t : Fin cfg0.N) (i : Fin 256) (j : Fin 1024) :
    iblk m c 2 t (ix2 i j) = (X1 m c) (ix2 ⟨(t.val) * 256 + i.val, by have := t_lt t; omega⟩ ⟨(8) * 1024 + j.val, by have := t_lt t; omega⟩) := by
  obtain ⟨h0, h1⟩ := idx2 t
  refine congrArg ((X1 m c)) (funext fun q => Fin.ext ?_)
  match q with
  | ⟨0, _⟩ => show win0_2.index t (0 : Fin 2) * 256 + 1 * i.val = (t.val) * 256 + i.val; omega
  | ⟨1, _⟩ => show win0_2.index t (1 : Fin 2) * 1024 + 1 * j.val = (8) * 1024 + j.val; omega

theorem idx3 : ∀ t : Fin cfg0.N, win0_3.index t (0 : Fin 2) = t.val ∧ win0_3.index t (1 : Fin 2) = 9 :=
  (by decide +kernel : ∀ t : Fin grid0.N, _)

/-- Point `t`'s block of input window 3, at an index. -/
theorem iblk3_at (t : Fin cfg0.N) (i : Fin 256) (j : Fin 1024) :
    iblk m c 3 t (ix2 i j) = (X1 m c) (ix2 ⟨(t.val) * 256 + i.val, by have := t_lt t; omega⟩ ⟨(9) * 1024 + j.val, by have := t_lt t; omega⟩) := by
  obtain ⟨h0, h1⟩ := idx3 t
  refine congrArg ((X1 m c)) (funext fun q => Fin.ext ?_)
  match q with
  | ⟨0, _⟩ => show win0_3.index t (0 : Fin 2) * 256 + 1 * i.val = (t.val) * 256 + i.val; omega
  | ⟨1, _⟩ => show win0_3.index t (1 : Fin 2) * 1024 + 1 * j.val = (9) * 1024 + j.val; omega

theorem idx4 : ∀ t : Fin cfg0.N, win0_4.index t (0 : Fin 2) = t.val ∧ win0_4.index t (1 : Fin 2) = 0 :=
  (by decide +kernel : ∀ t : Fin grid0.N, _)

/-- Point `t`'s block of input window 4, at an index. -/
theorem iblk4_at (t : Fin cfg0.N) (i : Fin 256) (j : Fin 1024) :
    iblk m c 4 t (ix2 i j) = (V m c main_v5) (ix2 ⟨(t.val) * 256 + i.val, by have := t_lt t; omega⟩ j) := by
  obtain ⟨h0, h1⟩ := idx4 t
  refine congrArg ((V m c main_v5)) (funext fun q => Fin.ext ?_)
  match q with
  | ⟨0, _⟩ => show win0_4.index t (0 : Fin 2) * 256 + 1 * i.val = (t.val) * 256 + i.val; omega
  | ⟨1, _⟩ => show win0_4.index t (1 : Fin 2) * 1024 + 1 * j.val = j.val; omega

theorem idx5 : ∀ t : Fin cfg0.N, win0_5.index t (0 : Fin 2) = t.val ∧ win0_5.index t (1 : Fin 2) = 0 :=
  (by decide +kernel : ∀ t : Fin grid0.N, _)

/-- Point `t`'s block of input window 5, at an index. -/
theorem iblk5_at (t : Fin cfg0.N) (i : Fin 256) (j : Fin 1024) :
    iblk m c 5 t (ix2 i j) = (V m c main_v8) (ix2 ⟨(t.val) * 256 + i.val, by have := t_lt t; omega⟩ j) := by
  obtain ⟨h0, h1⟩ := idx5 t
  refine congrArg ((V m c main_v8)) (funext fun q => Fin.ext ?_)
  match q with
  | ⟨0, _⟩ => show win0_5.index t (0 : Fin 2) * 256 + 1 * i.val = (t.val) * 256 + i.val; omega
  | ⟨1, _⟩ => show win0_5.index t (1 : Fin 2) * 1024 + 1 * j.val = j.val; omega

theorem idx6 : ∀ t : Fin cfg0.N, win0_6.index t (0 : Fin 2) = t.val ∧ win0_6.index t (1 : Fin 2) = 0 :=
  (by decide +kernel : ∀ t : Fin grid0.N, _)

/-- Point `t`'s block of input window 6, at an index. -/
theorem iblk6_at (t : Fin cfg0.N) (i : Fin 256) (j : Fin 1024) :
    iblk m c 6 t (ix2 i j) = (V m c main_v10) (ix2 ⟨(t.val) * 256 + i.val, by have := t_lt t; omega⟩ j) := by
  obtain ⟨h0, h1⟩ := idx6 t
  refine congrArg ((V m c main_v10)) (funext fun q => Fin.ext ?_)
  match q with
  | ⟨0, _⟩ => show win0_6.index t (0 : Fin 2) * 256 + 1 * i.val = (t.val) * 256 + i.val; omega
  | ⟨1, _⟩ => show win0_6.index t (1 : Fin 2) * 1024 + 1 * j.val = j.val; omega

theorem idx7 : ∀ t : Fin cfg0.N, win0_7.index t (0 : Fin 2) = 0 ∧ win0_7.index t (1 : Fin 2) = 0 :=
  (by decide +kernel : ∀ t : Fin grid0.N, _)

/-- Point `t`'s block of input window 7, at an index. -/
theorem iblk7_at (t : Fin cfg0.N) (i : Fin 1024) (j : Fin 1024) :
    iblk m c 7 t (ix2 i j) = (V m c main_v0) (ix2 i j) := by
  obtain ⟨h0, h1⟩ := idx7 t
  refine congrArg ((V m c main_v0)) (funext fun q => Fin.ext ?_)
  match q with
  | ⟨0, _⟩ => show win0_7.index t (0 : Fin 2) * 1024 + 1 * i.val = i.val; omega
  | ⟨1, _⟩ => show win0_7.index t (1 : Fin 2) * 1024 + 1 * j.val = j.val; omega

theorem idx8 : ∀ t : Fin cfg0.N, win0_8.index t (0 : Fin 2) = 0 ∧ win0_8.index t (1 : Fin 2) = 0 :=
  (by decide +kernel : ∀ t : Fin grid0.N, _)

/-- Point `t`'s block of input window 8, at an index. -/
theorem iblk8_at (t : Fin cfg0.N) (i : Fin 1024) (j : Fin 1024) :
    iblk m c 8 t (ix2 i j) = (V m c main_v1) (ix2 i j) := by
  obtain ⟨h0, h1⟩ := idx8 t
  refine congrArg ((V m c main_v1)) (funext fun q => Fin.ext ?_)
  match q with
  | ⟨0, _⟩ => show win0_8.index t (0 : Fin 2) * 1024 + 1 * i.val = i.val; omega
  | ⟨1, _⟩ => show win0_8.index t (1 : Fin 2) * 1024 + 1 * j.val = j.val; omega

theorem idx9 : ∀ t : Fin cfg0.N, win0_9.index t (0 : Fin 2) = 0 ∧ win0_9.index t (1 : Fin 2) = 0 :=
  (by decide +kernel : ∀ t : Fin grid0.N, _)

/-- Point `t`'s block of input window 9, at an index. -/
theorem iblk9_at (t : Fin cfg0.N) (i : Fin 1024) (j : Fin 1024) :
    iblk m c 9 t (ix2 i j) = (V m c main_v2) (ix2 i j) := by
  obtain ⟨h0, h1⟩ := idx9 t
  refine congrArg ((V m c main_v2)) (funext fun q => Fin.ext ?_)
  match q with
  | ⟨0, _⟩ => show win0_9.index t (0 : Fin 2) * 1024 + 1 * i.val = i.val; omega
  | ⟨1, _⟩ => show win0_9.index t (1 : Fin 2) * 1024 + 1 * j.val = j.val; omega

theorem idx10 : ∀ t : Fin cfg0.N, win0_10.index t (0 : Fin 2) = 0 ∧ win0_10.index t (1 : Fin 2) = 0 :=
  (by decide +kernel : ∀ t : Fin grid0.N, _)

/-- Point `t`'s block of input window 10, at an index. -/
theorem iblk10_at (t : Fin cfg0.N) (i : Fin 1024) (j : Fin 1024) :
    iblk m c 10 t (ix2 i j) = (V m c main_v3) (ix2 i j) := by
  obtain ⟨h0, h1⟩ := idx10 t
  refine congrArg ((V m c main_v3)) (funext fun q => Fin.ext ?_)
  match q with
  | ⟨0, _⟩ => show win0_10.index t (0 : Fin 2) * 1024 + 1 * i.val = i.val; omega
  | ⟨1, _⟩ => show win0_10.index t (1 : Fin 2) * 1024 + 1 * j.val = j.val; omega

theorem wblk7_at (t : Fin cfg0.N) (i : Fin 1024) (j : Fin 1024) : iblk m c 7 t (ix2 i j) = (X5 m c) (ix2 i j) :=
  (iblk7_at m c t i j).trans (congrFun (Vw0 m c) _)

theorem wblk8_at (t : Fin cfg0.N) (i : Fin 1024) (j : Fin 1024) : iblk m c 8 t (ix2 i j) = (X6 m c) (ix2 i j) :=
  (iblk8_at m c t i j).trans (congrFun (Vw1 m c) _)

theorem wblk9_at (t : Fin cfg0.N) (i : Fin 1024) (j : Fin 1024) : iblk m c 9 t (ix2 i j) = (X7 m c) (ix2 i j) :=
  (iblk9_at m c t i j).trans (congrFun (Vw2 m c) _)

theorem wblk10_at (t : Fin cfg0.N) (i : Fin 1024) (j : Fin 1024) : iblk m c 10 t (ix2 i j) = (X8 m c) (ix2 i j) :=
  (iblk10_at m c t i j).trans (congrFun (Vw3 m c) _)

theorem yblk4_at (t : Fin cfg0.N) (i : Fin 256) (j : Fin 1024) : iblk m c 4 t (ix2 i j)
    = mm (X2 m c) (X5 m c) ⟨t.val * 256 + i.val, by have := t_lt t; omega⟩ j :=
  (iblk4_at m c t i j).trans (Vy5 m c _ _)

theorem yblk5_at (t : Fin cfg0.N) (i : Fin 256) (j : Fin 1024) : iblk m c 5 t (ix2 i j)
    = mm (X3 m c) (X6 m c) ⟨t.val * 256 + i.val, by have := t_lt t; omega⟩ j :=
  (iblk5_at m c t i j).trans (Vy8 m c _ _)

theorem yblk6_at (t : Fin cfg0.N) (i : Fin 256) (j : Fin 1024) : iblk m c 6 t (ix2 i j)
    = mm (X4 m c) (X7 m c) ⟨t.val * 256 + i.val, by have := t_lt t; omega⟩ j :=
  (iblk6_at m c t i j).trans (Vy10 m c _ _)

theorem idx11 : ∀ t : Fin cfg0.N, win0_11.index t (0 : Fin 2) = t.val ∧ win0_11.index t (1 : Fin 2) = 0 :=
  (by decide +kernel : ∀ t : Fin grid0.N, _)

/-- Where an index of point `t`'s block of result window 11 lies in the array. -/
theorem emb11 (t : Fin cfg0.N) (i : Fin 256) (j : Fin 3072) :
    ((cfg0.win 11).blk t).view.emb (ix2 i j) = ix2 ⟨(t.val) * 256 + i.val, by have := t_lt t; omega⟩ j := by
  obtain ⟨h0, h1⟩ := idx11 t
  funext q; apply Fin.ext
  match q with
  | ⟨0, _⟩ => show win0_11.index t (0 : Fin 2) * 256 + 1 * i.val = (t.val) * 256 + i.val; omega
  | ⟨1, _⟩ => show win0_11.index t (1 : Fin 2) * 3072 + 1 * j.val = j.val; omega

/-- Every index of the array of window 11 lies in some point's block. -/
theorem covered11 (y : S2048x3072.Idx) : ∃ t : Fin cfg0.N, (cfg0.win 11).flush t = true ∧ y ∈ ((cfg0.win 11).blk t).view.set := by
  obtain ⟨i, j, rfl⟩ : ∃ (i : Fin 2048) (j : Fin 3072), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_11 t, ?_⟩
  have h := ((cfg0.win 11).blk t).view.emb_mem_set (ix2 ⟨i.val % 256, by omega⟩ j)
  rw [emb11] at h
  refine (congrArg (· ∈ ((cfg0.win 11).blk t).view.set) ?_).mp h
  funext q; apply Fin.ext
  match q with
  | ⟨0, _⟩ => show (t.val) * 256 + i.val % 256 = i.val; omega
  | ⟨1, _⟩ => rfl

theorem idx12 : ∀ t : Fin cfg0.N, win0_12.index t (0 : Fin 2) = t.val ∧ win0_12.index t (1 : Fin 2) = 0 :=
  (by decide +kernel : ∀ t : Fin grid0.N, _)

/-- Where an index of point `t`'s block of result window 12 lies in the array. -/
theorem emb12 (t : Fin cfg0.N) (i : Fin 256) (j : Fin 1024) :
    ((cfg0.win 12).blk t).view.emb (ix2 i j) = ix2 ⟨(t.val) * 256 + i.val, by have := t_lt t; omega⟩ j := by
  obtain ⟨h0, h1⟩ := idx12 t
  funext q; apply Fin.ext
  match q with
  | ⟨0, _⟩ => show win0_12.index t (0 : Fin 2) * 256 + 1 * i.val = (t.val) * 256 + i.val; omega
  | ⟨1, _⟩ => show win0_12.index t (1 : Fin 2) * 1024 + 1 * j.val = j.val; omega

/-- Every index of the array of window 12 lies in some point's block. -/
theorem covered12 (y : S2048x1024.Idx) : ∃ t : Fin cfg0.N, (cfg0.win 12).flush t = true ∧ y ∈ ((cfg0.win 12).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_12 t, ?_⟩
  have h := ((cfg0.win 12).blk t).view.emb_mem_set (ix2 ⟨i.val % 256, by omega⟩ j)
  rw [emb12] at h
  refine (congrArg (· ∈ ((cfg0.win 12).blk t).view.set) ?_).mp h
  funext q; apply Fin.ext
  match q with
  | ⟨0, _⟩ => show (t.val) * 256 + i.val % 256 = i.val; omega
  | ⟨1, _⟩ => rfl

theorem idx13 : ∀ t : Fin cfg0.N, win0_13.index t (0 : Fin 2) = t.val ∧ win0_13.index t (1 : Fin 2) = 0 :=
  (by decide +kernel : ∀ t : Fin grid0.N, _)

/-- Where an index of point `t`'s block of result window 13 lies in the array. -/
theorem emb13 (t : Fin cfg0.N) (i : Fin 256) (j : Fin 1024) :
    ((cfg0.win 13).blk t).view.emb (ix2 i j) = ix2 ⟨(t.val) * 256 + i.val, by have := t_lt t; omega⟩ j := by
  obtain ⟨h0, h1⟩ := idx13 t
  funext q; apply Fin.ext
  match q with
  | ⟨0, _⟩ => show win0_13.index t (0 : Fin 2) * 256 + 1 * i.val = (t.val) * 256 + i.val; omega
  | ⟨1, _⟩ => show win0_13.index t (1 : Fin 2) * 1024 + 1 * j.val = j.val; omega

/-- Every index of the array of window 13 lies in some point's block. -/
theorem covered13 (y : S2048x1024.Idx) : ∃ t : Fin cfg0.N, (cfg0.win 13).flush t = true ∧ y ∈ ((cfg0.win 13).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_13 t, ?_⟩
  have h := ((cfg0.win 13).blk t).view.emb_mem_set (ix2 ⟨i.val % 256, by omega⟩ j)
  rw [emb13] at h
  refine (congrArg (· ∈ ((cfg0.win 13).blk t).view.set) ?_).mp h
  funext q; apply Fin.ext
  match q with
  | ⟨0, _⟩ => show (t.val) * 256 + i.val % 256 = i.val; omega
  | ⟨1, _⟩ => rfl

theorem idx14 : ∀ t : Fin cfg0.N, win0_14.index t (0 : Fin 2) = t.val ∧ win0_14.index t (1 : Fin 2) = 0 :=
  (by decide +kernel : ∀ t : Fin grid0.N, _)

/-- Where an index of point `t`'s block of result window 14 lies in the array. -/
theorem emb14 (t : Fin cfg0.N) (i : Fin 256) (j : Fin 1024) :
    ((cfg0.win 14).blk t).view.emb (ix2 i j) = ix2 ⟨(t.val) * 256 + i.val, by have := t_lt t; omega⟩ j := by
  obtain ⟨h0, h1⟩ := idx14 t
  funext q; apply Fin.ext
  match q with
  | ⟨0, _⟩ => show win0_14.index t (0 : Fin 2) * 256 + 1 * i.val = (t.val) * 256 + i.val; omega
  | ⟨1, _⟩ => show win0_14.index t (1 : Fin 2) * 1024 + 1 * j.val = j.val; omega

/-- Every index of the array of window 14 lies in some point's block. -/
theorem covered14 (y : S2048x1024.Idx) : ∃ t : Fin cfg0.N, (cfg0.win 14).flush t = true ∧ y ∈ ((cfg0.win 14).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_14 t, ?_⟩
  have h := ((cfg0.win 14).blk t).view.emb_mem_set (ix2 ⟨i.val % 256, by omega⟩ j)
  rw [emb14] at h
  refine (congrArg (· ∈ ((cfg0.win 14).blk t).view.set) ?_).mp h
  funext q; apply Fin.ext
  match q with
  | ⟨0, _⟩ => show (t.val) * 256 + i.val % 256 = i.val; omega
  | ⟨1, _⟩ => rfl

theorem idx15 : ∀ t : Fin cfg0.N, win0_15.index t (0 : Fin 2) = t.val ∧ win0_15.index t (1 : Fin 2) = 0 :=
  (by decide +kernel : ∀ t : Fin grid0.N, _)

/-- Where an index of point `t`'s block of result window 15 lies in the array. -/
theorem emb15 (t : Fin cfg0.N) (i : Fin 256) (j : Fin 1024) :
    ((cfg0.win 15).blk t).view.emb (ix2 i j) = ix2 ⟨(t.val) * 256 + i.val, by have := t_lt t; omega⟩ j := by
  obtain ⟨h0, h1⟩ := idx15 t
  funext q; apply Fin.ext
  match q with
  | ⟨0, _⟩ => show win0_15.index t (0 : Fin 2) * 256 + 1 * i.val = (t.val) * 256 + i.val; omega
  | ⟨1, _⟩ => show win0_15.index t (1 : Fin 2) * 1024 + 1 * j.val = j.val; omega

/-- Every index of the array of window 15 lies in some point's block. -/
theorem covered15 (y : S2048x1024.Idx) : ∃ t : Fin cfg0.N, (cfg0.win 15).flush t = true ∧ y ∈ ((cfg0.win 15).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_15 t, ?_⟩
  have h := ((cfg0.win 15).blk t).view.emb_mem_set (ix2 ⟨i.val % 256, by omega⟩ j)
  rw [emb15] at h
  refine (congrArg (· ∈ ((cfg0.win 15).blk t).view.set) ?_).mp h
  funext q; apply Fin.ext
  match q with
  | ⟨0, _⟩ => show (t.val) * 256 + i.val % 256 = i.val; omega
  | ⟨1, _⟩ => rfl

theorem idx16 : ∀ t : Fin cfg0.N, win0_16.index t (0 : Fin 2) = t.val ∧ win0_16.index t (1 : Fin 2) = 0 :=
  (by decide +kernel : ∀ t : Fin grid0.N, _)

/-- Where an index of point `t`'s block of result window 16 lies in the array. -/
theorem emb16 (t : Fin cfg0.N) (i : Fin 256) (j : Fin 1024) :
    ((cfg0.win 16).blk t).view.emb (ix2 i j) = ix2 ⟨(t.val) * 256 + i.val, by have := t_lt t; omega⟩ j := by
  obtain ⟨h0, h1⟩ := idx16 t
  funext q; apply Fin.ext
  match q with
  | ⟨0, _⟩ => show win0_16.index t (0 : Fin 2) * 256 + 1 * i.val = (t.val) * 256 + i.val; omega
  | ⟨1, _⟩ => show win0_16.index t (1 : Fin 2) * 1024 + 1 * j.val = j.val; omega

/-- Every index of the array of window 16 lies in some point's block. -/
theorem covered16 (y : S2048x1024.Idx) : ∃ t : Fin cfg0.N, (cfg0.win 16).flush t = true ∧ y ∈ ((cfg0.win 16).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_16 t, ?_⟩
  have h := ((cfg0.win 16).blk t).view.emb_mem_set (ix2 ⟨i.val % 256, by omega⟩ j)
  rw [emb16] at h
  refine (congrArg (· ∈ ((cfg0.win 16).blk t).view.set) ?_).mp h
  funext q; apply Fin.ext
  match q with
  | ⟨0, _⟩ => show (t.val) * 256 + i.val % 256 = i.val; omega
  | ⟨1, _⟩ => rfl

theorem idx17 : ∀ t : Fin cfg0.N, win0_17.index t (0 : Fin 2) = t.val ∧ win0_17.index t (1 : Fin 2) = 0 :=
  (by decide +kernel : ∀ t : Fin grid0.N, _)

/-- Where an index of point `t`'s block of result window 17 lies in the array. -/
theorem emb17 (t : Fin cfg0.N) (i : Fin 256) (j : Fin 1024) :
    ((cfg0.win 17).blk t).view.emb (ix2 i j) = ix2 ⟨(t.val) * 256 + i.val, by have := t_lt t; omega⟩ j := by
  obtain ⟨h0, h1⟩ := idx17 t
  funext q; apply Fin.ext
  match q with
  | ⟨0, _⟩ => show win0_17.index t (0 : Fin 2) * 256 + 1 * i.val = (t.val) * 256 + i.val; omega
  | ⟨1, _⟩ => show win0_17.index t (1 : Fin 2) * 1024 + 1 * j.val = j.val; omega

/-- Every index of the array of window 17 lies in some point's block. -/
theorem covered17 (y : S2048x1024.Idx) : ∃ t : Fin cfg0.N, (cfg0.win 17).flush t = true ∧ y ∈ ((cfg0.win 17).blk t).view.set := by
  obtain ⟨i, j, rfl⟩ : ∃ (i : Fin 2048) (j : Fin 1024), y = ix2 i j := ⟨y 0, y 1, eq_ix2 y⟩
  have hi := i.2
  have hj := j.2
  let t : Fin cfg0.N := ⟨i.val / 256, by show i.val / 256 < 8; omega⟩
  have ht : t.val = i.val / 256 := rfl
  refine ⟨t, flush0_17 t, ?_⟩
  have h := ((cfg0.win 17).blk t).view.emb_mem_set (ix2 ⟨i.val % 256, by omega⟩ j)
  rw [emb17] at h
  refine (congrArg (· ∈ ((cfg0.win 17).blk t).view.set) ?_).mp h
  funext q; apply Fin.ext
  match q with
  | ⟨0, _⟩ => show (t.val) * 256 + i.val % 256 = i.val; omega
  | ⟨1, _⟩ => rfl

/-- What point `t` writes back to window 11 is its block of the reference's result. -/
theorem flushed11_eq (t : Fin cfg0.N) : (dats m 0 c).flushed 11 t
    = ((cfg0.win 11).blk t).view.read (Elt Ideal) (val_main_v41 (F := Ideal) (X0 m c) (X1 m c) (X2 m c) (X3 m c) (X4 m c) (X5 m c) (X6 m c) (X7 m c) (X8 m c)) := by
  rw [flushed11]
  funext y
  obtain ⟨i, j, rfl⟩ : ∃ (i : Fin 256) (j : Fin 3072), y = ix2 i j := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v41 (F := Ideal) (X0 m c) (X1 m c) (X2 m c) (X3 m c) (X4 m c) (X5 m c) (X6 m c) (X7 m c) (X8 m c) (((cfg0.win 11).blk t).view.emb (ix2 i j))
  rw [emb11]
  rw [out11_at, ref11_at]
  simp only [dmb, dmr, mm, wideRow, iblk0_at, iblk1_at, iblk2_at, iblk3_at, yblk4_at, yblk5_at, yblk6_at, wblk7_at, wblk8_at, wblk9_at, wblk10_at]

theorem final11 : (dats m 0 c).arrAt 11 cfg0.N = val_main_v41 (F := Ideal) (X0 m c) (X1 m c) (X2 m c) (X3 m c) (X4 m c) (X5 m c) (X6 m c) (X7 m c) (X8 m c) :=
  (dats m 0 c).arrAt_eq_of_cover 11 _ (fun t _ => flushed11_eq m c t) covered11

/-- What point `t` writes back to window 12 is its block of the reference's result. -/
theorem flushed12_eq (t : Fin cfg0.N) : (dats m 0 c).flushed 12 t
    = ((cfg0.win 12).blk t).view.read (Elt Ideal) (val_main_v42 (F := Ideal) (X0 m c) (X1 m c) (X8 m c)) := by
  rw [flushed12]
  funext y
  obtain ⟨i, j, rfl⟩ : ∃ (i : Fin 256) (j : Fin 1024), y = ix2 i j := ⟨y 0, y 1, eq_ix2 y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v42 (F := Ideal) (X0 m c) (X1 m c) (X8 m c) (((cfg0.win 12).blk t).view.emb (ix2 i j))
  rw [emb12]
  rw [out12_at, ref12_at]
  simp only [dmb, dmr, mm, iblk0_at, iblk1_at, iblk2_at, iblk3_at, yblk4_at, yblk5_at, yblk6_at, wblk7_at, wblk8_at, wblk9_at, wblk10_at]

theorem final12 : (dats m 0 c).arrAt 12 cfg0.N = val_main_v42 (F := Ideal) (X0 m c) (X1 m c) (X8 m c) :=
  (dats m 0 c).arrAt_eq_of_cover 12 _ (fun t _ => flushed12_eq m c t) covered12

/-- What point `t` writes back to window 13 is its block of the reference's result. -/
theorem flushed13_eq (t : Fin cfg0.N) : (dats m 0 c).flushed 13 t
    = ((cfg0.win 13).blk t).view.read (Elt Ideal) (val_main_v43 (F := Ideal) (X0 m c) (X1 m c) (X8 m c)) := by
  rw [flushed13]
  funext y
  obtain ⟨i, j, rfl⟩ : ∃ (i : Fin 256) (j : Fin 1024), y = ix2 i j := ⟨y 0, y 1, eq_ix2 y⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v43 (F := Ideal) (X0 m c) (X1 m c) (X8 m c) (((cfg0.win 13).blk t).view.emb (ix2 i j))
  rw [emb13]
  rw [out13_at, ref13_at]
  simp only [dmb, dmr, mm, iblk0_at, iblk1_at, iblk2_at, iblk3_at, yblk4_at, yblk5_at, yblk6_at, wblk7_at, wblk8_at, wblk9_at, wblk10_at]

theorem final13 : (dats m 0 c).arrAt 13 cfg0.N = val_main_v43 (F := Ideal) (X0 m c) (X1 m c) (X8 m c) :=
  (dats m 0 c).arrAt_eq_of_cover 13 _ (fun t _ => flushed13_eq m c t) covered13

/-- What point `t` writes back to window 14 is its block of the reference's result. -/
theorem flushed14_eq (t : Fin cfg0.N) : (dats m 0 c).flushed 14 t
    = ((cfg0.win 14).blk t).view.read (Elt Ideal) (val_main_v44 (F := Ideal) (X0 m c) (X1 m c) (X8 m c)) := by
  rw [flushed14]
  funext y
  obtain ⟨i, j, rfl⟩ : ∃ (i : Fin 256) (j : Fin 1024), y = ix2 i j := ⟨y 0, y 1, eq_ix2 y⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v44 (F := Ideal) (X0 m c) (X1 m c) (X8 m c) (((cfg0.win 14).blk t).view.emb (ix2 i j))
  rw [emb14]
  rw [out14_at, ref14_at]
  simp only [dmb, dmr, mm, iblk0_at, iblk1_at, iblk2_at, iblk3_at, yblk4_at, yblk5_at, yblk6_at, wblk7_at, wblk8_at, wblk9_at, wblk10_at]

theorem final14 : (dats m 0 c).arrAt 14 cfg0.N = val_main_v44 (F := Ideal) (X0 m c) (X1 m c) (X8 m c) :=
  (dats m 0 c).arrAt_eq_of_cover 14 _ (fun t _ => flushed14_eq m c t) covered14

/-- What point `t` writes back to window 15 is its block of the reference's result. -/
theorem flushed15_eq (t : Fin cfg0.N) : (dats m 0 c).flushed 15 t
    = ((cfg0.win 15).blk t).view.read (Elt Ideal) (val_main_v45 (F := Ideal) (X0 m c) (X1 m c) (X5 m c) (X8 m c)) := by
  rw [flushed15]
  funext y
  obtain ⟨i, j, rfl⟩ : ∃ (i : Fin 256) (j : Fin 1024), y = ix2 i j := ⟨y 0, y 1, eq_ix2 y⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v45 (F := Ideal) (X0 m c) (X1 m c) (X5 m c) (X8 m c) (((cfg0.win 15).blk t).view.emb (ix2 i j))
  rw [emb15]
  rw [out15_at, ref15_at]
  simp only [dmb, dmr, mm, iblk0_at, iblk1_at, iblk2_at, iblk3_at, yblk4_at, yblk5_at, yblk6_at, wblk7_at, wblk8_at, wblk9_at, wblk10_at]

theorem final15 : (dats m 0 c).arrAt 15 cfg0.N = val_main_v45 (F := Ideal) (X0 m c) (X1 m c) (X5 m c) (X8 m c) :=
  (dats m 0 c).arrAt_eq_of_cover 15 _ (fun t _ => flushed15_eq m c t) covered15

/-- What point `t` writes back to window 16 is its block of the reference's result. -/
theorem flushed16_eq (t : Fin cfg0.N) : (dats m 0 c).flushed 16 t
    = ((cfg0.win 16).blk t).view.read (Elt Ideal) (val_main_v46 (F := Ideal) (X0 m c) (X1 m c) (X6 m c) (X8 m c)) := by
  rw [flushed16]
  funext y
  obtain ⟨i, j, rfl⟩ : ∃ (i : Fin 256) (j : Fin 1024), y = ix2 i j := ⟨y 0, y 1, eq_ix2 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v46 (F := Ideal) (X0 m c) (X1 m c) (X6 m c) (X8 m c) (((cfg0.win 16).blk t).view.emb (ix2 i j))
  rw [emb16]
  rw [out16_at, ref16_at]
  simp only [dmb, dmr, mm, iblk0_at, iblk1_at, iblk2_at, iblk3_at, yblk4_at, yblk5_at, yblk6_at, wblk7_at, wblk8_at, wblk9_at, wblk10_at]

theorem final16 : (dats m 0 c).arrAt 16 cfg0.N = val_main_v46 (F := Ideal) (X0 m c) (X1 m c) (X6 m c) (X8 m c) :=
  (dats m 0 c).arrAt_eq_of_cover 16 _ (fun t _ => flushed16_eq m c t) covered16

/-- What point `t` writes back to window 17 is its block of the reference's result. -/
theorem flushed17_eq (t : Fin cfg0.N) : (dats m 0 c).flushed 17 t
    = ((cfg0.win 17).blk t).view.read (Elt Ideal) (val_main_v47 (F := Ideal) (X0 m c) (X1 m c) (X7 m c) (X8 m c)) := by
  rw [flushed17]
  funext y
  obtain ⟨i, j, rfl⟩ : ∃ (i : Fin 256) (j : Fin 1024), y = ix2 i j := ⟨y 0, y 1, eq_ix2 y⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = val_main_v47 (F := Ideal) (X0 m c) (X1 m c) (X7 m c) (X8 m c) (((cfg0.win 17).blk t).view.emb (ix2 i j))
  rw [emb17]
  rw [out17_at, ref17_at]
  simp only [dmb, dmr, mm, iblk0_at, iblk1_at, iblk2_at, iblk3_at, yblk4_at, yblk5_at, yblk6_at, wblk7_at, wblk8_at, wblk9_at, wblk10_at]

theorem final17 : (dats m 0 c).arrAt 17 cfg0.N = val_main_v47 (F := Ideal) (X0 m c) (X1 m c) (X7 m c) (X8 m c) :=
  (dats m 0 c).arrAt_eq_of_cover 17 _ (fun t _ => flushed17_eq m c t) covered17

set_option maxHeartbeats 1000000 in
/-- The kernel and the reference end with equal results. -/
theorem algebraic : Cert.algebraic_Kernel3Ideal_Reference3Ideal
    (hKernel3Ideal := Cert.Kernel3Ideal.Gen.facts) (hReference3Ideal := Cert.Reference3Ideal.Gen.facts) := by
  intro m g m' g' _ hagree
  refine ⟨fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, run_blocks m g, ?_⟩
  refine (θ_run _ _ _).mono (fun r h c => ?_) (Cert.Reference3Ideal.Value.run m' g')
  obtain ⟨h0, h1, h2, h3, h4, h5, h6, k0, k1, k2, k3, k4, k5, k6, k7, k8⟩ := h c
  obtain ⟨a0, a1, a2, a3, a4, a5, a6, a7, a8⟩ := hagree c
  refine ⟨?_, ?_, ?_, ?_, ?_, ?_, ?_, k0, k1, k2, k3, k4, k5, k6, k7, k8⟩
  · exact (h0.trans (val_main_v41_eq _ _ _ _ _ _ _ _ _)).trans (by rw [a0, a1, a2, a3, a4, a5, a6, a7, a8]; exact (final11 m c).symm)
  · exact (h1.trans (val_main_v42_eq _ _ _)).trans (by rw [a0, a1, a8]; exact (final12 m c).symm)
  · exact (h2.trans (val_main_v43_eq _ _ _)).trans (by rw [a0, a1, a8]; exact (final13 m c).symm)
  · exact (h3.trans (val_main_v44_eq _ _ _)).trans (by rw [a0, a1, a8]; exact (final14 m c).symm)
  · exact (h4.trans (val_main_v45_eq _ _ _ _)).trans (by rw [a0, a1, a5, a8]; exact (final15 m c).symm)
  · exact (h5.trans (val_main_v46_eq _ _ _ _)).trans (by rw [a0, a1, a6, a8]; exact (final16 m c).symm)
  · exact (h6.trans (val_main_v47_eq _ _ _ _)).trans (by rw [a0, a1, a7, a8]; exact (final17 m c).symm)

end Cert.Proof.MergeBwd
-- ==== Proof.MlpBwd.lean ====
/- Hand-written, untrusted: the gradient of the MLP at the reals. A group of rows is visited once for every block of hidden columns: the
   visit leaves the hidden layer's gradient and activation there and adds that gradient's products in a scratch block; the last
   visit takes the norm's gradient of the sum. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import proofs.«01_k».proof.Proof.RmsBwd
public import Idealize.ShloMosaic.Lib.Pipeline.Value
public import Idealize.ShloMosaic.Lib.Tactic

@[expose] public section

noncomputable section

namespace Cert.Proof.MlpBwd

open Cert.Kernel4Ideal Cert.Kernel4Ideal.Gen Cert.Kernel4Ideal.Value Idealize.ShloMosaic Idealize.ShloMosaic.TcCoe Idealize.SL.Sem
open Reference4Ideal.Read

theorem hz : (![0, 0] : Fin 2 → Nat) = fun _ => 0 := funext fun a => by fin_cases a <;> rfl
theorem hz3 : (![0, 0, 0] : Fin 3 → Nat) = fun _ => 0 := funext fun a => by fin_cases a <;> rfl

open RmsBwd

/-! ## What a grid point leaves, case by case -/

section Points
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x1024 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole)

/-- A group's first visit keeps its rows of the gradient that comes in. -/
theorem sout0_A_1_eq (hc0 : cond0_0 i) (hc1 : cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    sout0_A_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay6 (F := Ideal) x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- A group's first visit leaves its products added to zero. -/
theorem sout0_A_0_eq (hc0 : cond0_0 i) (hc1 : cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay1 (k0_pay12 (F := Ideal) x4 (k0_pay6 x5) x3 (k0_pay7 (F := Ideal)) x2) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  rw [View.canon_cons_unit_zero (S := S512x1024) hz]
  repeat rw [View.readCov_unit_zero (S := S512x1024) _ hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The hidden layer's gradient at a group's first visit. -/
theorem out0_A_6_eq (hc0 : cond0_0 i) (hc1 : cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    out0_A_6 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay11 (F := Ideal) x4 (k0_pay6 x5) x3 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  rw [View.canon_unit_zero hz]
  repeat rw [View.readCov_unit_zero (S := S512x1024) _ hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- A group's first visit keeps its rows of the gradient that comes in. -/
theorem sout0_D_1_eq (hc0 : cond0_0 i) (hc1 : ¬cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    sout0_D_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay6 (F := Ideal) x5 := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_D
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- A group's first visit leaves its products added to zero. -/
theorem sout0_D_0_eq (hc0 : cond0_0 i) (hc1 : ¬cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    sout0_D_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay1 (k0_pay12 (F := Ideal) x4 (k0_pay6 x5) x3 (k0_pay7 (F := Ideal)) x2) := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_D
  dsimp only
  sl_unfold_words
  rw [View.canon_cons_unit_zero (S := S512x1024) hz]
  repeat rw [View.readCov_unit_zero (S := S512x1024) _ hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The hidden layer's gradient at a group's first visit. -/
theorem out0_D_6_eq (hc0 : cond0_0 i) (hc1 : ¬cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    out0_D_6 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay11 (F := Ideal) x4 (k0_pay6 x5) x3 := by
  unfold out0_D_6
  rw [View.read_writes_eq_canon _ _ _ (cover0_D_6 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_D
  dsimp only
  sl_unfold_words
  rw [View.canon_unit_zero hz]
  repeat rw [View.readCov_unit_zero (S := S512x1024) _ hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- A later visit adds its products. -/
theorem sout0_B_0_eq (hc0 : ¬cond0_0 i) (hc1 : ¬cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) (xs0 : Vec Ideal S512x1024 .f32) (xs1 : Vec Ideal S512x1024 .bf16) :
    sout0_B_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay1 (k0_pay12 (F := Ideal) x4 xs1 x3 xs0 x2) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_B
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The hidden layer's gradient at a later visit. -/
theorem out0_B_6_eq (hc0 : ¬cond0_0 i) (hc1 : ¬cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) (xs0 : Vec Ideal S512x1024 .f32) (xs1 : Vec Ideal S512x1024 .bf16) :
    out0_B_6 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay11 (F := Ideal) x4 xs1 x3 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_B
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- A later visit adds its products. -/
theorem sout0_C_0_eq (hc0 : ¬cond0_0 i) (hc1 : ¬cond0_1 i) (hc2 : cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) (xo9 : Vec Ideal S1x1024 .f32) (xs0 : Vec Ideal S512x1024 .f32) (xs1 : Vec Ideal S512x1024 .bf16) :
    sout0_C_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1 = k0_pay1 (k0_pay12 (F := Ideal) x4 xs1 x3 xs0 x2) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1)]
  unfold kernelRun0_C
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The hidden layer's gradient at a later visit. -/
theorem out0_C_6_eq (hc0 : ¬cond0_0 i) (hc1 : ¬cond0_1 i) (hc2 : cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) (xo9 : Vec Ideal S1x1024 .f32) (xs0 : Vec Ideal S512x1024 .f32) (xs1 : Vec Ideal S512x1024 .bf16) :
    out0_C_6 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1 = k0_pay11 (F := Ideal) x4 xs1 x3 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1)]
  unfold kernelRun0_C
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The activation. -/
theorem out0_A_7_eq (hc0 : cond0_0 i) (hc1 : cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    out0_A_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay10 (F := Ideal) x4 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The activation. -/
theorem out0_B_7_eq (hc0 : ¬cond0_0 i) (hc1 : ¬cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) (xs0 : Vec Ideal S512x1024 .f32) (xs1 : Vec Ideal S512x1024 .bf16) :
    out0_B_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay10 (F := Ideal) x4 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_B
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The activation. -/
theorem out0_C_7_eq (hc0 : ¬cond0_0 i) (hc1 : ¬cond0_1 i) (hc2 : cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) (xo9 : Vec Ideal S1x1024 .f32) (xs0 : Vec Ideal S512x1024 .f32) (xs1 : Vec Ideal S512x1024 .bf16) :
    out0_C_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1 = k0_pay10 (F := Ideal) x4 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1)]
  unfold kernelRun0_C
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The activation. -/
theorem out0_D_7_eq (hc0 : cond0_0 i) (hc1 : ¬cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    out0_D_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay10 (F := Ideal) x4 := by
  unfold out0_D_7
  rw [View.read_writes_eq_canon _ _ _ (cover0_D_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_D
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- A group's last visit stores the gradient of its rows. -/
theorem out0_C_8_eq (hc0 : ¬cond0_0 i) (hc1 : ¬cond0_1 i) (hc2 : cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) (xo9 : Vec Ideal S1x1024 .f32) (xs0 : Vec Ideal S512x1024 .f32) (xs1 : Vec Ideal S512x1024 .bf16) :
    out0_C_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1 = k0_pay5 (F := Ideal) x0 (k0_pay1 (k0_pay12 x4 xs1 x3 xs0 x2)) x5 x1 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1)]
  unfold kernelRun0_C
  dsimp only
  sl_unfold_words
  rw [View.canon_unit_zero hz]
  repeat rw [View.readCov_unit_zero (S := S512x1024) _ hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- A group's last visit adds to the gradient of the norm's weight. -/
theorem out0_C_9_eq (hc0 : ¬cond0_0 i) (hc1 : ¬cond0_1 i) (hc2 : cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) (xo9 : Vec Ideal S1x1024 .f32) (xs0 : Vec Ideal S512x1024 .f32) (xs1 : Vec Ideal S512x1024 .bf16) :
    out0_C_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1 = k0_pay4 (F := Ideal) x0 (k0_pay1 (k0_pay12 x4 xs1 x3 xs0 x2)) xo9 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xo9 xs0 xs1)]
  unfold kernelRun0_C
  dsimp only
  sl_unfold_words
  rw [View.canon_unit_zero hz]
  repeat rw [View.readCov_unit_zero (S := S512x1024) _ hz]
  simp only [View.readAt_eq_ld, Memref.IsWhole.read_unread, View.ld_unit_zero (S := S512x1024) hz, View.ld_unit_zero (S := S1x1024) hz, View.ld_unit_zero (S := S512x512) hz, View.ld_unit_zero (S := S1x1024x512) hz3]

/-- The first visit sets the gradient of the norm's weight to zero. -/
theorem out0_A_9_eq (hc0 : cond0_0 i) (hc1 : cond0_1 i) (hc2 : ¬cond0_2 i) (x0 : Vec Ideal S512x1024 .f32) (x1 : Vec Ideal S1x1024 .f32) (x2 : Vec Ideal S1x1024x512 .bf16) (x3 : Vec Ideal S512x1024 .bf16) (x4 : Vec Ideal S512x512 .bf16) (x5 : Vec Ideal S512x1024 .f32) :
    out0_A_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay8 (F := Ideal) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  rw [View.canon_unit_zero hz]

end Points

section Pay
variable (a b d v : Vec Ideal S512x1024 .f32) (g : Vec Ideal S1x1024 .f32) (y wd : Vec Ideal S512x1024 .bf16) (w : Vec Ideal S1x1024x512 .bf16) (u : Vec Ideal S512x512 .bf16) (i : Fin 512) (f : Fin 512) (j : Fin 1024)

theorem pay1_eq : k0_pay1 (F := Ideal) v = v := by
  funext y
  obtain ⟨i, j, rfl⟩ : ∃ (i : Fin 512) (j : Fin 1024), y = ix2 i j := ⟨y 0, y 1, eq_ix2 y⟩
  unfold_payloads
  pointwise

theorem pay6_at : k0_pay6 (F := Ideal) v (ix2 i j) = v (ix2 i j) := by
  unfold_payloads
  pointwise

theorem pay7_at : k0_pay7 (F := Ideal) (ix2 i j) = 0 := by
  unfold_payloads
  pointwise

theorem pay8_at : k0_pay8 (F := Ideal) (ix2 0 j) = 0 := by
  unfold_payloads
  pointwise

/-- The activation's gradient, from the row that comes in, the second weight's row and the hidden value. -/
def hidden (y w : Fin 1024 → EReal) (u : EReal) : EReal := (∑ d, y d * w d) * (Ideal.ofBits .f32 0x40000000#32 * max u 0)

theorem pay10_at : k0_pay10 u (ix2 i f) = max (u (ix2 i f)) 0 * max (u (ix2 i f)) 0 := by
  unfold_payloads
  pointwise

theorem pay11_at : k0_pay11 u y wd (ix2 i f) = hidden (fun d => y (ix2 i d)) (fun d => wd (ix2 f d)) (u (ix2 i f)) := by
  unfold hidden
  unfold_payloads
  pointwise

/-- A visit's products at one index. -/
def products (u : Vec Ideal S512x512 .bf16) (y wd : Vec Ideal S512x1024 .bf16) (w : Vec Ideal S1x1024x512 .bf16) (i : Fin 512) (j : Fin 1024) : EReal :=
  ∑ k : Fin 512, hidden (fun d => y (ix2 i d)) (fun d => wd (ix2 k d)) (u (ix2 i k)) * w (ix3 0 j k)

theorem pay12_at : k0_pay12 u y wd a w (ix2 i j) = a (ix2 i j) + products u y wd w i j := by
  unfold products hidden
  unfold_payloads
  pointwise

theorem pay4_at : k0_pay4 a b g (ix2 0 j) = g (ix2 0 j) + ∑ k : Fin 512, b (ix2 k j) * (a (ix2 k j) * rinv fun q => a (ix2 k q)) := by
  unfold_payloads
  pointwise
  simp only [rinv_eq]

theorem pay5_at : k0_pay5 a b d g (ix2 i j) = d (ix2 i j) + back (fun k => a (ix2 i k)) (fun k => b (ix2 i k) * g (ix2 0 k)) j := by
  unfold_payloads
  pointwise
  unfold back
  simp only [rinv_eq]
end Pay

/-! ## The reference at one index -/

section Ref
variable (x0 : Vec Ideal S2048x1024 .f32) (x1 : Vec Ideal S1x1024 .f32) (x2 : Vec Ideal S1024x4096 .f32) (x3 : Vec Ideal S4096x1024 .f32) (x4 : Vec Ideal S2048x1024 .f32) (r : Fin 2048) (f : Fin 4096) (j : Fin 1024)

/-- The activation's gradient at a row and a hidden column, the hidden layer being `u`. -/
def du (u : S2048x4096.Idx → EReal) (x3 : S4096x1024.Idx → EReal) (x4 : S2048x1024.Idx → EReal) (r : Fin 2048) (f : Fin 4096) : EReal :=
  hidden (fun d => x4 (ix2 r d)) (fun d => x3 (ix2 f d)) (u (ix2 r f))

/-- The gradient at the normed row. -/
def dh (u : S2048x4096.Idx → EReal) (x2 : S1024x4096.Idx → EReal) (x3 : S4096x1024.Idx → EReal) (x4 : S2048x1024.Idx → EReal) (r : Fin 2048) (j : Fin 1024) : EReal :=
  ∑ f : Fin 4096, du u x3 x4 r f * x2 (ix2 j f)

theorem ref27_at : val_main_v27 (F := Ideal) x0 x1 x2 x3 x4 (ix2 r f) = du (val_main_v15 (F := Ideal) x0 x1 x2) x3 x4 r f := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_call0_cst, val_main_call0_v0, val_main_v16, val_main_cst_3, val_main_v17, val_main_v18, val_main_cst_4, val_main_v19, val_main_v20, val_main_cst_5, val_main_v21, val_main_v22, val_main_v23, val_main_v24, val_main_v25, val_main_cst_6, val_main_v26, val_main_v27, val_main_v28, val_main_v29, val_main_cst_7, val_main_v30, val_main_v31, val_main_v32, val_main_v33, val_main_v34, val_main_cst_8, val_main_v35, val_main_v36, val_main_v37, val_main_v38, val_main_v39, val_main_cst_9, val_main_v40, val_main_v41, val_main_cst_10, val_main_v42, val_main_v43, val_main_v44, val_main_v45, val_main_v46, val_main_v47, val_main_v48, val_main_v49, val_main_v50]
  unfold du hidden
  split
  · rfl
  · next h =>
    rw [max_eq_right (not_lt.mp h), mul_zero, mul_zero]

theorem ref48_at : val_main_v48 (F := Ideal) x0 x1 x2 x3 x4 (ix2 r f) = du (val_main_v15 (F := Ideal) x0 x1 x2) x3 x4 r f := by
  pointwise [val_main_v48]
  exact ref27_at ..

theorem ref49_at : val_main_v49 (F := Ideal) x0 x1 x2 (ix2 r f) = max (val_main_v15 (F := Ideal) x0 x1 x2 (ix2 r f)) 0 * max (val_main_v15 (F := Ideal) x0 x1 x2 (ix2 r f)) 0 := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_call0_cst, val_main_call0_v0, val_main_v16, val_main_cst_3, val_main_v17, val_main_v18, val_main_cst_4, val_main_v19, val_main_v20, val_main_cst_5, val_main_v21, val_main_v22, val_main_v23, val_main_v24, val_main_v25, val_main_cst_6, val_main_v26, val_main_v27, val_main_v28, val_main_v29, val_main_cst_7, val_main_v30, val_main_v31, val_main_v32, val_main_v33, val_main_v34, val_main_cst_8, val_main_v35, val_main_v36, val_main_v37, val_main_v38, val_main_v39, val_main_cst_9, val_main_v40, val_main_v41, val_main_cst_10, val_main_v42, val_main_v43, val_main_v44, val_main_v45, val_main_v46, val_main_v47, val_main_v48, val_main_v49, val_main_v50]

theorem ref28_at : val_main_v28 (F := Ideal) x0 x1 x2 x3 x4 (ix2 r j) = dh (val_main_v15 (F := Ideal) x0 x1 x2) x2 x3 x4 r j := by
  pointwise [val_main_v28]
  exact Finset.sum_congr rfl fun f _ => congrArg (· * _) (ref27_at ..)

set_option maxRecDepth 10000 in
theorem ref50_at : val_main_v50 (F := Ideal) x0 x1 x2 x3 x4 (ix2 r j)
    = x4 (ix2 r j) + back (fun k => x0 (ix2 r k)) (fun k => dh (val_main_v15 (F := Ideal) x0 x1 x2) x2 x3 x4 r k * x1 (ix2 0 k)) j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_call0_cst, val_main_call0_v0, val_main_v16, val_main_cst_3, val_main_v17, val_main_v18, val_main_cst_4, val_main_v19, val_main_v20, val_main_cst_5, val_main_v21, val_main_v22, val_main_v23, val_main_v24, val_main_v25, val_main_cst_6, val_main_v26, val_main_v27, val_main_v29, val_main_cst_7, val_main_v30, val_main_v31, val_main_v32, val_main_v33, val_main_v34, val_main_cst_8, val_main_v35, val_main_v36, val_main_v37, val_main_v38, val_main_v39, val_main_cst_9, val_main_v40, val_main_v41, val_main_cst_10, val_main_v42, val_main_v43, val_main_v44, val_main_v45, val_main_v46, val_main_v47, val_main_v48, val_main_v49, val_main_v50]
  simp only [Fin.sum_univ_one, ref28_at, rinv_eq, ← add_assoc]
  exact back_eq (fun k => x0 (ix2 r k)) (fun k => dh (val_main_v15 (F := Ideal) x0 x1 x2) x2 x3 x4 r k * x1 (ix2 0 k)) _ j

set_option maxRecDepth 10000 in
theorem ref31_at : val_main_v31 (F := Ideal) x0 x1 x2 x3 x4 (ix2 0 j)
    = ∑ r : Fin 2048, dh (val_main_v15 (F := Ideal) x0 x1 x2) x2 x3 x4 r j * (x0 (ix2 r j) * rinv fun q => x0 (ix2 r q)) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_call0_cst, val_main_call0_v0, val_main_v16, val_main_cst_3, val_main_v17, val_main_v18, val_main_cst_4, val_main_v19, val_main_v20, val_main_cst_5, val_main_v21, val_main_v22, val_main_v23, val_main_v24, val_main_v25, val_main_cst_6, val_main_v26, val_main_v27, val_main_v29, val_main_cst_7, val_main_v30, val_main_v31, val_main_v32, val_main_v33, val_main_v34, val_main_cst_8, val_main_v35, val_main_v36, val_main_v37, val_main_v38, val_main_v39, val_main_cst_9, val_main_v40, val_main_v41, val_main_cst_10, val_main_v42, val_main_v43, val_main_v44, val_main_v45, val_main_v46, val_main_v47, val_main_v48, val_main_v49, val_main_v50]
  simp only [ref28_at, rinv_eq]
  exact Finset.sum_congr rfl fun r _ => mul_comm _ _
end Ref

/-! ## The blocks that the windows stage -/

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

theorem t_lt (t : Fin cfg0.N) : t.val < 32 := t.2

theorem idx0 : ∀ t : Fin cfg0.N, win0_0.index t (0 : Fin 2) = t.val / 8 ∧ win0_0.index t (1 : Fin 2) = 0 :=
  (by decide +kernel : ∀ t : Fin grid0.N, _)

/-- Point `t`'s block of input window 0, at an index. -/
theorem iblk0_at (t : Fin cfg0.N) (i : Fin 512) (j : Fin 1024) :
    iblk m c 0 t (ix2 i j) = (X0 m c) (ix2 ⟨(t.val / 8) * 512 + i.val, by have := t_lt t; omega⟩ j) := by
  obtain ⟨h0, h1⟩ := idx0 t
  refine congrArg ((X0 m c)) (funext fun q => Fin.ext ?_)
  match q with
  | ⟨0, _⟩ => show win0_0.index t (0 : Fin 2) * 512 + 1 * i.val = (t.val / 8) * 512 + i.val; omega
  | ⟨1, _⟩ => show win0_0.index t (1 : Fin 2) * 1024 + 1 * j.val = j.val; omega

theorem idx1 : ∀ t : Fin cfg0.N, win0_1.index t (0 : Fin 2) = 0 ∧ win0_1.index t (1 : Fin 2) = 0 :=
  (by decide +kernel : ∀ t : Fin grid0.N, _)

/-- Point `t`'s block of input window 1, at an index. -/
theorem iblk1_at (t : Fin cfg0.N) (j : Fin 1024) :
    iblk m c 1 t (ix2 0 j) = (X1 m c) (ix2 0 j) := by
  obtain ⟨h0, h1⟩ := idx1 t
  refine congrArg ((X1 m c)) (funext fun q => Fin.ext ?_)
  match q with
  | ⟨0, _⟩ => show win0_1.index t (0 : Fin 2) * 1 + 1 * 0 = 0; omega
  | ⟨1, _⟩ => show win0_1.index t (1 : Fin 2) * 1024 + 1 * j.val = j.val; omega

theorem idx2 : ∀ t : Fin cfg0.N, win0_2.index t (0 : Fin 3) = t.val % 8 ∧ win0_2.index t (1 : Fin 3) = 0 ∧ win0_2.index t (2 : Fin 3) = 0 :=
  (by decide +kernel : ∀ t : Fin grid0.N, _)

/-- Point `t`'s block of input window 2, at an index. -/
theorem iblk2_at (t : Fin cfg0.N) (j : Fin 1024) (k : Fin 512) :
    iblk m c 2 t (ix3 0 j k) = (V m c main_v18) (ix3 ⟨t.val % 8, by have := t_lt t; omega⟩ j k) := by
  obtain ⟨h0, h1, h2⟩ := idx2 t
  refine congrArg ((V m c main_v18)) (funext fun q => Fin.ext ?_)
  match q with
  | ⟨0, _⟩ => show win0_2.index t (0 : Fin 3) * 1 + 1 * 0 = t.val % 8; omega
  | ⟨1, _⟩ => show win0_2.index t (1 : Fin 3) * 1024 + 1 * j.val = j.val; omega
  | ⟨2, _⟩ => show win0_2.index t (2 : Fin 3) * 512 + 1 * k.val = k.val; omega

theorem idx3 : ∀ t : Fin cfg0.N, win0_3.index t (0 : Fin 2) = t.val % 8 ∧ win0_3.index t (1 : Fin 2) = 0 :=
  (by decide +kernel : ∀ t : Fin grid0.N, _)

/-- Point `t`'s block of input window 3, at an index. -/
theorem iblk3_at (t : Fin cfg0.N) (i : Fin 512) (j : Fin 1024) :
    iblk m c 3 t (ix2 i j) = (V m c main_v19) (ix2 ⟨(t.val % 8) * 512 + i.val, by have := t_lt t; omega⟩ j) := by
  obtain ⟨h0, h1⟩ := idx3 t
  refine congrArg ((V m c main_v19)) (funext fun q => Fin.ext ?_)
  match q with
  | ⟨0, _⟩ => show win0_3.index t (0 : Fin 2) * 512 + 1 * i.val = (t.val % 8) * 512 + i.val; omega
  | ⟨1, _⟩ => show win0_3.index t (1 : Fin 2) * 1024 + 1 * j.val = j.val; omega

theorem idx4 : ∀ t : Fin cfg0.N, win0_4.index t (0 : Fin 2) = t.val / 8 ∧ win0_4.index t (1 : Fin 2) = t.val % 8 :=
  (by decide +kernel : ∀ t : Fin grid0.N, _)

/-- Point `t`'s block of input window 4, at an index. -/
theorem iblk4_at (t : Fin cfg0.N) (i : Fin 512) (j : Fin 512) :
    iblk m c 4 t (ix2 i j) = (V m c main_v15) (ix2 ⟨(t.val / 8) * 512 + i.val, by have := t_lt t; omega⟩ ⟨(t.val % 8) * 512 + j.val, by have := t_lt t; omega⟩) := by
  obtain ⟨h0, h1⟩ := idx4 t
  refine congrArg ((V m c main_v15)) (funext fun q => Fin.ext ?_)
  match q with
  | ⟨0, _⟩ => show win0_4.index t (0 : Fin 2) * 512 + 1 * i.val = (t.val / 8) * 512 + i.val; omega
  | ⟨1, _⟩ => show win0_4.index t (1 : Fin 2) * 512 + 1 * j.val = (t.val % 8) * 512 + j.val; omega

theorem idx5 : ∀ t : Fin cfg0.N, win0_5.index t (0 : Fin 2) = t.val / 8 ∧ win0_5.index t (1 : Fin 2) = 0 :=
  (by decide +kernel : ∀ t : Fin grid0.N, _)

/-- Point `t`'s block of input window 5, at an index. -/
theorem iblk5_at (t : Fin cfg0.N) (i : Fin 512) (j : Fin 1024) :
    iblk m c 5 t (ix2 i j) = (X4 m c) (ix2 ⟨(t.val / 8) * 512 + i.val, by have := t_lt t; omega⟩ j) := by
  obtain ⟨h0, h1⟩ := idx5 t
  refine congrArg ((X4 m c)) (funext fun q => Fin.ext ?_)
  match q with
  | ⟨0, _⟩ => show win0_5.index t (0 : Fin 2) * 512 + 1 * i.val = (t.val / 8) * 512 + i.val; omega
  | ⟨1, _⟩ => show win0_5.index t (1 : Fin 2) * 1024 + 1 * j.val = j.val; omega

theorem host_blocks (x : Vec Ideal S1024x4096 .f32) (d : Fin 8) (j : Fin 1024) (k : Fin 512) :
    transpose S8x1024x512 [1, 0, 2] (shapeCast S1024x8x512 (truncf (F := Ideal) .bf16 x bitsLt_bf16_f32) shapeCasts_S1024x4096_S1024x8x512)
      transposes_S1024x8x512_S8x1024x512_1_0_2 (ix3 d j k) = x (ix2 j ⟨d.val * 512 + k.val, by omega⟩) := by
  pointwise

/-- The first weight's blocks of columns, as the host lays them out. -/
theorem Vw_at (d : Fin 8) (j : Fin 1024) (k : Fin 512) :
    V m c main_v18 (ix3 d j k) = X2 m c (ix2 j ⟨d.val * 512 + k.val, by omega⟩) := by
  have h : V m c main_v18 = transpose S8x1024x512 [1, 0, 2] (shapeCast S1024x8x512 (truncf (F := Ideal) .bf16 (X2 m c) bitsLt_bf16_f32) shapeCasts_S1024x4096_S1024x8x512)
      transposes_S1024x8x512_S8x1024x512_1_0_2 := by
    unfold_abbrev_sides
    after_results
    rfl
  rw [h]
  exact host_blocks _ d j k

/-- The second weight, as the host casts it. -/
theorem Vd_at (i : S4096x1024.Idx) : V m c main_v19 i = X3 m c i := by
  have h : V m c main_v19 = truncf (F := Ideal) .bf16 (X3 m c) bitsLt_bf16_f32 := by
    unfold_abbrev_sides
    after_results
  rw [h]
  rfl

theorem host_up (x0 : Vec Ideal S2048x1024 .f32) (x1 : Vec Ideal S1x1024 .f32) (x2 : Vec Ideal S1024x4096 .f32) :
    truncf (F := Ideal) .bf16 (Host.dotGeneral (φ₁ := .bf16) dot_S2048x1024_S1024x4096_S2048x4096_1_0_0_1_n_n none (truncf (F := Ideal) .bf16 (val_main_v14 (F := Ideal) x0 x1) bitsLt_bf16_f32) (truncf (F := Ideal) .bf16 x2 bitsLt_bf16_f32)) bitsLt_bf16_f32
      = val_main_v15 (F := Ideal) x0 x1 x2 := by
  funext y
  obtain ⟨i, j, rfl⟩ : ∃ (i : Fin 2048) (j : Fin 4096), y = ix2 i j := ⟨y 0, y 1, eq_ix2 y⟩
  pointwise [val_main_v15]

/-- The hidden layer, as the host computes it. -/
theorem Vu_eq : V m c main_v15 = val_main_v15 (F := Ideal) (X0 m c) (X1 m c) (X2 m c) := by
  rw [← host_up]
  unfold_abbrev_sides
  after_results
  rfl

/-! ## The scratch blocks and the outputs, point by point -/

abbrev X : S2048x1024.Idx → EReal := X0 m c
abbrev G : S1x1024.Idx → EReal := X1 m c
abbrev WU : S1024x4096.Idx → EReal := X2 m c
abbrev WD : S4096x1024.Idx → EReal := X3 m c
abbrev DX : S2048x1024.Idx → EReal := X4 m c
abbrev U : S2048x4096.Idx → EReal := val_main_v15 (F := Ideal) (X0 m c) (X1 m c) (X2 m c)

/-- The kept rows of the gradient that comes in, after a visit. -/
abbrev kept (n : ℕ) (hn : n < cfg0.N) : Vec Ideal S512x1024 .bf16 := (outsAt0 m c n hn).2.2.2.2.2
/-- The sum of products after a visit. -/
abbrev acc (n : ℕ) (hn : n < cfg0.N) : Vec Ideal S512x1024 .f32 := (outsAt0 m c n hn).2.2.2.2.1
/-- The gradient of the norm's weight after a visit. -/
abbrev dg (n : ℕ) (hn : n < cfg0.N) : Vec Ideal S1x1024 .f32 := (outsAt0 m c n hn).2.2.2.1

theorem kept_reset (t : Fin cfg0.N) (h : t.val % 8 = 0) : kept m c t.val t.isLt = k0_pay6 (F := Ideal) (iblk m c 5 t) := by
  unfold kept
  by_cases h1 : t.val % 32 = 0
  · rw [outsAt0_A m c t h h1 (by omega)]
    dsimp only
    rw [sout0_A_1_eq]
  · rw [outsAt0_D m c t h h1 (by omega)]
    dsimp only
    rw [sout0_D_1_eq]

theorem kept_step (t : Fin cfg0.N) (h : ¬ t.val % 8 = 0) : kept m c t.val t.isLt = kept m c (t.val - 1) (Nat.lt_of_le_of_lt (Nat.sub_le _ _) t.isLt) := by
  unfold kept
  by_cases h1 : t.val % 8 = 7
  · rw [outsAt0_C m c t h (by omega) h1]
    rfl
  · rw [outsAt0_B m c t h (by omega) h1]
    rfl

theorem row_lt {n : ℕ} (hn : n < cfg0.N) (p : Fin 512) : n / 8 * 512 + p.val < 2048 := by
  have h : n < 32 := hn
  have := p.2
  omega

theorem kept_at : ∀ (n : ℕ) (hn : n < cfg0.N) (p : Fin 512) (d : Fin 1024), kept m c n hn (ix2 p d) = DX m c (ix2 ⟨n / 8 * 512 + p.val, row_lt hn p⟩ d) := by
  have first : ∀ (t : Fin cfg0.N) (h : t.val % 8 = 0) (p : Fin 512) (d : Fin 1024), kept m c t.val t.isLt (ix2 p d) = DX m c (ix2 ⟨t.val / 8 * 512 + p.val, row_lt t.isLt p⟩ d) := by
    intro t h p d
    rw [kept_reset m c t h, pay6_at, iblk5_at]
  intro n
  induction n with
  | zero =>
    intro hn p d
    exact first ⟨0, hn⟩ rfl p d
  | succ n ih =>
    intro hn p d
    by_cases h : (n + 1) % 8 = 0
    · exact first ⟨n + 1, hn⟩ h p d
    · refine (congrFun (kept_step m c ⟨n + 1, hn⟩ h) (ix2 p d)).trans ?_
      refine (ih (Nat.lt_of_succ_lt hn) p d).trans ?_
      have e2 : n / 8 = (n + 1) / 8 := by omega
      simp only [e2]

theorem acc_reset (t : Fin cfg0.N) (h : t.val % 8 = 0) :
    acc m c t.val t.isLt = k0_pay12 (F := Ideal) (iblk m c 4 t) (kept m c t.val t.isLt) (iblk m c 3 t) (k0_pay7 (F := Ideal)) (iblk m c 2 t) := by
  rw [kept_reset m c t h]
  unfold acc
  by_cases h1 : t.val % 32 = 0
  · rw [outsAt0_A m c t h h1 (by omega)]
    dsimp only
    rw [sout0_A_0_eq, pay1_eq]
  · rw [outsAt0_D m c t h h1 (by omega)]
    dsimp only
    rw [sout0_D_0_eq, pay1_eq]

theorem acc_step (t : Fin cfg0.N) (h : ¬ t.val % 8 = 0) :
    acc m c t.val t.isLt = k0_pay12 (F := Ideal) (iblk m c 4 t) (kept m c t.val t.isLt) (iblk m c 3 t) (acc m c (t.val - 1) (Nat.lt_of_le_of_lt (Nat.sub_le _ _) t.isLt)) (iblk m c 2 t) := by
  rw [kept_step m c t h]
  unfold acc kept
  by_cases h1 : t.val % 8 = 7
  · rw [outsAt0_C m c t h (by omega) h1]
    dsimp only
    rw [sout0_C_0_eq, pay1_eq]
  · rw [outsAt0_B m c t h (by omega) h1]
    dsimp only
    rw [sout0_B_0_eq, pay1_eq]

/-- The hidden layer's gradient that a visit leaves. -/
theorem hidden_out (t : Fin cfg0.N) : (outsAt0 m c t.val t.isLt).1 = k0_pay11 (F := Ideal) (iblk m c 4 t) (kept m c t.val t.isLt) (iblk m c 3 t) := by
  by_cases h : t.val % 8 = 0
  · rw [kept_reset m c t h]
    by_cases h1 : t.val % 32 = 0
    · rw [outsAt0_A m c t h h1 (by omega)]
      dsimp only
      rw [out0_A_6_eq]
    · rw [outsAt0_D m c t h h1 (by omega)]
      dsimp only
      rw [out0_D_6_eq]
  · rw [kept_step m c t h]
    unfold kept
    by_cases h1 : t.val % 8 = 7
    · rw [outsAt0_C m c t h (by omega) h1]
      dsimp only
      rw [out0_C_6_eq]
    · rw [outsAt0_B m c t h (by omega) h1]
      dsimp only
      rw [out0_B_6_eq]

/-- The activation that a visit leaves. -/
theorem act_out (t : Fin cfg0.N) : (outsAt0 m c t.val t.isLt).2.1 = k0_pay10 (F := Ideal) (iblk m c 4 t) := by
  by_cases h : t.val % 8 = 0
  · by_cases h1 : t.val % 32 = 0
    · rw [outsAt0_A m c t h h1 (by omega)]
      dsimp only
      rw [out0_A_7_eq]
    · rw [outsAt0_D m c t h h1 (by omega)]
      dsimp only
      rw [out0_D_7_eq]
  · by_cases h1 : t.val % 8 = 7
    · rw [outsAt0_C m c t h (by omega) h1]
      dsimp only
      rw [out0_C_7_eq]
    · rw [outsAt0_B m c t h (by omega) h1]
      dsimp only
      rw [out0_B_7_eq]

theorem col_lt (n : ℕ) (k : Fin 512) : n % 8 * 512 + k.val < 4096 := by
  have := k.2
  omega

/-- One entry of the hidden layer's gradient, from the blocks of a visit. -/
theorem hidden_at (t : Fin cfg0.N) (p k : Fin 512) :
    hidden (fun d => kept m c t.val t.isLt (ix2 p d)) (fun d => iblk m c 3 t (ix2 k d)) (iblk m c 4 t (ix2 p k))
      = du (U m c) (WD m c) (DX m c) ⟨t.val / 8 * 512 + p.val, row_lt t.isLt p⟩ ⟨t.val % 8 * 512 + k.val, col_lt _ k⟩ := by
  unfold du
  simp only [kept_at, iblk3_at, iblk4_at]
  exact congrArg₂ (hidden _) (funext fun d => Vd_at m c _) (congrFun (Vu_eq m c) _)

/-- One product of the sum that makes the gradient at a normed row. -/
def term (r : Fin 2048) (j : Fin 1024) (k : Fin 4096) : EReal := du (U m c) (WD m c) (DX m c) r k * WU m c (ix2 j k)

/-- A visit's products. -/
theorem visit (t : Fin cfg0.N) (p : Fin 512) (j : Fin 1024) :
    products (iblk m c 4 t) (kept m c t.val t.isLt) (iblk m c 3 t) (iblk m c 2 t) p j
      = ∑ k : Fin 512, term m c ⟨t.val / 8 * 512 + p.val, row_lt t.isLt p⟩ j ⟨t.val % 8 * 512 + k.val, col_lt _ k⟩ := by
  refine Finset.sum_congr rfl fun k _ => ?_
  rw [hidden_at, iblk2_at, Vw_at]
  rfl

/-- The scratch block after a group's first visit. -/
theorem acc_first (t : Fin cfg0.N) (h : t.val % 8 = 0) (p : Fin 512) (j : Fin 1024) :
    acc m c t.val t.isLt (ix2 p j) = ∑ k ∈ Finset.range ((t.val % 8) * 512 + 512), ext (term m c ⟨t.val / 8 * 512 + p.val, row_lt t.isLt p⟩ j) k := by
  rw [acc_reset m c t h, pay12_at, pay7_at, visit, ext_add _ _ _ (by omega)]
  simp only [h, Nat.zero_mul, Finset.sum_range_zero]

/-- The scratch block after a visit: the products of the blocks of columns visited so far. -/
theorem acc_at : ∀ (n : ℕ) (hn : n < cfg0.N) (p : Fin 512) (j : Fin 1024),
    acc m c n hn (ix2 p j) = ∑ k ∈ Finset.range ((n % 8) * 512 + 512), ext (term m c ⟨n / 8 * 512 + p.val, row_lt hn p⟩ j) k := by
  intro n
  induction n with
  | zero =>
    intro hn p j
    exact acc_first m c ⟨0, hn⟩ rfl p j
  | succ n ih =>
    intro hn p j
    by_cases h : (n + 1) % 8 = 0
    · exact acc_first m c ⟨n + 1, hn⟩ h p j
    · refine (congrFun (acc_step m c ⟨n + 1, hn⟩ h) (ix2 p j)).trans ?_
      rw [pay12_at, visit, ext_add _ _ _ (by omega)]
      refine congrArg (· + _) ?_
      refine (ih (Nat.lt_of_succ_lt hn) p j).trans ?_
      have e1 : n % 8 * 512 + 512 = (n + 1) % 8 * 512 := by omega
      have e2 : n / 8 = (n + 1) / 8 := by omega
      simp only [e1, e2]

/-- After a group's last visit the scratch block is the gradient at its normed rows. -/
theorem acc_last (t : Fin cfg0.N) (h : t.val % 8 = 7) (p : Fin 512) (j : Fin 1024) :
    acc m c t.val t.isLt (ix2 p j) = dh (U m c) (WU m c) (WD m c) (DX m c) ⟨t.val / 8 * 512 + p.val, row_lt t.isLt p⟩ j := by
  rw [acc_at]
  simp only [h]
  exact ext_sum (term m c _ j)

theorem out_last (t : Fin cfg0.N) (h : t.val % 8 = 7) :
    (outsAt0 m c t.val t.isLt).2.2.1 = k0_pay5 (F := Ideal) (iblk m c 0 t) (acc m c t.val t.isLt) (iblk m c 5 t) (iblk m c 1 t) := by
  rw [acc_step m c t (by omega), kept_step m c t (by omega), outsAt0_C m c t (by omega) (by omega) h]
  dsimp only
  rw [out0_C_8_eq, pay1_eq]

theorem dg_last (t : Fin cfg0.N) (h : t.val % 8 = 7) :
    dg m c t.val t.isLt = k0_pay4 (F := Ideal) (iblk m c 0 t) (acc m c t.val t.isLt) (dg m c (t.val - 1) (Nat.lt_of_le_of_lt (Nat.sub_le _ _) t.isLt)) := by
  rw [acc_step m c t (by omega), kept_step m c t (by omega)]
  unfold dg
  rw [outsAt0_C m c t (by omega) (by omega) h]
  dsimp only
  rw [out0_C_9_eq, pay1_eq]

theorem dg_zero (t : Fin cfg0.N) (h : t.val % 32 = 0) : dg m c t.val t.isLt = k0_pay8 (F := Ideal) := by
  unfold dg
  rw [outsAt0_A m c t (by omega) h (by omega)]
  dsimp only
  rw [out0_A_9_eq]

theorem dg_keep (t : Fin cfg0.N) (h : ¬ t.val % 32 = 0) (h7 : ¬ t.val % 8 = 7) :
    dg m c t.val t.isLt = dg m c (t.val - 1) (Nat.lt_of_le_of_lt (Nat.sub_le _ _) t.isLt) := by
  unfold dg
  by_cases h0 : t.val % 8 = 0
  · rw [outsAt0_D m c t h0 h h7]
    rfl
  · rw [outsAt0_B m c t h0 h h7]
    rfl

/-- A row's part of the gradient of the norm's weight. -/
def part (j : Fin 1024) (r : Fin 2048) : EReal := dh (U m c) (WU m c) (WD m c) (DX m c) r j * (X m c (ix2 r j) * rinv fun q => X m c (ix2 r q))

/-- The gradient of the norm's weight after a visit: the rows of the groups done so far. -/
theorem dg_at : ∀ (n : ℕ) (hn : n < cfg0.N) (j : Fin 1024),
    dg m c n hn (ix2 0 j) = ∑ r ∈ Finset.range ((n + 1) / 8 * 512), ext (part m c j) r := by
  intro n
  induction n with
  | zero =>
    intro hn j
    refine (congrFun (dg_zero m c ⟨0, hn⟩ rfl) (ix2 0 j)).trans ?_
    rw [pay8_at]
    rfl
  | succ n ih =>
    intro hn j
    have h32 : n + 1 < 32 := hn
    by_cases h7 : (n + 1) % 8 = 7
    · refine (congrFun (dg_last m c ⟨n + 1, hn⟩ h7) (ix2 0 j)).trans ?_
      rw [pay4_at]
      have e : (n + 1 + 1) / 8 * 512 = (n + 1) / 8 * 512 + 512 := by omega
      rw [e, ext_add _ _ _ (by omega)]
      refine congrArg₂ (· + ·) (ih (Nat.lt_of_succ_lt hn) j) (Finset.sum_congr rfl fun k _ => ?_)
      rw [acc_last m c ⟨n + 1, hn⟩ h7]
      simp only [iblk0_at]
      rfl
    · refine (congrFun (dg_keep m c ⟨n + 1, hn⟩ (by show ¬ (n + 1) % 32 = 0; omega) h7) (ix2 0 j)).trans ?_
      refine (ih (Nat.lt_of_succ_lt hn) j).trans ?_
      have e : (n + 1) / 8 = (n + 1 + 1) / 8 := by omega
      rw [e]

/-! ## The arrays that the run leaves -/

/-- The hidden layer's gradient that the kernel leaves is the reference's. -/
theorem G6_at (i : Fin 2048) (j : Fin 4096) : G6 m c (ix2 i j) = val_main_v48 (F := Ideal) (X0 m c) (X1 m c) (X2 m c) (X3 m c) (X4 m c) (ix2 i j) := by
  have hi := i.2
  have hj := j.2
  have hp : pt6Of (ix2 i j) = 8 * (i.val / 512) + j.val / 512 := by
    show 8 * (i.val / 512 - 0) + 1 * (j.val / 512 - 0) = _
    omega
  have hN : 8 * (i.val / 512) + j.val / 512 < cfg0.N := lt_of_lt_of_eq (by omega) N_0.symm
  have hl : loc6Of (ix2 i j) = ix2 ⟨i.val % 512, by omega⟩ ⟨j.val % 512, by omega⟩ := by
    funext a; apply Fin.ext
    match a with
    | ⟨0, _⟩ => rfl
    | ⟨1, _⟩ => rfl
  let t : Fin cfg0.N := ⟨8 * (i.val / 512) + j.val / 512, hN⟩
  have hr : (⟨t.val / 8 * 512 + i.val % 512, row_lt t.isLt ⟨i.val % 512, by omega⟩⟩ : Fin 2048) = i :=
    Fin.ext (by show (8 * (i.val / 512) + j.val / 512) / 8 * 512 + i.val % 512 = i.val; omega)
  have hc : (⟨t.val % 8 * 512 + j.val % 512, col_lt _ ⟨j.val % 512, by omega⟩⟩ : Fin 4096) = j :=
    Fin.ext (by show (8 * (i.val / 512) + j.val / 512) % 8 * 512 + j.val % 512 = j.val; omega)
  unfold G6
  rw [dif_pos (by rw [hp]; exact hN), hl, fold0_congr m c _ _ _ (by omega) hp, ← outsAt0_sweep m c _ hN]
  refine (congrFun (hidden_out m c t) (ix2 ⟨i.val % 512, by omega⟩ ⟨j.val % 512, by omega⟩)).trans ?_
  rw [pay11_at, hidden_at, ref48_at, hr, hc]

/-- The activation that the kernel leaves is the reference's. -/
theorem G7_at (i : Fin 2048) (j : Fin 4096) : G7 m c (ix2 i j) = val_main_v49 (F := Ideal) (X0 m c) (X1 m c) (X2 m c) (ix2 i j) := by
  have hi := i.2
  have hj := j.2
  have hp : pt7Of (ix2 i j) = 8 * (i.val / 512) + j.val / 512 := by
    show 8 * (i.val / 512 - 0) + 1 * (j.val / 512 - 0) = _
    omega
  have hN : 8 * (i.val / 512) + j.val / 512 < cfg0.N := lt_of_lt_of_eq (by omega) N_0.symm
  have hl : loc7Of (ix2 i j) = ix2 ⟨i.val % 512, by omega⟩ ⟨j.val % 512, by omega⟩ := by
    funext a; apply Fin.ext
    match a with
    | ⟨0, _⟩ => rfl
    | ⟨1, _⟩ => rfl
  let t : Fin cfg0.N := ⟨8 * (i.val / 512) + j.val / 512, hN⟩
  have hr : (⟨t.val / 8 * 512 + i.val % 512, row_lt t.isLt ⟨i.val % 512, by omega⟩⟩ : Fin 2048) = i :=
    Fin.ext (by show (8 * (i.val / 512) + j.val / 512) / 8 * 512 + i.val % 512 = i.val; omega)
  have hc : (⟨t.val % 8 * 512 + j.val % 512, col_lt _ ⟨j.val % 512, by omega⟩⟩ : Fin 4096) = j :=
    Fin.ext (by show (8 * (i.val / 512) + j.val / 512) % 8 * 512 + j.val % 512 = j.val; omega)
  unfold G7
  rw [dif_pos (by rw [hp]; exact hN), hl, fold0_congr m c _ _ _ (by omega) hp, ← outsAt0_sweep m c _ hN]
  refine (congrFun (act_out m c t) (ix2 ⟨i.val % 512, by omega⟩ ⟨j.val % 512, by omega⟩)).trans ?_
  rw [pay10_at, iblk4_at, Vu_eq, ref49_at, hr, hc]

/-- The rows' gradient that the kernel leaves is the reference's. -/
theorem G8_at (i : Fin 2048) (j : Fin 1024) : G8 m c (ix2 i j)
    = val_main_v50 (F := Ideal) (X0 m c) (X1 m c) (X2 m c) (X3 m c) (X4 m c) (ix2 i j) := by
  have hi := i.2
  have hj := j.2
  have hp : pt8Of (ix2 i j) = 8 * (i.val / 512) + 7 := by
    show 8 * (1 * (i.val / 512 - 0) + 1 * (j.val / 1024 - 0)) + 7 = _
    omega
  have hN : 8 * (i.val / 512) + 7 < cfg0.N := lt_of_lt_of_eq (by omega) N_0.symm
  have hl : loc8Of (ix2 i j) = ix2 ⟨i.val % 512, by omega⟩ j := by
    funext a; apply Fin.ext
    match a with
    | ⟨0, _⟩ => rfl
    | ⟨1, _⟩ => show j.val % 1024 = j.val; omega
  unfold G8
  rw [dif_pos (by rw [hp]; exact hN), hl, fold0_congr m c _ _ _ (by omega) hp, ← outsAt0_sweep m c _ hN]
  let t : Fin cfg0.N := ⟨8 * (i.val / 512) + 7, hN⟩
  have h7 : t.val % 8 = 7 := by show (8 * (i.val / 512) + 7) % 8 = 7; omega
  refine (congrFun (out_last m c t h7) (ix2 ⟨i.val % 512, by omega⟩ j)).trans ?_
  rw [pay5_at, ref50_at]
  have hr : (⟨t.val / 8 * 512 + i.val % 512, by show (8 * (i.val / 512) + 7) / 8 * 512 + i.val % 512 < 2048; omega⟩ : Fin 2048) = i :=
    Fin.ext (by show (8 * (i.val / 512) + 7) / 8 * 512 + i.val % 512 = i.val; omega)
  simp only [acc_last m c t h7, iblk0_at, iblk1_at, iblk5_at, hr]

/-- The weight's gradient that the kernel leaves is the reference's. -/
theorem G9_at (j : Fin 1024) : G9 m c (ix2 0 j)
    = val_main_v31 (F := Ideal) (X0 m c) (X1 m c) (X2 m c) (X3 m c) (X4 m c) (ix2 0 j) := by
  rw [G9_last, ← outsAt0_sweep m c 31 (lt_of_lt_of_eq (by decide) N_0.symm)]
  refine (dg_at m c 31 _ j).trans ?_
  rw [ref31_at]
  exact ext_sum (part m c j)

/-- The kernel and the reference end with equal results. -/
theorem algebraic : Cert.algebraic_Kernel4Ideal_Reference4Ideal
    (hKernel4Ideal := Cert.Kernel4Ideal.Gen.facts) (hReference4Ideal := Cert.Reference4Ideal.Gen.facts) := by
  intro m g m' g' _ hagree
  refine ⟨_, _, _, _, run m g, ?_⟩
  refine (θ_run _ _ _).mono (fun r h c => ?_) (Cert.Reference4Ideal.Value.run m' g')
  obtain ⟨h0, h1, h2, h3, k0, k1, k2, k3, k4⟩ := h c
  obtain ⟨a0, a1, a2, a3, a4⟩ := hagree c
  refine ⟨?_, ?_, ?_, ?_, k0, k1, k2, k3, k4⟩
  · refine (h0.trans (val_main_v48_eq _ _ _ _ _)).trans ?_
    rw [a0, a1, a2, a3, a4]
    funext y
    obtain ⟨i, j, rfl⟩ : ∃ (i : Fin 2048) (j : Fin 4096), y = ix2 i j := ⟨y 0, y 1, eq_ix2 y⟩
    exact (G6_at m c i j).symm
  · refine (h1.trans (val_main_v49_eq _ _ _)).trans ?_
    rw [a0, a1, a2]
    funext y
    obtain ⟨i, j, rfl⟩ : ∃ (i : Fin 2048) (j : Fin 4096), y = ix2 i j := ⟨y 0, y 1, eq_ix2 y⟩
    exact (G7_at m c i j).symm
  · refine (h2.trans (val_main_v50_eq m' c)).trans ?_
    rw [a0, a1, a2, a3, a4]
    funext y
    obtain ⟨i, j, rfl⟩ : ∃ (i : Fin 2048) (j : Fin 1024), y = ix2 i j := ⟨y 0, y 1, eq_ix2 y⟩
    exact (G8_at m c i j).symm
  · refine (h3.trans (val_main_v31_eq _ _ _ _ _)).trans ?_
    rw [a0, a1, a2, a3, a4]
    funext y
    obtain ⟨i, j, rfl⟩ : ∃ (i : Fin 1) (j : Fin 1024), y = ix2 i j := ⟨y 0, y 1, eq_ix2 y⟩
    obtain rfl : i = 0 := Subsingleton.elim _ _
    exact (G9_at m c j).symm

end Cert.Proof.MlpBwd
-- ==== Proof.WGradIn.lean ====
/- Hand-written, untrusted: the weight gradient of the input projection at the reals. Each grid point leaves the products of
   a group of rows with one device's columns, summed down the tokens; read at one index, that is the reference's gradient there. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise

@[expose] public section

noncomputable section

namespace Cert.Proof.WGradIn

open Cert.Kernel5Ideal Cert.Kernel5Ideal.Gen Cert.Kernel5Ideal.Value Idealize.ShloMosaic Idealize.ShloMosaic.TcCoe Idealize.SL.Sem
open Reference5Ideal.Read

/-- A grid point's block at one index: the sum of the products down the tokens. -/
theorem pay_at (a : Vec Ideal S2048x512 .bf16) (b : Vec Ideal S2048x1280 .bf16) (i : Fin 512) (j : Fin 1280) :
    k0_pay1 a b (ix3 0 i j) = ∑ k : Fin 2048, a (ix2 k i) * b (ix2 k j) := by
  unfold_payloads
  pointwise

/-- The reference's gradient at one index. -/
theorem ref_at (a : Vec Ideal S2048x1024 .bf16) (b : Vec Ideal S2048x10240 .bf16) (d : Fin 8) (i : Fin 1024) (j : Fin 1280) :
    val_main_v8 (F := Ideal) a b (ix3 d i j) = ∑ k : Fin 2048, a (ix2 k i) * b (ix2 k ⟨d.val * 1280 + j.val, by omega⟩) := by
  pointwise [val_main_v0, val_main_v1, val_main_cst, val_main_v2, val_main_v3, val_main_v4, val_main_v5, val_main_v6, val_main_v7, val_main_v8]
  exact Finset.sum_congr rfl fun k _ => mul_comm _ _

theorem hz : (![0, 0] : Fin 2 → Nat) = fun _ => 0 := funext fun a => by fin_cases a <;> rfl
theorem hz3 : (![0, 0, 0] : Fin 3 → Nat) = fun _ => 0 := funext fun a => by fin_cases a <;> rfl

theorem out2_at (a : Vec Ideal S2048x512 .bf16) (b : Vec Ideal S2048x1280 .bf16) (i : Fin 512) (j : Fin 1280) :
    out0_2 a b (ix3 0 i j) = ∑ k : Fin 2048, a (ix2 k i) * b (ix2 k j) := by
  unfold out0_2
  rw [View.canon_unit_zero hz3, View.ld_unit_zero hz, View.ld_unit_zero hz, pay_at]

variable (m : (ℓ : Loc nD τ sig) → Buf (Elt Ideal) ℓ) (c : Dev nD)

theorem t_lt (t : Fin cfg0.N) : t.val < 16 := t.2

theorem idx0 : ∀ t : Fin cfg0.N, win0_0.index t (0 : Fin 2) = 0 ∧ win0_0.index t (1 : Fin 2) = t.val / 8 :=
  (by decide +kernel : ∀ t : Fin grid0.N, _)

/-- Point `t`'s block of input window 0, at an index. -/
theorem iblk0_at (t : Fin cfg0.N) (i : Fin 2048) (j : Fin 512) :
    iblk m c 0 t (ix2 i j) = (m ((c : Thread nD τ).loc main_arg0)) (ix2 i ⟨(t.val / 8) * 512 + j.val, by have := t_lt t; omega⟩) := by
  obtain ⟨h0, h1⟩ := idx0 t
  refine congrArg ((m ((c : Thread nD τ).loc main_arg0))) (funext fun q => Fin.ext ?_)
  match q with
  | ⟨0, _⟩ => show win0_0.index t (0 : Fin 2) * 2048 + 1 * i.val = i.val; omega
  | ⟨1, _⟩ => show win0_0.index t (1 : Fin 2) * 512 + 1 * j.val = (t.val / 8) * 512 + j.val; omega

theorem idx1 : ∀ t : Fin cfg0.N, win0_1.index t (0 : Fin 2) = 0 ∧ win0_1.index t (1 : Fin 2) = t.val % 8 :=
  (by decide +kernel : ∀ t : Fin grid0.N, _)

/-- Point `t`'s block of input window 1, at an index. -/
theorem iblk1_at (t : Fin cfg0.N) (i : Fin 2048) (j : Fin 1280) :
    iblk m c 1 t (ix2 i j) = (m ((c : Thread nD τ).loc main_arg1)) (ix2 i ⟨(t.val % 8) * 1280 + j.val, by have := t_lt t; omega⟩) := by
  obtain ⟨h0, h1⟩ := idx1 t
  refine congrArg ((m ((c : Thread nD τ).loc main_arg1))) (funext fun q => Fin.ext ?_)
  match q with
  | ⟨0, _⟩ => show win0_1.index t (0 : Fin 2) * 2048 + 1 * i.val = i.val; omega
  | ⟨1, _⟩ => show win0_1.index t (1 : Fin 2) * 1280 + 1 * j.val = (t.val % 8) * 1280 + j.val; omega

theorem idx2 : ∀ t : Fin cfg0.N, win0_2.index t (0 : Fin 3) = t.val % 8 ∧ win0_2.index t (1 : Fin 3) = t.val / 8 ∧ win0_2.index t (2 : Fin 3) = 0 :=
  (by decide +kernel : ∀ t : Fin grid0.N, _)

/-- Where an index of point `t`'s block of result window 2 lies in the array. -/
theorem emb2 (t : Fin cfg0.N) (j : Fin 512) (k : Fin 1280) :
    ((cfg0.win 2).blk t).view.emb (ix3 0 j k) = ix3 ⟨t.val % 8, by have := t_lt t; omega⟩ ⟨(t.val / 8) * 512 + j.val, by have := t_lt t; omega⟩ k := by
  obtain ⟨h0, h1, h2⟩ := idx2 t
  funext q; apply Fin.ext
  match q with
  | ⟨0, _⟩ => show win0_2.index t (0 : Fin 3) * 1 + 1 * 0 = t.val % 8; omega
  | ⟨1, _⟩ => show win0_2.index t (1 : Fin 3) * 512 + 1 * j.val = (t.val / 8) * 512 + j.val; omega
  | ⟨2, _⟩ => show win0_2.index t (2 : Fin 3) * 1280 + 1 * k.val = k.val; omega

/-- Every index of the result lies in some point's block. -/
theorem covered2 (y : S8x1024x1280.Idx) : ∃ t : Fin cfg0.N, (cfg0.win 2).flush t = true ∧ y ∈ ((cfg0.win 2).blk t).view.set := by
  obtain ⟨i, j, k, rfl⟩ : ∃ (i : Fin 8) (j : Fin 1024) (k : Fin 1280), y = ix3 i j k := ⟨y 0, y 1, y 2, eq_ix3 y⟩
  have hi := i.2
  have hj := j.2
  let t : Fin cfg0.N := ⟨j.val / 512 * 8 + i.val, by show j.val / 512 * 8 + i.val < 16; omega⟩
  have ht : t.val = j.val / 512 * 8 + i.val := rfl
  refine ⟨t, flush0_2 t, ?_⟩
  have h := ((cfg0.win 2).blk t).view.emb_mem_set (ix3 0 ⟨j.val % 512, by omega⟩ k)
  rw [emb2] at h
  refine (congrArg (· ∈ ((cfg0.win 2).blk t).view.set) ?_).mp h
  funext q; apply Fin.ext
  match q with
  | ⟨0, _⟩ => show t.val % 8 = i.val; omega
  | ⟨1, _⟩ => show (t.val / 8) * 512 + j.val % 512 = j.val; omega
  | ⟨2, _⟩ => rfl

/-- What point `t` writes back is its block of the reference's result. -/
theorem flushed2_eq (t : Fin cfg0.N) : (dats m 0 c).flushed 2 t
    = ((cfg0.win 2).blk t).view.read (Elt Ideal) (val_main_v8 (F := Ideal) (m ((c : Thread nD τ).loc main_arg0)) (m ((c : Thread nD τ).loc main_arg1))) := by
  rw [flushed2]
  funext y
  obtain ⟨p, i, j, rfl⟩ : ∃ (p : Fin 1) (i : Fin 512) (j : Fin 1280), y = ix3 p i j := ⟨y 0, y 1, y 2, eq_ix3 y⟩
  obtain rfl : p = 0 := Subsingleton.elim _ _
  show out0_2 (iblk m c 0 t) (iblk m c 1 t) (ix3 0 i j) = val_main_v8 (F := Ideal) (m ((c : Thread nD τ).loc main_arg0)) (m ((c : Thread nD τ).loc main_arg1)) (((cfg0.win 2).blk t).view.emb (ix3 0 i j))
  rw [emb2, out2_at, ref_at]
  refine Finset.sum_congr rfl fun k _ => ?_
  rw [iblk0_at, iblk1_at]

theorem final2 : (dats m 0 c).arrAt 2 cfg0.N = val_main_v8 (F := Ideal) (m ((c : Thread nD τ).loc main_arg0)) (m ((c : Thread nD τ).loc main_arg1)) :=
  (dats m 0 c).arrAt_eq_of_cover 2 _ (fun t _ => flushed2_eq m c t) covered2

/-- The kernel and the reference end with equal results. -/
theorem algebraic : Cert.algebraic_Kernel5Ideal_Reference5Ideal
    (hKernel5Ideal := Cert.Kernel5Ideal.Gen.facts) (hReference5Ideal := Cert.Reference5Ideal.Gen.facts) := by
  intro m g m' g' _ hagree
  refine ⟨fun c => (dats m 0 c).arrAt 2 cfg0.N, run_blocks m g, ?_⟩
  refine (θ_run _ _ _).mono (fun r h c => ?_) (Cert.Reference5Ideal.Value.run m' g')
  obtain ⟨h0, k0, k1⟩ := h c
  obtain ⟨a0, a1⟩ := hagree c
  exact ⟨(h0.trans (val_main_v8_eq _ _)).trans (by rw [a0, a1]; exact (final2 m c).symm), k0, k1⟩

end Cert.Proof.WGradIn
-- ==== Proof.WGradConvOut.lean ====
/- Hand-written, untrusted: the weight gradient of the convolution's output projection at the reals. Each grid point leaves the products of
   a group of rows with one device's columns, summed down the tokens; read at one index, that is the reference's gradient there. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise

@[expose] public section

noncomputable section

namespace Cert.Proof.WGradConvOut

open Cert.Kernel6Ideal Cert.Kernel6Ideal.Gen Cert.Kernel6Ideal.Value Idealize.ShloMosaic Idealize.ShloMosaic.TcCoe Idealize.SL.Sem
open Reference6Ideal.Read

/-- A grid point's block at one index: the sum of the products down the tokens. -/
theorem pay_at (a : Vec Ideal S2048x512 .bf16) (b : Vec Ideal S2048x1024 .bf16) (i : Fin 512) (j : Fin 1024) :
    k0_pay1 a b (ix3 0 i j) = ∑ k : Fin 2048, a (ix2 k i) * b (ix2 k j) := by
  unfold_payloads
  pointwise

/-- The reference's gradient at one index. -/
theorem ref_at (a : Vec Ideal S2048x1024 .bf16) (b : Vec Ideal S2048x1024 .bf16) (d : Fin 1) (i : Fin 1024) (j : Fin 1024) :
    val_main_v8 (F := Ideal) a b (ix3 d i j) = ∑ k : Fin 2048, a (ix2 k i) * b (ix2 k ⟨d.val * 1024 + j.val, by omega⟩) := by
  pointwise [val_main_v0, val_main_v1, val_main_cst, val_main_v2, val_main_v3, val_main_v4, val_main_v5, val_main_v6, val_main_v7, val_main_v8]
  exact Finset.sum_congr rfl fun k _ => mul_comm _ _

/-- The same, at the only block. -/
theorem ref_at0 (a : Vec Ideal S2048x1024 .bf16) (b : Vec Ideal S2048x1024 .bf16) (i : Fin 1024) (j : Fin 1024) :
    val_main_v8 (F := Ideal) a b (ix3 0 i j) = ∑ k : Fin 2048, a (ix2 k i) * b (ix2 k j) :=
  (ref_at a b 0 i j).trans (Finset.sum_congr rfl fun k _ => congrArg (fun q => a (ix2 k i) * b (ix2 k q)) (Fin.ext (by show 0 * 1024 + j.val = j.val; omega)))

theorem hz : (![0, 0] : Fin 2 → Nat) = fun _ => 0 := funext fun a => by fin_cases a <;> rfl
theorem hz3 : (![0, 0, 0] : Fin 3 → Nat) = fun _ => 0 := funext fun a => by fin_cases a <;> rfl

theorem out2_at (a : Vec Ideal S2048x512 .bf16) (b : Vec Ideal S2048x1024 .bf16) (i : Fin 512) (j : Fin 1024) :
    out0_2 a b (ix3 0 i j) = ∑ k : Fin 2048, a (ix2 k i) * b (ix2 k j) := by
  unfold out0_2
  rw [View.canon_unit_zero hz3, View.ld_unit_zero hz, View.ld_unit_zero hz, pay_at]

variable (m : (ℓ : Loc nD τ sig) → Buf (Elt Ideal) ℓ) (c : Dev nD)

theorem t_lt (t : Fin cfg0.N) : t.val < 2 := t.2

theorem idx0 : ∀ t : Fin cfg0.N, win0_0.index t (0 : Fin 2) = 0 ∧ win0_0.index t (1 : Fin 2) = t.val :=
  (by decide +kernel : ∀ t : Fin grid0.N, _)

/-- Point `t`'s block of input window 0, at an index. -/
theorem iblk0_at (t : Fin cfg0.N) (i : Fin 2048) (j : Fin 512) :
    iblk m c 0 t (ix2 i j) = (m ((c : Thread nD τ).loc main_arg0)) (ix2 i ⟨(t.val) * 512 + j.val, by have := t_lt t; omega⟩) := by
  obtain ⟨h0, h1⟩ := idx0 t
  refine congrArg ((m ((c : Thread nD τ).loc main_arg0))) (funext fun q => Fin.ext ?_)
  match q with
  | ⟨0, _⟩ => show win0_0.index t (0 : Fin 2) * 2048 + 1 * i.val = i.val; omega
  | ⟨1, _⟩ => show win0_0.index t (1 : Fin 2) * 512 + 1 * j.val = (t.val) * 512 + j.val; omega

theorem idx1 : ∀ t : Fin cfg0.N, win0_1.index t (0 : Fin 2) = 0 ∧ win0_1.index t (1 : Fin 2) = 0 :=
  (by decide +kernel : ∀ t : Fin grid0.N, _)

/-- Point `t`'s block of input window 1, at an index. -/
theorem iblk1_at (t : Fin cfg0.N) (i : Fin 2048) (j : Fin 1024) :
    iblk m c 1 t (ix2 i j) = (m ((c : Thread nD τ).loc main_arg1)) (ix2 i j) := by
  obtain ⟨h0, h1⟩ := idx1 t
  refine congrArg ((m ((c : Thread nD τ).loc main_arg1))) (funext fun q => Fin.ext ?_)
  match q with
  | ⟨0, _⟩ => show win0_1.index t (0 : Fin 2) * 2048 + 1 * i.val = i.val; omega
  | ⟨1, _⟩ => show win0_1.index t (1 : Fin 2) * 1024 + 1 * j.val = j.val; omega

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)

/-- Where an index of point `t`'s block of result window 2 lies in the array. -/
theorem emb2 (t : Fin cfg0.N) (j : Fin 512) (k : Fin 1024) :
    ((cfg0.win 2).blk t).view.emb (ix3 0 j k) = ix3 0 ⟨(t.val) * 512 + j.val, by have := t_lt t; omega⟩ k := by
  obtain ⟨h0, h1, h2⟩ := idx2 t
  funext q; apply Fin.ext
  match q with
  | ⟨0, _⟩ => show win0_2.index t (0 : Fin 3) * 1 + 1 * 0 = 0; omega
  | ⟨1, _⟩ => show win0_2.index t (1 : Fin 3) * 512 + 1 * j.val = (t.val) * 512 + j.val; omega
  | ⟨2, _⟩ => show win0_2.index t (2 : Fin 3) * 1024 + 1 * k.val = k.val; omega

/-- Every index of the result lies in some point's block. -/
theorem covered2 (y : S1x1024x1024.Idx) : ∃ t : Fin cfg0.N, (cfg0.win 2).flush t = true ∧ y ∈ ((cfg0.win 2).blk t).view.set := by
  obtain ⟨i, j, k, rfl⟩ : ∃ (i : Fin 1) (j : Fin 1024) (k : Fin 1024), y = ix3 i j k := ⟨y 0, y 1, y 2, eq_ix3 y⟩
  have hi := i.2
  have hj := j.2
  let t : Fin cfg0.N := ⟨j.val / 512, by show j.val / 512 < 2; omega⟩
  have ht : t.val = j.val / 512 := rfl
  refine ⟨t, flush0_2 t, ?_⟩
  have h := ((cfg0.win 2).blk t).view.emb_mem_set (ix3 0 ⟨j.val % 512, by omega⟩ k)
  rw [emb2] at h
  refine (congrArg (· ∈ ((cfg0.win 2).blk t).view.set) ?_).mp h
  funext q; apply Fin.ext
  match q with
  | ⟨0, _⟩ => show (0 : Nat) = i.val; omega
  | ⟨1, _⟩ => show (t.val) * 512 + j.val % 512 = j.val; omega
  | ⟨2, _⟩ => rfl

/-- What point `t` writes back is its block of the reference's result. -/
theorem flushed2_eq (t : Fin cfg0.N) : (dats m 0 c).flushed 2 t
    = ((cfg0.win 2).blk t).view.read (Elt Ideal) (val_main_v8 (F := Ideal) (m ((c : Thread nD τ).loc main_arg0)) (m ((c : Thread nD τ).loc main_arg1))) := by
  rw [flushed2]
  funext y
  obtain ⟨p, i, j, rfl⟩ : ∃ (p : Fin 1) (i : Fin 512) (j : Fin 1024), y = ix3 p i j := ⟨y 0, y 1, y 2, eq_ix3 y⟩
  obtain rfl : p = 0 := Subsingleton.elim _ _
  show out0_2 (iblk m c 0 t) (iblk m c 1 t) (ix3 0 i j) = val_main_v8 (F := Ideal) (m ((c : Thread nD τ).loc main_arg0)) (m ((c : Thread nD τ).loc main_arg1)) (((cfg0.win 2).blk t).view.emb (ix3 0 i j))
  rw [emb2, out2_at, ref_at0]
  refine Finset.sum_congr rfl fun k _ => ?_
  rw [iblk0_at, iblk1_at]

theorem final2 : (dats m 0 c).arrAt 2 cfg0.N = val_main_v8 (F := Ideal) (m ((c : Thread nD τ).loc main_arg0)) (m ((c : Thread nD τ).loc main_arg1)) :=
  (dats m 0 c).arrAt_eq_of_cover 2 _ (fun t _ => flushed2_eq m c t) covered2

/-- The kernel and the reference end with equal results. -/
theorem algebraic : Cert.algebraic_Kernel6Ideal_Reference6Ideal
    (hKernel6Ideal := Cert.Kernel6Ideal.Gen.facts) (hReference6Ideal := Cert.Reference6Ideal.Gen.facts) := by
  intro m g m' g' _ hagree
  refine ⟨fun c => (dats m 0 c).arrAt 2 cfg0.N, run_blocks m g, ?_⟩
  refine (θ_run _ _ _).mono (fun r h c => ?_) (Cert.Reference6Ideal.Value.run m' g')
  obtain ⟨h0, k0, k1⟩ := h c
  obtain ⟨a0, a1⟩ := hagree c
  exact ⟨(h0.trans (val_main_v8_eq _ _)).trans (by rw [a0, a1]; exact (final2 m c).symm), k0, k1⟩

end Cert.Proof.WGradConvOut
-- ==== Proof.WGradOut.lean ====
/- Hand-written, untrusted: the weight gradient of the merge's output projection at the reals. Each grid point leaves the products of
   a group of rows with one device's columns, summed down the tokens; read at one index, that is the reference's gradient there. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise

@[expose] public section

noncomputable section

namespace Cert.Proof.WGradOut

open Cert.Kernel7Ideal Cert.Kernel7Ideal.Gen Cert.Kernel7Ideal.Value Idealize.ShloMosaic Idealize.ShloMosaic.TcCoe Idealize.SL.Sem
open Reference7Ideal.Read

/-- A grid point's block at one index: the sum of the products down the tokens. -/
theorem pay_at (a : Vec Ideal S2048x512 .bf16) (b : Vec Ideal S2048x1024 .f32) (i : Fin 512) (j : Fin 1024) :
    k0_pay1 a b (ix3 0 i j) = ∑ k : Fin 2048, a (ix2 k i) * b (ix2 k j) := by
  unfold_payloads
  pointwise

/-- The reference's gradient at one index. -/
theorem ref_at (a : Vec Ideal S2048x1024 .bf16) (b : Vec Ideal S2048x1024 .f32) (d : Fin 1) (i : Fin 1024) (j : Fin 1024) :
    val_main_v7 (F := Ideal) a b (ix3 d i j) = ∑ k : Fin 2048, a (ix2 k i) * b (ix2 k ⟨d.val * 1024 + j.val, by omega⟩) := by
  pointwise [val_main_v0, val_main_cst, val_main_v1, val_main_v2, val_main_v3, val_main_v4, val_main_v5, val_main_v6, val_main_v7]
  exact Finset.sum_congr rfl fun k _ => mul_comm _ _

/-- The same, at the only block. -/
theorem ref_at0 (a : Vec Ideal S2048x1024 .bf16) (b : Vec Ideal S2048x1024 .f32) (i : Fin 1024) (j : Fin 1024) :
    val_main_v7 (F := Ideal) a b (ix3 0 i j) = ∑ k : Fin 2048, a (ix2 k i) * b (ix2 k j) :=
  (ref_at a b 0 i j).trans (Finset.sum_congr rfl fun k _ => congrArg (fun q => a (ix2 k i) * b (ix2 k q)) (Fin.ext (by show 0 * 1024 + j.val = j.val; omega)))

theorem hz : (![0, 0] : Fin 2 → Nat) = fun _ => 0 := funext fun a => by fin_cases a <;> rfl
theorem hz3 : (![0, 0, 0] : Fin 3 → Nat) = fun _ => 0 := funext fun a => by fin_cases a <;> rfl

theorem out2_at (a : Vec Ideal S2048x512 .bf16) (b : Vec Ideal S2048x1024 .f32) (i : Fin 512) (j : Fin 1024) :
    out0_2 a b (ix3 0 i j) = ∑ k : Fin 2048, a (ix2 k i) * b (ix2 k j) := by
  unfold out0_2
  rw [View.canon_unit_zero hz3, View.ld_unit_zero hz, View.ld_unit_zero hz, pay_at]

variable (m : (ℓ : Loc nD τ sig) → Buf (Elt Ideal) ℓ) (c : Dev nD)

theorem t_lt (t : Fin cfg0.N) : t.val < 2 := t.2

theorem idx0 : ∀ t : Fin cfg0.N, win0_0.index t (0 : Fin 2) = 0 ∧ win0_0.index t (1 : Fin 2) = t.val :=
  (by decide +kernel : ∀ t : Fin grid0.N, _)

/-- Point `t`'s block of input window 0, at an index. -/
theorem iblk0_at (t : Fin cfg0.N) (i : Fin 2048) (j : Fin 512) :
    iblk m c 0 t (ix2 i j) = (m ((c : Thread nD τ).loc main_arg0)) (ix2 i ⟨(t.val) * 512 + j.val, by have := t_lt t; omega⟩) := by
  obtain ⟨h0, h1⟩ := idx0 t
  refine congrArg ((m ((c : Thread nD τ).loc main_arg0))) (funext fun q => Fin.ext ?_)
  match q with
  | ⟨0, _⟩ => show win0_0.index t (0 : Fin 2) * 2048 + 1 * i.val = i.val; omega
  | ⟨1, _⟩ => show win0_0.index t (1 : Fin 2) * 512 + 1 * j.val = (t.val) * 512 + j.val; omega

theorem idx1 : ∀ t : Fin cfg0.N, win0_1.index t (0 : Fin 2) = 0 ∧ win0_1.index t (1 : Fin 2) = 0 :=
  (by decide +kernel : ∀ t : Fin grid0.N, _)

/-- Point `t`'s block of input window 1, at an index. -/
theorem iblk1_at (t : Fin cfg0.N) (i : Fin 2048) (j : Fin 1024) :
    iblk m c 1 t (ix2 i j) = (m ((c : Thread nD τ).loc main_arg1)) (ix2 i j) := by
  obtain ⟨h0, h1⟩ := idx1 t
  refine congrArg ((m ((c : Thread nD τ).loc main_arg1))) (funext fun q => Fin.ext ?_)
  match q with
  | ⟨0, _⟩ => show win0_1.index t (0 : Fin 2) * 2048 + 1 * i.val = i.val; omega
  | ⟨1, _⟩ => show win0_1.index t (1 : Fin 2) * 1024 + 1 * j.val = j.val; omega

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)

/-- Where an index of point `t`'s block of result window 2 lies in the array. -/
theorem emb2 (t : Fin cfg0.N) (j : Fin 512) (k : Fin 1024) :
    ((cfg0.win 2).blk t).view.emb (ix3 0 j k) = ix3 0 ⟨(t.val) * 512 + j.val, by have := t_lt t; omega⟩ k := by
  obtain ⟨h0, h1, h2⟩ := idx2 t
  funext q; apply Fin.ext
  match q with
  | ⟨0, _⟩ => show win0_2.index t (0 : Fin 3) * 1 + 1 * 0 = 0; omega
  | ⟨1, _⟩ => show win0_2.index t (1 : Fin 3) * 512 + 1 * j.val = (t.val) * 512 + j.val; omega
  | ⟨2, _⟩ => show win0_2.index t (2 : Fin 3) * 1024 + 1 * k.val = k.val; omega

/-- Every index of the result lies in some point's block. -/
theorem covered2 (y : S1x1024x1024.Idx) : ∃ t : Fin cfg0.N, (cfg0.win 2).flush t = true ∧ y ∈ ((cfg0.win 2).blk t).view.set := by
  obtain ⟨i, j, k, rfl⟩ : ∃ (i : Fin 1) (j : Fin 1024) (k : Fin 1024), y = ix3 i j k := ⟨y 0, y 1, y 2, eq_ix3 y⟩
  have hi := i.2
  have hj := j.2
  let t : Fin cfg0.N := ⟨j.val / 512, by show j.val / 512 < 2; omega⟩
  have ht : t.val = j.val / 512 := rfl
  refine ⟨t, flush0_2 t, ?_⟩
  have h := ((cfg0.win 2).blk t).view.emb_mem_set (ix3 0 ⟨j.val % 512, by omega⟩ k)
  rw [emb2] at h
  refine (congrArg (· ∈ ((cfg0.win 2).blk t).view.set) ?_).mp h
  funext q; apply Fin.ext
  match q with
  | ⟨0, _⟩ => show (0 : Nat) = i.val; omega
  | ⟨1, _⟩ => show (t.val) * 512 + j.val % 512 = j.val; omega
  | ⟨2, _⟩ => rfl

/-- What point `t` writes back is its block of the reference's result. -/
theorem flushed2_eq (t : Fin cfg0.N) : (dats m 0 c).flushed 2 t
    = ((cfg0.win 2).blk t).view.read (Elt Ideal) (val_main_v7 (F := Ideal) (m ((c : Thread nD τ).loc main_arg0)) (m ((c : Thread nD τ).loc main_arg1))) := by
  rw [flushed2]
  funext y
  obtain ⟨p, i, j, rfl⟩ : ∃ (p : Fin 1) (i : Fin 512) (j : Fin 1024), y = ix3 p i j := ⟨y 0, y 1, y 2, eq_ix3 y⟩
  obtain rfl : p = 0 := Subsingleton.elim _ _
  show out0_2 (iblk m c 0 t) (iblk m c 1 t) (ix3 0 i j) = val_main_v7 (F := Ideal) (m ((c : Thread nD τ).loc main_arg0)) (m ((c : Thread nD τ).loc main_arg1)) (((cfg0.win 2).blk t).view.emb (ix3 0 i j))
  rw [emb2, out2_at, ref_at0]
  refine Finset.sum_congr rfl fun k _ => ?_
  rw [iblk0_at, iblk1_at]

theorem final2 : (dats m 0 c).arrAt 2 cfg0.N = val_main_v7 (F := Ideal) (m ((c : Thread nD τ).loc main_arg0)) (m ((c : Thread nD τ).loc main_arg1)) :=
  (dats m 0 c).arrAt_eq_of_cover 2 _ (fun t _ => flushed2_eq m c t) covered2

/-- The kernel and the reference end with equal results. -/
theorem algebraic : Cert.algebraic_Kernel7Ideal_Reference7Ideal
    (hKernel7Ideal := Cert.Kernel7Ideal.Gen.facts) (hReference7Ideal := Cert.Reference7Ideal.Gen.facts) := by
  intro m g m' g' _ hagree
  refine ⟨fun c => (dats m 0 c).arrAt 2 cfg0.N, run_blocks m g, ?_⟩
  refine (θ_run _ _ _).mono (fun r h c => ?_) (Cert.Reference7Ideal.Value.run m' g')
  obtain ⟨h0, k0, k1⟩ := h c
  obtain ⟨a0, a1⟩ := hagree c
  exact ⟨(h0.trans (val_main_v7_eq _ _)).trans (by rw [a0, a1]; exact (final2 m c).symm), k0, k1⟩

end Cert.Proof.WGradOut
-- ==== Proof.WGradMem.lean ====
/- Hand-written, untrusted: the weight gradient of the memory's keys and values at the reals. Each grid point leaves the products of
   a group of rows with one device's columns, summed down the tokens; read at one index, that is the reference's gradient there. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise

@[expose] public section

noncomputable section

namespace Cert.Proof.WGradMem

open Cert.Kernel8Ideal Cert.Kernel8Ideal.Gen Cert.Kernel8Ideal.Value Idealize.ShloMosaic Idealize.ShloMosaic.TcCoe Idealize.SL.Sem
open Reference8Ideal.Read

/-- A grid point's block at one index: the sum of the products down the tokens. -/
theorem pay_at (a : Vec Ideal S256x512 .bf16) (b : Vec Ideal S256x256 .bf16) (i : Fin 512) (j : Fin 256) :
    k0_pay1 a b (ix3 0 i j) = ∑ k : Fin 256, a (ix2 k i) * b (ix2 k j) := by
  unfold_payloads
  pointwise

/-- The reference's gradient at one index. -/
theorem ref_at (a : Vec Ideal S256x1024 .bf16) (b : Vec Ideal S256x2048 .bf16) (d : Fin 8) (i : Fin 1024) (j : Fin 256) :
    val_main_v8 (F := Ideal) a b (ix3 d i j) = ∑ k : Fin 256, a (ix2 k i) * b (ix2 k ⟨d.val * 256 + j.val, by omega⟩) := by
  pointwise [val_main_v0, val_main_v1, val_main_cst, val_main_v2, val_main_v3, val_main_v4, val_main_v5, val_main_v6, val_main_v7, val_main_v8]
  exact Finset.sum_congr rfl fun k _ => mul_comm _ _

theorem hz : (![0, 0] : Fin 2 → Nat) = fun _ => 0 := funext fun a => by fin_cases a <;> rfl
theorem hz3 : (![0, 0, 0] : Fin 3 → Nat) = fun _ => 0 := funext fun a => by fin_cases a <;> rfl

theorem out2_at (a : Vec Ideal S256x512 .bf16) (b : Vec Ideal S256x256 .bf16) (i : Fin 512) (j : Fin 256) :
    out0_2 a b (ix3 0 i j) = ∑ k : Fin 256, a (ix2 k i) * b (ix2 k j) := by
  unfold out0_2
  rw [View.canon_unit_zero hz3, View.ld_unit_zero hz, View.ld_unit_zero hz, pay_at]

variable (m : (ℓ : Loc nD τ sig) → Buf (Elt Ideal) ℓ) (c : Dev nD)

theorem t_lt (t : Fin cfg0.N) : t.val < 16 := t.2

theorem idx0 : ∀ t : Fin cfg0.N, win0_0.index t (0 : Fin 2) = 0 ∧ win0_0.index t (1 : Fin 2) = t.val / 8 :=
  (by decide +kernel : ∀ t : Fin grid0.N, _)

/-- Point `t`'s block of input window 0, at an index. -/
theorem iblk0_at (t : Fin cfg0.N) (i : Fin 256) (j : Fin 512) :
    iblk m c 0 t (ix2 i j) = (m ((c : Thread nD τ).loc main_arg0)) (ix2 i ⟨(t.val / 8) * 512 + j.val, by have := t_lt t; omega⟩) := by
  obtain ⟨h0, h1⟩ := idx0 t
  refine congrArg ((m ((c : Thread nD τ).loc main_arg0))) (funext fun q => Fin.ext ?_)
  match q with
  | ⟨0, _⟩ => show win0_0.index t (0 : Fin 2) * 256 + 1 * i.val = i.val; omega
  | ⟨1, _⟩ => show win0_0.index t (1 : Fin 2) * 512 + 1 * j.val = (t.val / 8) * 512 + j.val; omega

theorem idx1 : ∀ t : Fin cfg0.N, win0_1.index t (0 : Fin 2) = 0 ∧ win0_1.index t (1 : Fin 2) = t.val % 8 :=
  (by decide +kernel : ∀ t : Fin grid0.N, _)

/-- Point `t`'s block of input window 1, at an index. -/
theorem iblk1_at (t : Fin cfg0.N) (i : Fin 256) (j : Fin 256) :
    iblk m c 1 t (ix2 i j) = (m ((c : Thread nD τ).loc main_arg1)) (ix2 i ⟨(t.val % 8) * 256 + j.val, by have := t_lt t; omega⟩) := by
  obtain ⟨h0, h1⟩ := idx1 t
  refine congrArg ((m ((c : Thread nD τ).loc main_arg1))) (funext fun q => Fin.ext ?_)
  match q with
  | ⟨0, _⟩ => show win0_1.index t (0 : Fin 2) * 256 + 1 * i.val = i.val; omega
  | ⟨1, _⟩ => show win0_1.index t (1 : Fin 2) * 256 + 1 * j.val = (t.val % 8) * 256 + j.val; omega

theorem idx2 : ∀ t : Fin cfg0.N, win0_2.index t (0 : Fin 3) = t.val % 8 ∧ win0_2.index t (1 : Fin 3) = t.val / 8 ∧ win0_2.index t (2 : Fin 3) = 0 :=
  (by decide +kernel : ∀ t : Fin grid0.N, _)

/-- Where an index of point `t`'s block of result window 2 lies in the array. -/
theorem emb2 (t : Fin cfg0.N) (j : Fin 512) (k : Fin 256) :
    ((cfg0.win 2).blk t).view.emb (ix3 0 j k) = ix3 ⟨t.val % 8, by have := t_lt t; omega⟩ ⟨(t.val / 8) * 512 + j.val, by have := t_lt t; omega⟩ k := by
  obtain ⟨h0, h1, h2⟩ := idx2 t
  funext q; apply Fin.ext
  match q with
  | ⟨0, _⟩ => show win0_2.index t (0 : Fin 3) * 1 + 1 * 0 = t.val % 8; omega
  | ⟨1, _⟩ => show win0_2.index t (1 : Fin 3) * 512 + 1 * j.val = (t.val / 8) * 512 + j.val; omega
  | ⟨2, _⟩ => show win0_2.index t (2 : Fin 3) * 256 + 1 * k.val = k.val; omega

/-- Every index of the result lies in some point's block. -/
theorem covered2 (y : S8x1024x256.Idx) : ∃ t : Fin cfg0.N, (cfg0.win 2).flush t = true ∧ y ∈ ((cfg0.win 2).blk t).view.set := by
  obtain ⟨i, j, k, rfl⟩ : ∃ (i : Fin 8) (j : Fin 1024) (k : Fin 256), y = ix3 i j k := ⟨y 0, y 1, y 2, eq_ix3 y⟩
  have hi := i.2
  have hj := j.2
  let t : Fin cfg0.N := ⟨j.val / 512 * 8 + i.val, by show j.val / 512 * 8 + i.val < 16; omega⟩
  have ht : t.val = j.val / 512 * 8 + i.val := rfl
  refine ⟨t, flush0_2 t, ?_⟩
  have h := ((cfg0.win 2).blk t).view.emb_mem_set (ix3 0 ⟨j.val % 512, by omega⟩ k)
  rw [emb2] at h
  refine (congrArg (· ∈ ((cfg0.win 2).blk t).view.set) ?_).mp h
  funext q; apply Fin.ext
  match q with
  | ⟨0, _⟩ => show t.val % 8 = i.val; omega
  | ⟨1, _⟩ => show (t.val / 8) * 512 + j.val % 512 = j.val; omega
  | ⟨2, _⟩ => rfl

/-- What point `t` writes back is its block of the reference's result. -/
theorem flushed2_eq (t : Fin cfg0.N) : (dats m 0 c).flushed 2 t
    = ((cfg0.win 2).blk t).view.read (Elt Ideal) (val_main_v8 (F := Ideal) (m ((c : Thread nD τ).loc main_arg0)) (m ((c : Thread nD τ).loc main_arg1))) := by
  rw [flushed2]
  funext y
  obtain ⟨p, i, j, rfl⟩ : ∃ (p : Fin 1) (i : Fin 512) (j : Fin 256), y = ix3 p i j := ⟨y 0, y 1, y 2, eq_ix3 y⟩
  obtain rfl : p = 0 := Subsingleton.elim _ _
  show out0_2 (iblk m c 0 t) (iblk m c 1 t) (ix3 0 i j) = val_main_v8 (F := Ideal) (m ((c : Thread nD τ).loc main_arg0)) (m ((c : Thread nD τ).loc main_arg1)) (((cfg0.win 2).blk t).view.emb (ix3 0 i j))
  rw [emb2, out2_at, ref_at]
  refine Finset.sum_congr rfl fun k _ => ?_
  rw [iblk0_at, iblk1_at]

theorem final2 : (dats m 0 c).arrAt 2 cfg0.N = val_main_v8 (F := Ideal) (m ((c : Thread nD τ).loc main_arg0)) (m ((c : Thread nD τ).loc main_arg1)) :=
  (dats m 0 c).arrAt_eq_of_cover 2 _ (fun t _ => flushed2_eq m c t) covered2

/-- The kernel and the reference end with equal results. -/
theorem algebraic : Cert.algebraic_Kernel8Ideal_Reference8Ideal
    (hKernel8Ideal := Cert.Kernel8Ideal.Gen.facts) (hReference8Ideal := Cert.Reference8Ideal.Gen.facts) := by
  intro m g m' g' _ hagree
  refine ⟨fun c => (dats m 0 c).arrAt 2 cfg0.N, run_blocks m g, ?_⟩
  refine (θ_run _ _ _).mono (fun r h c => ?_) (Cert.Reference8Ideal.Value.run m' g')
  obtain ⟨h0, k0, k1⟩ := h c
  obtain ⟨a0, a1⟩ := hagree c
  exact ⟨(h0.trans (val_main_v8_eq _ _)).trans (by rw [a0, a1]; exact (final2 m c).symm), k0, k1⟩

end Cert.Proof.WGradMem
-- ==== Proof.WGradUp.lean ====
/- Hand-written, untrusted: the weight gradient of the MLP's first product at the reals. Each grid point leaves the products of
   a group of rows with one device's columns, summed down the tokens; read at one index, that is the reference's gradient there. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise

@[expose] public section

noncomputable section

namespace Cert.Proof.WGradUp

open Cert.Kernel9Ideal Cert.Kernel9Ideal.Gen Cert.Kernel9Ideal.Value Idealize.ShloMosaic Idealize.ShloMosaic.TcCoe Idealize.SL.Sem
open Reference9Ideal.Read

/-- A grid point's block at one index: the sum of the products down the tokens. -/
theorem pay_at (a : Vec Ideal S2048x512 .bf16) (b : Vec Ideal S2048x512 .bf16) (i : Fin 512) (j : Fin 512) :
    k0_pay1 a b (ix3 0 i j) = ∑ k : Fin 2048, a (ix2 k i) * b (ix2 k j) := by
  unfold_payloads
  pointwise

/-- The reference's gradient at one index. -/
theorem ref_at (a : Vec Ideal S2048x1024 .bf16) (b : Vec Ideal S2048x4096 .bf16) (d : Fin 8) (i : Fin 1024) (j : Fin 512) :
    val_main_v8 (F := Ideal) a b (ix3 d i j) = ∑ k : Fin 2048, a (ix2 k i) * b (ix2 k ⟨d.val * 512 + j.val, by omega⟩) := by
  pointwise [val_main_v0, val_main_v1, val_main_cst, val_main_v2, val_main_v3, val_main_v4, val_main_v5, val_main_v6, val_main_v7, val_main_v8]
  exact Finset.sum_congr rfl fun k _ => mul_comm _ _

theorem hz : (![0, 0] : Fin 2 → Nat) = fun _ => 0 := funext fun a => by fin_cases a <;> rfl
theorem hz3 : (![0, 0, 0] : Fin 3 → Nat) = fun _ => 0 := funext fun a => by fin_cases a <;> rfl

theorem out2_at (a : Vec Ideal S2048x512 .bf16) (b : Vec Ideal S2048x512 .bf16) (i : Fin 512) (j : Fin 512) :
    out0_2 a b (ix3 0 i j) = ∑ k : Fin 2048, a (ix2 k i) * b (ix2 k j) := by
  unfold out0_2
  rw [View.canon_unit_zero hz3, View.ld_unit_zero hz, View.ld_unit_zero hz, pay_at]

variable (m : (ℓ : Loc nD τ sig) → Buf (Elt Ideal) ℓ) (c : Dev nD)

theorem t_lt (t : Fin cfg0.N) : t.val < 16 := t.2

theorem idx0 : ∀ t : Fin cfg0.N, win0_0.index t (0 : Fin 2) = 0 ∧ win0_0.index t (1 : Fin 2) = t.val / 8 :=
  (by decide +kernel : ∀ t : Fin grid0.N, _)

/-- Point `t`'s block of input window 0, at an index. -/
theorem iblk0_at (t : Fin cfg0.N) (i : Fin 2048) (j : Fin 512) :
    iblk m c 0 t (ix2 i j) = (m ((c : Thread nD τ).loc main_arg0)) (ix2 i ⟨(t.val / 8) * 512 + j.val, by have := t_lt t; omega⟩) := by
  obtain ⟨h0, h1⟩ := idx0 t
  refine congrArg ((m ((c : Thread nD τ).loc main_arg0))) (funext fun q => Fin.ext ?_)
  match q with
  | ⟨0, _⟩ => show win0_0.index t (0 : Fin 2) * 2048 + 1 * i.val = i.val; omega
  | ⟨1, _⟩ => show win0_0.index t (1 : Fin 2) * 512 + 1 * j.val = (t.val / 8) * 512 + j.val; omega

theorem idx1 : ∀ t : Fin cfg0.N, win0_1.index t (0 : Fin 2) = 0 ∧ win0_1.index t (1 : Fin 2) = t.val % 8 :=
  (by decide +kernel : ∀ t : Fin grid0.N, _)

/-- Point `t`'s block of input window 1, at an index. -/
theorem iblk1_at (t : Fin cfg0.N) (i : Fin 2048) (j : Fin 512) :
    iblk m c 1 t (ix2 i j) = (m ((c : Thread nD τ).loc main_arg1)) (ix2 i ⟨(t.val % 8) * 512 + j.val, by have := t_lt t; omega⟩) := by
  obtain ⟨h0, h1⟩ := idx1 t
  refine congrArg ((m ((c : Thread nD τ).loc main_arg1))) (funext fun q => Fin.ext ?_)
  match q with
  | ⟨0, _⟩ => show win0_1.index t (0 : Fin 2) * 2048 + 1 * i.val = i.val; omega
  | ⟨1, _⟩ => show win0_1.index t (1 : Fin 2) * 512 + 1 * j.val = (t.val % 8) * 512 + j.val; omega

theorem idx2 : ∀ t : Fin cfg0.N, win0_2.index t (0 : Fin 3) = t.val % 8 ∧ win0_2.index t (1 : Fin 3) = t.val / 8 ∧ win0_2.index t (2 : Fin 3) = 0 :=
  (by decide +kernel : ∀ t : Fin grid0.N, _)

/-- Where an index of point `t`'s block of result window 2 lies in the array. -/
theorem emb2 (t : Fin cfg0.N) (j : Fin 512) (k : Fin 512) :
    ((cfg0.win 2).blk t).view.emb (ix3 0 j k) = ix3 ⟨t.val % 8, by have := t_lt t; omega⟩ ⟨(t.val / 8) * 512 + j.val, by have := t_lt t; omega⟩ k := by
  obtain ⟨h0, h1, h2⟩ := idx2 t
  funext q; apply Fin.ext
  match q with
  | ⟨0, _⟩ => show win0_2.index t (0 : Fin 3) * 1 + 1 * 0 = t.val % 8; omega
  | ⟨1, _⟩ => show win0_2.index t (1 : Fin 3) * 512 + 1 * j.val = (t.val / 8) * 512 + j.val; omega
  | ⟨2, _⟩ => show win0_2.index t (2 : Fin 3) * 512 + 1 * k.val = k.val; omega

/-- Every index of the result lies in some point's block. -/
theorem covered2 (y : S8x1024x512.Idx) : ∃ t : Fin cfg0.N, (cfg0.win 2).flush t = true ∧ y ∈ ((cfg0.win 2).blk t).view.set := by
  obtain ⟨i, j, k, rfl⟩ : ∃ (i : Fin 8) (j : Fin 1024) (k : Fin 512), y = ix3 i j k := ⟨y 0, y 1, y 2, eq_ix3 y⟩
  have hi := i.2
  have hj := j.2
  let t : Fin cfg0.N := ⟨j.val / 512 * 8 + i.val, by show j.val / 512 * 8 + i.val < 16; omega⟩
  have ht : t.val = j.val / 512 * 8 + i.val := rfl
  refine ⟨t, flush0_2 t, ?_⟩
  have h := ((cfg0.win 2).blk t).view.emb_mem_set (ix3 0 ⟨j.val % 512, by omega⟩ k)
  rw [emb2] at h
  refine (congrArg (· ∈ ((cfg0.win 2).blk t).view.set) ?_).mp h
  funext q; apply Fin.ext
  match q with
  | ⟨0, _⟩ => show t.val % 8 = i.val; omega
  | ⟨1, _⟩ => show (t.val / 8) * 512 + j.val % 512 = j.val; omega
  | ⟨2, _⟩ => rfl

/-- What point `t` writes back is its block of the reference's result. -/
theorem flushed2_eq (t : Fin cfg0.N) : (dats m 0 c).flushed 2 t
    = ((cfg0.win 2).blk t).view.read (Elt Ideal) (val_main_v8 (F := Ideal) (m ((c : Thread nD τ).loc main_arg0)) (m ((c : Thread nD τ).loc main_arg1))) := by
  rw [flushed2]
  funext y
  obtain ⟨p, i, j, rfl⟩ : ∃ (p : Fin 1) (i : Fin 512) (j : Fin 512), y = ix3 p i j := ⟨y 0, y 1, y 2, eq_ix3 y⟩
  obtain rfl : p = 0 := Subsingleton.elim _ _
  show out0_2 (iblk m c 0 t) (iblk m c 1 t) (ix3 0 i j) = val_main_v8 (F := Ideal) (m ((c : Thread nD τ).loc main_arg0)) (m ((c : Thread nD τ).loc main_arg1)) (((cfg0.win 2).blk t).view.emb (ix3 0 i j))
  rw [emb2, out2_at, ref_at]
  refine Finset.sum_congr rfl fun k _ => ?_
  rw [iblk0_at, iblk1_at]

theorem final2 : (dats m 0 c).arrAt 2 cfg0.N = val_main_v8 (F := Ideal) (m ((c : Thread nD τ).loc main_arg0)) (m ((c : Thread nD τ).loc main_arg1)) :=
  (dats m 0 c).arrAt_eq_of_cover 2 _ (fun t _ => flushed2_eq m c t) covered2

/-- The kernel and the reference end with equal results. -/
theorem algebraic : Cert.algebraic_Kernel9Ideal_Reference9Ideal
    (hKernel9Ideal := Cert.Kernel9Ideal.Gen.facts) (hReference9Ideal := Cert.Reference9Ideal.Gen.facts) := by
  intro m g m' g' _ hagree
  refine ⟨fun c => (dats m 0 c).arrAt 2 cfg0.N, run_blocks m g, ?_⟩
  refine (θ_run _ _ _).mono (fun r h c => ?_) (Cert.Reference9Ideal.Value.run m' g')
  obtain ⟨h0, k0, k1⟩ := h c
  obtain ⟨a0, a1⟩ := hagree c
  exact ⟨(h0.trans (val_main_v8_eq _ _)).trans (by rw [a0, a1]; exact (final2 m c).symm), k0, k1⟩

end Cert.Proof.WGradUp
-- ==== Proof.WGradDown.lean ====
/- Hand-written, untrusted: the weight gradient of the MLP's second product at the reals. Each grid point leaves the products of
   a group of rows with one device's columns, summed down the tokens; read at one index, that is the reference's gradient there. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise

@[expose] public section

noncomputable section

namespace Cert.Proof.WGradDown

open Cert.Kernel10Ideal Cert.Kernel10Ideal.Gen Cert.Kernel10Ideal.Value Idealize.ShloMosaic Idealize.ShloMosaic.TcCoe Idealize.SL.Sem
open Reference10Ideal.Read

/-- A grid point's block at one index: the sum of the products down the tokens. -/
theorem pay_at (a : Vec Ideal S2048x512 .bf16) (b : Vec Ideal S2048x1024 .f32) (i : Fin 512) (j : Fin 1024) :
    k0_pay1 a b (ix3 0 i j) = ∑ k : Fin 2048, a (ix2 k i) * b (ix2 k j) := by
  unfold_payloads
  pointwise

/-- The reference's gradient at one index. -/
theorem ref_at (a : Vec Ideal S2048x4096 .bf16) (b : Vec Ideal S2048x1024 .f32) (d : Fin 1) (i : Fin 4096) (j : Fin 1024) :
    val_main_v7 (F := Ideal) a b (ix3 d i j) = ∑ k : Fin 2048, a (ix2 k i) * b (ix2 k ⟨d.val * 1024 + j.val, by omega⟩) := by
  pointwise [val_main_v0, val_main_cst, val_main_v1, val_main_v2, val_main_v3, val_main_v4, val_main_v5, val_main_v6, val_main_v7]
  exact Finset.sum_congr rfl fun k _ => mul_comm _ _

/-- The same, at the only block. -/
theorem ref_at0 (a : Vec Ideal S2048x4096 .bf16) (b : Vec Ideal S2048x1024 .f32) (i : Fin 4096) (j : Fin 1024) :
    val_main_v7 (F := Ideal) a b (ix3 0 i j) = ∑ k : Fin 2048, a (ix2 k i) * b (ix2 k j) :=
  (ref_at a b 0 i j).trans (Finset.sum_congr rfl fun k _ => congrArg (fun q => a (ix2 k i) * b (ix2 k q)) (Fin.ext (by show 0 * 1024 + j.val = j.val; omega)))

theorem hz : (![0, 0] : Fin 2 → Nat) = fun _ => 0 := funext fun a => by fin_cases a <;> rfl
theorem hz3 : (![0, 0, 0] : Fin 3 → Nat) = fun _ => 0 := funext fun a => by fin_cases a <;> rfl

theorem out2_at (a : Vec Ideal S2048x512 .bf16) (b : Vec Ideal S2048x1024 .f32) (i : Fin 512) (j : Fin 1024) :
    out0_2 a b (ix3 0 i j) = ∑ k : Fin 2048, a (ix2 k i) * b (ix2 k j) := by
  unfold out0_2
  rw [View.canon_unit_zero hz3, View.ld_unit_zero hz, View.ld_unit_zero hz, pay_at]

variable (m : (ℓ : Loc nD τ sig) → Buf (Elt Ideal) ℓ) (c : Dev nD)

theorem t_lt (t : Fin cfg0.N) : t.val < 8 := t.2

theorem idx0 : ∀ t : Fin cfg0.N, win0_0.index t (0 : Fin 2) = 0 ∧ win0_0.index t (1 : Fin 2) = t.val :=
  (by decide +kernel : ∀ t : Fin grid0.N, _)

/-- Point `t`'s block of input window 0, at an index. -/
theorem iblk0_at (t : Fin cfg0.N) (i : Fin 2048) (j : Fin 512) :
    iblk m c 0 t (ix2 i j) = (m ((c : Thread nD τ).loc main_arg0)) (ix2 i ⟨(t.val) * 512 + j.val, by have := t_lt t; omega⟩) := by
  obtain ⟨h0, h1⟩ := idx0 t
  refine congrArg ((m ((c : Thread nD τ).loc main_arg0))) (funext fun q => Fin.ext ?_)
  match q with
  | ⟨0, _⟩ => show win0_0.index t (0 : Fin 2) * 2048 + 1 * i.val = i.val; omega
  | ⟨1, _⟩ => show win0_0.index t (1 : Fin 2) * 512 + 1 * j.val = (t.val) * 512 + j.val; omega

theorem idx1 : ∀ t : Fin cfg0.N, win0_1.index t (0 : Fin 2) = 0 ∧ win0_1.index t (1 : Fin 2) = 0 :=
  (by decide +kernel : ∀ t : Fin grid0.N, _)

/-- Point `t`'s block of input window 1, at an index. -/
theorem iblk1_at (t : Fin cfg0.N) (i : Fin 2048) (j : Fin 1024) :
    iblk m c 1 t (ix2 i j) = (m ((c : Thread nD τ).loc main_arg1)) (ix2 i j) := by
  obtain ⟨h0, h1⟩ := idx1 t
  refine congrArg ((m ((c : Thread nD τ).loc main_arg1))) (funext fun q => Fin.ext ?_)
  match q with
  | ⟨0, _⟩ => show win0_1.index t (0 : Fin 2) * 2048 + 1 * i.val = i.val; omega
  | ⟨1, _⟩ => show win0_1.index t (1 : Fin 2) * 1024 + 1 * j.val = j.val; omega

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)

/-- Where an index of point `t`'s block of result window 2 lies in the array. -/
theorem emb2 (t : Fin cfg0.N) (j : Fin 512) (k : Fin 1024) :
    ((cfg0.win 2).blk t).view.emb (ix3 0 j k) = ix3 0 ⟨(t.val) * 512 + j.val, by have := t_lt t; omega⟩ k := by
  obtain ⟨h0, h1, h2⟩ := idx2 t
  funext q; apply Fin.ext
  match q with
  | ⟨0, _⟩ => show win0_2.index t (0 : Fin 3) * 1 + 1 * 0 = 0; omega
  | ⟨1, _⟩ => show win0_2.index t (1 : Fin 3) * 512 + 1 * j.val = (t.val) * 512 + j.val; omega
  | ⟨2, _⟩ => show win0_2.index t (2 : Fin 3) * 1024 + 1 * k.val = k.val; omega

/-- Every index of the result lies in some point's block. -/
theorem covered2 (y : S1x4096x1024.Idx) : ∃ t : Fin cfg0.N, (cfg0.win 2).flush t = true ∧ y ∈ ((cfg0.win 2).blk t).view.set := by
  obtain ⟨i, j, k, rfl⟩ : ∃ (i : Fin 1) (j : Fin 4096) (k : Fin 1024), y = ix3 i j k := ⟨y 0, y 1, y 2, eq_ix3 y⟩
  have hi := i.2
  have hj := j.2
  let t : Fin cfg0.N := ⟨j.val / 512, by show j.val / 512 < 8; omega⟩
  have ht : t.val = j.val / 512 := rfl
  refine ⟨t, flush0_2 t, ?_⟩
  have h := ((cfg0.win 2).blk t).view.emb_mem_set (ix3 0 ⟨j.val % 512, by omega⟩ k)
  rw [emb2] at h
  refine (congrArg (· ∈ ((cfg0.win 2).blk t).view.set) ?_).mp h
  funext q; apply Fin.ext
  match q with
  | ⟨0, _⟩ => show (0 : Nat) = i.val; omega
  | ⟨1, _⟩ => show (t.val) * 512 + j.val % 512 = j.val; omega
  | ⟨2, _⟩ => rfl

/-- What point `t` writes back is its block of the reference's result. -/
theorem flushed2_eq (t : Fin cfg0.N) : (dats m 0 c).flushed 2 t
    = ((cfg0.win 2).blk t).view.read (Elt Ideal) (val_main_v7 (F := Ideal) (m ((c : Thread nD τ).loc main_arg0)) (m ((c : Thread nD τ).loc main_arg1))) := by
  rw [flushed2]
  funext y
  obtain ⟨p, i, j, rfl⟩ : ∃ (p : Fin 1) (i : Fin 512) (j : Fin 1024), y = ix3 p i j := ⟨y 0, y 1, y 2, eq_ix3 y⟩
  obtain rfl : p = 0 := Subsingleton.elim _ _
  show out0_2 (iblk m c 0 t) (iblk m c 1 t) (ix3 0 i j) = val_main_v7 (F := Ideal) (m ((c : Thread nD τ).loc main_arg0)) (m ((c : Thread nD τ).loc main_arg1)) (((cfg0.win 2).blk t).view.emb (ix3 0 i j))
  rw [emb2, out2_at, ref_at0]
  refine Finset.sum_congr rfl fun k _ => ?_
  rw [iblk0_at, iblk1_at]

theorem final2 : (dats m 0 c).arrAt 2 cfg0.N = val_main_v7 (F := Ideal) (m ((c : Thread nD τ).loc main_arg0)) (m ((c : Thread nD τ).loc main_arg1)) :=
  (dats m 0 c).arrAt_eq_of_cover 2 _ (fun t _ => flushed2_eq m c t) covered2

/-- The kernel and the reference end with equal results. -/
theorem algebraic : Cert.algebraic_Kernel10Ideal_Reference10Ideal
    (hKernel10Ideal := Cert.Kernel10Ideal.Gen.facts) (hReference10Ideal := Cert.Reference10Ideal.Gen.facts) := by
  intro m g m' g' _ hagree
  refine ⟨fun c => (dats m 0 c).arrAt 2 cfg0.N, run_blocks m g, ?_⟩
  refine (θ_run _ _ _).mono (fun r h c => ?_) (Cert.Reference10Ideal.Value.run m' g')
  obtain ⟨h0, k0, k1⟩ := h c
  obtain ⟨a0, a1⟩ := hagree c
  exact ⟨(h0.trans (val_main_v7_eq _ _)).trans (by rw [a0, a1]; exact (final2 m c).symm), k0, k1⟩

end Cert.Proof.WGradDown
-- ==== Proof.WGradSbOut.lean ====
/- Hand-written, untrusted: the weight gradient of the stick-breaking attention's output projection at the reals. Each grid point leaves the products of
   a group of rows with one device's columns, summed down the tokens; read at one index, that is the reference's gradient there. -/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pointwise

@[expose] public section

noncomputable section

namespace Cert.Proof.WGradSbOut

open Cert.Kernel27Ideal Cert.Kernel27Ideal.Gen Cert.Kernel27Ideal.Value Idealize.ShloMosaic Idealize.ShloMosaic.TcCoe Idealize.SL.Sem
open Reference27Ideal.Read

/-- A grid point's block at one index: the sum of the products down the tokens. -/
theorem pay_at (a : Vec Ideal S2048x512 .f32) (b : Vec Ideal S2048x1024 .bf16) (i : Fin 512) (j : Fin 1024) :
    k0_pay1 a b (ix3 0 i j) = ∑ k : Fin 2048, a (ix2 k i) * b (ix2 k j) := by
  unfold_payloads
  pointwise

/-- The reference's gradient at one index. -/
theorem ref_at (a : Vec Ideal S2048x1024 .f32) (b : Vec Ideal S2048x1024 .bf16) (d : Fin 1) (i : Fin 1024) (j : Fin 1024) :
    val_main_v7 (F := Ideal) a b (ix3 d i j) = ∑ k : Fin 2048, a (ix2 k i) * b (ix2 k ⟨d.val * 1024 + j.val, by omega⟩) := by
  pointwise [val_main_v0, val_main_cst, val_main_v1, val_main_v2, val_main_v3, val_main_v4, val_main_v5, val_main_v6, val_main_v7]
  exact Finset.sum_congr rfl fun k _ => mul_comm _ _

/-- The same, at the only block. -/
theorem ref_at0 (a : Vec Ideal S2048x1024 .f32) (b : Vec Ideal S2048x1024 .bf16) (i : Fin 1024) (j : Fin 1024) :
    val_main_v7 (F := Ideal) a b (ix3 0 i j) = ∑ k : Fin 2048, a (ix2 k i) * b (ix2 k j) :=
  (ref_at a b 0 i j).trans (Finset.sum_congr rfl fun k _ => congrArg (fun q => a (ix2 k i) * b (ix2 k q)) (Fin.ext (by show 0 * 1024 + j.val = j.val; omega)))

theorem hz : (![0, 0] : Fin 2 → Nat) = fun _ => 0 := funext fun a => by fin_cases a <;> rfl
theorem hz3 : (![0, 0, 0] : Fin 3 → Nat) = fun _ => 0 := funext fun a => by fin_cases a <;> rfl

theorem out2_at (a : Vec Ideal S2048x512 .f32) (b : Vec Ideal S2048x1024 .bf16) (i : Fin 512) (j : Fin 1024) :
    out0_2 a b (ix3 0 i j) = ∑ k : Fin 2048, a (ix2 k i) * b (ix2 k j) := by
  unfold out0_2
  rw [View.canon_unit_zero hz3, View.ld_unit_zero hz, View.ld_unit_zero hz, pay_at]

variable (m : (ℓ : Loc nD τ sig) → Buf (Elt Ideal) ℓ) (c : Dev nD)

theorem t_lt (t : Fin cfg0.N) : t.val < 2 := t.2

theorem idx0 : ∀ t : Fin cfg0.N, win0_0.index t (0 : Fin 2) = 0 ∧ win0_0.index t (1 : Fin 2) = t.val :=
  (by decide +kernel : ∀ t : Fin grid0.N, _)

/-- Point `t`'s block of input window 0, at an index. -/
theorem iblk0_at (t : Fin cfg0.N) (i : Fin 2048) (j : Fin 512) :
    iblk m c 0 t (ix2 i j) = (m ((c : Thread nD τ).loc main_arg0)) (ix2 i ⟨(t.val) * 512 + j.val, by have := t_lt t; omega⟩) := by
  obtain ⟨h0, h1⟩ := idx0 t
  refine congrArg ((m ((c : Thread nD τ).loc main_arg0))) (funext fun q => Fin.ext ?_)
  match q with
  | ⟨0, _⟩ => show win0_0.index t (0 : Fin 2) * 2048 + 1 * i.val = i.val; omega
  | ⟨1, _⟩ => show win0_0.index t (1 : Fin 2) * 512 + 1 * j.val = (t.val) * 512 + j.val; omega

theorem idx1 : ∀ t : Fin cfg0.N, win0_1.index t (0 : Fin 2) = 0 ∧ win0_1.index t (1 : Fin 2) = 0 :=
  (by decide +kernel : ∀ t : Fin grid0.N, _)

/-- Point `t`'s block of input window 1, at an index. -/
theorem iblk1_at (t : Fin cfg0.N) (i : Fin 2048) (j : Fin 1024) :
    iblk m c 1 t (ix2 i j) = (m ((c : Thread nD τ).loc main_arg1)) (ix2 i j) := by
  obtain ⟨h0, h1⟩ := idx1 t
  refine congrArg ((m ((c : Thread nD τ).loc main_arg1))) (funext fun q => Fin.ext ?_)
  match q with
  | ⟨0, _⟩ => show win0_1.index t (0 : Fin 2) * 2048 + 1 * i.val = i.val; omega
  | ⟨1, _⟩ => show win0_1.index t (1 : Fin 2) * 1024 + 1 * j.val = j.val; omega

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)

/-- Where an index of point `t`'s block of result window 2 lies in the array. -/
theorem emb2 (t : Fin cfg0.N) (j : Fin 512) (k : Fin 1024) :
    ((cfg0.win 2).blk t).view.emb (ix3 0 j k) = ix3 0 ⟨(t.val) * 512 + j.val, by have := t_lt t; omega⟩ k := by
  obtain ⟨h0, h1, h2⟩ := idx2 t
  funext q; apply Fin.ext
  match q with
  | ⟨0, _⟩ => show win0_2.index t (0 : Fin 3) * 1 + 1 * 0 = 0; omega
  | ⟨1, _⟩ => show win0_2.index t (1 : Fin 3) * 512 + 1 * j.val = (t.val) * 512 + j.val; omega
  | ⟨2, _⟩ => show win0_2.index t (2 : Fin 3) * 1024 + 1 * k.val = k.val; omega

/-- Every index of the result lies in some point's block. -/
theorem covered2 (y : S1x1024x1024.Idx) : ∃ t : Fin cfg0.N, (cfg0.win 2).flush t = true ∧ y ∈ ((cfg0.win 2).blk t).view.set := by
  obtain ⟨i, j, k, rfl⟩ : ∃ (i : Fin 1) (j : Fin 1024) (k : Fin 1024), y = ix3 i j k := ⟨y 0, y 1, y 2, eq_ix3 y⟩
  have hi := i.2
  have hj := j.2
  let t : Fin cfg0.N := ⟨j.val / 512, by show j.val / 512 < 2; omega⟩
  have ht : t.val = j.val / 512 := rfl
  refine ⟨t, flush0_2 t, ?_⟩
  have h := ((cfg0.win 2).blk t).view.emb_mem_set (ix3 0 ⟨j.val % 512, by omega⟩ k)
  rw [emb2] at h
  refine (congrArg (· ∈ ((cfg0.win 2).blk t).view.set) ?_).mp h
  funext q; apply Fin.ext
  match q with
  | ⟨0, _⟩ => show (0 : Nat) = i.val; omega
  | ⟨1, _⟩ => show (t.val) * 512 + j.val % 512 = j.val; omega
  | ⟨2, _⟩ => rfl

/-- What point `t` writes back is its block of the reference's result. -/
theorem flushed2_eq (t : Fin cfg0.N) : (dats m 0 c).flushed 2 t
    = ((cfg0.win 2).blk t).view.read (Elt Ideal) (val_main_v7 (F := Ideal) (m ((c : Thread nD τ).loc main_arg0)) (m ((c : Thread nD τ).loc main_arg1))) := by
  rw [flushed2]
  funext y
  obtain ⟨p, i, j, rfl⟩ : ∃ (p : Fin 1) (i : Fin 512) (j : Fin 1024), y = ix3 p i j := ⟨y 0, y 1, y 2, eq_ix3 y⟩
  obtain rfl : p = 0 := Subsingleton.elim _ _
  show out0_2 (iblk m c 0 t) (iblk m c 1 t) (ix3 0 i j) = val_main_v7 (F := Ideal) (m ((c : Thread nD τ).loc main_arg0)) (m ((c : Thread nD τ).loc main_arg1)) (((cfg0.win 2).blk t).view.emb (ix3 0 i j))
  rw [emb2, out2_at, ref_at0]
  refine Finset.sum_congr rfl fun k _ => ?_
  rw [iblk0_at, iblk1_at]

theorem final2 : (dats m 0 c).arrAt 2 cfg0.N = val_main_v7 (F := Ideal) (m ((c : Thread nD τ).loc main_arg0)) (m ((c : Thread nD τ).loc main_arg1)) :=
  (dats m 0 c).arrAt_eq_of_cover 2 _ (fun t _ => flushed2_eq m c t) covered2

/-- The kernel and the reference end with equal results. -/
theorem algebraic : Cert.algebraic_Kernel27Ideal_Reference27Ideal
    (hKernel27Ideal := Cert.Kernel27Ideal.Gen.facts) (hReference27Ideal := Cert.Reference27Ideal.Gen.facts) := by
  intro m g m' g' _ hagree
  refine ⟨fun c => (dats m 0 c).arrAt 2 cfg0.N, run_blocks m g, ?_⟩
  refine (θ_run _ _ _).mono (fun r h c => ?_) (Cert.Reference27Ideal.Value.run m' g')
  obtain ⟨h0, k0, k1⟩ := h c
  obtain ⟨a0, a1⟩ := hagree c
  exact ⟨(h0.trans (val_main_v7_eq _ _)).trans (by rw [a0, a1]; exact (final2 m c).symm), k0, k1⟩

end Cert.Proof.WGradSbOut
-- ==== Proof.MlpFwdIdeal.lean ====
/- Hand-written, untrusted: the frame of the MLP and the loss head. A group of rows is visited once for every block of hidden
   columns; the first visit stores the normed rows, the others read them where it left them; a scratch block carries the sum
   of the products, and the loss's row of columns is carried over all the groups. -/
module

public import proofs.«01_k».proof.Proof.Gen.Kernel11Ideal.Frame
public import proofs.«01_k».proof.Proof.Gen.Kernel11Ideal.Skeleton
public import Idealize.ShloMosaic.Lib.Pipeline.TableIdle
public import Idealize.ShloMosaic.Lib.Pipeline.Value
public import Idealize.ShloMosaic.Lib.Tactic
public import Idealize.ShloMosaic.Lib.Claim

@[expose] public section

set_option maxRecDepth 16384

noncomputable section

namespace Cert.Proof.MlpFwdIdeal

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl
theorem hz3 : (![0, 0, 0] : Fin 3 → Nat) = fun _ => 0 := funext fun a => by fin_cases a <;> rfl

section Run
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole)
  (x0 : Vec F S512x1024 .f32) (x1 : Vec F S1x1024 .f32) (x2 : Vec F S1x1024x512 .bf16) (x3 : Vec F S512x1024 .bf16) (x4 : Vec F S512x1024 .f32)

/-- The first visit of all: the normed rows, their products with the block of columns, the scratch block's first sum, and the loss's row of columns at zero. -/
theorem run_start (h1 : k0_cond1 i = 1#1) (h2 : k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 (k0_pay1 x0 x1) x2) ∗ owns (c : Thread nD τ) arg8 fullShare (k0_pay1 x0 x1) ∗ owns (c : Thread nD τ) arg10 fullShare (k0_pay3 (F := F)) ∗ owns (c : Thread nD τ) arg11 fullShare (k0_pay6 (k0_pay1 x0 x1) x2 (k0_pay2 (F := F)) x3)) -∗ K ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11) K := by
  simp only [cc0_mlp_fwd_eq_skeleton]; unfold cc0_mlp_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (View.cover_of_tiledL _ S512x512.size (by sl_kernel_rfl))]
    first | rw [View.canon_unit_zero hz] | rw [View.canon_cons_unit_zero (S := S512x512) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  isplitl [H8]
  · iexists _; isplitr
    swap; · iexact H8
    ipureintro
    sl_unfold_words
    rw [View.read_writes_eq_canon _ _ _ (View.cover_of_tiledL _ S512x1024.size (by sl_kernel_rfl))]
    first | rw [View.canon_unit_zero hz] | rw [View.canon_cons_unit_zero (S := S512x1024) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  isplitl [H10]
  · iexists _; isplitr
    swap; · iexact H10
    ipureintro
    sl_unfold_words
    rw [View.read_writes_eq_canon _ _ _ (View.cover_of_tiledL _ S1x1024.size (by sl_kernel_rfl))]
    first | rw [View.canon_unit_zero hz] | rw [View.canon_cons_unit_zero (S := S1x1024) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  iexists _; isplitr
  swap; · iexact H11
  ipureintro
  sl_unfold_words
  rw [View.read_writes_eq_canon _ _ _ (View.cover_of_tiledL _ S512x1024.size (by sl_kernel_rfl))]
  first | rw [View.canon_unit_zero hz] | rw [View.canon_cons_unit_zero (S := S512x1024) hz]
  repeat rw [View.readCov_unit_zero (S := S512x1024) _ hz]
  repeat rw [View.readCov_unit_zero (S := S1x1024) _ hz]
  try simp only [View.readAt_eq_ld, Memref.IsWhole.read_unread, View.ld_unit_zero (S := S512x1024) hz, View.ld_unit_zero (S := S1x1024) hz, View.ld_unit_zero (S := S1x1024x512) hz3]

/-- A later group's first visit: the same, but the loss's row is left alone. -/
theorem run_first (h1 : k0_cond1 i = 1#1) (h2 : ¬k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 (k0_pay1 x0 x1) x2) ∗ owns (c : Thread nD τ) arg8 fullShare (k0_pay1 x0 x1) ∗ owns (c : Thread nD τ) arg11 fullShare (k0_pay6 (k0_pay1 x0 x1) x2 (k0_pay2 (F := F)) x3)) -∗ K ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11) K := by
  simp only [cc0_mlp_fwd_eq_skeleton]; unfold cc0_mlp_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (View.cover_of_tiledL _ S512x512.size (by sl_kernel_rfl))]
    first | rw [View.canon_unit_zero hz] | rw [View.canon_cons_unit_zero (S := S512x512) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  isplitl [H8]
  · iexists _; isplitr
    swap; · iexact H8
    ipureintro
    sl_unfold_words
    rw [View.read_writes_eq_canon _ _ _ (View.cover_of_tiledL _ S512x1024.size (by sl_kernel_rfl))]
    first | rw [View.canon_unit_zero hz] | rw [View.canon_cons_unit_zero (S := S512x1024) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  iexists _; isplitr
  swap; · iexact H11
  ipureintro
  sl_unfold_words
  rw [View.read_writes_eq_canon _ _ _ (View.cover_of_tiledL _ S512x1024.size (by sl_kernel_rfl))]
  first | rw [View.canon_unit_zero hz] | rw [View.canon_cons_unit_zero (S := S512x1024) hz]
  repeat rw [View.readCov_unit_zero (S := S512x1024) _ hz]
  repeat rw [View.readCov_unit_zero (S := S1x1024) _ hz]
  try simp only [View.readAt_eq_ld, Memref.IsWhole.read_unread, View.ld_unit_zero (S := S512x1024) hz, View.ld_unit_zero (S := S1x1024) hz, View.ld_unit_zero (S := S1x1024x512) hz3]

/-- A visit in between reads the normed rows and adds to the scratch block's sum. -/
theorem run_later (xh : Vec F S512x1024 .bf16) (xa : Vec F S512x1024 .f32) (h1 : ¬k0_cond1 i = 1#1) (h2 : ¬k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xh ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 xh x2) ∗ owns (c : Thread nD τ) arg8 fullShare xh ∗ owns (c : Thread nD τ) arg11 fullShare (k0_pay6 xh x2 xa x3)) -∗ K ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11) K := by
  simp only [cc0_mlp_fwd_eq_skeleton]; unfold cc0_mlp_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (View.cover_of_tiledL _ S512x512.size (by sl_kernel_rfl))]
    first | rw [View.canon_unit_zero hz] | rw [View.canon_cons_unit_zero (S := S512x512) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  isplitl [H8]
  · iexists _; isplitr; · ipureintro; exact harg8.read_unread _
    iexact H8
  iexists _; isplitr
  swap; · iexact H11
  ipureintro
  sl_unfold_words
  rw [View.read_writes_eq_canon _ _ _ (View.cover_of_tiledL _ S512x1024.size (by sl_kernel_rfl))]
  first | rw [View.canon_unit_zero hz] | rw [View.canon_cons_unit_zero (S := S512x1024) hz]
  repeat rw [View.readCov_unit_zero (S := S512x1024) _ hz]
  repeat rw [View.readCov_unit_zero (S := S1x1024) _ hz]
  try simp only [View.readAt_eq_ld, Memref.IsWhole.read_unread, View.ld_unit_zero (S := S512x1024) hz, View.ld_unit_zero (S := S1x1024) hz, View.ld_unit_zero (S := S1x1024x512) hz3]

/-- A group's last visit also stores the loss's gradient of its rows and adds their squares to the loss's row. -/
theorem run_last (xh : Vec F S512x1024 .bf16) (xa : Vec F S512x1024 .f32) (xl : Vec F S1x1024 .f32) (h1 : ¬k0_cond1 i = 1#1) (h2 : ¬k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xh ∗ (∃ d, owns (c : Thread nD τ) arg9 fullShare d) ∗ owns (c : Thread nD τ) arg10 fullShare xl ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 xh x2) ∗ owns (c : Thread nD τ) arg8 fullShare xh ∗ owns (c : Thread nD τ) arg9 fullShare (k0_pay8 x0 (k0_pay6 xh x2 xa x3) x4) ∗ owns (c : Thread nD τ) arg10 fullShare (k0_pay9 x0 (k0_pay6 xh x2 xa x3) x4 xl) ∗ owns (c : Thread nD τ) arg11 fullShare (k0_pay6 xh x2 xa x3)) -∗ K ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11) K := by
  simp only [cc0_mlp_fwd_eq_skeleton]; unfold cc0_mlp_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg10.eq_unread hf10; obtain rfl := harg11.eq_unread hf11
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (View.cover_of_tiledL _ S512x512.size (by sl_kernel_rfl))]
    first | rw [View.canon_unit_zero hz] | rw [View.canon_cons_unit_zero (S := S512x512) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  isplitl [H8]
  · iexists _; isplitr; · ipureintro; exact harg8.read_unread _
    iexact H8
  isplitl [H9]
  · iexists _; isplitr
    swap; · iexact H9
    ipureintro
    sl_unfold_words
    rw [View.read_writes_eq_canon _ _ _ (View.cover_of_tiledL _ S512x1024.size (by sl_kernel_rfl))]
    first | rw [View.canon_unit_zero hz] | rw [View.canon_cons_unit_zero (S := S512x1024) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  isplitl [H10]
  · iexists _; isplitr
    swap; · iexact H10
    ipureintro
    sl_unfold_words
    rw [View.read_writes_eq_canon _ _ _ (View.cover_of_tiledL _ S1x1024.size (by sl_kernel_rfl))]
    first | rw [View.canon_unit_zero hz] | rw [View.canon_cons_unit_zero (S := S1x1024) hz]
    repeat rw [View.readCov_unit_zero (S := S512x1024) _ hz]
    repeat rw [View.readCov_unit_zero (S := S1x1024) _ hz]
    try simp only [View.readAt_eq_ld, Memref.IsWhole.read_unread, View.ld_unit_zero (S := S512x1024) hz, View.ld_unit_zero (S := S1x1024) hz, View.ld_unit_zero (S := S1x1024x512) hz3]
  iexists _; isplitr
  swap; · iexact H11
  ipureintro
  sl_unfold_words
  rw [View.read_writes_eq_canon _ _ _ (View.cover_of_tiledL _ S512x1024.size (by sl_kernel_rfl))]
  first | rw [View.canon_unit_zero hz] | rw [View.canon_cons_unit_zero (S := S512x1024) hz]
  repeat rw [View.readCov_unit_zero (S := S512x1024) _ hz]
  repeat rw [View.readCov_unit_zero (S := S1x1024) _ hz]
  try simp only [View.readAt_eq_ld, Memref.IsWhole.read_unread, View.ld_unit_zero (S := S512x1024) hz, View.ld_unit_zero (S := S1x1024) hz, View.ld_unit_zero (S := S1x1024x512) hz3]

end Run

/-! ## The points -/

theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
theorem cond2_iff : ∀ t : Fin cfg0.N, k0_cond2 (grid0.coords t) = 1#1 ↔ t.val = 0 :=
  (by decide +kernel : ∀ t : Fin grid0.N, k0_cond2 (grid0.coords t) = 1#1 ↔ t.val = 0)
theorem cond3_iff : ∀ t : Fin cfg0.N, k0_cond3 (grid0.coords t) = 1#1 ↔ t.val % 8 = 7 :=
  (by decide +kernel : ∀ t : Fin grid0.N, k0_cond3 (grid0.coords t) = 1#1 ↔ t.val % 8 = 7)

theorem idle6_iff : ∀ t : Fin cfg0.N, cfg0.idle 6 (grid0.coords t) = true ↔ ¬t.val % 8 = 0 :=
  (by decide +kernel : ∀ t : Fin grid0.N, cfg0.idle 6 (grid0.coords t) = true ↔ ¬t.val % 8 = 0)
theorem idle7_iff : ∀ t : Fin cfg0.N, cfg0.idle 7 (grid0.coords t) = true ↔ ¬t.val % 8 = 7 :=
  (by decide +kernel : ∀ t : Fin grid0.N, cfg0.idle 7 (grid0.coords t) = true ↔ ¬t.val % 8 = 7)
theorem idle8_iff : ∀ t : Fin cfg0.N, cfg0.idle 8 (grid0.coords t) = true ↔ (¬t.val = 0 ∧ ¬t.val % 8 = 7) :=
  (by decide +kernel : ∀ t : Fin grid0.N, cfg0.idle 8 (grid0.coords t) = true ↔ (¬t.val = 0 ∧ ¬t.val % 8 = 7))

/-- The stored rows' buffer holds nothing yet at a group's first point only, -/
def fresh6 (n : ℕ) : Bool := n % 8 == 0
/-- and the loss's row at the first point of all. -/
def fresh8 (n : ℕ) : Bool := n % 32 == 0

theorem fresh6_step : ∀ t : Fin cfg0.N,
    fresh6 (t.val + 1) = ((cfg0.win 6).flush t || (cfg0.idle 6 (cfg0.grid.coords t) && fresh6 t.val)) := by decide +kernel
theorem fresh8_step : ∀ t : Fin cfg0.N,
    fresh8 (t.val + 1) = ((cfg0.win 8).flush t || (cfg0.idle 8 (cfg0.grid.coords t) && fresh8 t.val)) := by decide +kernel

theorem fresh6_eq (t : Fin cfg0.N) : cfg0.fresh 6 t.val = fresh6 t.val :=
  Pipeline.Cfg.fresh_tab cfg0 6 fresh6 rfl fresh6_step t.val (Nat.le_of_lt t.isLt)
theorem fresh8_eq (t : Fin cfg0.N) : cfg0.fresh 8 t.val = fresh8 t.val :=
  Pipeline.Cfg.fresh_tab cfg0 8 fresh8 rfl fresh8_step t.val (Nat.le_of_lt t.isLt)

theorem t_lt (t : Fin cfg0.N) : t.val < 32 := t.2

variable (m : (ℓ : Loc nD τ sig) → Buf (Elt F) ℓ) (ρ : Dev nD → PrngReg)

/-- The normed rows of a point's group. -/
def normed (c : Dev nD) (t : Fin cfg0.N) : Vec F S512x1024 .bf16 := k0_pay1 (iblk m c 0 t) (iblk m c 1 t)

/-- The scratch block after a point: the sum over its group's blocks so far. -/
def sums (c : Dev nD) : (n : ℕ) → n < cfg0.N → Vec F S512x1024 .f32
  | 0, h => k0_pay6 (normed m c ⟨0, h⟩) (iblk m c 2 ⟨0, h⟩) (k0_pay2 (F := F)) (iblk m c 3 ⟨0, h⟩)
  | n + 1, h => k0_pay6 (normed m c ⟨n + 1, h⟩) (iblk m c 2 ⟨n + 1, h⟩)
      (if (n + 1) % 8 = 0 then k0_pay2 (F := F) else sums c n (Nat.lt_of_succ_lt h)) (iblk m c 3 ⟨n + 1, h⟩)

theorem sums_first (c : Dev nD) (t : Fin cfg0.N) (h : t.val % 8 = 0) :
    sums m c t.val t.isLt = k0_pay6 (normed m c t) (iblk m c 2 t) (k0_pay2 (F := F)) (iblk m c 3 t) := by
  obtain ⟨n, hn⟩ := t
  cases n with
  | zero => rfl
  | succ n => rw [sums, if_pos h]

theorem sums_later (c : Dev nD) (t : Fin cfg0.N) (h : ¬t.val % 8 = 0) :
    sums m c t.val t.isLt = k0_pay6 (normed m c t) (iblk m c 2 t) (sums m c (t.val - 1) (lt_of_le_of_lt (Nat.sub_le _ _) t.isLt)) (iblk m c 3 t) := by
  obtain ⟨n, hn⟩ := t
  cases n with
  | zero => exact absurd (Nat.zero_mod 8) h
  | succ n => rw [sums, if_neg h]; rfl

/-- The loss's row after a point: the squares of the groups that are done. -/
def cols (c : Dev nD) : (n : ℕ) → n < cfg0.N → Vec F S1x1024 .f32
  | 0, _ => k0_pay3 (F := F)
  | n + 1, h => if (n + 1) % 8 = 7 then k0_pay9 (iblk m c 0 ⟨n + 1, h⟩) (sums m c (n + 1) h) (iblk m c 4 ⟨n + 1, h⟩) (cols c n (Nat.lt_of_succ_lt h))
      else cols c n (Nat.lt_of_succ_lt h)

theorem cols_start (c : Dev nD) (t : Fin cfg0.N) (h : t.val = 0) : cols m c t.val t.isLt = k0_pay3 (F := F) := by
  obtain ⟨n, hn⟩ := t; subst h; rfl

theorem cols_last (c : Dev nD) (t : Fin cfg0.N) (h : t.val % 8 = 7) :
    cols m c t.val t.isLt = k0_pay9 (iblk m c 0 t) (sums m c t.val t.isLt) (iblk m c 4 t) (cols m c (t.val - 1) (lt_of_le_of_lt (Nat.sub_le _ _) t.isLt)) := by
  obtain ⟨n, hn⟩ := t
  cases n with
  | zero => exact absurd (show 0 % 8 = 7 from h) (by decide)
  | succ n => rw [cols, if_pos h]; rfl

theorem cols_kept (c : Dev nD) (t : Fin cfg0.N) (h0 : ¬t.val = 0) (h : ¬t.val % 8 = 7) :
    cols m c t.val t.isLt = cols m c (t.val - 1) (lt_of_le_of_lt (Nat.sub_le _ _) t.isLt) := by
  obtain ⟨n, hn⟩ := t
  cases n with
  | zero => exact absurd rfl h0
  | succ n => rw [cols, if_neg h]; rfl

/-- The scratch block before a point: anything before the first, else what the point before left. -/
def carried (c : Dev nD) : (n : ℕ) → n ≤ cfg0.N → sProp 𝕄
  | 0, _ => Pipeline.ΦA spec0 c
  | n + 1, h => iprop(owns (c : Thread nD τ) (Memref.whole cc0_scratch0 : Memref sig .tc .vmem S512x1024 .f32) fullShare (sums m c n h) ∗ (∃ r, prngReg c r))

theorem scratch_eq (c : Dev nD) : (Pipeline.ΦA spec0 c : sProp 𝕄)
    = iprop((∃ d, owns (c : Thread nD τ) (Memref.whole cc0_scratch0 : Memref sig .tc .vmem S512x1024 .f32) fullShare d) ∗ (∃ r, prngReg c r)) := by
  unfold Pipeline.ΦA; rw [scopedRest0_eq]; simp only [owns_whole]; try rfl

theorem carried_zero (c : Dev nD) (n : ℕ) (h : n ≤ cfg0.N) (e : n = 0) : carried m c n h = Pipeline.ΦA spec0 c := by subst e; rfl

theorem carried_pos (c : Dev nD) (n : ℕ) (h : n ≤ cfg0.N) (e : n ≠ 0) : carried m c n h
    = iprop(owns (c : Thread nD τ) (Memref.whole cc0_scratch0 : Memref sig .tc .vmem S512x1024 .f32) fullShare (sums m c (n - 1) (by omega)) ∗ (∃ r, prngReg c r)) := by
  cases n with
  | zero => exact absurd rfl e
  | succ n => rfl

/-- What the run leaves at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay5 (normed m c t) (iblk m c 2 t)
    | ⟨6, _⟩ => normed m c t
    | ⟨7, _⟩ => k0_pay8 (iblk m c 0 t) (sums m c t.val t.isLt) (iblk m c 4 t)
    | ⟨8, _⟩ => cols m c t.val t.isLt
  Φ t := carried m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = k0_pay5 (normed m c t) (iblk m c 2 t) := by dsimp only [dats]
theorem after_6 (c : Dev nD) (t) : (dats m 0 c).after 6 t = normed m c t := by dsimp only [dats]
theorem after_7 (c : Dev nD) (t) : (dats m 0 c).after 7 t = k0_pay8 (iblk m c 0 t) (sums m c t.val t.isLt) (iblk m c 4 t) := by dsimp only [dats]
theorem after_8 (c : Dev nD) (t) : (dats m 0 c).after 8 t = cols m c t.val t.isLt := by dsimp only [dats]
theorem before_0 (c : Dev nD) (t d) : (dats m 0 c).before 0 t d = iblk m c 0 t := before0_0_of m (dats m 0 c) (A_eq m c 0) (after_0 m c) t d
theorem before_1 (c : Dev nD) (t d) : (dats m 0 c).before 1 t d = iblk m c 1 t := before0_1_of m (dats m 0 c) (A_eq m c 1) (after_1 m c) t d
theorem before_2 (c : Dev nD) (t d) : (dats m 0 c).before 2 t d = iblk m c 2 t := before0_2_of m (dats m 0 c) (A_eq m c 2) (after_2 m c) t d
theorem before_3 (c : Dev nD) (t d) : (dats m 0 c).before 3 t d = iblk m c 3 t := before0_3_of m (dats m 0 c) (A_eq m c 3) (after_3 m c) t d
theorem before_4 (c : Dev nD) (t d) : (dats m 0 c).before 4 t d = iblk m c 4 t := before0_4_of m (dats m 0 c) (A_eq m c 4) (after_4 m c) t d

theorem carried_castSucc (c : Dev nD) (t : Fin cfg0.N) : (dats m 0 c).Φ t.castSucc = carried m c t.val (Nat.le_of_lt t.isLt) := by
  dsimp only [dats]; exact Pipeline.Dat.Φ_castSucc (carried m c) t

/-- Inside a group the rows do not change, -/
theorem rows_kept (c : Dev nD) (t : Fin cfg0.N) (h : ¬t.val % 8 = 0) : iblk m c 0 t = iblk m c 0 ⟨t.val - 1, by omega⟩ := by
  have e : ∀ s d, (dats m 0 c).fetched 0 s d = iblk m c 0 s := fun s d => by unfold Dat.fetched Dat.blockOf iblk; rw [A_eq]; rfl
  obtain ⟨_, hix⟩ := (cfg0.win 0).index_eq_of_fetch rfl t ((Bool.not_eq_true _).mp fun e => h ((fetch0_0 t).mp e))
  exact (e t (iblk m c 0 t)).symm.trans (((dats m 0 c).fetched_congr 0 hix.symm rfl _).symm.trans (e _ _))

/-- and the scale does not change at all, -/
theorem scale_kept (c : Dev nD) (t : Fin cfg0.N) (h : ¬t.val % 8 = 0) : iblk m c 1 t = iblk m c 1 ⟨t.val - 1, by omega⟩ := by
  have e : ∀ s d, (dats m 0 c).fetched 1 s d = iblk m c 1 s := fun s d => by unfold Dat.fetched Dat.blockOf iblk; rw [A_eq]; rfl
  obtain ⟨_, hix⟩ := (cfg0.win 1).index_eq_of_fetch rfl t ((Bool.not_eq_true _).mp fun e => h (by have := (fetch0_1 t).mp e; omega))
  exact (e t (iblk m c 1 t)).symm.trans (((dats m 0 c).fetched_congr 1 hix.symm rfl _).symm.trans (e _ _))

/-- so neither do the normed rows. -/
theorem normed_kept (c : Dev nD) (t : Fin cfg0.N) (h : ¬t.val % 8 = 0) : normed m c t = normed m c ⟨t.val - 1, by omega⟩ := by
  unfold normed; rw [rows_kept m c t h, scale_kept m c t h]

/-- A later visit finds the normed rows, -/
theorem before_6 (c : Dev nD) (t : Fin cfg0.N) (h : ¬t.val % 8 = 0) (d) : (dats m 0 c).before 6 t d = normed m c t := by
  rw [Dat.before_out_traj _ 6 rfl (fun _ _ => rfl)
      (fun t _ hi _ => (after_6 m c t).trans ((normed_kept m c t ((idle6_iff t).mp hi)).trans (after_6 m c _).symm)) t.val t rfl d,
    if_neg (by rw [fresh6_eq t, fresh6, beq_iff_eq]; exact h), after_6, ← normed_kept m c t h]

/-- and every visit but the first the loss's row as the visit before left it. -/
theorem before_8 (c : Dev nD) (t : Fin cfg0.N) (h : ¬t.val = 0) (d) :
    (dats m 0 c).before 8 t d = cols m c (t.val - 1) (lt_of_le_of_lt (Nat.sub_le _ _) t.isLt) := by
  rw [Dat.before_out_traj _ 8 rfl (fun _ _ => rfl)
      (fun t _ hi _ => (after_8 m c t).trans ((cols_kept m c t ((idle8_iff t).mp hi).1 ((idle8_iff t).mp hi).2).trans (after_8 m c ⟨t.val - 1, _⟩).symm)) t.val t rfl d,
    if_neg (by rw [fresh8_eq t, fresh8, beq_iff_eq]; have := t_lt t; omega), after_8]

/-! ## The body at every point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (dats m 0 c).leavesExact 5 t ∗ (dats m 0 c).leavesExact 6 t ∗ (dats m 0 c).leavesExact 7 t ∗ (dats m 0 c).leavesExact 8 t)

theorem leaves_0 (c : Dev nD) (t) : (dats m 0 c).leavesExact 0 t = owns (c : Thread nD τ) (st0_0 t) fullShare (iblk m c 0 t) := by
  rw [← after_0]
theorem leaves_1 (c : Dev nD) (t) : (dats m 0 c).leavesExact 1 t = owns (c : Thread nD τ) (st0_1 t) fullShare (iblk m c 1 t) := by
  rw [← after_1]
theorem leaves_2 (c : Dev nD) (t) : (dats m 0 c).leavesExact 2 t = owns (c : Thread nD τ) (st0_2 t) fullShare (iblk m c 2 t) := by
  rw [← after_2]
theorem leaves_3 (c : Dev nD) (t) : (dats m 0 c).leavesExact 3 t = owns (c : Thread nD τ) (st0_3 t) fullShare (iblk m c 3 t) := by
  rw [← after_3]
theorem leaves_4 (c : Dev nD) (t) : (dats m 0 c).leavesExact 4 t = owns (c : Thread nD τ) (st0_4 t) fullShare (iblk m c 4 t) := by
  rw [← after_4]
theorem leaves_5 (c : Dev nD) (t) : (dats m 0 c).leavesExact 5 t = owns (c : Thread nD τ) (st0_5 t) fullShare (k0_pay5 (normed m c t) (iblk m c 2 t)) := by
  rw [← after_5]
/-- Wherever it is, the stored rows' buffer holds the normed rows afterwards. -/
theorem leaves_6 (c : Dev nD) (t) : owns (c : Thread nD τ) (st0_6 t) fullShare (normed m c t) ⊢ (dats m 0 c).leavesExact 6 t := by
  unfold Dat.leavesExact
  cases hi : cfg0.idle 6 (cfg0.grid.coords t)
  · dsimp only; rw [after_6]
  · have h := (idle6_iff t).mp hi
    cases (cfg0.win 6).flush t
    · dsimp only
      iintro H; iexists (normed m c t); rw [before_6 m c t h]; iexact H
    · dsimp only; rw [after_6]
/-- A group's last visit leaves the loss's gradient of its rows, -/
theorem leaves_7 (c : Dev nD) (t : Fin cfg0.N) (h : t.val % 8 = 7) :
    owns (c : Thread nD τ) (st0_7 t) fullShare (k0_pay8 (iblk m c 0 t) (sums m c t.val t.isLt) (iblk m c 4 t)) ⊢ (dats m 0 c).leavesExact 7 t := by
  unfold Dat.leavesExact
  cases hi : cfg0.idle 7 (cfg0.grid.coords t)
  · dsimp only; rw [after_7]
  · exact absurd h ((idle7_iff t).mp hi)
/-- and the others leave that buffer as it was. -/
theorem idle_7 (c : Dev nD) (t : Fin cfg0.N) (h : ¬t.val % 8 = 7) :
    iprop(∃ d, owns (c : Thread nD τ) (st0_7 t) fullShare ((dats m 0 c).before 7 t d)) ⊢ (dats m 0 c).leavesExact 7 t := by
  rw [Dat.leavesExact_idle (dats m 0 c) 7 t ((idle7_iff t).mpr h) ((Bool.not_eq_true _).mp fun e => h ((flush0_7 t).mp e))]
/-- The loss's row's buffer holds what is summed so far. -/
theorem leaves_8 (c : Dev nD) (t) : owns (c : Thread nD τ) (st0_8 t) fullShare (cols m c t.val t.isLt) ⊢ (dats m 0 c).leavesExact 8 t := by
  unfold Dat.leavesExact
  cases hi : cfg0.idle 8 (cfg0.grid.coords t)
  · dsimp only; rw [after_8]
  · obtain ⟨h0, h7⟩ := (idle8_iff t).mp hi
    cases (cfg0.win 8).flush t
    · dsimp only
      iintro H; iexists (cols m c t.val t.isLt); rw [before_8 m c t h0, ← cols_kept m c t h0 h7]; iexact H
    · dsimp only; rw [after_8]

/-- The first point of all, -/
theorem body_start (c : Dev nD) (t : Fin cfg0.N) (h0 : t.val = 0) :
    bodyPre m c t ⊢ wp frame (wpE (defs₀ (F := F)) Variants.none c none) Set.univ (bodyAt0 t) (fun _ => bodyPost m c t) := by
  have h : t.val % 8 = 0 := by omega
  have h7 : ¬t.val % 8 = 7 := by omega
  unfold bodyPre bodyPost bodyAt0
  simp only [before_0, before_1, before_2, before_3, before_4]
  rw [show (dats m 0 c).owesAt () t.succ = (dats m 0 c).owesAt () t.castSucc from rfl,
    show (dats m 0 c).Φ t.succ = carried m c (t.val + 1) t.isLt from rfl, carried_pos m c (t.val + 1) t.isLt (Nat.succ_ne_zero _), leaves_0, leaves_1, leaves_2, leaves_3, leaves_4, leaves_5, carried_castSucc m c t]
  rw [carried_zero m c _ _ h0, scratch_eq, show sums m c (t.val + 1 - 1) _ = _ from sums_first m c t h]
  have e8 := leaves_8 m c t
  rw [cols_start m c t h0] at e8
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_start c (grid0.coords t) _ _ _ _ _ _ _ _ _ _ _ _ _ _ _ _ _ _ _ _ (iblk m c 0 t) (iblk m c 1 t) (iblk m c 2 t) (iblk m c 3 t) (iblk m c 4 t) ((cond1_iff t).mpr h) ((cond2_iff t).mpr h0) (fun e => h7 ((cond3_iff t).mp e)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H8]; · iexists _; iexact H8
  isplitl [HS]; · iexact HS
  iintro ⟨H0, H1, H2, H3, H4, H5, H6, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m c t); iexact H6
  isplitl [H7]; · iapply (idle_7 m c t h7); iexists _; iexact H7
  iapply e8; iexact H8

/-- a later group's first point, -/
theorem body_first (c : Dev nD) (t : Fin cfg0.N) (h : t.val % 8 = 0) (h0 : ¬t.val = 0) :
    bodyPre m c t ⊢ wp frame (wpE (defs₀ (F := F)) Variants.none c none) Set.univ (bodyAt0 t) (fun _ => bodyPost m c t) := by
  have h7 : ¬t.val % 8 = 7 := by omega
  unfold bodyPre bodyPost bodyAt0
  simp only [before_0, before_1, before_2, before_3, before_4]
  rw [show (dats m 0 c).owesAt () t.succ = (dats m 0 c).owesAt () t.castSucc from rfl,
    show (dats m 0 c).Φ t.succ = carried m c (t.val + 1) t.isLt from rfl, carried_pos m c (t.val + 1) t.isLt (Nat.succ_ne_zero _), leaves_0, leaves_1, leaves_2, leaves_3, leaves_4, leaves_5, carried_castSucc m c t]
  rw [carried_pos m c _ _ h0, show sums m c (t.val + 1 - 1) _ = _ from sums_first m c t h]
  simp only [before_8 m c t h0]
  have e8 := leaves_8 m c t
  rw [cols_kept m c t h0 h7] at e8
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first c (grid0.coords t) _ _ _ _ _ _ _ _ _ _ _ _ _ _ _ _ _ _ _ _ (iblk m c 0 t) (iblk m c 1 t) (iblk m c 2 t) (iblk m c 3 t) (iblk m c 4 t) ((cond1_iff t).mpr h) (fun e => h0 ((cond2_iff t).mp e)) (fun e => h7 ((cond3_iff t).mp e)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexists _; iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m c t); iexact H6
  isplitl [H7]; · iapply (idle_7 m c t h7); iexists _; iexact H7
  iapply e8; iexact H8

/-- a point in between -/
theorem body_later (c : Dev nD) (t : Fin cfg0.N) (h : ¬t.val % 8 = 0) (h7 : ¬t.val % 8 = 7) :
    bodyPre m c t ⊢ wp frame (wpE (defs₀ (F := F)) Variants.none c none) Set.univ (bodyAt0 t) (fun _ => bodyPost m c t) := by
  have h0 : ¬t.val = 0 := by omega
  unfold bodyPre bodyPost bodyAt0
  simp only [before_0, before_1, before_2, before_3, before_4]
  rw [show (dats m 0 c).owesAt () t.succ = (dats m 0 c).owesAt () t.castSucc from rfl,
    show (dats m 0 c).Φ t.succ = carried m c (t.val + 1) t.isLt from rfl, carried_pos m c (t.val + 1) t.isLt (Nat.succ_ne_zero _), leaves_0, leaves_1, leaves_2, leaves_3, leaves_4, leaves_5, carried_castSucc m c t]
  rw [carried_pos m c _ _ h0, show sums m c (t.val + 1 - 1) _ = _ from sums_later m c t h]
  simp only [before_6 m c t h, before_8 m c t h0]
  have e8 := leaves_8 m c t
  rw [cols_kept m c t h0 h7] at e8
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_later c (grid0.coords t) _ _ _ _ _ _ _ _ _ _ _ _ _ _ _ _ _ _ _ _ (iblk m c 0 t) (iblk m c 1 t) (iblk m c 2 t) (iblk m c 3 t) (iblk m c 4 t) (normed m c t) (sums m c (t.val - 1) (lt_of_le_of_lt (Nat.sub_le _ _) t.isLt)) (fun e => h ((cond1_iff t).mp e)) (fun e => h0 ((cond2_iff t).mp e)) (fun e => h7 ((cond3_iff t).mp e)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m c t); iexact H6
  isplitl [H7]; · iapply (idle_7 m c t h7); iexists _; iexact H7
  iapply e8; iexact H8

/-- and a group's last point. -/
theorem body_last (c : Dev nD) (t : Fin cfg0.N) (h7 : t.val % 8 = 7) :
    bodyPre m c t ⊢ wp frame (wpE (defs₀ (F := F)) Variants.none c none) Set.univ (bodyAt0 t) (fun _ => bodyPost m c t) := by
  have h0 : ¬t.val = 0 := by omega
  have h : ¬t.val % 8 = 0 := by omega
  unfold bodyPre bodyPost bodyAt0
  simp only [before_0, before_1, before_2, before_3, before_4]
  rw [show (dats m 0 c).owesAt () t.succ = (dats m 0 c).owesAt () t.castSucc from rfl,
    show (dats m 0 c).Φ t.succ = carried m c (t.val + 1) t.isLt from rfl, carried_pos m c (t.val + 1) t.isLt (Nat.succ_ne_zero _), leaves_0, leaves_1, leaves_2, leaves_3, leaves_4, leaves_5, carried_castSucc m c t]
  rw [carried_pos m c _ _ h0, show sums m c (t.val + 1 - 1) _ = _ from sums_later m c t h]
  simp only [before_6 m c t h, before_8 m c t h0]
  have e8 := leaves_8 m c t
  rw [cols_last m c t h7, sums_later m c t h] at e8
  have e7 := leaves_7 m c t h7
  rw [sums_later m c t h] at e7
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_last c (grid0.coords t) _ _ _ _ _ _ _ _ _ _ _ _ _ _ _ _ _ _ _ _ (iblk m c 0 t) (iblk m c 1 t) (iblk m c 2 t) (iblk m c 3 t) (iblk m c 4 t) (normed m c t) (sums m c (t.val - 1) (lt_of_le_of_lt (Nat.sub_le _ _) t.isLt)) (cols m c (t.val - 1) (lt_of_le_of_lt (Nat.sub_le _ _) t.isLt)) (fun e => h ((cond1_iff t).mp e)) (fun e => h0 ((cond2_iff t).mp e)) ((cond3_iff t).mpr h7) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m c t); iexact H6
  isplitl [H7]; · iapply e7; iexact H7
  iapply e8; iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_start m c t h0
  by_cases h : t.val % 8 = 0
  · exact body_first m c t h h0
  by_cases h7 : t.val % 8 = 7
  · exact body_last m c t h7
  · exact body_later m c t h h7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enters (c : Dev nD) : Pipeline.ΦA spec0 c ⊢ (dats m 0 c).Φ 0 := by
  rw [show (dats m 0 c).Φ 0 = carried m c 0 (Nat.zero_le _) from rfl, carried_zero m c 0 _ rfl]

theorem leaves (c : Dev nD) : (dats m 0 c).Φ (Fin.last cfg0.N) ⊢ Pipeline.ΦA spec0 c := by
  rw [show (dats m 0 c).Φ (Fin.last cfg0.N) = carried m c cfg0.N (le_refl _) from rfl, carried_pos m c _ _ (by decide), scratch_eq]
  iintro ⟨HS, Hg⟩
  isplitl [HS]; · iexists _; iexact HS
  iexact Hg

set_option backward.isDefEq.respectTransparency.types false in
/-- Every run ends, with the arrays at what the points leave, the host's last lines done and every semaphore at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leaves m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.MlpFwdIdeal

end
-- ==== Proof.InProjIdeal.lean ====
/- Hand-written, untrusted: the frame of the first norm and the input projection. A group of rows is visited once for every device's
   block of columns; the first visit stores the normed rows, the later ones read them where the first one left them. -/
module

public import proofs.«01_k».proof.Proof.Gen.Kernel17Ideal.Frame
public import proofs.«01_k».proof.Proof.Gen.Kernel17Ideal.Skeleton
public import Idealize.ShloMosaic.Lib.Pipeline.TableIdle
public import Idealize.ShloMosaic.Lib.Pipeline.Value
public import Idealize.ShloMosaic.Lib.Tactic
public import Idealize.ShloMosaic.Lib.Claim

@[expose] public section

set_option maxRecDepth 16384

noncomputable section

namespace Cert.Proof.InProjIdeal

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl
theorem hz3 : (![0, 0, 0] : Fin 3 → Nat) = fun _ => 0 := funext fun a => by fin_cases a <;> rfl

section Run
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1280 .bf16) (harg4 : arg4.IsWhole) (arg5 : Memref sig .tc .vmem S512x1280 .bf16) (harg5 : arg5.IsWhole) (arg6 : Memref sig .tc .vmem S512x1024 .bf16) (harg6 : arg6.IsWhole)
  (x0 : Vec F S512x1024 .f32) (x1 : Vec F S1x1024 .f32) (x2 : Vec F S1x1024x1280 .bf16)

/-- A group's first visit: the normed rows are stored, and their products with the block of columns. -/
theorem run_first (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (View.cover_of_tiledL _ S512x1280.size (by sl_kernel_rfl)), View.canon_unit_zero hz, View.readCov_unit_zero (S := S512x1024) _ hz]
    simp only [View.readAt_eq_ld, harg2.read_unread, harg3.read_unread, harg4.read_unread, harg5.read_unread, harg6.read_unread, View.ld_unit_zero (S := S512x1024) hz, View.ld_unit_zero (S := S1x1024) hz, View.ld_unit_zero (S := S1x1024x1280) hz3]
  iexists _; isplitr
  swap; · iexact H4
  ipureintro
  sl_unfold_words
  rw [View.read_writes_eq_canon _ _ _ (View.cover_of_tiledL _ S512x1024.size (by sl_kernel_rfl)), View.canon_unit_zero hz]
  simp only [View.readAt_eq_ld, harg2.read_unread, harg3.read_unread, harg4.read_unread, harg5.read_unread, harg6.read_unread, View.ld_unit_zero (S := S512x1024) hz, View.ld_unit_zero (S := S1x1024) hz, View.ld_unit_zero (S := S1x1024x1280) hz3]

/-- A later visit: the products of the normed rows left there with the block of columns are stored. -/
theorem run_later (x4 : Vec F S512x1024 .bf16) (hc : ¬k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2 ∗ owns (c : Thread nD τ) arg5 fullShare (k0_pay2 x4 x2) ∗ owns (c : Thread nD τ) arg6 fullShare x4) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S512x1280.size (by sl_kernel_rfl)), View.canon_unit_zero hz]
    simp only [View.readAt_eq_ld, harg2.read_unread, harg3.read_unread, harg4.read_unread, harg5.read_unread, harg6.read_unread, View.ld_unit_zero (S := S512x1024) hz, View.ld_unit_zero (S := S1x1024) hz, View.ld_unit_zero (S := S1x1024x1280) hz3]
  iexists _; isplitr
  swap; · iexact H4
  ipureintro; exact harg6.read_unread _

end Run

/-! ## The points -/

theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

theorem idle_iff : ∀ t : Fin cfg0.N, cfg0.idle 4 (grid0.coords t) = true ↔ ¬t.val % 8 = 0 :=
  (by decide +kernel : ∀ t : Fin cfg0.N, cfg0.idle 4 (grid0.coords t) = true ↔ ¬t.val % 8 = 0)

/-- The stored rows' buffer holds nothing yet at a group's first point only. -/
def freshAt (n : ℕ) : Bool := n % 8 == 0

theorem fresh_step : ∀ t : Fin cfg0.N,
    freshAt (t.val + 1) = ((cfg0.win 4).flush t || (cfg0.idle 4 (cfg0.grid.coords t) && freshAt t.val)) := by decide +kernel

theorem fresh_eq (t : Fin cfg0.N) : cfg0.fresh 4 t.val = freshAt t.val :=
  Pipeline.Cfg.fresh_tab cfg0 4 freshAt rfl fresh_step t.val (Nat.le_of_lt t.isLt)

variable (m : (ℓ : Loc nD τ sig) → Buf (Elt F) ℓ) (ρ : Dev nD → PrngReg)

/-- The normed rows of a point's group. -/
def normed (c : Dev nD) (t : Fin cfg0.N) : Vec F S512x1024 .bf16 := k0_pay1 (iblk m c 0 t) (iblk m c 1 t)

/-- What the run leaves at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normed m c t) (iblk m c 2 t)
    | ⟨4, _⟩ => normed m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = k0_pay2 (normed m c t) (iblk m c 2 t) := by dsimp only [dats]
theorem after_4 (c : Dev nD) (t) : (dats m 0 c).after 4 t = normed m c t := by dsimp only [dats]
theorem before_0 (c : Dev nD) (t d) : (dats m 0 c).before 0 t d = iblk m c 0 t := before0_0_of m (dats m 0 c) (A_eq m c 0) (after_0 m c) t d
theorem before_1 (c : Dev nD) (t d) : (dats m 0 c).before 1 t d = iblk m c 1 t := before0_1_of m (dats m 0 c) (A_eq m c 1) (after_1 m c) t d
theorem before_2 (c : Dev nD) (t d) : (dats m 0 c).before 2 t d = iblk m c 2 t := before0_2_of m (dats m 0 c) (A_eq m c 2) (after_2 m c) t d

/-- Inside a group the rows do not change, -/
theorem rows_kept (c : Dev nD) (t : Fin cfg0.N) (h : ¬t.val % 8 = 0) : iblk m c 0 t = iblk m c 0 ⟨t.val - 1, by omega⟩ := by
  have e : ∀ s d, (dats m 0 c).fetched 0 s d = iblk m c 0 s := fun s d => by unfold Dat.fetched Dat.blockOf iblk; rw [A_eq]; rfl
  obtain ⟨_, hix⟩ := (cfg0.win 0).index_eq_of_fetch rfl t ((Bool.not_eq_true _).mp fun e => h ((fetch0_0 t).mp e))
  exact (e t (iblk m c 0 t)).symm.trans (((dats m 0 c).fetched_congr 0 hix.symm rfl _).symm.trans (e _ _))

/-- and the scale does not change at all, -/
theorem scale_kept (c : Dev nD) (t : Fin cfg0.N) (h : ¬t.val % 8 = 0) : iblk m c 1 t = iblk m c 1 ⟨t.val - 1, by omega⟩ := by
  have e : ∀ s d, (dats m 0 c).fetched 1 s d = iblk m c 1 s := fun s d => by unfold Dat.fetched Dat.blockOf iblk; rw [A_eq]; rfl
  obtain ⟨_, hix⟩ := (cfg0.win 1).index_eq_of_fetch rfl t ((Bool.not_eq_true _).mp fun e => h (by have := (fetch0_1 t).mp e; omega))
  exact (e t (iblk m c 1 t)).symm.trans (((dats m 0 c).fetched_congr 1 hix.symm rfl _).symm.trans (e _ _))

/-- so neither do the normed rows. -/
theorem normed_kept (c : Dev nD) (t : Fin cfg0.N) (h : ¬t.val % 8 = 0) : normed m c t = normed m c ⟨t.val - 1, by omega⟩ := by
  unfold normed; rw [rows_kept m c t h, scale_kept m c t h]

/-- A later visit finds the normed rows. -/
theorem before_4 (c : Dev nD) (t : Fin cfg0.N) (h : ¬t.val % 8 = 0) (d) : (dats m 0 c).before 4 t d = normed m c t := by
  rw [Dat.before_out_traj _ 4 rfl (fun _ _ => rfl)
      (fun t _ hi _ => (after_4 m c t).trans ((normed_kept m c t ((idle_iff t).mp hi)).trans (after_4 m c _).symm)) t.val t rfl d,
    if_neg (by rw [fresh_eq t, freshAt, beq_iff_eq]; exact h), after_4, ← normed_kept m c t h]

/-! ## The body at every point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t) : (dats m 0 c).leavesExact 0 t = owns (c : Thread nD τ) (st0_0 t) fullShare (iblk m c 0 t) := by
  rw [← after_0]
theorem leaves_1 (c : Dev nD) (t) : (dats m 0 c).leavesExact 1 t = owns (c : Thread nD τ) (st0_1 t) fullShare (iblk m c 1 t) := by
  rw [← after_1]
theorem leaves_2 (c : Dev nD) (t) : (dats m 0 c).leavesExact 2 t = owns (c : Thread nD τ) (st0_2 t) fullShare (iblk m c 2 t) := by
  rw [← after_2]
theorem leaves_3 (c : Dev nD) (t) : (dats m 0 c).leavesExact 3 t = owns (c : Thread nD τ) (st0_3 t) fullShare (k0_pay2 (normed m c t) (iblk m c 2 t)) := by
  rw [← after_3]
/-- Wherever it is, the stored rows' buffer holds the normed rows afterwards. -/
theorem leaves_4 (c : Dev nD) (t) : owns (c : Thread nD τ) (st0_4 t) fullShare (normed m c t) ⊢ (dats m 0 c).leavesExact 4 t := by
  unfold Dat.leavesExact
  cases hi : cfg0.idle 4 (cfg0.grid.coords t)
  · dsimp only; rw [after_4]
  · have h := (idle_iff t).mp hi
    cases (cfg0.win 4).flush t
    · dsimp only
      iintro H; iexists (normed m c t); rw [before_4 m c t h]; iexact H
    · dsimp only; rw [after_4]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = (dats m 0 c).Φ t.castSucc from rfl, leaves_0, leaves_1, leaves_2, leaves_3]
  by_cases h : t.val % 8 = 0
  · iintro ⟨Hg, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((cond_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [Hg]; · iexact Hg
    isplitl [Ho]; · iexact Ho
    isplitl [H0]; · iexact H0
    isplitl [H1]; · iexact H1
    isplitl [H2]; · iexact H2
    isplitl [H3]; · iexact H3
    iapply (leaves_4 m c t); iexact H4
  · simp only [before_4 m c t h]
    iintro ⟨Hg, Ho, ⟨%d0, H0⟩, ⟨%d1, H1⟩, ⟨%d2, H2⟩, ⟨%d3, H3⟩, ⟨%d4, H4⟩⟩
    iapply (run_later c (grid0.coords t) _ _ _ _ _ _ _ _ _ _ (iblk m c 0 t) (iblk m c 1 t) (iblk m c 2 t) (normed m c t) (fun e => h ((cond_iff t).mp e)) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [Hg]; · iexact Hg
    isplitl [Ho]; · iexact Ho
    isplitl [H0]; · iexact H0
    isplitl [H1]; · iexact H1
    isplitl [H2]; · iexact H2
    isplitl [H3]; · iexact H3
    iapply (leaves_4 m c t); iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- Every run ends, with the arrays at what the points leave and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_quiescent m ρ)

/-- The frame: every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Proof.InProjIdeal

end
-- ==== Proof.Frames.lean ====
/- Hand-written, untrusted: the frames of the two programs whose grid points read what earlier points left, taken from the run of
   the ideal program, which has the same text. -/
module

public import proofs.«01_k».proof.Defs
public import proofs.«01_k».proof.Proof.MlpFwdIdeal
public import proofs.«01_k».proof.Proof.InProjIdeal
public import proofs.«01_k».proof.Proof.Gen.Kernel11.Launch
public import proofs.«01_k».proof.Proof.Gen.Kernel17.Launch

@[expose] public section

noncomputable section

namespace Cert.Proof.Frames

open Idealize.ShloMosaic Idealize.SL.Sem

/-- The two programs' body tables are the same: they have one label, and its function has the same text. -/
theorem same17 : Kernel17.defs (F := Bits) = Kernel17Ideal.defs (F := Bits) := by
  refine congrArg (Pipeline.defs (Kernel17.pcfgs (F := Bits))) ?_
  unfold Kernel17.defs₀ Kernel17Ideal.defs₀
  refine congrArg Defs.onTc (funext fun l => ?_)
  match l with
  | ⟨0, _⟩ => rfl
  | ⟨_ + 1, h⟩ => exact absurd h (Nat.not_lt.2 (Nat.le_add_left _ _))

/-- The frame of the input projection. -/
theorem frame17 : Cert.quiescent_Kernel17 (hKernel17 := Cert.Kernel17.Gen.facts) := fun m g _ => by
  rw [same17]
  exact InProjIdeal.frame (F := Bits) m g

theorem same11 : Kernel11.defs (F := Bits) = Kernel11Ideal.defs (F := Bits) := by
  refine congrArg (Pipeline.defs (Kernel11.pcfgs (F := Bits))) ?_
  unfold Kernel11.defs₀ Kernel11Ideal.defs₀
  refine congrArg Defs.onTc (funext fun l => ?_)
  match l with
  | ⟨0, _⟩ => rfl
  | ⟨_ + 1, h⟩ => exact absurd h (Nat.not_lt.2 (Nat.le_add_left _ _))

/-- The frame of the MLP and the loss head. -/
theorem frame11 : Cert.quiescent_Kernel11 (hKernel11 := Cert.Kernel11.Gen.facts) := fun m g _ => by
  rw [same11]
  exact MlpFwdIdeal.frame (F := Bits) m g

end Cert.Proof.Frames

end
-- ==== Proof.MlpFwd.lean ====
/- Hand-written, untrusted: the MLP and the loss head at the reals. A group's visits add the products of the blocks of hidden
   columns, so its last visit has the whole product; the loss's row of columns adds every group's squares. -/
module

public import proofs.«01_k».proof.Defs
public import proofs.«01_k».proof.Proof.MlpFwdIdeal
public import proofs.«01_k».proof.Proof.Gen.Reference11Ideal.Run
public import proofs.«01_k».proof.Proof.Gen.Reference11Ideal.Read
public import Idealize.ShloMosaic.Lib.Pointwise
public import proofs.«01_k».proof.Proof.RmsBwd

@[expose] public section

noncomputable section

namespace Cert.Proof.MlpFwd

open Cert.Kernel11Ideal Cert.Kernel11Ideal.Gen Idealize.ShloMosaic Idealize.ShloMosaic.TcCoe Idealize.SL.Sem
open Reference11Ideal.Read MlpFwdIdeal RmsBwd

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_mean : Ideal.ofBits .f32 0x3A800000#32 = ((1 / 1024 : ℝ) : EReal) := by
  simp [Ideal.ofBits, Ideal.ieee, -EReal.coe_mul]; norm_num

/-- One hidden value of a normed row. -/
def hid (y w : Fin 1024 → EReal) : EReal := ∑ q, y q * w q

/-- The difference of a row's result to its target. -/
def gap (x a t : EReal) : EReal := x + a - t

/-- A hidden value's product with a weight. -/
def act (u w : EReal) : EReal := max u 0 * max u 0 * w

section Pay
variable (x a t : Vec Ideal S512x1024 .f32) (g l : Vec Ideal S1x1024 .f32) (h wd : Vec Ideal S512x1024 .bf16) (w : Vec Ideal S1x1024x512 .bf16) (i : Fin 512) (j : Fin 1024) (k : Fin 512)

theorem pay1_at : k0_pay1 x g (ix2 i j) = x (ix2 i j) * (rinv fun q => x (ix2 i q)) * g (ix2 0 j) := by
  unfold_payloads
  pointwise
  simp only [rinv_eq]

theorem pay2_at : k0_pay2 (F := Ideal) (ix2 i j) = 0 := by
  unfold_payloads
  pointwise

theorem pay3_at : k0_pay3 (F := Ideal) (ix2 0 j) = 0 := by
  unfold_payloads
  pointwise

theorem pay5_at : k0_pay5 h w (ix2 i k) = hid (fun q => h (ix2 i q)) (fun q => w (ix3 0 q k)) := by
  unfold_payloads
  pointwise
  rfl

theorem pay6_at : k0_pay6 h w a wd (ix2 i j) = a (ix2 i j) + ∑ k : Fin 512, act (hid (fun q => h (ix2 i q)) (fun q => w (ix3 0 q k))) (wd (ix2 k j)) := by
  unfold_payloads
  pointwise
  rfl

theorem pay8_at : k0_pay8 x a t (ix2 i j) = gap (x (ix2 i j)) (a (ix2 i j)) (t (ix2 i j)) * ((1 / 1024 : ℝ) : EReal) := by
  unfold_payloads
  pointwise
  rw [lit_mean]
  rfl

theorem pay9_at : k0_pay9 x a t l (ix2 0 j) = l (ix2 0 j) + ∑ k : Fin 512, gap (x (ix2 k j)) (a (ix2 k j)) (t (ix2 k j)) * gap (x (ix2 k j)) (a (ix2 k j)) (t (ix2 k j)) := by
  unfold_payloads
  pointwise
  rfl

/-- The host's last lines: the loss from the row of columns, -/
def lossOf (l : Vec Ideal S1x1024 .f32) : Vec Ideal S_ .f32 :=
  Host.divf (F := Ideal) (mulf (F := Ideal) (constant (F := Ideal) S_ .f32 0x3F000000#32) (Host.reduceAdd (F := Ideal) l (constant (F := Ideal) S_ .f32 0x00000000#32) reducesTo_S1x1024_S_d0_1 h_S_)) (constant (F := Ideal) S_ .f32 0x44800000#32)

/-- read at its one index. -/
theorem loss_at (i : S_.Idx) : lossOf l i
    = Ideal.div (((1 / 2 : ℝ) : EReal) * ∑ j : Fin 1024, l (ix2 0 j)) ((1024 : ℝ) : EReal) := by
  unfold lossOf
  pointwise
  simp only [Fin.sum_univ_one, lit_half, lit_1024]

end Pay

section Ref
variable (x0 : (⟨S2048x1024, .f32⟩ : BufTy).Contents (Elt Ideal)) (x1 : (⟨S1x1024, .f32⟩ : BufTy).Contents (Elt Ideal)) (x2 : (⟨S1024x4096, .f32⟩ : BufTy).Contents (Elt Ideal)) (x3 : (⟨S4096x1024, .f32⟩ : BufTy).Contents (Elt Ideal)) (x4 : (⟨S2048x1024, .f32⟩ : BufTy).Contents (Elt Ideal)) (r : Fin 2048)

theorem ref33_at (j : Fin 1024) : val_main_v33 (F := Ideal) x0 x1 (ix2 r j) = x0 (ix2 r j) * (rinv fun q => x0 (ix2 r q)) * x1 (ix2 0 j) := by
  pointwise [val_main_v0, val_main_cst, val_main_v1, val_main_v2, val_main_cst_0, val_main_v3, val_main_v4, val_main_cst_1, val_main_v5, val_main_v6, val_main_v7, val_main_v8, val_main_v9, val_main_v10, val_main_v11, val_main_v33]
  simp only [Fin.sum_univ_one, rinv_eq]

theorem ref12_at (k : Fin 4096) : val_main_v12 (F := Ideal) x0 x1 x2 (ix2 r k)
    = hid (fun q => val_main_v33 (F := Ideal) x0 x1 (ix2 r q)) (fun q => x2 (ix2 q k)) := by
  pointwise [val_main_v12]
  rfl

theorem ref32_at (k : Fin 4096) : val_main_v32 (F := Ideal) x0 x1 x2 (ix2 r k)
    = hid (fun q => val_main_v33 (F := Ideal) x0 x1 (ix2 r q)) (fun q => x2 (ix2 q k)) :=
  ref12_at x0 x1 x2 r k

theorem ref15_at (j : Fin 1024) : val_main_v15 (F := Ideal) x0 x1 x2 x3 (ix2 r j)
    = ∑ k : Fin 4096, act (hid (fun q => val_main_v33 (F := Ideal) x0 x1 (ix2 r q)) (fun q => x2 (ix2 q k))) (x3 (ix2 k j)) := by
  pointwise [val_main_v15, val_main_v14, val_main_v13, val_main_call0_v0, val_main_call0_cst]
  simp only [ref12_at]
  rfl

theorem ref17_at (j : Fin 1024) : val_main_v17 (F := Ideal) x0 x1 x2 x3 x4 (ix2 r j)
    = gap (x0 (ix2 r j)) (val_main_v15 (F := Ideal) x0 x1 x2 x3 (ix2 r j)) (x4 (ix2 r j)) := by
  pointwise [val_main_v17, val_main_v16]
  rfl

theorem ref31_at (j : Fin 1024) : val_main_v31 (F := Ideal) x0 x1 x2 x3 x4 (ix2 r j)
    = val_main_v17 (F := Ideal) x0 x1 x2 x3 x4 (ix2 r j) * ((1 / 1024 : ℝ) : EReal) := by
  pointwise [val_main_v31, val_main_v30, val_main_v29, val_main_v28, val_main_cst_9, val_main_v27, val_main_v26, val_main_cst_8, val_main_cst_7, val_main_v20, val_main_v19, val_main_cst_2]
  rw [lit_half, lit_1024, lit_two, div_pos_coe _ (by norm_num), ← EReal.coe_mul, ← mul_assoc, ← EReal.coe_mul, mul_comm]
  norm_num

theorem ref25_at (i : S_.Idx) : val_main_v25 (F := Ideal) x0 x1 x2 x3 x4 i
    = ((1 / 2 : ℝ) : EReal) * ∑ r : Fin 2048, Ideal.div (∑ j : Fin 1024, val_main_v17 (F := Ideal) x0 x1 x2 x3 x4 (ix2 r j) * val_main_v17 (F := Ideal) x0 x1 x2 x3 x4 (ix2 r j)) ((1024 : ℝ) : EReal) := by
  pointwise [val_main_v25, val_main_cst_6, val_main_v24, val_main_cst_5, val_main_v23, val_main_v22, val_main_cst_4, val_main_v21, val_main_cst_3, val_main_v18]
  simp only [lit_half, lit_1024]

end Ref

/-- The mean of a row's squares may be taken after the rows are summed: no square is negative. -/
theorem loss_swap (d : Fin 2048 → Fin 1024 → EReal) :
    Ideal.div (((1 / 2 : ℝ) : EReal) * ∑ j, ∑ r, d r j * d r j) ((1024 : ℝ) : EReal)
      = ((1 / 2 : ℝ) : EReal) * ∑ r, Ideal.div (∑ j, d r j * d r j) ((1024 : ℝ) : EReal) := by
  simp only [div_pos_coe _ (show (0 : ℝ) < 1024 by norm_num)]
  rw [sum_mul' _ (by norm_num), mul_assoc, Finset.sum_comm]

theorem host_blocks (x : Vec Ideal S1024x4096 .f32) (d : Fin 8) (j : Fin 1024) (k : Fin 512) :
    transpose S8x1024x512 [1, 0, 2] (shapeCast S1024x8x512 (truncf (F := Ideal) .bf16 x bitsLt_bf16_f32) shapeCasts_S1024x4096_S1024x8x512)
      transposes_S1024x8x512_S8x1024x512_1_0_2 (ix3 d j k) = x (ix2 j ⟨d.val * 512 + k.val, by omega⟩) := by
  pointwise

variable (m : (ℓ : Loc nD τ sig) → Buf (Elt Ideal) ℓ) (c : Dev nD)

/-- The upper weight's blocks of columns, as the host lays them out, -/
theorem Vu_at (d : Fin 8) (j : Fin 1024) (k : Fin 512) :
    V m c main_v2 (ix3 d j k) = m ((c : Thread nD τ).loc main_arg2) (ix2 j ⟨d.val * 512 + k.val, by omega⟩) := by
  have h : V m c main_v2 = transpose S8x1024x512 [1, 0, 2] (shapeCast S1024x8x512 (truncf (F := Ideal) .bf16 (m ((c : Thread nD τ).loc main_arg2)) bitsLt_bf16_f32) shapeCasts_S1024x4096_S1024x8x512)
      transposes_S1024x8x512_S8x1024x512_1_0_2 := by
    unfold_abbrev_sides
    after_results
    rfl
  rw [h]
  exact host_blocks _ d j k

/-- and the lower weight. -/
theorem Vd_at (i : S4096x1024.Idx) : V m c main_v3 i = m ((c : Thread nD τ).loc main_arg3) i := by
  have h : V m c main_v3 = truncf (F := Ideal) .bf16 (m ((c : Thread nD τ).loc main_arg3)) bitsLt_bf16_f32 := by
    unfold_abbrev_sides
    simp only [hostOps0, List.flatten_cons, List.flatten_nil, List.append_nil, List.cons_append, List.nil_append]
    after_results
  rw [h]
  rfl

theorem t_lt (t : Fin cfg0.N) : t.val < 32 := t.2

theorem idx0 : ∀ t : Fin cfg0.N, win0_0.index t (0 : Fin 2) = t.val / 8 ∧ win0_0.index t (1 : Fin 2) = 0 :=
  (by decide +kernel : ∀ t : Fin grid0.N, _)

/-- Point `t`'s block of input window 0, at an index. -/
theorem iblk0_at (t : Fin cfg0.N) (i : Fin 512) (j : Fin 1024) :
    iblk m c 0 t (ix2 i j) = (m ((c : Thread nD τ).loc main_arg0)) (ix2 ⟨(t.val / 8) * 512 + i.val, by have := t_lt t; omega⟩ j) := by
  obtain ⟨h0, h1⟩ := idx0 t
  refine congrArg ((m ((c : Thread nD τ).loc main_arg0))) (funext fun q => Fin.ext ?_)
  match q with
  | ⟨0, _⟩ => show win0_0.index t (0 : Fin 2) * 512 + 1 * i.val = (t.val / 8) * 512 + i.val; omega
  | ⟨1, _⟩ => show win0_0.index t (1 : Fin 2) * 1024 + 1 * j.val = j.val; omega

theorem idx1 : ∀ t : Fin cfg0.N, win0_1.index t (0 : Fin 2) = 0 ∧ win0_1.index t (1 : Fin 2) = 0 :=
  (by decide +kernel : ∀ t : Fin grid0.N, _)

/-- Point `t`'s block of input window 1, at an index. -/
theorem iblk1_at (t : Fin cfg0.N) (j : Fin 1024) :
    iblk m c 1 t (ix2 0 j) = (m ((c : Thread nD τ).loc main_arg1)) (ix2 0 j) := by
  obtain ⟨h0, h1⟩ := idx1 t
  refine congrArg ((m ((c : Thread nD τ).loc main_arg1))) (funext fun q => Fin.ext ?_)
  match q with
  | ⟨0, _⟩ => show win0_1.index t (0 : Fin 2) * 1 + 1 * 0 = 0; omega
  | ⟨1, _⟩ => show win0_1.index t (1 : Fin 2) * 1024 + 1 * j.val = j.val; omega

theorem idx2 : ∀ t : Fin cfg0.N, win0_2.index t (0 : Fin 3) = t.val % 8 ∧ win0_2.index t (1 : Fin 3) = 0 ∧ win0_2.index t (2 : Fin 3) = 0 :=
  (by decide +kernel : ∀ t : Fin grid0.N, _)

/-- Point `t`'s block of input window 2, at an index. -/
theorem iblk2_at (t : Fin cfg0.N) (j : Fin 1024) (k : Fin 512) :
    iblk m c 2 t (ix3 0 j k) = (V m c main_v2) (ix3 ⟨t.val % 8, by have := t_lt t; omega⟩ j k) := by
  obtain ⟨h0, h1, h2⟩ := idx2 t
  refine congrArg ((V m c main_v2)) (funext fun q => Fin.ext ?_)
  match q with
  | ⟨0, _⟩ => show win0_2.index t (0 : Fin 3) * 1 + 1 * 0 = t.val % 8; omega
  | ⟨1, _⟩ => show win0_2.index t (1 : Fin 3) * 1024 + 1 * j.val = j.val; omega
  | ⟨2, _⟩ => show win0_2.index t (2 : Fin 3) * 512 + 1 * k.val = k.val; omega

theorem idx3 : ∀ t : Fin cfg0.N, win0_3.index t (0 : Fin 2) = t.val % 8 ∧ win0_3.index t (1 : Fin 2) = 0 :=
  (by decide +kernel : ∀ t : Fin grid0.N, _)

/-- Point `t`'s block of input window 3, at an index. -/
theorem iblk3_at (t : Fin cfg0.N) (i : Fin 512) (j : Fin 1024) :
    iblk m c 3 t (ix2 i j) = (V m c main_v3) (ix2 ⟨(t.val % 8) * 512 + i.val, by have := t_lt t; omega⟩ j) := by
  obtain ⟨h0, h1⟩ := idx3 t
  refine congrArg ((V m c main_v3)) (funext fun q => Fin.ext ?_)
  match q with
  | ⟨0, _⟩ => show win0_3.index t (0 : Fin 2) * 512 + 1 * i.val = (t.val % 8) * 512 + i.val; omega
  | ⟨1, _⟩ => show win0_3.index t (1 : Fin 2) * 1024 + 1 * j.val = j.val; omega

theorem idx4 : ∀ t : Fin cfg0.N, win0_4.index t (0 : Fin 2) = t.val / 8 ∧ win0_4.index t (1 : Fin 2) = 0 :=
  (by decide +kernel : ∀ t : Fin grid0.N, _)

/-- Point `t`'s block of input window 4, at an index. -/
theorem iblk4_at (t : Fin cfg0.N) (i : Fin 512) (j : Fin 1024) :
    iblk m c 4 t (ix2 i j) = (m ((c : Thread nD τ).loc main_arg4)) (ix2 ⟨(t.val / 8) * 512 + i.val, by have := t_lt t; omega⟩ j) := by
  obtain ⟨h0, h1⟩ := idx4 t
  refine congrArg ((m ((c : Thread nD τ).loc main_arg4))) (funext fun q => Fin.ext ?_)
  match q with
  | ⟨0, _⟩ => show win0_4.index t (0 : Fin 2) * 512 + 1 * i.val = (t.val / 8) * 512 + i.val; omega
  | ⟨1, _⟩ => show win0_4.index t (1 : Fin 2) * 1024 + 1 * j.val = j.val; omega

theorem idx5 : ∀ t : Fin cfg0.N, win0_5.index t (0 : Fin 2) = t.val / 8 ∧ win0_5.index t (1 : Fin 2) = t.val % 8 :=
  (by decide +kernel : ∀ t : Fin grid0.N, _)

/-- Where an index of point `t`'s block of result window 5 lies in the array. -/
theorem emb5 (t : Fin cfg0.N) (i : Fin 512) (j : Fin 512) :
    ((cfg0.win 5).blk t).view.emb (ix2 i j) = ix2 ⟨(t.val / 8) * 512 + i.val, by have := t_lt t; omega⟩ ⟨(t.val % 8) * 512 + j.val, by have := t_lt t; omega⟩ := by
  obtain ⟨h0, h1⟩ := idx5 t
  funext q; apply Fin.ext
  match q with
  | ⟨0, _⟩ => show win0_5.index t (0 : Fin 2) * 512 + 1 * i.val = (t.val / 8) * 512 + i.val; omega
  | ⟨1, _⟩ => show win0_5.index t (1 : Fin 2) * 512 + 1 * j.val = (t.val % 8) * 512 + j.val; omega

/-- Every index of the array of window 5 lies in some point's block. -/
theorem covered5 (y : S2048x4096.Idx) : ∃ t : Fin cfg0.N, (cfg0.win 5).flush t = true ∧ y ∈ ((cfg0.win 5).blk t).view.set := by
  obtain ⟨i, j, rfl⟩ : ∃ (i : Fin 2048) (j : Fin 4096), y = ix2 i j := ⟨y 0, y 1, eq_ix2 y⟩
  have hi := i.2
  have hj := j.2
  let t : Fin cfg0.N := ⟨(i.val / 512) * 8 + (j.val / 512), by show (i.val / 512) * 8 + (j.val / 512) < 32; omega⟩
  have ht : t.val = (i.val / 512) * 8 + (j.val / 512) := rfl
  refine ⟨t, flush0_5 t, ?_⟩
  have h := ((cfg0.win 5).blk t).view.emb_mem_set (ix2 ⟨i.val % 512, by omega⟩ ⟨j.val % 512, by omega⟩)
  rw [emb5] at h
  refine (congrArg (· ∈ ((cfg0.win 5).blk t).view.set) ?_).mp h
  funext q; apply Fin.ext
  match q with
  | ⟨0, _⟩ => show (t.val / 8) * 512 + i.val % 512 = i.val; omega
  | ⟨1, _⟩ => show (t.val % 8) * 512 + j.val % 512 = j.val; omega

theorem idx6 : ∀ t : Fin cfg0.N, win0_6.index t (0 : Fin 2) = t.val / 8 ∧ win0_6.index t (1 : Fin 2) = 0 :=
  (by decide +kernel : ∀ t : Fin grid0.N, _)

/-- Where an index of point `t`'s block of result window 6 lies in the array. -/
theorem emb6 (t : Fin cfg0.N) (i : Fin 512) (j : Fin 1024) :
    ((cfg0.win 6).blk t).view.emb (ix2 i j) = ix2 ⟨(t.val / 8) * 512 + i.val, by have := t_lt t; omega⟩ j := by
  obtain ⟨h0, h1⟩ := idx6 t
  funext q; apply Fin.ext
  match q with
  | ⟨0, _⟩ => show win0_6.index t (0 : Fin 2) * 512 + 1 * i.val = (t.val / 8) * 512 + i.val; omega
  | ⟨1, _⟩ => show win0_6.index t (1 : Fin 2) * 1024 + 1 * j.val = j.val; omega

/-- Every index of the array of window 6 lies in some point's block. -/
theorem covered6 (y : S2048x1024.Idx) : ∃ t : Fin cfg0.N, (cfg0.win 6).flush t = true ∧ y ∈ ((cfg0.win 6).blk t).view.set := by
  obtain ⟨i, j, rfl⟩ : ∃ (i : Fin 2048) (j : Fin 1024), y = ix2 i j := ⟨y 0, y 1, eq_ix2 y⟩
  have hi := i.2
  have hj := j.2
  let t : Fin cfg0.N := ⟨(i.val / 512) * 8 + 7, by show (i.val / 512) * 8 + 7 < 32; omega⟩
  have ht : t.val = (i.val / 512) * 8 + 7 := rfl
  refine ⟨t, (flush0_6 t).mpr (by omega), ?_⟩
  have h := ((cfg0.win 6).blk t).view.emb_mem_set (ix2 ⟨i.val % 512, by omega⟩ j)
  rw [emb6] at h
  refine (congrArg (· ∈ ((cfg0.win 6).blk t).view.set) ?_).mp h
  funext q; apply Fin.ext
  match q with
  | ⟨0, _⟩ => show (t.val / 8) * 512 + i.val % 512 = i.val; omega
  | ⟨1, _⟩ => rfl

theorem idx7 : ∀ t : Fin cfg0.N, win0_7.index t (0 : Fin 2) = t.val / 8 ∧ win0_7.index t (1 : Fin 2) = 0 :=
  (by decide +kernel : ∀ t : Fin grid0.N, _)

/-- Where an index of point `t`'s block of result window 7 lies in the array. -/
theorem emb7 (t : Fin cfg0.N) (i : Fin 512) (j : Fin 1024) :
    ((cfg0.win 7).blk t).view.emb (ix2 i j) = ix2 ⟨(t.val / 8) * 512 + i.val, by have := t_lt t; omega⟩ j := by
  obtain ⟨h0, h1⟩ := idx7 t
  funext q; apply Fin.ext
  match q with
  | ⟨0, _⟩ => show win0_7.index t (0 : Fin 2) * 512 + 1 * i.val = (t.val / 8) * 512 + i.val; omega
  | ⟨1, _⟩ => show win0_7.index t (1 : Fin 2) * 1024 + 1 * j.val = j.val; omega

/-- Every index of the array of window 7 lies in some point's block. -/
theorem covered7 (y : S2048x1024.Idx) : ∃ t : Fin cfg0.N, (cfg0.win 7).flush t = true ∧ y ∈ ((cfg0.win 7).blk t).view.set := by
  obtain ⟨i, j, rfl⟩ : ∃ (i : Fin 2048) (j : Fin 1024), y = ix2 i j := ⟨y 0, y 1, eq_ix2 y⟩
  have hi := i.2
  have hj := j.2
  let t : Fin cfg0.N := ⟨(i.val / 512) * 8 + 7, by show (i.val / 512) * 8 + 7 < 32; omega⟩
  have ht : t.val = (i.val / 512) * 8 + 7 := rfl
  refine ⟨t, (flush0_7 t).mpr (by omega), ?_⟩
  have h := ((cfg0.win 7).blk t).view.emb_mem_set (ix2 ⟨i.val % 512, by omega⟩ j)
  rw [emb7] at h
  refine (congrArg (· ∈ ((cfg0.win 7).blk t).view.set) ?_).mp h
  funext q; apply Fin.ext
  match q with
  | ⟨0, _⟩ => show (t.val / 8) * 512 + i.val % 512 = i.val; omega
  | ⟨1, _⟩ => rfl

theorem row_lt {n : ℕ} (hn : n < cfg0.N) (i : Fin 512) : n / 8 * 512 + i.val < 2048 := by
  have := show n < 32 from hn
  have := i.2
  omega

theorem col_lt (n : ℕ) (k : Fin 512) : n % 8 * 512 + k.val < 4096 := by
  have := k.2
  omega

/-- A point's normed rows, at an index. -/
theorem normed_at (t : Fin cfg0.N) (i : Fin 512) (j : Fin 1024) :
    normed m c t (ix2 i j) = val_main_v33 (F := Ideal) (m ((c : Thread nD τ).loc main_arg0)) (m ((c : Thread nD τ).loc main_arg1)) (ix2 ⟨(t.val / 8) * 512 + i.val, row_lt t.isLt i⟩ j) := by
  unfold normed
  rw [pay1_at, ref33_at]
  simp only [iblk0_at, iblk1_at]

/-- A hidden value that a visit makes is the reference's. -/
theorem hid_at (t : Fin cfg0.N) (i k : Fin 512) :
    hid (fun q => normed m c t (ix2 i q)) (fun q => iblk m c 2 t (ix3 0 q k))
      = hid (fun q => val_main_v33 (F := Ideal) (m ((c : Thread nD τ).loc main_arg0)) (m ((c : Thread nD τ).loc main_arg1)) (ix2 ⟨t.val / 8 * 512 + i.val, row_lt t.isLt i⟩ q)) (fun q => (m ((c : Thread nD τ).loc main_arg2)) (ix2 q ⟨t.val % 8 * 512 + k.val, col_lt _ k⟩)) :=
  congrArg₂ hid (funext fun q => normed_at m c t i q) (funext fun q => (iblk2_at m c t q k).trans (Vu_at m c ⟨t.val % 8, _⟩ q k))

/-- One product of the sum that makes the MLP's result. -/
def term (r : Fin 2048) (j : Fin 1024) (k : Fin 4096) : EReal :=
  act (hid (fun q => val_main_v33 (F := Ideal) (m ((c : Thread nD τ).loc main_arg0)) (m ((c : Thread nD τ).loc main_arg1)) (ix2 r q)) (fun q => (m ((c : Thread nD τ).loc main_arg2)) (ix2 q k))) ((m ((c : Thread nD τ).loc main_arg3)) (ix2 k j))

/-- What a visit adds to the scratch block. -/
theorem visit (t : Fin cfg0.N) (a : Vec Ideal S512x1024 .f32) (i : Fin 512) (j : Fin 1024) :
    k0_pay6 (normed m c t) (iblk m c 2 t) a (iblk m c 3 t) (ix2 i j)
      = a (ix2 i j) + ∑ k : Fin 512, term m c ⟨t.val / 8 * 512 + i.val, row_lt t.isLt i⟩ j ⟨t.val % 8 * 512 + k.val, col_lt _ k⟩ := by
  rw [pay6_at]
  refine congrArg (HAdd.hAdd (α := EReal) (β := EReal) _) (Finset.sum_congr rfl fun k _ => ?_)
  exact congrArg₂ act (hid_at m c t i k) ((iblk3_at m c t k j).trans (Vd_at m c _))

/-- The scratch block after a group's first visit, -/
theorem sums_start (t : Fin cfg0.N) (h : t.val % 8 = 0) (i : Fin 512) (j : Fin 1024) :
    sums m c t.val t.isLt (ix2 i j) = ∑ k ∈ Finset.range ((t.val % 8) * 512 + 512), ext (term m c ⟨t.val / 8 * 512 + i.val, row_lt t.isLt i⟩ j) k := by
  rw [sums_first m c t h, visit, pay2_at, ext_add _ _ _ (by omega)]
  simp only [h, Nat.zero_mul, Finset.sum_range_zero]

/-- and after any: the products of the blocks of columns visited so far. -/
theorem sums_at : ∀ (n : ℕ) (hn : n < cfg0.N) (i : Fin 512) (j : Fin 1024),
    sums m c n hn (ix2 i j) = ∑ k ∈ Finset.range ((n % 8) * 512 + 512), ext (term m c ⟨n / 8 * 512 + i.val, row_lt hn i⟩ j) k := by
  intro n
  induction n with
  | zero =>
    intro hn i j
    exact sums_start m c ⟨0, hn⟩ rfl i j
  | succ n ih =>
    intro hn i j
    by_cases h : (n + 1) % 8 = 0
    · exact sums_start m c ⟨n + 1, hn⟩ h i j
    · refine (congrFun (sums_later m c ⟨n + 1, hn⟩ h) (ix2 i j)).trans ?_
      rw [visit, ext_add _ _ _ (by omega)]
      refine congrArg (· + _) ?_
      refine (ih (Nat.lt_of_succ_lt hn) i j).trans ?_
      have e1 : n % 8 * 512 + 512 = (n + 1) % 8 * 512 := by omega
      have e2 : n / 8 = (n + 1) / 8 := by omega
      simp only [e1, e2]

/-- After a group's last visit the scratch block is the MLP's result at its rows. -/
theorem sums_end (t : Fin cfg0.N) (h : t.val % 8 = 7) (i : Fin 512) (j : Fin 1024) :
    sums m c t.val t.isLt (ix2 i j) = val_main_v15 (F := Ideal) (m ((c : Thread nD τ).loc main_arg0)) (m ((c : Thread nD τ).loc main_arg1)) (m ((c : Thread nD τ).loc main_arg2)) (m ((c : Thread nD τ).loc main_arg3)) (ix2 ⟨t.val / 8 * 512 + i.val, row_lt t.isLt i⟩ j) := by
  rw [sums_at, ref15_at]
  simp only [h]
  exact ext_sum (term m c _ j)

/-- The difference to the target. -/
def diff (r : Fin 2048) (j : Fin 1024) : EReal := val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r j)

theorem diff_at (t : Fin cfg0.N) (h : t.val % 8 = 7) (i : Fin 512) (j : Fin 1024) :
    gap (iblk m c 0 t (ix2 i j)) (sums m c t.val t.isLt (ix2 i j)) (iblk m c 4 t (ix2 i j)) = diff m c ⟨t.val / 8 * 512 + i.val, row_lt t.isLt i⟩ j := by
  unfold diff
  rw [ref17_at, sums_end m c t h, iblk0_at, iblk4_at]

/-- The loss's row after a visit: the squares of the groups that are done. -/
theorem cols_at : ∀ (n : ℕ) (hn : n < cfg0.N) (j : Fin 1024),
    cols m c n hn (ix2 0 j) = ∑ r ∈ Finset.range ((n + 1) / 8 * 512), ext (fun r => diff m c r j * diff m c r j) r := by
  intro n
  induction n with
  | zero =>
    intro hn j
    refine (congrFun (cols_start m c ⟨0, hn⟩ rfl) (ix2 0 j)).trans ?_
    rw [pay3_at]
    rfl
  | succ n ih =>
    intro hn j
    have h32 : n + 1 < 32 := hn
    by_cases h7 : (n + 1) % 8 = 7
    · refine (congrFun (cols_last m c ⟨n + 1, hn⟩ h7) (ix2 0 j)).trans ?_
      rw [pay9_at]
      have e : (n + 1 + 1) / 8 * 512 = (n + 1) / 8 * 512 + 512 := by omega
      rw [e, ext_add _ _ _ (by omega)]
      refine congrArg₂ (· + ·) (ih (Nat.lt_of_succ_lt hn) j) (Finset.sum_congr rfl fun k _ => ?_)
      exact congrArg (fun z : EReal => z * z) (diff_at m c ⟨n + 1, hn⟩ h7 k j)
    · refine (congrFun (cols_kept m c ⟨n + 1, hn⟩ (Nat.succ_ne_zero n) h7) (ix2 0 j)).trans ?_
      refine (ih (Nat.lt_of_succ_lt hn) j).trans ?_
      have e : (n + 1) / 8 = (n + 1 + 1) / 8 := by omega
      rw [e]

/-! ## The arrays that the run leaves -/

/-- What point `t` writes back to window 5 is its block of the reference's result. -/
theorem flushed5_eq (t : Fin cfg0.N) (hf : (cfg0.win 5).flush t = true) : (dats m 0 c).flushed 5 t = ((cfg0.win 5).blk t).view.read (Elt Ideal) (val_main_v32 (F := Ideal) (m ((c : Thread nD τ).loc main_arg0)) (m ((c : Thread nD τ).loc main_arg1)) (m ((c : Thread nD τ).loc main_arg2))) := by
  funext y
  obtain ⟨i, j, rfl⟩ : ∃ (i : Fin 512) (j : Fin 512), y = ix2 i j := ⟨y 0, y 1, eq_ix2 y⟩
  show (dats m 0 c).after 5 t (ix2 i j) = val_main_v32 (F := Ideal) (m ((c : Thread nD τ).loc main_arg0)) (m ((c : Thread nD τ).loc main_arg1)) (m ((c : Thread nD τ).loc main_arg2)) (((cfg0.win 5).blk t).view.emb (ix2 i j))
  rw [emb5, after_5, pay5_at, ref32_at]
  exact hid_at m c t i j

theorem final5 : (dats m 0 c).arrAt 5 cfg0.N = val_main_v32 (F := Ideal) (m ((c : Thread nD τ).loc main_arg0)) (m ((c : Thread nD τ).loc main_arg1)) (m ((c : Thread nD τ).loc main_arg2)) :=
  (dats m 0 c).arrAt_eq_of_cover 5 _ (flushed5_eq m c) covered5

/-- What point `t` writes back to window 6 is its block of the reference's result. -/
theorem flushed6_eq (t : Fin cfg0.N) (hf : (cfg0.win 6).flush t = true) : (dats m 0 c).flushed 6 t = ((cfg0.win 6).blk t).view.read (Elt Ideal) (val_main_v33 (F := Ideal) (m ((c : Thread nD τ).loc main_arg0)) (m ((c : Thread nD τ).loc main_arg1))) := by
  funext y
  obtain ⟨i, j, rfl⟩ : ∃ (i : Fin 512) (j : Fin 1024), y = ix2 i j := ⟨y 0, y 1, eq_ix2 y⟩
  show (dats m 0 c).after 6 t (ix2 i j) = val_main_v33 (F := Ideal) (m ((c : Thread nD τ).loc main_arg0)) (m ((c : Thread nD τ).loc main_arg1)) (((cfg0.win 6).blk t).view.emb (ix2 i j))
  rw [emb6, after_6]
  exact normed_at m c t i j

theorem final6 : (dats m 0 c).arrAt 6 cfg0.N = val_main_v33 (F := Ideal) (m ((c : Thread nD τ).loc main_arg0)) (m ((c : Thread nD τ).loc main_arg1)) :=
  (dats m 0 c).arrAt_eq_of_cover 6 _ (flushed6_eq m c) covered6

/-- What point `t` writes back to window 7 is its block of the reference's result. -/
theorem flushed7_eq (t : Fin cfg0.N) (hf : (cfg0.win 7).flush t = true) : (dats m 0 c).flushed 7 t = ((cfg0.win 7).blk t).view.read (Elt Ideal) (val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  funext y
  obtain ⟨i, j, rfl⟩ : ∃ (i : Fin 512) (j : Fin 1024), y = ix2 i j := ⟨y 0, y 1, eq_ix2 y⟩
  show (dats m 0 c).after 7 t (ix2 i j) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb (ix2 i j))
  have h7 : t.val % 8 = 7 := by have := (flush0_7 t).mp hf; omega
  rw [emb7, after_7, pay8_at, ref31_at]
  exact congrArg (fun z : EReal => z * ((1 / 1024 : ℝ) : EReal)) (diff_at m c t h7 i j)

theorem final7 : (dats m 0 c).arrAt 7 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 7 _ (flushed7_eq m c) covered7

theorem idx8 : ∀ t : Fin cfg0.N, win0_8.index t (0 : Fin 2) = 0 ∧ win0_8.index t (1 : Fin 2) = 0 :=
  (by decide +kernel : ∀ t : Fin grid0.N, _)

theorem emb8 (t : Fin cfg0.N) (y : S1x1024.Idx) : ((cfg0.win 8).blk t).view.emb y = y := by
  obtain ⟨h0, h1⟩ := idx8 t
  funext q; apply Fin.ext
  match q with
  | ⟨0, _⟩ => show win0_8.index t (0 : Fin 2) * 1 + 1 * (y 0).val = (y 0).val; omega
  | ⟨1, _⟩ => show win0_8.index t (1 : Fin 2) * 1024 + 1 * (y 1).val = (y 1).val; omega

/-- The loss's row when the run ends. -/
def row : Vec Ideal S1x1024 .f32 := cols m c 31 (show 31 < 32 by decide)

theorem final8 : (dats m 0 c).arrAt 8 cfg0.N = row m c := by
  refine (dats m 0 c).arrAt_eq_of_cover 8 _ (fun t hf => ?_) (fun y => ⟨(⟨31, show 31 < 32 by decide⟩ : Fin cfg0.N), (flush0_8 _).mpr rfl, ?_⟩)
  · have h : t.val = 31 := by have := (flush0_8 t).mp hf; have := t_lt t; omega
    funext y
    show (dats m 0 c).after 8 t y = row m c (((cfg0.win 8).blk t).view.emb y)
    rw [emb8, after_8]
    obtain ⟨n, hn⟩ := t
    obtain rfl : n = 31 := h
    rfl
  · have h := ((cfg0.win 8).blk (⟨31, show 31 < 32 by decide⟩ : Fin cfg0.N)).view.emb_mem_set y
    rwa [emb8] at h

theorem row_at (j : Fin 1024) : row m c (ix2 0 j) = ∑ r : Fin 2048, diff m c r j * diff m c r j := by
  refine (cols_at m c 31 _ j).trans ?_
  exact ext_sum fun r => diff m c r j * diff m c r j

/-- The loss that the host's last lines make of it is the reference's. -/
theorem loss_eq : lossOf (row m c) = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [loss_at, ref25_at]
  simp only [row_at]
  exact loss_swap (diff m c)

/-- What the host's last lines leave. -/
theorem tail_eq : Pipeline.afterTail₀ cfgs (dats m) 0 (V0 m) [hostOps1] c main_v7 = lossOf ((dats m 0 c).arrAt 8 cfg0.N) := by
  unfold Pipeline.afterTail₀
  simp only [hostOps1, List.flatten_cons, List.flatten_nil, List.append_nil, List.cons_append, List.nil_append]
  after_results
  exact congrArg lossOf (Pipeline.withArrays_arr spec0 launch0.win.arr_inj c (V0 m c) _ 8)

/-- The run, with the four results named. -/
theorem run_blocks (g : Dev nD → PrngReg) : θ_run defs (onTc (τ := τ) (main (F := Ideal))) ⟨m, fun _ => 0, g⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v7) = lossOf ((dats m 0 c).arrAt 8 cfg0.N)
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4)) :=
  (θ_run defs _ _).mono (fun r h c => ⟨(h.1 c).1 5, (h.1 c).1 6, (h.1 c).1 7,
    ((h.1 c).2 main_v7 (Pipeline.mem_restRefs_of main_v7 (by decide) (by decide))).trans (tail_eq m c), (h.2.1 c)⟩) (θ_run_and (run_main m g) (frame m g))

/-- The kernel and the reference end with equal results. -/
theorem algebraic : Cert.algebraic_Kernel11Ideal_Reference11Ideal
    (hKernel11Ideal := Cert.Kernel11Ideal.Gen.facts) (hReference11Ideal := Cert.Reference11Ideal.Gen.facts) := by
  intro m g m' g' _ hagree
  refine ⟨fun c => (dats m 0 c).arrAt 5 cfg0.N, fun c => (dats m 0 c).arrAt 6 cfg0.N, fun c => (dats m 0 c).arrAt 7 cfg0.N, fun c => lossOf ((dats m 0 c).arrAt 8 cfg0.N), run_blocks m g, ?_⟩
  refine (θ_run _ _ _).mono (fun r h c => ?_) (Cert.Reference11Ideal.Value.run m' g')
  obtain ⟨h0, h1, h2, h3, k0, k1, k2, k3, k4⟩ := h c
  obtain ⟨a0, a1, a2, a3, a4⟩ := hagree c
  refine ⟨?_, ?_, ?_, ?_, k0, k1, k2, k3, k4⟩
  · exact (h0.trans (val_main_v32_eq _ _ _)).trans (by rw [a0, a1, a2]; exact (final5 m c).symm)
  · exact (h1.trans (val_main_v33_eq _ _)).trans (by rw [a0, a1]; exact (final6 m c).symm)
  · exact (h2.trans (val_main_v31_eq _ _ _ _ _)).trans (by rw [a0, a1, a2, a3, a4]; exact (final7 m c).symm)
  · exact (h3.trans (val_main_v25_eq m' c)).trans (by rw [a0, a1, a2, a3, a4]; exact (loss_eq m c).symm.trans (congrArg lossOf (final8 m c).symm))

end Cert.Proof.MlpFwd
-- ==== Proof.Conv.lean ====
/- Hand-written, untrusted: the gradient of the gated convolution at the reals. Each of the kernel's four grid points computes the four
   results for 256 columns of channels. Read at one index, what it leaves is the reference's value at that index: the rows
   that the kernel moves by rotating and masking (`up`, `dn`) are the rows that the reference moves by joining zeros and by
   padding. So each result array of the kernel is the reference's (`final5` to `final8`), and the two runs agree (`algebraic`). -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pointwise
public import Idealize.ShloMosaic.Lib.WordCmp

@[expose] public section

noncomputable section

namespace Cert.Proof.Conv

open Idealize.ShloMosaic.WordCmp Cert.KernelIdeal Cert.KernelIdeal.Gen Cert.KernelIdeal.Value Idealize.ShloMosaic Idealize.ShloMosaic.TcCoe Idealize.SL.Sem

/-- The column `f` moved `k` rows down, with zeros before it. -/
def up {n : Nat} (k : Nat) (f : Fin n → EReal) (i : Fin n) : EReal :=
  if k ≤ i.val then f ⟨i.val - k, by omega⟩ else 0

/-- The column `f` moved `k` rows up, with zeros after it. -/
def dn {n : Nat} (k : Nat) (f : Fin n → EReal) (i : Fin n) : EReal :=
  if h : i.val + k < n then f ⟨i.val + k, h⟩ else 0

/-- A choice by "row `i` is at least `k`" is the choice by the numbers. -/
theorem select_sge {α : Type} (i k : Nat) (hi : i < 2048) (hk : k < 2048) (x y : α) :
    Scalar.select (IntOp.cmpi .sge (BitVec.ofNat 32 i) (BitVec.ofNat 32 k)) x y = if k ≤ i then x else y := by
  rw [cmpi_sge_ofNat (by omega) (by omega)]
  by_cases h : k ≤ i <;> simp [Scalar.select, h]

/-- A choice by "row `i` is less than `k`" is the choice by the numbers. -/
theorem select_slt {α : Type} (i k : Nat) (hi : i < 2048) (hk : k < 2048) (x y : α) :
    Scalar.select (IntOp.cmpi .slt (BitVec.ofNat 32 i) (BitVec.ofNat 32 k)) x y = if i < k then x else y := by
  rw [cmpi_slt_ofNat (by omega) (by omega)]
  by_cases h : i < k <;> simp [Scalar.select, h]

/-- The rows rotated by one, the first masked: the column moved down by one. -/
theorem pay4_at (c h : Vec Ideal S2048x256 .bf16) (i : Fin 2048) (j : Fin 256) :
    k0_pay4 c h (ix2 i j) = up 1 (fun r => h (ix2 r j) * c (ix2 r j)) i := by
  unfold_payloads
  pointwise
  rw [select_sge _ 1 i.2 (by omega), up]
  by_cases hi : 1 ≤ i.val
  · rw [if_pos hi, if_pos hi]
    have e : (⟨(i.val + 2048 - 1) % 2048, Nat.mod_lt _ (by omega)⟩ : Fin 2048) = ⟨i.val - 1, by omega⟩ := Fin.ext (by
      show (i.val + 2048 - 1) % 2048 = i.val - 1
      have := i.2; omega)
    exact congrArg (fun q : Fin 2048 => h (ix2 q j) * c (ix2 q j)) e
  · rw [if_neg hi, if_neg hi]

/-- The rows rotated by two, the first two masked: the column moved down by two. -/
theorem pay5_at (c h : Vec Ideal S2048x256 .bf16) (i : Fin 2048) (j : Fin 256) :
    k0_pay5 c h (ix2 i j) = up 2 (fun r => h (ix2 r j) * c (ix2 r j)) i := by
  unfold_payloads
  pointwise
  rw [select_sge _ 2 i.2 (by omega), up]
  by_cases hi : 2 ≤ i.val
  · rw [if_pos hi, if_pos hi]
    have e : (⟨(i.val + 2048 - 2) % 2048, Nat.mod_lt _ (by omega)⟩ : Fin 2048) = ⟨i.val - 2, by omega⟩ := Fin.ext (by
      show (i.val + 2048 - 2) % 2048 = i.val - 2
      have := i.2; omega)
    exact congrArg (fun q : Fin 2048 => h (ix2 q j) * c (ix2 q j)) e
  · rw [if_neg hi, if_neg hi]

/-- A masked product of a moved row is the product with the moved column. -/
theorem mask_dn (k : Nat) (hk : k < 2048) (hk0 : 0 < k) (w : EReal) (f : Fin 2048 → EReal) (i : Fin 2048)
    (hm : (i.val + 2048 - (2048 - k)) % 2048 < 2048) :
    (if i.val < 2048 - k then w * f ⟨(i.val + 2048 - (2048 - k)) % 2048, hm⟩ else 0) = w * dn k f i := by
  have := i.2
  unfold dn
  by_cases hi : i.val < 2048 - k
  · rw [if_pos hi, dif_pos (show i.val + k < 2048 by omega)]
    have e : (⟨(i.val + 2048 - (2048 - k)) % 2048, hm⟩ : Fin 2048) = ⟨i.val + k, by omega⟩ := Fin.ext (by
      show (i.val + 2048 - (2048 - k)) % 2048 = i.val + k
      omega)
    rw [e]
  · rw [if_neg hi, dif_neg (show ¬ i.val + k < 2048 by omega), mul_zero]

set_option maxRecDepth 10000 in
/-- The transposed convolution of one column, as the kernel computes it. -/
theorem pay9_at (w0 w1 w2 : Vec Ideal S1x256 .f32) (g : FVec Ideal S2048x256 .f32) (i : Fin 2048) (j : Fin 256) :
    k0_pay9 (iota .tc S2048x256 32 [0] iota_S2048x256_d0_w32) w0 w1 w2 g 2047#32 (ix2 i j) =
      w2 (ix2 0 j) * g (ix2 i j) + w1 (ix2 0 j) * dn 1 (fun r => g (ix2 r j)) i
        + w0 (ix2 0 j) * dn 2 (fun r => g (ix2 r j)) i := by
  unfold_payloads
  pointwise
  rw [select_slt _ 2047 i.2 (by omega), select_slt _ 2046 i.2 (by omega)]
  exact congrArg₂ (fun a b => w2 (ix2 0 j) * g (ix2 i j) + a + b)
    (mask_dn 1 (by omega) (by omega) (w1 (ix2 0 j)) (fun r => g (ix2 r j)) i (Nat.mod_lt _ (by omega)))
    (mask_dn 2 (by omega) (by omega) (w0 (ix2 0 j)) (fun r => g (ix2 r j)) i (Nat.mod_lt _ (by omega)))

/-! ## What a grid point leaves in each result's buffer, at one index -/

theorem hz : (![0, 0] : Fin 2 → Nat) = fun _ => 0 := funext fun a => by fin_cases a <;> rfl

/-- A load of a whole block reads the block. -/
theorem ld_whole (x : Vec Ideal S2048x256 .bf16) : View.ld x r0_0 = x := View.ld_unit_zero hz _ x

/-- Row `0` of the weights' block. -/
theorem ld_row0 (x : Vec Ideal S3x256 .f32) (j : Fin 256) : View.ld x r0_1 (ix2 0 j) = x (ix2 0 j) :=
  congrArg x (funext fun a => Fin.ext (by match a with | ⟨0, _⟩ => rfl | ⟨1, _⟩ => show 0 + 1 * j.val = j.val; omega))

theorem ld_row1 (x : Vec Ideal S3x256 .f32) (j : Fin 256) : View.ld x r0_2 (ix2 0 j) = x (ix2 1 j) :=
  congrArg x (funext fun a => Fin.ext (by match a with | ⟨0, _⟩ => rfl | ⟨1, _⟩ => show 0 + 1 * j.val = j.val; omega))

theorem ld_row2 (x : Vec Ideal S3x256 .f32) (j : Fin 256) : View.ld x r0_3 (ix2 0 j) = x (ix2 2 j) :=
  congrArg x (funext fun a => Fin.ext (by match a with | ⟨0, _⟩ => rfl | ⟨1, _⟩ => show 0 + 1 * j.val = j.val; omega))

section Block
variable (x0 x1 x2 : Vec Ideal S2048x256 .bf16) (x3 : Vec Ideal S3x256 .f32) (x4 : Vec Ideal S2048x256 .bf16)
variable (i : Fin 2048) (j : Fin 256)

/-- The gradient of the convolution's input in one column. -/
def gradU : EReal :=
  x3 (ix2 2 j) * (x4 (ix2 i j) * x1 (ix2 i j)) + x3 (ix2 1 j) * dn 1 (fun r => x4 (ix2 r j) * x1 (ix2 r j)) i
    + x3 (ix2 0 j) * dn 2 (fun r => x4 (ix2 r j) * x1 (ix2 r j)) i

theorem pay9_out : k0_pay9 (F := Ideal) (k0_pay15 x0 x1 x2 x3 x4) (View.ld x3 r0_1) (View.ld x3 r0_2) (View.ld x3 r0_3)
    (k0_pay16 x0 x1 x2 x3 x4) 2047#32 (ix2 i j) = gradU x1 x3 x4 i j := by
  refine (pay9_at _ _ _ _ i j).trans ?_
  rw [ld_row0, ld_row1, ld_row2, gradU]
  unfold k0_pay16
  rw [ld_whole, ld_whole]
  unfold_payloads
  pointwise

theorem out5_at : out0_5 x0 x1 x2 x3 x4 (ix2 i j) = gradU x1 x3 x4 i j * x2 (ix2 i j) := by
  unfold out0_5
  rw [View.canon_unit_zero hz, ld_whole]
  show k0_pay9 (F := Ideal) _ _ _ _ _ _ (ix2 i j) * k0_pay2 (F := Ideal) x2 (ix2 i j) = _
  rw [pay9_out]
  rfl

theorem out7_at : out0_7 x0 x1 x2 x3 x4 (ix2 i j) = gradU x1 x3 x4 i j * x0 (ix2 i j) := by
  unfold out0_7
  rw [View.canon_unit_zero hz, ld_whole]
  show k0_pay9 (F := Ideal) _ _ _ _ _ _ (ix2 i j) * k0_pay1 (F := Ideal) x0 (ix2 i j) = _
  rw [pay9_out]
  rfl

theorem out6_at : out0_6 x0 x1 x2 x3 x4 (ix2 i j) = x4 (ix2 i j) * (x3 (ix2 2 j) * (x2 (ix2 i j) * x0 (ix2 i j))
    + x3 (ix2 1 j) * up 1 (fun r => x2 (ix2 r j) * x0 (ix2 r j)) i
    + x3 (ix2 0 j) * up 2 (fun r => x2 (ix2 r j) * x0 (ix2 r j)) i) := by
  unfold out0_6
  rw [View.canon_unit_zero hz, ld_whole, ld_whole, ld_whole]
  rw [← pay4_at x0 x2 i j, ← pay5_at x0 x2 i j, ← ld_row0 x3 j, ← ld_row1 x3 j, ← ld_row2 x3 j]
  unfold k0_pay7 k0_pay6 k0_pay3 k0_pay2 k0_pay1
  pointwise

/-- The choice of the moved column by the weights' row. -/
def gradW (u g : Fin 2048 → EReal) : Fin 3 → EReal
  | 0 => ∑ r, g r * up 2 u r
  | 1 => ∑ r, g r * up 1 u r
  | 2 => ∑ r, g r * u r

/-- The block of the weights' gradient as one function. -/
def gradWb : Vec Ideal S3x256 .f32 := fun y => gradW (fun r => x2 (ix2 r (y 1)) * x0 (ix2 r (y 1)))
  (fun r => x4 (ix2 r (y 1)) * x1 (ix2 r (y 1))) (y 0)

/-- The block of the weights' gradient: each of its three rows is one store, a sum down the rows of the block. -/
theorem out8_at (k : Fin 3) : out0_8 x0 x1 x2 x3 x4 (ix2 k j) =
    gradW (fun r => x2 (ix2 r j) * x0 (ix2 r j)) (fun r => x4 (ix2 r j) * x1 (ix2 r j)) k := by
  unfold out0_8
  refine View.canon_apply_of_pieces (Val := Elt Ideal) (gradWb x0 x1 x2 x4) _ ?_ (ix2 k j) (cover0_8 _ _ _ _)
  unfold k0_pay16
  rw [ld_whole, ld_whole, ld_whole, ld_whole]
  intro pc hpc
  rcases List.mem_cons.mp hpc with rfl | hpc
  · intro y
    obtain ⟨p, q, rfl⟩ : ∃ p q, y = ix2 p q := ⟨y 0, y 1, eq_ix2 y⟩
    have e : r0_3.idx (ix2 p q) = ix2 2 q := funext fun a => Fin.ext (by
      match a with | ⟨0, _⟩ => show 2 + 1 * p.val = 2; omega | ⟨1, _⟩ => show 0 + 1 * q.val = q.val; omega)
    show k0_pay14 (F := Ideal) _ _ (ix2 p q) = gradWb x0 x1 x2 x4 (r0_3.idx (ix2 p q))
    rw [e]
    show k0_pay14 (F := Ideal) _ _ (ix2 p q) = ∑ r : Fin 2048, x4 (ix2 r q) * x1 (ix2 r q) * (x2 (ix2 r q) * x0 (ix2 r q))
    unfold_payloads
    pointwise
  rcases List.mem_cons.mp hpc with rfl | hpc
  · intro y
    obtain ⟨p, q, rfl⟩ : ∃ p q, y = ix2 p q := ⟨y 0, y 1, eq_ix2 y⟩
    have e : r0_2.idx (ix2 p q) = ix2 1 q := funext fun a => Fin.ext (by
      match a with | ⟨0, _⟩ => show 1 + 1 * p.val = 1; omega | ⟨1, _⟩ => show 0 + 1 * q.val = q.val; omega)
    show k0_pay13 (F := Ideal) _ _ (ix2 p q) = gradWb x0 x1 x2 x4 (r0_2.idx (ix2 p q))
    rw [e]
    show k0_pay13 (F := Ideal) _ _ (ix2 p q)
      = ∑ r : Fin 2048, x4 (ix2 r q) * x1 (ix2 r q) * up 1 (fun r => x2 (ix2 r q) * x0 (ix2 r q)) r
    rw [show (∑ r : Fin 2048, x4 (ix2 r q) * x1 (ix2 r q) * up 1 (fun r => x2 (ix2 r q) * x0 (ix2 r q)) r)
      = ∑ r : Fin 2048, x4 (ix2 r q) * x1 (ix2 r q) * k0_pay4 x0 x2 (ix2 r q) from
      Finset.sum_congr rfl fun r _ => by rw [pay4_at]]
    unfold k0_pay13 k0_pay8 k0_pay6
    pointwise
  rcases List.mem_cons.mp hpc with rfl | hpc
  · intro y
    obtain ⟨p, q, rfl⟩ : ∃ p q, y = ix2 p q := ⟨y 0, y 1, eq_ix2 y⟩
    have e : r0_1.idx (ix2 p q) = ix2 0 q := funext fun a => Fin.ext (by
      match a with | ⟨0, _⟩ => show 0 + 1 * p.val = 0; omega | ⟨1, _⟩ => show 0 + 1 * q.val = q.val; omega)
    show k0_pay12 (F := Ideal) _ _ (ix2 p q) = gradWb x0 x1 x2 x4 (r0_1.idx (ix2 p q))
    rw [e]
    show k0_pay12 (F := Ideal) _ _ (ix2 p q)
      = ∑ r : Fin 2048, x4 (ix2 r q) * x1 (ix2 r q) * up 2 (fun r => x2 (ix2 r q) * x0 (ix2 r q)) r
    rw [show (∑ r : Fin 2048, x4 (ix2 r q) * x1 (ix2 r q) * up 2 (fun r => x2 (ix2 r q) * x0 (ix2 r q)) r)
      = ∑ r : Fin 2048, x4 (ix2 r q) * x1 (ix2 r q) * k0_pay5 x0 x2 (ix2 r q) from
      Finset.sum_congr rfl fun r _ => by rw [pay5_at]]
    unfold k0_pay12 k0_pay8 k0_pay6
    pointwise
  nomatch hpc

end Block

/-! ## The reference at one index -/

section Ref
open ReferenceIdeal.Read
variable (x : Vec Ideal ReferenceIdeal.S2048x10240 .bf16) (w : Vec Ideal ReferenceIdeal.S3x1024 .f32)
  (d : Vec Ideal ReferenceIdeal.S2048x1024 .bf16) (i : Fin 2048) (j : Fin 1024)

/-- The three column groups of the projection: the input of the convolution, its output gate and its input gate. -/
abbrev colH (i : Fin 2048) (j : Fin 1024) : EReal := x (ix2 i ⟨0 + j.val, by omega⟩)
abbrev colB (i : Fin 2048) (j : Fin 1024) : EReal := x (ix2 i ⟨1024 + j.val, by omega⟩)
abbrev colC (i : Fin 2048) (j : Fin 1024) : EReal := x (ix2 i ⟨2048 + j.val, by omega⟩)

/-- The gradient of the convolution's input. -/
def refU : EReal :=
  w (ix2 2 j) * (d (ix2 i j) * colB x i j) + w (ix2 1 j) * dn 1 (fun r => d (ix2 r j) * colB x r j) i
    + w (ix2 0 j) * dn 2 (fun r => d (ix2 r j) * colB x r j) i

/-- A product inside a choice by the row is the product with the moved column. -/
theorem pad_dn (k : Nat) (hk : k < 2048) (v : EReal) (f : Fin 2048 → EReal) :
    (if h : i.val < 2048 - k then v * f ⟨k + i.val, by omega⟩ else 0) = v * dn k f i := by
  have := i.2
  unfold dn
  by_cases hi : i.val < 2048 - k
  · rw [dif_pos hi, dif_pos (show i.val + k < 2048 by omega)]
    have e : (⟨k + i.val, by omega⟩ : Fin 2048) = ⟨i.val + k, by omega⟩ := Fin.ext (by show k + i.val = i.val + k; omega)
    rw [e]
  · rw [dif_neg hi, dif_neg (show ¬ i.val + k < 2048 by omega), mul_zero]

set_option maxRecDepth 10000 in
theorem v64_at : val_main_v64 (F := Ideal) x w d (ix2 i j) = refU x w d i j := by
  pointwise [val_main_v0, val_main_v1, val_main_v2, val_main_v3, val_main_v4, val_main_v5, val_main_v6, val_main_cst, val_main_v7, val_main_v8, val_main_v9, val_main_cst_0, val_main_v10, val_main_v11, val_main_v12, val_main_v13, val_main_v14, val_main_v15, val_main_cst_1, val_main_v16, val_main_v17, val_main_v18, val_main_cst_2, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_3, val_main_v37, val_main_v38, val_main_cst_4, val_main_v39, val_main_v40, val_main_cst_5, val_main_v41, val_main_v42, val_main_v43, val_main_v44, val_main_cst_6, val_main_v45, val_main_v46, val_main_cst_7, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_cst_12, val_main_v63, val_main_v64, val_main_v65, val_main_cst_13, val_main_v66, val_main_v67, val_main_v68, val_main_v69, val_main_v70, val_main_v71, val_main_v72]
  have e1 := pad_dn i 1 (by omega) (w (ix2 1 j)) (fun r => colB x r j * d (ix2 r j))
  have e2 := pad_dn i 2 (by omega) (w (ix2 0 j)) (fun r => colB x r j * d (ix2 r j))
  unfold refU
  simp only [mul_comm (d _)]
  exact congrArg₂ (fun a b => w (ix2 2 j) * (colB x i j * d (ix2 i j)) + a + b) e1 e2

/-- The column moved down, as a choice by the row. -/
theorem up_eq (k : Nat) (f : Fin 2048 → EReal) : (if h : i.val < k then 0 else f ⟨i.val - k, by omega⟩) = up k f i := by
  unfold up
  by_cases hi : i.val < k
  · rw [dif_pos hi, if_neg (by omega)]
  · rw [dif_neg hi, if_pos (by omega)]

/-- The gated convolution's gradient by its output gate. -/
def refB : EReal := d (ix2 i j) * (w (ix2 2 j) * (colC x i j * colH x i j)
    + w (ix2 1 j) * up 1 (fun r => colC x r j * colH x r j) i
    + w (ix2 0 j) * up 2 (fun r => colC x r j * colH x r j) i)

/-- A column read at its own number. -/
theorem colH_eq : x (ix2 i ⟨j.val, by omega⟩) = colH x i j :=
  congrArg (fun q => x (ix2 i q)) (Fin.ext (Nat.zero_add _).symm)

set_option maxRecDepth 10000 in
theorem v71_at : val_main_v71 (F := Ideal) x w d (ix2 i j) = refB x w d i j := by
  pointwise [val_main_v0, val_main_v1, val_main_v2, val_main_v3, val_main_v4, val_main_v5, val_main_v6, val_main_cst, val_main_v7, val_main_v8, val_main_v9, val_main_cst_0, val_main_v10, val_main_v11, val_main_v12, val_main_v13, val_main_v14, val_main_v15, val_main_cst_1, val_main_v16, val_main_v17, val_main_v18, val_main_cst_2, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_3, val_main_v37, val_main_v38, val_main_cst_4, val_main_v39, val_main_v40, val_main_cst_5, val_main_v41, val_main_v42, val_main_v43, val_main_v44, val_main_cst_6, val_main_v45, val_main_v46, val_main_cst_7, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_cst_12, val_main_v63, val_main_v64, val_main_v65, val_main_cst_13, val_main_v66, val_main_v67, val_main_v68, val_main_v69, val_main_v70, val_main_v71, val_main_v72]
  simp only [colH_eq]
  have e1 := up_eq i 1 (fun r => colC x r j * colH x r j)
  have e2 := up_eq i 2 (fun r => colC x r j * colH x r j)
  unfold refB
  rw [← e1, ← e2]
  have key : ∀ p q r : EReal, p + q + r = r + q + p := fun p q r => by ac_rfl
  exact congrArg (fun q => d (ix2 i j) * q) (key _ _ _)

/-- A sum of products with a moved column, cut at the first row that is not masked. -/
theorem sum_up (k n : Nat) (g u : Fin (k + n) → EReal) : ∑ r, g r * up k u r
    = ∑ r : Fin n, g (r.natAdd k) * u ⟨r.val, by omega⟩ := by
  rw [Fin.sum_univ_add, Finset.sum_eq_zero (fun r _ => ?_), zero_add]
  · refine Finset.sum_congr rfl fun r _ => ?_
    rw [up, if_pos (by show k ≤ k + r.val; omega)]
    exact congrArg (fun q => g (r.natAdd k) * u q) (Fin.ext (by show k + r.val - k = r.val; omega))
  · rw [up, if_neg (by show ¬ k ≤ r.val; omega), mul_zero]

/-- The weights' gradient. -/
def refW (k : Fin 3) : EReal := gradW (fun r => colC x r j * colH x r j) (fun r => d (ix2 r j) * colB x r j) k

set_option maxRecDepth 10000 in
theorem v67_at2 : val_main_v67 (F := Ideal) x d (ix2 2 j) = refW x d j 2 := by
  pointwise [val_main_v0, val_main_v1, val_main_v2, val_main_v3, val_main_v4, val_main_v5, val_main_v6, val_main_cst, val_main_v7, val_main_v8, val_main_v9, val_main_cst_0, val_main_v10, val_main_v11, val_main_v12, val_main_v13, val_main_v14, val_main_v15, val_main_cst_1, val_main_v16, val_main_v17, val_main_v18, val_main_cst_2, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_3, val_main_v37, val_main_v38, val_main_cst_4, val_main_v39, val_main_v40, val_main_cst_5, val_main_v41, val_main_v42, val_main_v43, val_main_v44, val_main_cst_6, val_main_v45, val_main_v46, val_main_cst_7, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_cst_12, val_main_v63, val_main_v64, val_main_v65, val_main_cst_13, val_main_v66, val_main_v67, val_main_v68, val_main_v69, val_main_v70, val_main_v71, val_main_v72]
  refine (Fin.sum_univ_one _).trans ?_
  unfold refW gradW
  simp only [colH_eq, mul_zero, Finset.sum_const_zero, zero_add, mul_comm (d _)]

set_option maxRecDepth 10000 in
theorem v67_at1 : val_main_v67 (F := Ideal) x d (ix2 1 j) = refW x d j 1 := by
  pointwise [val_main_v0, val_main_v1, val_main_v2, val_main_v3, val_main_v4, val_main_v5, val_main_v6, val_main_cst, val_main_v7, val_main_v8, val_main_v9, val_main_cst_0, val_main_v10, val_main_v11, val_main_v12, val_main_v13, val_main_v14, val_main_v15, val_main_cst_1, val_main_v16, val_main_v17, val_main_v18, val_main_cst_2, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_3, val_main_v37, val_main_v38, val_main_cst_4, val_main_v39, val_main_v40, val_main_cst_5, val_main_v41, val_main_v42, val_main_v43, val_main_v44, val_main_cst_6, val_main_v45, val_main_v46, val_main_cst_7, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_cst_12, val_main_v63, val_main_v64, val_main_v65, val_main_cst_13, val_main_v66, val_main_v67, val_main_v68, val_main_v69, val_main_v70, val_main_v71, val_main_v72]
  refine (Fin.sum_univ_one _).trans ?_
  unfold refW gradW
  simp only [colH_eq, mul_zero, Finset.sum_const_zero, zero_add, mul_comm (d _)]
  exact (sum_up 1 2047 (fun r => colB x r j * d (ix2 r j)) (fun r => colC x r j * colH x r j)).symm

set_option maxRecDepth 10000 in
theorem v67_at0 : val_main_v67 (F := Ideal) x d (ix2 0 j) = refW x d j 0 := by
  pointwise [val_main_v0, val_main_v1, val_main_v2, val_main_v3, val_main_v4, val_main_v5, val_main_v6, val_main_cst, val_main_v7, val_main_v8, val_main_v9, val_main_cst_0, val_main_v10, val_main_v11, val_main_v12, val_main_v13, val_main_v14, val_main_v15, val_main_cst_1, val_main_v16, val_main_v17, val_main_v18, val_main_cst_2, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_3, val_main_v37, val_main_v38, val_main_cst_4, val_main_v39, val_main_v40, val_main_cst_5, val_main_v41, val_main_v42, val_main_v43, val_main_v44, val_main_cst_6, val_main_v45, val_main_v46, val_main_cst_7, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_cst_12, val_main_v63, val_main_v64, val_main_v65, val_main_cst_13, val_main_v66, val_main_v67, val_main_v68, val_main_v69, val_main_v70, val_main_v71, val_main_v72]
  refine (Fin.sum_univ_one _).trans ?_
  unfold refW gradW
  simp only [colH_eq, mul_zero, Finset.sum_const_zero, zero_add, mul_comm (d _)]
  exact (sum_up 2 2046 (fun r => colB x r j * d (ix2 r j)) (fun r => colC x r j * colH x r j)).symm

theorem v67_at (k : Fin 3) : val_main_v67 (F := Ideal) x d (ix2 k j) = refW x d j k := by
  match k with
  | 0 => exact v67_at0 x d j
  | 1 => exact v67_at1 x d j
  | 2 => exact v67_at2 x d j

theorem v70_at : val_main_v70 (F := Ideal) x w d (ix2 i j) = refU x w d i j * colC x i j := by
  refine (mul_comm _ _).trans (congrArg₂ (· * ·) (v64_at x w d i j) ?_)
  pointwise [val_main_v3, val_main_v0]

theorem v72_at : val_main_v72 (F := Ideal) x w d (ix2 i j) = refU x w d i j * colH x i j := by
  refine congrArg₂ (· * ·) (v64_at x w d i j) ?_
  pointwise [val_main_v1, val_main_v0]
  exact colH_eq x i j

end Ref

section Windows

variable (m : (ℓ : Loc nD τ sig) → Buf (Elt Ideal) ℓ) (c : Dev nD)

theorem idx_in : ∀ t : Fin cfg0.N, (win0_0.index t (0 : Fin 2) = 0 ∧ win0_0.index t (1 : Fin 2) = t.val)
    ∧ (win0_1.index t (0 : Fin 2) = 0 ∧ win0_1.index t (1 : Fin 2) = 4 + t.val)
    ∧ (win0_2.index t (0 : Fin 2) = 0 ∧ win0_2.index t (1 : Fin 2) = 8 + t.val)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

theorem idx_out : ∀ t : Fin cfg0.N, (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = t.val)
    ∧ (win0_8.index t (0 : Fin 2) = 0 ∧ win0_8.index t (1 : Fin 2) = t.val) :=
  (by decide +kernel : ∀ t : Fin grid0.N, _)

theorem t_lt (t : Fin cfg0.N) : t.val < 4 := t.2

/-- Column `j` of point `t`'s block, as a column of the array. -/
abbrev col (t : Fin cfg0.N) (j : Fin 256) : Fin 1024 := ⟨t.val * 256 + j.val, by have := t_lt t; omega⟩

theorem iblk0_at (t : Fin cfg0.N) (i : Fin 2048) (j : Fin 256) :
    iblk m c 0 t (ix2 i j) = colH (m ((c : Thread nD τ).loc main_arg0)) i (col t j) := by
  obtain ⟨⟨a, b⟩, -⟩ := idx_in t
  refine congrArg (m ((c : Thread nD τ).loc main_arg0)) (funext fun k => Fin.ext ?_)
  match k with
  | ⟨0, _⟩ => show win0_0.index t (0 : Fin 2) * 2048 + 1 * i.val = i.val; omega
  | ⟨1, _⟩ => show win0_0.index t (1 : Fin 2) * 256 + 1 * j.val = 0 + (t.val * 256 + j.val); omega

theorem iblk1_at (t : Fin cfg0.N) (i : Fin 2048) (j : Fin 256) :
    iblk m c 1 t (ix2 i j) = colB (m ((c : Thread nD τ).loc main_arg0)) i (col t j) := by
  obtain ⟨-, ⟨a, b⟩, -⟩ := idx_in t
  refine congrArg (m ((c : Thread nD τ).loc main_arg0)) (funext fun k => Fin.ext ?_)
  match k with
  | ⟨0, _⟩ => show win0_1.index t (0 : Fin 2) * 2048 + 1 * i.val = i.val; omega
  | ⟨1, _⟩ => show win0_1.index t (1 : Fin 2) * 256 + 1 * j.val = 1024 + (t.val * 256 + j.val); omega

theorem iblk2_at (t : Fin cfg0.N) (i : Fin 2048) (j : Fin 256) :
    iblk m c 2 t (ix2 i j) = colC (m ((c : Thread nD τ).loc main_arg0)) i (col t j) := by
  obtain ⟨-, -, ⟨a, b⟩, -⟩ := idx_in t
  refine congrArg (m ((c : Thread nD τ).loc main_arg0)) (funext fun k => Fin.ext ?_)
  match k with
  | ⟨0, _⟩ => show win0_2.index t (0 : Fin 2) * 2048 + 1 * i.val = i.val; omega
  | ⟨1, _⟩ => show win0_2.index t (1 : Fin 2) * 256 + 1 * j.val = 2048 + (t.val * 256 + j.val); omega

theorem iblk3_at (t : Fin cfg0.N) (i : Fin 3) (j : Fin 256) :
    iblk m c 3 t (ix2 i j) = m ((c : Thread nD τ).loc main_arg1) (ix2 i (col t j)) := by
  obtain ⟨-, -, -, ⟨a, b⟩, -⟩ := idx_in t
  refine congrArg (m ((c : Thread nD τ).loc main_arg1)) (funext fun k => Fin.ext ?_)
  match k with
  | ⟨0, _⟩ => show win0_3.index t (0 : Fin 2) * 3 + 1 * i.val = i.val; omega
  | ⟨1, _⟩ => show win0_3.index t (1 : Fin 2) * 256 + 1 * j.val = t.val * 256 + j.val; omega

theorem iblk4_at (t : Fin cfg0.N) (i : Fin 2048) (j : Fin 256) :
    iblk m c 4 t (ix2 i j) = m ((c : Thread nD τ).loc main_arg2) (ix2 i (col t j)) := by
  obtain ⟨-, -, -, -, ⟨a, b⟩⟩ := idx_in t
  refine congrArg (m ((c : Thread nD τ).loc main_arg2)) (funext fun k => Fin.ext ?_)
  match k with
  | ⟨0, _⟩ => show win0_4.index t (0 : Fin 2) * 2048 + 1 * i.val = i.val; omega
  | ⟨1, _⟩ => show win0_4.index t (1 : Fin 2) * 256 + 1 * j.val = t.val * 256 + j.val; omega

theorem emb5 (t : Fin cfg0.N) (i : Fin 2048) (j : Fin 256) :
    ((cfg0.win 5).blk t).view.emb (ix2 i j) = ix2 i (col t j) := by
  obtain ⟨⟨a, b⟩, -⟩ := idx_out t
  funext k; apply Fin.ext
  match k with
  | ⟨0, _⟩ => show win0_5.index t (0 : Fin 2) * 2048 + 1 * i.val = i.val; omega
  | ⟨1, _⟩ => show win0_5.index t (1 : Fin 2) * 256 + 1 * j.val = t.val * 256 + j.val; omega

theorem covered5 (y : S2048x1024.Idx) : ∃ t : Fin cfg0.N, (cfg0.win 5).flush t = true ∧ y ∈ ((cfg0.win 5).blk t).view.set := by
  obtain ⟨i, j, rfl⟩ : ∃ i j, y = ix2 i j := ⟨y 0, y 1, eq_ix2 y⟩
  have hj := j.2
  let t : Fin cfg0.N := ⟨j.val / 256, by show j.val / 256 < 4; omega⟩
  refine ⟨t, flush0_5 t, ?_⟩
  have h := ((cfg0.win 5).blk t).view.emb_mem_set (ix2 i ⟨j.val % 256, by omega⟩)
  rw [emb5] at h
  have e : col t ⟨j.val % 256, by omega⟩ = j := Fin.ext (by show j.val / 256 * 256 + j.val % 256 = j.val; omega)
  rwa [e] at h

theorem emb6 (t : Fin cfg0.N) (i : Fin 2048) (j : Fin 256) :
    ((cfg0.win 6).blk t).view.emb (ix2 i j) = ix2 i (col t j) := by
  obtain ⟨-, ⟨a, b⟩, -⟩ := idx_out t
  funext k; apply Fin.ext
  match k with
  | ⟨0, _⟩ => show win0_6.index t (0 : Fin 2) * 2048 + 1 * i.val = i.val; omega
  | ⟨1, _⟩ => show win0_6.index t (1 : Fin 2) * 256 + 1 * j.val = t.val * 256 + j.val; omega

theorem covered6 (y : S2048x1024.Idx) : ∃ t : Fin cfg0.N, (cfg0.win 6).flush t = true ∧ y ∈ ((cfg0.win 6).blk t).view.set := by
  obtain ⟨i, j, rfl⟩ : ∃ i j, y = ix2 i j := ⟨y 0, y 1, eq_ix2 y⟩
  have hj := j.2
  let t : Fin cfg0.N := ⟨j.val / 256, by show j.val / 256 < 4; omega⟩
  refine ⟨t, flush0_6 t, ?_⟩
  have h := ((cfg0.win 6).blk t).view.emb_mem_set (ix2 i ⟨j.val % 256, by omega⟩)
  rw [emb6] at h
  have e : col t ⟨j.val % 256, by omega⟩ = j := Fin.ext (by show j.val / 256 * 256 + j.val % 256 = j.val; omega)
  rwa [e] at h

theorem emb7 (t : Fin cfg0.N) (i : Fin 2048) (j : Fin 256) :
    ((cfg0.win 7).blk t).view.emb (ix2 i j) = ix2 i (col t j) := by
  obtain ⟨-, -, ⟨a, b⟩, -⟩ := idx_out t
  funext k; apply Fin.ext
  match k with
  | ⟨0, _⟩ => show win0_7.index t (0 : Fin 2) * 2048 + 1 * i.val = i.val; omega
  | ⟨1, _⟩ => show win0_7.index t (1 : Fin 2) * 256 + 1 * j.val = t.val * 256 + j.val; omega

theorem covered7 (y : S2048x1024.Idx) : ∃ t : Fin cfg0.N, (cfg0.win 7).flush t = true ∧ y ∈ ((cfg0.win 7).blk t).view.set := by
  obtain ⟨i, j, rfl⟩ : ∃ i j, y = ix2 i j := ⟨y 0, y 1, eq_ix2 y⟩
  have hj := j.2
  let t : Fin cfg0.N := ⟨j.val / 256, by show j.val / 256 < 4; omega⟩
  refine ⟨t, flush0_7 t, ?_⟩
  have h := ((cfg0.win 7).blk t).view.emb_mem_set (ix2 i ⟨j.val % 256, by omega⟩)
  rw [emb7] at h
  have e : col t ⟨j.val % 256, by omega⟩ = j := Fin.ext (by show j.val / 256 * 256 + j.val % 256 = j.val; omega)
  rwa [e] at h

theorem emb8 (t : Fin cfg0.N) (i : Fin 3) (j : Fin 256) :
    ((cfg0.win 8).blk t).view.emb (ix2 i j) = ix2 i (col t j) := by
  obtain ⟨-, -, -, ⟨a, b⟩⟩ := idx_out t
  funext k; apply Fin.ext
  match k with
  | ⟨0, _⟩ => show win0_8.index t (0 : Fin 2) * 3 + 1 * i.val = i.val; omega
  | ⟨1, _⟩ => show win0_8.index t (1 : Fin 2) * 256 + 1 * j.val = t.val * 256 + j.val; omega

theorem covered8 (y : S3x1024.Idx) : ∃ t : Fin cfg0.N, (cfg0.win 8).flush t = true ∧ y ∈ ((cfg0.win 8).blk t).view.set := by
  obtain ⟨i, j, rfl⟩ : ∃ i j, y = ix2 i j := ⟨y 0, y 1, eq_ix2 y⟩
  have hj := j.2
  let t : Fin cfg0.N := ⟨j.val / 256, by show j.val / 256 < 4; omega⟩
  refine ⟨t, flush0_8 t, ?_⟩
  have h := ((cfg0.win 8).blk t).view.emb_mem_set (ix2 i ⟨j.val % 256, by omega⟩)
  rw [emb8] at h
  have e : col t ⟨j.val % 256, by omega⟩ = j := Fin.ext (by show j.val / 256 * 256 + j.val % 256 = j.val; omega)
  rwa [e] at h

/-- What point `t` writes back to result 0 is its block of the reference's result. -/
theorem flushed5_eq (t : Fin cfg0.N) : (dats m 0 c).flushed 5 t
    = ((cfg0.win 5).blk t).view.read (Elt Ideal) (ReferenceIdeal.Read.val_main_v70 (F := Ideal) (m ((c : Thread nD τ).loc main_arg0)) (m ((c : Thread nD τ).loc main_arg1)) (m ((c : Thread nD τ).loc main_arg2))) := by
  rw [flushed5]
  funext y
  obtain ⟨i, j, rfl⟩ : ∃ (i : Fin 2048) (j : Fin 256), y = ix2 i j := ⟨y 0, y 1, eq_ix2 y⟩
  show out0_5 (iblk m c 0 t) (iblk m c 1 t) (iblk m c 2 t) (iblk m c 3 t) (iblk m c 4 t) (ix2 i j)
    = ReferenceIdeal.Read.val_main_v70 (F := Ideal) (m ((c : Thread nD τ).loc main_arg0)) (m ((c : Thread nD τ).loc main_arg1)) (m ((c : Thread nD τ).loc main_arg2)) (((cfg0.win 5).blk t).view.emb (ix2 i j))
  rw [emb5]
  simp only [out5_at, gradU, v70_at, refU, iblk0_at, iblk1_at, iblk2_at, iblk3_at, iblk4_at]

/-- Result 0 after the run is the reference's. -/
theorem final5 : (dats m 0 c).arrAt 5 cfg0.N = ReferenceIdeal.Read.val_main_v70 (F := Ideal) (m ((c : Thread nD τ).loc main_arg0)) (m ((c : Thread nD τ).loc main_arg1)) (m ((c : Thread nD τ).loc main_arg2)) :=
  (dats m 0 c).arrAt_eq_of_cover 5 _ (fun t _ => flushed5_eq m c t) covered5

/-- What point `t` writes back to result 1 is its block of the reference's result. -/
theorem flushed6_eq (t : Fin cfg0.N) : (dats m 0 c).flushed 6 t
    = ((cfg0.win 6).blk t).view.read (Elt Ideal) (ReferenceIdeal.Read.val_main_v71 (F := Ideal) (m ((c : Thread nD τ).loc main_arg0)) (m ((c : Thread nD τ).loc main_arg1)) (m ((c : Thread nD τ).loc main_arg2))) := by
  rw [flushed6]
  funext y
  obtain ⟨i, j, rfl⟩ : ∃ (i : Fin 2048) (j : Fin 256), y = ix2 i j := ⟨y 0, y 1, eq_ix2 y⟩
  show out0_6 (iblk m c 0 t) (iblk m c 1 t) (iblk m c 2 t) (iblk m c 3 t) (iblk m c 4 t) (ix2 i j)
    = ReferenceIdeal.Read.val_main_v71 (F := Ideal) (m ((c : Thread nD τ).loc main_arg0)) (m ((c : Thread nD τ).loc main_arg1)) (m ((c : Thread nD τ).loc main_arg2)) (((cfg0.win 6).blk t).view.emb (ix2 i j))
  rw [emb6]
  simp only [out6_at, v71_at, refB, iblk0_at, iblk1_at, iblk2_at, iblk3_at, iblk4_at]

/-- Result 1 after the run is the reference's. -/
theorem final6 : (dats m 0 c).arrAt 6 cfg0.N = ReferenceIdeal.Read.val_main_v71 (F := Ideal) (m ((c : Thread nD τ).loc main_arg0)) (m ((c : Thread nD τ).loc main_arg1)) (m ((c : Thread nD τ).loc main_arg2)) :=
  (dats m 0 c).arrAt_eq_of_cover 6 _ (fun t _ => flushed6_eq m c t) covered6

/-- What point `t` writes back to result 2 is its block of the reference's result. -/
theorem flushed7_eq (t : Fin cfg0.N) : (dats m 0 c).flushed 7 t
    = ((cfg0.win 7).blk t).view.read (Elt Ideal) (ReferenceIdeal.Read.val_main_v72 (F := Ideal) (m ((c : Thread nD τ).loc main_arg0)) (m ((c : Thread nD τ).loc main_arg1)) (m ((c : Thread nD τ).loc main_arg2))) := by
  rw [flushed7]
  funext y
  obtain ⟨i, j, rfl⟩ : ∃ (i : Fin 2048) (j : Fin 256), y = ix2 i j := ⟨y 0, y 1, eq_ix2 y⟩
  show out0_7 (iblk m c 0 t) (iblk m c 1 t) (iblk m c 2 t) (iblk m c 3 t) (iblk m c 4 t) (ix2 i j)
    = ReferenceIdeal.Read.val_main_v72 (F := Ideal) (m ((c : Thread nD τ).loc main_arg0)) (m ((c : Thread nD τ).loc main_arg1)) (m ((c : Thread nD τ).loc main_arg2)) (((cfg0.win 7).blk t).view.emb (ix2 i j))
  rw [emb7]
  simp only [out7_at, gradU, v72_at, refU, iblk0_at, iblk1_at, iblk2_at, iblk3_at, iblk4_at]

/-- Result 2 after the run is the reference's. -/
theorem final7 : (dats m 0 c).arrAt 7 cfg0.N = ReferenceIdeal.Read.val_main_v72 (F := Ideal) (m ((c : Thread nD τ).loc main_arg0)) (m ((c : Thread nD τ).loc main_arg1)) (m ((c : Thread nD τ).loc main_arg2)) :=
  (dats m 0 c).arrAt_eq_of_cover 7 _ (fun t _ => flushed7_eq m c t) covered7

/-- What point `t` writes back to result 3 is its block of the reference's result. -/
theorem flushed8_eq (t : Fin cfg0.N) : (dats m 0 c).flushed 8 t
    = ((cfg0.win 8).blk t).view.read (Elt Ideal) (ReferenceIdeal.Read.val_main_v67 (F := Ideal) (m ((c : Thread nD τ).loc main_arg0)) (m ((c : Thread nD τ).loc main_arg2))) := by
  rw [flushed8]
  funext y
  obtain ⟨i, j, rfl⟩ : ∃ (i : Fin 3) (j : Fin 256), y = ix2 i j := ⟨y 0, y 1, eq_ix2 y⟩
  show out0_8 (iblk m c 0 t) (iblk m c 1 t) (iblk m c 2 t) (iblk m c 3 t) (iblk m c 4 t) (ix2 i j)
    = ReferenceIdeal.Read.val_main_v67 (F := Ideal) (m ((c : Thread nD τ).loc main_arg0)) (m ((c : Thread nD τ).loc main_arg2)) (((cfg0.win 8).blk t).view.emb (ix2 i j))
  rw [emb8]
  simp only [out8_at, v67_at, refW, iblk0_at, iblk1_at, iblk2_at, iblk3_at, iblk4_at]

/-- Result 3 after the run is the reference's. -/
theorem final8 : (dats m 0 c).arrAt 8 cfg0.N = ReferenceIdeal.Read.val_main_v67 (F := Ideal) (m ((c : Thread nD τ).loc main_arg0)) (m ((c : Thread nD τ).loc main_arg2)) :=
  (dats m 0 c).arrAt_eq_of_cover 8 _ (fun t _ => flushed8_eq m c t) covered8

end Windows

/-- The kernel and the reference end with equal results. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => (dats m 0 c).arrAt 5 cfg0.N, fun c => (dats m 0 c).arrAt 6 cfg0.N, fun c => (dats m 0 c).arrAt 7 cfg0.N,
    fun c => (dats m 0 c).arrAt 8 cfg0.N, run_blocks m g, ?_⟩
  refine (θ_run _ _ _).mono (fun r h c => ?_) (Cert.ReferenceIdeal.Value.run m' g')
  obtain ⟨h0, h1, h2, h3, k0, k1, k2⟩ := h c
  obtain ⟨a0, a1, a2⟩ := hagree c
  refine ⟨?_, ?_, ?_, ?_, k0, k1, k2⟩
  · exact (h0.trans (ReferenceIdeal.Read.val_main_v70_eq _ _ _)).trans (by rw [a0, a1, a2]; exact (final5 m c).symm)
  · exact (h1.trans (ReferenceIdeal.Read.val_main_v71_eq _ _ _)).trans (by rw [a0, a1, a2]; exact (final6 m c).symm)
  · exact (h2.trans (ReferenceIdeal.Read.val_main_v72_eq _ _ _)).trans (by rw [a0, a1, a2]; exact (final7 m c).symm)
  · exact (h3.trans (ReferenceIdeal.Read.val_main_v67_eq _ _)).trans (by rw [a0, a2]; exact (final8 m c).symm)

end Cert.Proof.Conv
-- ==== Proof.ConvFwd.lean ====
/- Hand-written, untrusted: the gated convolution at the reals. The rows that the kernel rotates and masks are the rows that the
   reference moves by joining zeros, so each block is the reference's, index by index. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.WordCmp
public import proofs.«01_k».proof.Proof.Conv

@[expose] public section

noncomputable section

namespace Cert.Proof.ConvFwd

open Cert.Kernel14Ideal Cert.Kernel14Ideal.Gen Cert.Kernel14Ideal.Value Idealize.ShloMosaic Idealize.ShloMosaic.TcCoe Idealize.SL.Sem
open Reference14Ideal.Read

theorem hz : (![0, 0] : Fin 2 → Nat) = fun _ => 0 := funext fun a => by fin_cases a <;> rfl
theorem hz3 : (![0, 0, 0] : Fin 3 → Nat) = fun _ => 0 := funext fun a => by fin_cases a <;> rfl

theorem ld_row0 (x : Vec Ideal S3x256 .f32) (j : Fin 256) : View.ld x r0_1 (ix2 0 j) = x (ix2 0 j) :=
  congrArg x (funext fun a => Fin.ext (by match a with | ⟨0, _⟩ => rfl | ⟨1, _⟩ => show 0 + 1 * j.val = j.val; omega))
theorem ld_row1 (x : Vec Ideal S3x256 .f32) (j : Fin 256) : View.ld x r0_2 (ix2 0 j) = x (ix2 1 j) :=
  congrArg x (funext fun a => Fin.ext (by match a with | ⟨0, _⟩ => rfl | ⟨1, _⟩ => show 0 + 1 * j.val = j.val; omega))
theorem ld_row2 (x : Vec Ideal S3x256 .f32) (j : Fin 256) : View.ld x r0_3 (ix2 0 j) = x (ix2 2 j) :=
  congrArg x (funext fun a => Fin.ext (by match a with | ⟨0, _⟩ => rfl | ⟨1, _⟩ => show 0 + 1 * j.val = j.val; omega))

/-- A masked rotation is the column moved down. -/
theorem mask_up (k : Nat) (hk : k < 2048) (f : Fin 2048 → EReal) (i : Fin 2048) (hm : (i.val + 2048 - k) % 2048 < 2048) :
    Scalar.select (IntOp.cmpi .sge (BitVec.ofNat 32 i.val) (BitVec.ofNat 32 k)) (f ⟨(i.val + 2048 - k) % 2048, hm⟩) 0 = Conv.up k f i := by
  have := i.2
  rw [Conv.select_sge _ k i.2 hk, Conv.up]
  by_cases hi : k ≤ i.val
  · rw [if_pos hi, if_pos hi]
    exact congrArg f (Fin.ext (by show (i.val + 2048 - k) % 2048 = i.val - k; omega))
  · rw [if_neg hi, if_neg hi]

/-- What a grid point leaves at one index. -/
theorem out4_at (x0 x1 x2 : Vec Ideal S2048x256 .bf16) (x3 : Vec Ideal S3x256 .f32) (i : Fin 2048) (j : Fin 256) :
    out0_4 x0 x1 x2 x3 (ix2 i j) = x1 (ix2 i j) * (x3 (ix2 2 j) * (x2 (ix2 i j) * x0 (ix2 i j))
      + x3 (ix2 1 j) * Conv.up 1 (fun r => x2 (ix2 r j) * x0 (ix2 r j)) i
      + x3 (ix2 0 j) * Conv.up 2 (fun r => x2 (ix2 r j) * x0 (ix2 r j)) i) := by
  unfold out0_4
  rw [View.canon_unit_zero hz, View.ld_unit_zero hz, View.ld_unit_zero hz, View.ld_unit_zero hz]
  rw [← ld_row0 x3 j, ← ld_row1 x3 j, ← ld_row2 x3 j]
  rw [← mask_up 1 (by omega) (fun r => x2 (ix2 r j) * x0 (ix2 r j)) i (Nat.mod_lt _ (by omega)),
    ← mask_up 2 (by omega) (fun r => x2 (ix2 r j) * x0 (ix2 r j)) i (Nat.mod_lt _ (by omega))]
  unfold_payloads
  pointwise

section Ref
variable (x : Vec Ideal S2048x10240 .bf16) (w : Vec Ideal S3x1024 .f32) (i : Fin 2048) (j : Fin 1024)

/-- The column groups of the projection: the input of the convolution, its output gate and its input gate. -/
abbrev colH (i : Fin 2048) : EReal := x (ix2 i ⟨0 + j.val, by omega⟩)
abbrev colB (i : Fin 2048) : EReal := x (ix2 i ⟨1024 + j.val, by omega⟩)
abbrev colC (i : Fin 2048) : EReal := x (ix2 i ⟨2048 + j.val, by omega⟩)

theorem colH_eq : x (ix2 i ⟨j.val, by omega⟩) = colH x j i :=
  congrArg (fun q => x (ix2 i q)) (Fin.ext (Nat.zero_add _).symm)

set_option maxRecDepth 10000 in
theorem ref_at : val_main_v29 (F := Ideal) x w (ix2 i j) = colB x j i * (w (ix2 2 j) * (colC x j i * colH x j i)
      + w (ix2 1 j) * Conv.up 1 (fun r => colC x j r * colH x j r) i
      + w (ix2 0 j) * Conv.up 2 (fun r => colC x j r * colH x j r) i) := by
  pointwise [val_main_v0, val_main_v1, val_main_v2, val_main_v3, val_main_v4, val_main_v5, val_main_v6, val_main_cst, val_main_v7, val_main_v8, val_main_v9, val_main_v10, val_main_v11, val_main_v12, val_main_v13, val_main_v14, val_main_cst_0, val_main_v15, val_main_v16, val_main_v17, val_main_v18, val_main_v19, val_main_v20, val_main_v21, val_main_v22, val_main_v23, val_main_v24, val_main_v25, val_main_v26, val_main_v27, val_main_v28, val_main_v29]
  simp only [colH_eq]
  rw [← Conv.up_eq i 1 (fun r => colC x j r * colH x j r), ← Conv.up_eq i 2 (fun r => colC x j r * colH x j r)]
  have key : ∀ p q r : EReal, p + q + r = r + q + p := fun p q r => by ac_rfl
  exact congrArg (fun q => colB x j i * q) (key _ _ _)
end Ref

variable (m : (ℓ : Loc nD τ sig) → Buf (Elt Ideal) ℓ) (c : Dev nD)

theorem t_lt (t : Fin cfg0.N) : t.val < 4 := t.2

theorem idx0 : ∀ t : Fin cfg0.N, win0_0.index t (0 : Fin 2) = 0 ∧ win0_0.index t (1 : Fin 2) = t.val :=
  (by decide +kernel : ∀ t : Fin grid0.N, _)

/-- Point `t`'s block of input window 0, at an index. -/
theorem iblk0_at (t : Fin cfg0.N) (i : Fin 2048) (j : Fin 256) :
    iblk m c 0 t (ix2 i j) = (m ((c : Thread nD τ).loc main_arg0)) (ix2 i ⟨(t.val) * 256 + j.val, by have := t_lt t; omega⟩) := by
  obtain ⟨h0, h1⟩ := idx0 t
  refine congrArg ((m ((c : Thread nD τ).loc main_arg0))) (funext fun q => Fin.ext ?_)
  match q with
  | ⟨0, _⟩ => show win0_0.index t (0 : Fin 2) * 2048 + 1 * i.val = i.val; omega
  | ⟨1, _⟩ => show win0_0.index t (1 : Fin 2) * 256 + 1 * j.val = (t.val) * 256 + j.val; omega

theorem idx1 : ∀ t : Fin cfg0.N, win0_1.index t (0 : Fin 2) = 0 ∧ win0_1.index t (1 : Fin 2) = 4 + t.val :=
  (by decide +kernel : ∀ t : Fin grid0.N, _)

/-- Point `t`'s block of input window 1, at an index. -/
theorem iblk1_at (t : Fin cfg0.N) (i : Fin 2048) (j : Fin 256) :
    iblk m c 1 t (ix2 i j) = (m ((c : Thread nD τ).loc main_arg0)) (ix2 i ⟨(4 + t.val) * 256 + j.val, by have := t_lt t; omega⟩) := by
  obtain ⟨h0, h1⟩ := idx1 t
  refine congrArg ((m ((c : Thread nD τ).loc main_arg0))) (funext fun q => Fin.ext ?_)
  match q with
  | ⟨0, _⟩ => show win0_1.index t (0 : Fin 2) * 2048 + 1 * i.val = i.val; omega
  | ⟨1, _⟩ => show win0_1.index t (1 : Fin 2) * 256 + 1 * j.val = (4 + t.val) * 256 + j.val; omega

theorem idx2 : ∀ t : Fin cfg0.N, win0_2.index t (0 : Fin 2) = 0 ∧ win0_2.index t (1 : Fin 2) = 8 + t.val :=
  (by decide +kernel : ∀ t : Fin grid0.N, _)

/-- Point `t`'s block of input window 2, at an index. -/
theorem iblk2_at (t : Fin cfg0.N) (i : Fin 2048) (j : Fin 256) :
    iblk m c 2 t (ix2 i j) = (m ((c : Thread nD τ).loc main_arg0)) (ix2 i ⟨(8 + t.val) * 256 + j.val, by have := t_lt t; omega⟩) := by
  obtain ⟨h0, h1⟩ := idx2 t
  refine congrArg ((m ((c : Thread nD τ).loc main_arg0))) (funext fun q => Fin.ext ?_)
  match q with
  | ⟨0, _⟩ => show win0_2.index t (0 : Fin 2) * 2048 + 1 * i.val = i.val; omega
  | ⟨1, _⟩ => show win0_2.index t (1 : Fin 2) * 256 + 1 * j.val = (8 + t.val) * 256 + j.val; omega

theorem idx3 : ∀ t : Fin cfg0.N, win0_3.index t (0 : Fin 2) = 0 ∧ win0_3.index t (1 : Fin 2) = t.val :=
  (by decide +kernel : ∀ t : Fin grid0.N, _)

/-- Point `t`'s block of input window 3, at an index. -/
theorem iblk3_at (t : Fin cfg0.N) (i : Fin 3) (j : Fin 256) :
    iblk m c 3 t (ix2 i j) = (m ((c : Thread nD τ).loc main_arg1)) (ix2 i ⟨(t.val) * 256 + j.val, by have := t_lt t; omega⟩) := by
  obtain ⟨h0, h1⟩ := idx3 t
  refine congrArg ((m ((c : Thread nD τ).loc main_arg1))) (funext fun q => Fin.ext ?_)
  match q with
  | ⟨0, _⟩ => show win0_3.index t (0 : Fin 2) * 3 + 1 * i.val = i.val; omega
  | ⟨1, _⟩ => show win0_3.index t (1 : Fin 2) * 256 + 1 * j.val = (t.val) * 256 + j.val; omega

theorem idx4 : ∀ t : Fin cfg0.N, win0_4.index t (0 : Fin 2) = 0 ∧ win0_4.index t (1 : Fin 2) = t.val :=
  (by decide +kernel : ∀ t : Fin grid0.N, _)

/-- Where an index of point `t`'s block of result window 4 lies in the array. -/
theorem emb4 (t : Fin cfg0.N) (i : Fin 2048) (j : Fin 256) :
    ((cfg0.win 4).blk t).view.emb (ix2 i j) = ix2 i ⟨(t.val) * 256 + j.val, by have := t_lt t; omega⟩ := by
  obtain ⟨h0, h1⟩ := idx4 t
  funext q; apply Fin.ext
  match q with
  | ⟨0, _⟩ => show win0_4.index t (0 : Fin 2) * 2048 + 1 * i.val = i.val; omega
  | ⟨1, _⟩ => show win0_4.index t (1 : Fin 2) * 256 + 1 * j.val = (t.val) * 256 + j.val; omega

/-- Every index of the array of window 4 lies in some point's block. -/
theorem covered4 (y : S2048x1024.Idx) : ∃ t : Fin cfg0.N, (cfg0.win 4).flush t = true ∧ y ∈ ((cfg0.win 4).blk t).view.set := by
  obtain ⟨i, j, rfl⟩ : ∃ (i : Fin 2048) (j : Fin 1024), y = ix2 i j := ⟨y 0, y 1, eq_ix2 y⟩
  have hi := i.2
  have hj := j.2
  let t : Fin cfg0.N := ⟨j.val / 256, by show j.val / 256 < 4; omega⟩
  have ht : t.val = j.val / 256 := rfl
  refine ⟨t, flush0_4 t, ?_⟩
  have h := ((cfg0.win 4).blk t).view.emb_mem_set (ix2 i ⟨j.val % 256, by omega⟩)
  rw [emb4] at h
  refine (congrArg (· ∈ ((cfg0.win 4).blk t).view.set) ?_).mp h
  funext q; apply Fin.ext
  match q with
  | ⟨0, _⟩ => rfl
  | ⟨1, _⟩ => show (t.val) * 256 + j.val % 256 = j.val; omega

/-- What point `t` writes back to window 4 is its block of the reference's result. -/
theorem flushed4_eq (t : Fin cfg0.N) : (dats m 0 c).flushed 4 t
    = ((cfg0.win 4).blk t).view.read (Elt Ideal) (val_main_v29 (F := Ideal) (m ((c : Thread nD τ).loc main_arg0)) (m ((c : Thread nD τ).loc main_arg1))) := by
  rw [flushed4]
  funext y
  obtain ⟨i, j, rfl⟩ : ∃ (i : Fin 2048) (j : Fin 256), y = ix2 i j := ⟨y 0, y 1, eq_ix2 y⟩
  show out0_4 (iblk m c 0 t) (iblk m c 1 t) (iblk m c 2 t) (iblk m c 3 t) (ix2 i j) = val_main_v29 (F := Ideal) (m ((c : Thread nD τ).loc main_arg0)) (m ((c : Thread nD τ).loc main_arg1)) (((cfg0.win 4).blk t).view.emb (ix2 i j))
  rw [emb4]
  rw [out4_at, ref_at]
  simp only [iblk0_at, iblk1_at, iblk2_at, iblk3_at, colH, colB, colC]
  have e1 : (⟨(4 + t.val) * 256 + j.val, by have := t_lt t; omega⟩ : Fin 10240) = ⟨1024 + (t.val * 256 + j.val), by have := t_lt t; omega⟩ := Fin.ext (by show (4 + t.val) * 256 + j.val = 1024 + (t.val * 256 + j.val); omega)
  have e2 : (⟨(8 + t.val) * 256 + j.val, by have := t_lt t; omega⟩ : Fin 10240) = ⟨2048 + (t.val * 256 + j.val), by have := t_lt t; omega⟩ := Fin.ext (by show (8 + t.val) * 256 + j.val = 2048 + (t.val * 256 + j.val); omega)
  have e0 : (⟨t.val * 256 + j.val, by have := t_lt t; omega⟩ : Fin 10240) = ⟨0 + (t.val * 256 + j.val), by have := t_lt t; omega⟩ := Fin.ext (Nat.zero_add _).symm
  rw [e0, e1, e2]

theorem final4 : (dats m 0 c).arrAt 4 cfg0.N = val_main_v29 (F := Ideal) (m ((c : Thread nD τ).loc main_arg0)) (m ((c : Thread nD τ).loc main_arg1)) :=
  (dats m 0 c).arrAt_eq_of_cover 4 _ (fun t _ => flushed4_eq m c t) covered4

/-- The kernel and the reference end with equal results. -/
theorem algebraic : Cert.algebraic_Kernel14Ideal_Reference14Ideal
    (hKernel14Ideal := Cert.Kernel14Ideal.Gen.facts) (hReference14Ideal := Cert.Reference14Ideal.Gen.facts) := by
  intro m g m' g' _ hagree
  refine ⟨fun c => (dats m 0 c).arrAt 4 cfg0.N, run_blocks m g, ?_⟩
  refine (θ_run _ _ _).mono (fun r h c => ?_) (Cert.Reference14Ideal.Value.run m' g')
  obtain ⟨h0, k0, k1⟩ := h c
  obtain ⟨a0, a1⟩ := hagree c
  refine ⟨?_, k0, k1⟩
  · exact (h0.trans (val_main_v29_eq _ _)).trans (by rw [a0, a1]; exact (final4 m c).symm)

end Cert.Proof.ConvFwd
-- ==== Proof.InProj.lean ====
/- Hand-written, untrusted: the first norm and the input projection at the reals. Every grid point stores the products of its group's normed
   rows with its block of columns. -/
module

public import proofs.«01_k».proof.Defs
public import proofs.«01_k».proof.Proof.InProjIdeal
public import proofs.«01_k».proof.Proof.Gen.Reference17Ideal.Run
public import proofs.«01_k».proof.Proof.Gen.Reference17Ideal.Read
public import Idealize.ShloMosaic.Lib.Pointwise
public import proofs.«01_k».proof.Proof.RmsBwd

@[expose] public section

noncomputable section

namespace Cert.Proof.InProj

open Cert.Kernel17Ideal Cert.Kernel17Ideal.Gen Idealize.ShloMosaic Idealize.ShloMosaic.TcCoe Idealize.SL.Sem
open Reference17Ideal.Read InProjIdeal RmsBwd

section Pay
variable (x : Vec Ideal S512x1024 .f32) (g : Vec Ideal S1x1024 .f32) (h : Vec Ideal S512x1024 .bf16) (w : Vec Ideal S1x1024x1280 .bf16) (i : Fin 512) (j : Fin 1024) (k : Fin 1280)

theorem pay1_at : k0_pay1 x g (ix2 i j) = x (ix2 i j) * (rinv fun q => x (ix2 i q)) * g (ix2 0 j) := by
  unfold_payloads
  pointwise
  simp only [rinv_eq]

theorem pay2_at : k0_pay2 h w (ix2 i k) = ∑ q : Fin 1024, h (ix2 i q) * w (ix3 0 q k) := by
  unfold_payloads
  pointwise

end Pay

section Ref
variable (x0 : (⟨S2048x1024, .f32⟩ : BufTy).Contents (Elt Ideal)) (x1 : (⟨S1x1024, .f32⟩ : BufTy).Contents (Elt Ideal)) (x2 : (⟨S1024x10240, .f32⟩ : BufTy).Contents (Elt Ideal)) (i : Fin 2048)

theorem ref11_at (j : Fin 1024) : val_main_v11 (F := Ideal) x0 x1 (ix2 i j) = x0 (ix2 i j) * (rinv fun q => x0 (ix2 i q)) * x1 (ix2 0 j) := by
  pointwise [val_main_v0, val_main_cst, val_main_v1, val_main_v2, val_main_cst_0, val_main_v3, val_main_v4, val_main_cst_1, val_main_v5, val_main_v6, val_main_v7, val_main_v8, val_main_v9, val_main_v10, val_main_v11]
  simp only [Fin.sum_univ_one, rinv_eq]

theorem ref14_at (j : Fin 1024) : val_main_v14 (F := Ideal) x0 x1 (ix2 i j) = x0 (ix2 i j) * (rinv fun q => x0 (ix2 i q)) * x1 (ix2 0 j) :=
  ref11_at x0 x1 i j

theorem ref13_at (k : Fin 10240) : val_main_v13 (F := Ideal) x0 x1 x2 (ix2 i k)
    = ∑ q : Fin 1024, (x0 (ix2 i q) * (rinv fun q => x0 (ix2 i q)) * x1 (ix2 0 q)) * x2 (ix2 q k) := by
  pointwise [val_main_v13, val_main_v12]
  simp only [ref11_at]

end Ref

theorem host_blocks (x : Vec Ideal S1024x10240 .f32) (d : Fin 8) (j : Fin 1024) (k : Fin 1280) :
    transpose S8x1024x1280 [1, 0, 2] (shapeCast S1024x8x1280 (truncf (F := Ideal) .bf16 x bitsLt_bf16_f32) shapeCasts_S1024x10240_S1024x8x1280)
      transposes_S1024x8x1280_S8x1024x1280_1_0_2 (ix3 d j k) = x (ix2 j ⟨d.val * 1280 + k.val, by omega⟩) := by
  pointwise

variable (m : (ℓ : Loc nD τ sig) → Buf (Elt Ideal) ℓ) (c : Dev nD)

/-- The weight's blocks of columns, as the host lays them out. -/
theorem Vw_at (d : Fin 8) (j : Fin 1024) (k : Fin 1280) :
    V m c main_v2 (ix3 d j k) = m ((c : Thread nD τ).loc main_arg2) (ix2 j ⟨d.val * 1280 + k.val, by omega⟩) := by
  have h : V m c main_v2 = transpose S8x1024x1280 [1, 0, 2] (shapeCast S1024x8x1280 (truncf (F := Ideal) .bf16 (m ((c : Thread nD τ).loc main_arg2)) bitsLt_bf16_f32) shapeCasts_S1024x10240_S1024x8x1280)
      transposes_S1024x8x1280_S8x1024x1280_1_0_2 := by
    unfold_abbrev_sides
    after_results
    rfl
  rw [h]
  exact host_blocks _ d j k

theorem t_lt (t : Fin cfg0.N) : t.val < 32 := t.2

theorem idx0 : ∀ t : Fin cfg0.N, win0_0.index t (0 : Fin 2) = t.val / 8 ∧ win0_0.index t (1 : Fin 2) = 0 :=
  (by decide +kernel : ∀ t : Fin grid0.N, _)

/-- Point `t`'s block of input window 0, at an index. -/
theorem iblk0_at (t : Fin cfg0.N) (i : Fin 512) (j : Fin 1024) :
    iblk m c 0 t (ix2 i j) = (m ((c : Thread nD τ).loc main_arg0)) (ix2 ⟨(t.val / 8) * 512 + i.val, by have := t_lt t; omega⟩ j) := by
  obtain ⟨h0, h1⟩ := idx0 t
  refine congrArg ((m ((c : Thread nD τ).loc main_arg0))) (funext fun q => Fin.ext ?_)
  match q with
  | ⟨0, _⟩ => show win0_0.index t (0 : Fin 2) * 512 + 1 * i.val = (t.val / 8) * 512 + i.val; omega
  | ⟨1, _⟩ => show win0_0.index t (1 : Fin 2) * 1024 + 1 * j.val = j.val; omega

theorem idx1 : ∀ t : Fin cfg0.N, win0_1.index t (0 : Fin 2) = 0 ∧ win0_1.index t (1 : Fin 2) = 0 :=
  (by decide +kernel : ∀ t : Fin grid0.N, _)

/-- Point `t`'s block of input window 1, at an index. -/
theorem iblk1_at (t : Fin cfg0.N) (j : Fin 1024) :
    iblk m c 1 t (ix2 0 j) = (m ((c : Thread nD τ).loc main_arg1)) (ix2 0 j) := by
  obtain ⟨h0, h1⟩ := idx1 t
  refine congrArg ((m ((c : Thread nD τ).loc main_arg1))) (funext fun q => Fin.ext ?_)
  match q with
  | ⟨0, _⟩ => show win0_1.index t (0 : Fin 2) * 1 + 1 * 0 = 0; omega
  | ⟨1, _⟩ => show win0_1.index t (1 : Fin 2) * 1024 + 1 * j.val = j.val; omega

theorem idx2 : ∀ t : Fin cfg0.N, win0_2.index t (0 : Fin 3) = t.val % 8 ∧ win0_2.index t (1 : Fin 3) = 0 ∧ win0_2.index t (2 : Fin 3) = 0 :=
  (by decide +kernel : ∀ t : Fin grid0.N, _)

/-- Point `t`'s block of input window 2, at an index. -/
theorem iblk2_at (t : Fin cfg0.N) (j : Fin 1024) (k : Fin 1280) :
    iblk m c 2 t (ix3 0 j k) = (V m c main_v2) (ix3 ⟨t.val % 8, by have := t_lt t; omega⟩ j k) := by
  obtain ⟨h0, h1, h2⟩ := idx2 t
  refine congrArg ((V m c main_v2)) (funext fun q => Fin.ext ?_)
  match q with
  | ⟨0, _⟩ => show win0_2.index t (0 : Fin 3) * 1 + 1 * 0 = t.val % 8; omega
  | ⟨1, _⟩ => show win0_2.index t (1 : Fin 3) * 1024 + 1 * j.val = j.val; omega
  | ⟨2, _⟩ => show win0_2.index t (2 : Fin 3) * 1280 + 1 * k.val = k.val; omega

theorem idx3 : ∀ t : Fin cfg0.N, win0_3.index t (0 : Fin 2) = t.val / 8 ∧ win0_3.index t (1 : Fin 2) = t.val % 8 :=
  (by decide +kernel : ∀ t : Fin grid0.N, _)

/-- Where an index of point `t`'s block of result window 3 lies in the array. -/
theorem emb3 (t : Fin cfg0.N) (i : Fin 512) (j : Fin 1280) :
    ((cfg0.win 3).blk t).view.emb (ix2 i j) = ix2 ⟨(t.val / 8) * 512 + i.val, by have := t_lt t; omega⟩ ⟨(t.val % 8) * 1280 + j.val, by have := t_lt t; omega⟩ := by
  obtain ⟨h0, h1⟩ := idx3 t
  funext q; apply Fin.ext
  match q with
  | ⟨0, _⟩ => show win0_3.index t (0 : Fin 2) * 512 + 1 * i.val = (t.val / 8) * 512 + i.val; omega
  | ⟨1, _⟩ => show win0_3.index t (1 : Fin 2) * 1280 + 1 * j.val = (t.val % 8) * 1280 + j.val; omega

/-- Every index of the array of window 3 lies in some point's block. -/
theorem covered3 (y : S2048x10240.Idx) : ∃ t : Fin cfg0.N, (cfg0.win 3).flush t = true ∧ y ∈ ((cfg0.win 3).blk t).view.set := by
  obtain ⟨i, j, rfl⟩ : ∃ (i : Fin 2048) (j : Fin 10240), y = ix2 i j := ⟨y 0, y 1, eq_ix2 y⟩
  have hi := i.2
  have hj := j.2
  let t : Fin cfg0.N := ⟨(i.val / 512) * 8 + (j.val / 1280), by show (i.val / 512) * 8 + (j.val / 1280) < 32; omega⟩
  have ht : t.val = (i.val / 512) * 8 + (j.val / 1280) := rfl
  refine ⟨t, flush0_3 t, ?_⟩
  have h := ((cfg0.win 3).blk t).view.emb_mem_set (ix2 ⟨i.val % 512, by omega⟩ ⟨j.val % 1280, by omega⟩)
  rw [emb3] at h
  refine (congrArg (· ∈ ((cfg0.win 3).blk t).view.set) ?_).mp h
  funext q; apply Fin.ext
  match q with
  | ⟨0, _⟩ => show (t.val / 8) * 512 + i.val % 512 = i.val; omega
  | ⟨1, _⟩ => show (t.val % 8) * 1280 + j.val % 1280 = j.val; omega

theorem idx4 : ∀ t : Fin cfg0.N, win0_4.index t (0 : Fin 2) = t.val / 8 ∧ win0_4.index t (1 : Fin 2) = 0 :=
  (by decide +kernel : ∀ t : Fin grid0.N, _)

/-- Where an index of point `t`'s block of result window 4 lies in the array. -/
theorem emb4 (t : Fin cfg0.N) (i : Fin 512) (j : Fin 1024) :
    ((cfg0.win 4).blk t).view.emb (ix2 i j) = ix2 ⟨(t.val / 8) * 512 + i.val, by have := t_lt t; omega⟩ j := by
  obtain ⟨h0, h1⟩ := idx4 t
  funext q; apply Fin.ext
  match q with
  | ⟨0, _⟩ => show win0_4.index t (0 : Fin 2) * 512 + 1 * i.val = (t.val / 8) * 512 + i.val; omega
  | ⟨1, _⟩ => show win0_4.index t (1 : Fin 2) * 1024 + 1 * j.val = j.val; omega

/-- Every index of the array of window 4 lies in some point's block. -/
theorem covered4 (y : S2048x1024.Idx) : ∃ t : Fin cfg0.N, (cfg0.win 4).flush t = true ∧ y ∈ ((cfg0.win 4).blk t).view.set := by
  obtain ⟨i, j, rfl⟩ : ∃ (i : Fin 2048) (j : Fin 1024), y = ix2 i j := ⟨y 0, y 1, eq_ix2 y⟩
  have hi := i.2
  have hj := j.2
  let t : Fin cfg0.N := ⟨(i.val / 512) * 8 + 7, by show (i.val / 512) * 8 + 7 < 32; omega⟩
  have ht : t.val = (i.val / 512) * 8 + 7 := rfl
  refine ⟨t, (flush0_4 t).mpr (by omega), ?_⟩
  have h := ((cfg0.win 4).blk t).view.emb_mem_set (ix2 ⟨i.val % 512, by omega⟩ j)
  rw [emb4] at h
  refine (congrArg (· ∈ ((cfg0.win 4).blk t).view.set) ?_).mp h
  funext q; apply Fin.ext
  match q with
  | ⟨0, _⟩ => show (t.val / 8) * 512 + i.val % 512 = i.val; omega
  | ⟨1, _⟩ => rfl

/-- A point's normed rows, at an index. -/
theorem normed_at (t : Fin cfg0.N) (i : Fin 512) (j : Fin 1024) :
    normed m c t (ix2 i j) = val_main_v14 (F := Ideal) (m ((c : Thread nD τ).loc main_arg0)) (m ((c : Thread nD τ).loc main_arg1)) (ix2 ⟨(t.val / 8) * 512 + i.val, by have := t_lt t; omega⟩ j) := by
  unfold normed
  rw [pay1_at, ref14_at]
  simp only [iblk0_at, iblk1_at]

/-- What point `t` writes back to window 3 is its block of the reference's result. -/
theorem flushed3_eq (t : Fin cfg0.N) : (dats m 0 c).flushed 3 t = ((cfg0.win 3).blk t).view.read (Elt Ideal) (val_main_v13 (F := Ideal) (m ((c : Thread nD τ).loc main_arg0)) (m ((c : Thread nD τ).loc main_arg1)) (m ((c : Thread nD τ).loc main_arg2))) := by
  funext y
  obtain ⟨i, j, rfl⟩ : ∃ (i : Fin 512) (j : Fin 1280), y = ix2 i j := ⟨y 0, y 1, eq_ix2 y⟩
  show (dats m 0 c).after 3 t (ix2 i j) = val_main_v13 (F := Ideal) (m ((c : Thread nD τ).loc main_arg0)) (m ((c : Thread nD τ).loc main_arg1)) (m ((c : Thread nD τ).loc main_arg2)) (((cfg0.win 3).blk t).view.emb (ix2 i j))
  rw [emb3, after_3, pay2_at, ref13_at]
  simp only [normed_at, ref14_at, iblk2_at]
  refine congrArg (fun f : Fin 1024 → EReal => ∑ q, f q) (funext fun q => ?_)
  exact congrArg (HMul.hMul (α := EReal) (β := EReal) _) (Vw_at m c ⟨t.val % 8, _⟩ q j)

theorem final3 : (dats m 0 c).arrAt 3 cfg0.N = val_main_v13 (F := Ideal) (m ((c : Thread nD τ).loc main_arg0)) (m ((c : Thread nD τ).loc main_arg1)) (m ((c : Thread nD τ).loc main_arg2)) :=
  (dats m 0 c).arrAt_eq_of_cover 3 _ (fun t _ => flushed3_eq m c t) covered3

/-- What point `t` writes back to window 4 is its block of the reference's result. -/
theorem flushed4_eq (t : Fin cfg0.N) : (dats m 0 c).flushed 4 t = ((cfg0.win 4).blk t).view.read (Elt Ideal) (val_main_v14 (F := Ideal) (m ((c : Thread nD τ).loc main_arg0)) (m ((c : Thread nD τ).loc main_arg1))) := by
  funext y
  obtain ⟨i, j, rfl⟩ : ∃ (i : Fin 512) (j : Fin 1024), y = ix2 i j := ⟨y 0, y 1, eq_ix2 y⟩
  show (dats m 0 c).after 4 t (ix2 i j) = val_main_v14 (F := Ideal) (m ((c : Thread nD τ).loc main_arg0)) (m ((c : Thread nD τ).loc main_arg1)) (((cfg0.win 4).blk t).view.emb (ix2 i j))
  rw [emb4, after_4]
  exact normed_at m c t i j

theorem final4 : (dats m 0 c).arrAt 4 cfg0.N = val_main_v14 (F := Ideal) (m ((c : Thread nD τ).loc main_arg0)) (m ((c : Thread nD τ).loc main_arg1)) :=
  (dats m 0 c).arrAt_eq_of_cover 4 _ (fun t _ => flushed4_eq m c t) covered4

/-- The run, with both results named. -/
theorem run_blocks (g : Dev nD → PrngReg) : θ_run defs (onTc (τ := τ) (main (F := Ideal))) ⟨m, fun _ => 0, g⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, (h.2.1 c)⟩) (θ_run_and (run_main m g) (frame m g))

/-- The kernel and the reference end with equal results. -/
theorem algebraic : Cert.algebraic_Kernel17Ideal_Reference17Ideal
    (hKernel17Ideal := Cert.Kernel17Ideal.Gen.facts) (hReference17Ideal := Cert.Reference17Ideal.Gen.facts) := by
  intro m g m' g' _ hagree
  refine ⟨fun c => (dats m 0 c).arrAt 3 cfg0.N, fun c => (dats m 0 c).arrAt 4 cfg0.N, run_blocks m g, ?_⟩
  refine (θ_run _ _ _).mono (fun r h c => ?_) (Cert.Reference17Ideal.Value.run m' g')
  obtain ⟨h0, h1, k0, k1, k2⟩ := h c
  obtain ⟨a0, a1, a2⟩ := hagree c
  refine ⟨?_, ?_, k0, k1, k2⟩
  · exact (h0.trans (val_main_v13_eq _ _ _)).trans (by rw [a0, a1, a2]; exact (final3 m c).symm)
  · exact (h1.trans (val_main_v14_eq _ _)).trans (by rw [a0, a1]; exact (final4 m c).symm)

end Cert.Proof.InProj
-- ==== Proof.InProjBwd.lean ====
/- Hand-written, untrusted: the gradient of the first norm and the input projection at the reals. A group of rows is visited once for every
   device's block of columns, whose products are added in a scratch block; the last visit takes the norm's gradient of the sum. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import proofs.«01_k».proof.Proof.RmsBwd
public import Idealize.ShloMosaic.Lib.Pipeline.Value
public import Idealize.ShloMosaic.Lib.Tactic

@[expose] public section

noncomputable section

namespace Cert.Proof.InProjBwd

open Cert.Kernel18Ideal Cert.Kernel18Ideal.Gen Cert.Kernel18Ideal.Value Idealize.ShloMosaic Idealize.ShloMosaic.TcCoe Idealize.SL.Sem
open Reference18Ideal.Read

theorem hz : (![0, 0] : Fin 2 → Nat) = fun _ => 0 := funext fun a => by fin_cases a <;> rfl
theorem hz3 : (![0, 0, 0] : Fin 3 → Nat) = fun _ => 0 := funext fun a => by fin_cases a <;> rfl

open RmsBwd

/-! ## What a grid point leaves, case by case -/

section Points
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1280 .bf16) (harg4 : arg4.IsWhole) (arg5 : Memref sig .tc .vmem S512x1280 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole)

/-- A group's first visit leaves its products added to zero. -/
theorem sout0_A_0_eq (hc0 : cond0_0 i) (hc1 : cond0_1 i) (hc2 : ¬cond0_2 i) (x0 : Vec Ideal S512x1024 .f32) (x1 : Vec Ideal S1x1024 .f32) (x2 : Vec Ideal S1x1024x1280 .bf16) (x3 : Vec Ideal S512x1280 .bf16) (x4 : Vec Ideal S512x1024 .f32) :
    sout0_A_0 c i arg2 harg2 arg3 harg3 arg4 harg4 arg5 harg5 arg6 harg6 arg7 harg7 arg8 harg8 arg9 harg9 hc0 hc1 hc2 x0 x1 x2 x3 x4 = k0_pay3 (F := Ideal) (k0_pay1 (F := Ideal)) x3 x2 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S512x1024) hz]
  rw [View.readCov_unit_zero (S := S512x1024) _ hz]
  simp only [View.readAt_eq_ld, Memref.IsWhole.read_unread, View.ld_unit_zero (S := S512x1024) hz, View.ld_unit_zero (S := S1x1024) hz, View.ld_unit_zero (S := S512x1280) hz, View.ld_unit_zero (S := S1x1024x1280) hz3]

/-- A group's first visit leaves its products added to zero. -/
theorem sout0_D_0_eq (hc0 : cond0_0 i) (hc1 : ¬cond0_1 i) (hc2 : ¬cond0_2 i) (x0 : Vec Ideal S512x1024 .f32) (x1 : Vec Ideal S1x1024 .f32) (x2 : Vec Ideal S1x1024x1280 .bf16) (x3 : Vec Ideal S512x1280 .bf16) (x4 : Vec Ideal S512x1024 .f32) :
    sout0_D_0 c i arg2 harg2 arg3 harg3 arg4 harg4 arg5 harg5 arg6 harg6 arg7 harg7 arg8 harg8 arg9 harg9 hc0 hc1 hc2 x0 x1 x2 x3 x4 = k0_pay3 (F := Ideal) (k0_pay1 (F := Ideal)) x3 x2 := by
  unfold sout0_D_0
  rw [View.read_writes_eq_canon _ _ _ (scover0_D_0 c i arg2 harg2 arg3 harg3 arg4 harg4 arg5 harg5 arg6 harg6 arg7 harg7 arg8 harg8 arg9 harg9 hc0 hc1 hc2 x0 x1 x2 x3 x4)]
  unfold kernelRun0_D
  dsimp only
  sl_unfold_words
  rw [View.canon_cons_unit_zero (S := S512x1024) hz]
  rw [View.readCov_unit_zero (S := S512x1024) _ hz]
  simp only [View.readAt_eq_ld, Memref.IsWhole.read_unread, View.ld_unit_zero (S := S512x1024) hz, View.ld_unit_zero (S := S1x1024) hz, View.ld_unit_zero (S := S512x1280) hz, View.ld_unit_zero (S := S1x1024x1280) hz3]

/-- A later visit adds its products. -/
theorem sout0_B_0_eq (hc0 : ¬cond0_0 i) (hc1 : ¬cond0_1 i) (hc2 : ¬cond0_2 i) (x0 : Vec Ideal S512x1024 .f32) (x1 : Vec Ideal S1x1024 .f32) (x2 : Vec Ideal S1x1024x1280 .bf16) (x3 : Vec Ideal S512x1280 .bf16) (x4 : Vec Ideal S512x1024 .f32) (xs0 : Vec Ideal S512x1024 .f32) :
    sout0_B_0 c i arg2 harg2 arg3 harg3 arg4 harg4 arg5 harg5 arg6 harg6 arg7 harg7 arg8 harg8 arg9 harg9 hc0 hc1 hc2 x0 x1 x2 x3 x4 xs0 = k0_pay3 (F := Ideal) xs0 x3 x2 := by
  unfold sout0_B_0
  rw [View.read_writes_eq_canon _ _ _ (scover0_B_0 c i arg2 harg2 arg3 harg3 arg4 harg4 arg5 harg5 arg6 harg6 arg7 harg7 arg8 harg8 arg9 harg9 hc0 hc1 hc2 x0 x1 x2 x3 x4 xs0)]
  unfold kernelRun0_B
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x1280) hz, View.ld_unit_zero (S := S1x1024x1280) hz3]

/-- A later visit adds its products. -/
theorem sout0_C_0_eq (hc0 : ¬cond0_0 i) (hc1 : ¬cond0_1 i) (hc2 : cond0_2 i) (x0 : Vec Ideal S512x1024 .f32) (x1 : Vec Ideal S1x1024 .f32) (x2 : Vec Ideal S1x1024x1280 .bf16) (x3 : Vec Ideal S512x1280 .bf16) (x4 : Vec Ideal S512x1024 .f32) (xo6 : Vec Ideal S1x1024 .f32) (xs0 : Vec Ideal S512x1024 .f32) :
    sout0_C_0 c i arg2 harg2 arg3 harg3 arg4 harg4 arg5 harg5 arg6 harg6 arg7 harg7 arg8 harg8 arg9 harg9 hc0 hc1 hc2 x0 x1 x2 x3 x4 xo6 xs0 = k0_pay3 (F := Ideal) xs0 x3 x2 := by
  unfold sout0_C_0
  rw [View.read_writes_eq_canon _ _ _ (scover0_C_0 c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  rw [View.canon_unit_zero hz]
  simp only [View.readAt_eq_ld, Memref.IsWhole.read_unread, View.ld_unit_zero (S := S512x1024) hz, View.ld_unit_zero (S := S1x1024) hz, View.ld_unit_zero (S := S512x1280) hz, View.ld_unit_zero (S := S1x1024x1280) hz3]

/-- A group's last visit stores the gradient of its rows. -/
theorem out0_C_5_eq (hc0 : ¬cond0_0 i) (hc1 : ¬cond0_1 i) (hc2 : cond0_2 i) (x0 : Vec Ideal S512x1024 .f32) (x1 : Vec Ideal S1x1024 .f32) (x2 : Vec Ideal S1x1024x1280 .bf16) (x3 : Vec Ideal S512x1280 .bf16) (x4 : Vec Ideal S512x1024 .f32) (xo6 : Vec Ideal S1x1024 .f32) (xs0 : Vec Ideal S512x1024 .f32) :
    out0_C_5 c i arg2 harg2 arg3 harg3 arg4 harg4 arg5 harg5 arg6 harg6 arg7 harg7 arg8 harg8 arg9 harg9 hc0 hc1 hc2 x0 x1 x2 x3 x4 xo6 xs0 = k0_pay7 (F := Ideal) x0 (k0_pay3 xs0 x3 x2) x4 x1 := by
  unfold out0_C_5
  rw [View.read_writes_eq_canon _ _ _ (cover0_C_5 c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  rw [View.canon_unit_zero hz]
  rw [View.readCov_unit_zero (S := S512x1024) _ hz]
  simp only [View.readAt_eq_ld, Memref.IsWhole.read_unread, View.ld_unit_zero (S := S512x1024) hz, View.ld_unit_zero (S := S1x1024) hz, View.ld_unit_zero (S := S512x1280) hz, View.ld_unit_zero (S := S1x1024x1280) hz3]

/-- A group's last visit adds to the gradient of the norm's weight. -/
theorem out0_C_6_eq (hc0 : ¬cond0_0 i) (hc1 : ¬cond0_1 i) (hc2 : cond0_2 i) (x0 : Vec Ideal S512x1024 .f32) (x1 : Vec Ideal S1x1024 .f32) (x2 : Vec Ideal S1x1024x1280 .bf16) (x3 : Vec Ideal S512x1280 .bf16) (x4 : Vec Ideal S512x1024 .f32) (xo6 : Vec Ideal S1x1024 .f32) (xs0 : Vec Ideal S512x1024 .f32) :
    out0_C_6 c i arg2 harg2 arg3 harg3 arg4 harg4 arg5 harg5 arg6 harg6 arg7 harg7 arg8 harg8 arg9 harg9 hc0 hc1 hc2 x0 x1 x2 x3 x4 xo6 xs0 = k0_pay6 (F := Ideal) x0 (k0_pay3 xs0 x3 x2) xo6 := by
  unfold out0_C_6
  rw [View.read_writes_eq_canon _ _ _ (cover0_C_6 c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  rw [View.canon_unit_zero hz]
  rw [View.readCov_unit_zero (S := S512x1024) _ hz]
  simp only [View.readAt_eq_ld, Memref.IsWhole.read_unread, View.ld_unit_zero (S := S512x1024) hz, View.ld_unit_zero (S := S1x1024) hz, View.ld_unit_zero (S := S512x1280) hz, View.ld_unit_zero (S := S1x1024x1280) hz3]

/-- The first visit sets the gradient of the norm's weight to zero. -/
theorem out0_A_6_eq (hc0 : cond0_0 i) (hc1 : cond0_1 i) (hc2 : ¬cond0_2 i) (x0 : Vec Ideal S512x1024 .f32) (x1 : Vec Ideal S1x1024 .f32) (x2 : Vec Ideal S1x1024x1280 .bf16) (x3 : Vec Ideal S512x1280 .bf16) (x4 : Vec Ideal S512x1024 .f32) :
    out0_A_6 c i arg2 harg2 arg3 harg3 arg4 harg4 arg5 harg5 arg6 harg6 arg7 harg7 arg8 harg8 arg9 harg9 hc0 hc1 hc2 x0 x1 x2 x3 x4 = k0_pay2 (F := Ideal) := by
  unfold out0_A_6
  rw [View.read_writes_eq_canon _ _ _ (cover0_A_6 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero hz]

end Points

section Pay
variable (a b d : Vec Ideal S512x1024 .f32) (g : Vec Ideal S1x1024 .f32) (w : Vec Ideal S1x1024x1280 .bf16) (p : Vec Ideal S512x1280 .bf16) (i : Fin 512) (j : Fin 1024)

theorem pay1_at : k0_pay1 (F := Ideal) (ix2 i j) = 0 := by
  unfold_payloads
  pointwise

theorem pay2_at : k0_pay2 (F := Ideal) (ix2 0 j) = 0 := by
  unfold_payloads
  pointwise

/-- A visit's products at one index. -/
def products (p : Vec Ideal S512x1280 .bf16) (w : Vec Ideal S1x1024x1280 .bf16) (i : Fin 512) (j : Fin 1024) : EReal := ∑ k : Fin 1280, p (ix2 i k) * w (ix3 0 j k)

theorem pay3_at : k0_pay3 a p w (ix2 i j) = a (ix2 i j) + products p w i j := by
  unfold products
  unfold_payloads
  pointwise

theorem pay6_at : k0_pay6 a b g (ix2 0 j) = g (ix2 0 j) + ∑ k : Fin 512, b (ix2 k j) * (a (ix2 k j) * rinv fun q => a (ix2 k q)) := by
  unfold_payloads
  pointwise
  simp only [rinv_eq]

theorem pay7_at : k0_pay7 a b d g (ix2 i j) = d (ix2 i j) + back (fun k => a (ix2 i k)) (fun k => b (ix2 i k) * g (ix2 0 k)) j := by
  unfold_payloads
  pointwise
  unfold back
  simp only [rinv_eq]
end Pay

/-! ## The reference at one index -/

section Ref
variable (x0 : Vec Ideal S2048x1024 .f32) (x1 : Vec Ideal S1x1024 .f32) (x2 : Vec Ideal S1024x10240 .f32) (x3 : Vec Ideal S2048x10240 .bf16) (x4 : Vec Ideal S2048x1024 .f32) (r : Fin 2048) (j : Fin 1024)

/-- The gradient at the normed row. -/
def dh (x2 : S1024x10240.Idx → EReal) (x3 : S2048x10240.Idx → EReal) (r : Fin 2048) (j : Fin 1024) : EReal := ∑ k : Fin 10240, x3 (ix2 r k) * x2 (ix2 j k)

theorem ref17_at : val_main_v17 (F := Ideal) x2 x3 (ix2 r j) = dh x2 x3 r j := by
  pointwise [val_main_v17, val_main_v16, val_main_v15]
  rfl

set_option maxRecDepth 10000 in
theorem ref37_at : val_main_v37 (F := Ideal) x0 x1 x2 x3 x4 (ix2 r j) = x4 (ix2 r j) + back (fun k => x0 (ix2 r k)) (fun k => dh x2 x3 r k * x1 (ix2 0 k)) j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v18, val_main_cst_3, val_main_v19, val_main_v20, val_main_v21, val_main_v22, val_main_v23, val_main_cst_4, val_main_v24, val_main_v25, val_main_v26, val_main_v27, val_main_v28, val_main_v29, val_main_cst_5, val_main_v30, val_main_v31, val_main_cst_6, val_main_v32, val_main_v33, val_main_v34, val_main_v35, val_main_v36, val_main_v37]
  simp only [Fin.sum_univ_one, ref17_at, rinv_eq]
  exact back_eq (fun k => x0 (ix2 r k)) (fun k => dh x2 x3 r k * x1 (ix2 0 k)) _ j

set_option maxRecDepth 10000 in
theorem ref20_at : val_main_v20 (F := Ideal) x0 x2 x3 (ix2 0 j) = ∑ r : Fin 2048, dh x2 x3 r j * (x0 (ix2 r j) * rinv fun q => x0 (ix2 r q)) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v18, val_main_cst_3, val_main_v19, val_main_v20, val_main_v21, val_main_v22, val_main_v23, val_main_cst_4, val_main_v24, val_main_v25, val_main_v26, val_main_v27, val_main_v28, val_main_v29, val_main_cst_5, val_main_v30, val_main_v31, val_main_cst_6, val_main_v32, val_main_v33, val_main_v34, val_main_v35, val_main_v36, val_main_v37]
  simp only [ref17_at, rinv_eq]
  exact Finset.sum_congr rfl fun r _ => mul_comm _ _
end Ref

/-! ## The blocks that the windows stage -/

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

theorem t_lt (t : Fin cfg0.N) : t.val < 32 := t.2

theorem idx0 : ∀ t : Fin cfg0.N, win0_0.index t (0 : Fin 2) = t.val / 8 ∧ win0_0.index t (1 : Fin 2) = 0 :=
  (by decide +kernel : ∀ t : Fin grid0.N, _)

/-- Point `t`'s block of input window 0, at an index. -/
theorem iblk0_at (t : Fin cfg0.N) (i : Fin 512) (j : Fin 1024) :
    iblk m c 0 t (ix2 i j) = (X0 m c) (ix2 ⟨(t.val / 8) * 512 + i.val, by have := t_lt t; omega⟩ j) := by
  obtain ⟨h0, h1⟩ := idx0 t
  refine congrArg ((X0 m c)) (funext fun q => Fin.ext ?_)
  match q with
  | ⟨0, _⟩ => show win0_0.index t (0 : Fin 2) * 512 + 1 * i.val = (t.val / 8) * 512 + i.val; omega
  | ⟨1, _⟩ => show win0_0.index t (1 : Fin 2) * 1024 + 1 * j.val = j.val; omega

theorem idx1 : ∀ t : Fin cfg0.N, win0_1.index t (0 : Fin 2) = 0 ∧ win0_1.index t (1 : Fin 2) = 0 :=
  (by decide +kernel : ∀ t : Fin grid0.N, _)

/-- Point `t`'s block of input window 1, at an index. -/
theorem iblk1_at (t : Fin cfg0.N) (j : Fin 1024) :
    iblk m c 1 t (ix2 0 j) = (X1 m c) (ix2 0 j) := by
  obtain ⟨h0, h1⟩ := idx1 t
  refine congrArg ((X1 m c)) (funext fun q => Fin.ext ?_)
  match q with
  | ⟨0, _⟩ => show win0_1.index t (0 : Fin 2) * 1 + 1 * 0 = 0; omega
  | ⟨1, _⟩ => show win0_1.index t (1 : Fin 2) * 1024 + 1 * j.val = j.val; omega

theorem idx2 : ∀ t : Fin cfg0.N, win0_2.index t (0 : Fin 3) = t.val % 8 ∧ win0_2.index t (1 : Fin 3) = 0 ∧ win0_2.index t (2 : Fin 3) = 0 :=
  (by decide +kernel : ∀ t : Fin grid0.N, _)

/-- Point `t`'s block of input window 2, at an index. -/
theorem iblk2_at (t : Fin cfg0.N) (j : Fin 1024) (k : Fin 1280) :
    iblk m c 2 t (ix3 0 j k) = (V m c main_v2) (ix3 ⟨t.val % 8, by have := t_lt t; omega⟩ j k) := by
  obtain ⟨h0, h1, h2⟩ := idx2 t
  refine congrArg ((V m c main_v2)) (funext fun q => Fin.ext ?_)
  match q with
  | ⟨0, _⟩ => show win0_2.index t (0 : Fin 3) * 1 + 1 * 0 = t.val % 8; omega
  | ⟨1, _⟩ => show win0_2.index t (1 : Fin 3) * 1024 + 1 * j.val = j.val; omega
  | ⟨2, _⟩ => show win0_2.index t (2 : Fin 3) * 1280 + 1 * k.val = k.val; omega

theorem idx3 : ∀ t : Fin cfg0.N, win0_3.index t (0 : Fin 2) = t.val / 8 ∧ win0_3.index t (1 : Fin 2) = t.val % 8 :=
  (by decide +kernel : ∀ t : Fin grid0.N, _)

/-- Point `t`'s block of input window 3, at an index. -/
theorem iblk3_at (t : Fin cfg0.N) (i : Fin 512) (j : Fin 1280) :
    iblk m c 3 t (ix2 i j) = (X3 m c) (ix2 ⟨(t.val / 8) * 512 + i.val, by have := t_lt t; omega⟩ ⟨(t.val % 8) * 1280 + j.val, by have := t_lt t; omega⟩) := by
  obtain ⟨h0, h1⟩ := idx3 t
  refine congrArg ((X3 m c)) (funext fun q => Fin.ext ?_)
  match q with
  | ⟨0, _⟩ => show win0_3.index t (0 : Fin 2) * 512 + 1 * i.val = (t.val / 8) * 512 + i.val; omega
  | ⟨1, _⟩ => show win0_3.index t (1 : Fin 2) * 1280 + 1 * j.val = (t.val % 8) * 1280 + j.val; omega

theorem idx4 : ∀ t : Fin cfg0.N, win0_4.index t (0 : Fin 2) = t.val / 8 ∧ win0_4.index t (1 : Fin 2) = 0 :=
  (by decide +kernel : ∀ t : Fin grid0.N, _)

/-- Point `t`'s block of input window 4, at an index. -/
theorem iblk4_at (t : Fin cfg0.N) (i : Fin 512) (j : Fin 1024) :
    iblk m c 4 t (ix2 i j) = (X4 m c) (ix2 ⟨(t.val / 8) * 512 + i.val, by have := t_lt t; omega⟩ j) := by
  obtain ⟨h0, h1⟩ := idx4 t
  refine congrArg ((X4 m c)) (funext fun q => Fin.ext ?_)
  match q with
  | ⟨0, _⟩ => show win0_4.index t (0 : Fin 2) * 512 + 1 * i.val = (t.val / 8) * 512 + i.val; omega
  | ⟨1, _⟩ => show win0_4.index t (1 : Fin 2) * 1024 + 1 * j.val = j.val; omega

theorem host_blocks (x : Vec Ideal S1024x10240 .f32) (d : Fin 8) (j : Fin 1024) (k : Fin 1280) :
    transpose S8x1024x1280 [1, 0, 2] (shapeCast S1024x8x1280 (truncf (F := Ideal) .bf16 x bitsLt_bf16_f32) shapeCasts_S1024x10240_S1024x8x1280)
      transposes_S1024x8x1280_S8x1024x1280_1_0_2 (ix3 d j k) = x (ix2 j ⟨d.val * 1280 + k.val, by omega⟩) := by
  pointwise

/-- The weight's blocks of columns, as the host lays them out. -/
theorem Vw_at (d : Fin 8) (j : Fin 1024) (k : Fin 1280) :
    V m c main_v2 (ix3 d j k) = X2 m c (ix2 j ⟨d.val * 1280 + k.val, by omega⟩) := by
  have h : V m c main_v2 = transpose S8x1024x1280 [1, 0, 2] (shapeCast S1024x8x1280 (truncf (F := Ideal) .bf16 (X2 m c) bitsLt_bf16_f32) shapeCasts_S1024x10240_S1024x8x1280)
      transposes_S1024x8x1280_S8x1024x1280_1_0_2 := by
    unfold_abbrev_sides
    after_results
    rfl
  rw [h]
  exact host_blocks _ d j k

/-! ## The scratch block and the weight's gradient, point by point -/

abbrev X : S2048x1024.Idx → EReal := X0 m c
abbrev G : S1x1024.Idx → EReal := X1 m c
abbrev W : S1024x10240.Idx → EReal := X2 m c
abbrev DP : S2048x10240.Idx → EReal := X3 m c
abbrev DX : S2048x1024.Idx → EReal := X4 m c

theorem acc_reset (t : Fin cfg0.N) (h : t.val % 8 = 0) :
    (outsAt0 m c t.val t.isLt).2.2 = k0_pay3 (F := Ideal) (k0_pay1 (F := Ideal)) (iblk m c 3 t) (iblk m c 2 t) := by
  by_cases h1 : t.val % 32 = 0
  · rw [outsAt0_A m c t h h1 (by omega)]
    dsimp only
    rw [sout0_A_0_eq]
  · rw [outsAt0_D m c t h h1 (by omega)]
    dsimp only
    rw [sout0_D_0_eq]

theorem acc_step (t : Fin cfg0.N) (h : ¬ t.val % 8 = 0) :
    (outsAt0 m c t.val t.isLt).2.2 = k0_pay3 (F := Ideal) (outsAt0 m c (t.val - 1) (Nat.lt_of_le_of_lt (Nat.sub_le _ _) t.isLt)).2.2 (iblk m c 3 t) (iblk m c 2 t) := by
  by_cases h1 : t.val % 8 = 7
  · rw [outsAt0_C m c t h (by omega) h1]
    dsimp only
    rw [sout0_C_0_eq]
  · rw [outsAt0_B m c t h (by omega) h1]
    dsimp only
    rw [sout0_B_0_eq]

theorem row_lt {n : ℕ} (hn : n < cfg0.N) (p : Fin 512) : n / 8 * 512 + p.val < 2048 := by
  have h : n < 32 := hn
  have := p.2
  omega

/-- One product of the sum that makes the gradient at a normed row. -/
def term (r : Fin 2048) (j : Fin 1024) (k : Fin 10240) : EReal := DP m c (ix2 r k) * W m c (ix2 j k)

/-- A visit's products. -/
theorem visit (t : Fin cfg0.N) (p : Fin 512) (j : Fin 1024) :
    products (iblk m c 3 t) (iblk m c 2 t) p j
      = ∑ k : Fin 1280, term m c ⟨t.val / 8 * 512 + p.val, row_lt t.isLt p⟩ j ⟨t.val % 8 * 1280 + k.val, by have := k.2; omega⟩ := by
  refine Finset.sum_congr rfl fun k _ => ?_
  rw [iblk3_at, iblk2_at, Vw_at]
  rfl

/-- The scratch block after a group's first visit. -/
theorem acc_first (t : Fin cfg0.N) (h : t.val % 8 = 0) (p : Fin 512) (j : Fin 1024) :
    (outsAt0 m c t.val t.isLt).2.2 (ix2 p j) = ∑ k ∈ Finset.range ((t.val % 8) * 1280 + 1280), ext (term m c ⟨t.val / 8 * 512 + p.val, row_lt t.isLt p⟩ j) k := by
  rw [acc_reset m c t h, pay3_at, pay1_at, visit, ext_add _ _ _ (by omega)]
  simp only [h, Nat.zero_mul, Finset.sum_range_zero]

/-- The scratch block after a visit: the products of the blocks of columns visited so far. -/
theorem acc_at : ∀ (n : ℕ) (hn : n < cfg0.N) (p : Fin 512) (j : Fin 1024),
    (outsAt0 m c n hn).2.2 (ix2 p j) = ∑ k ∈ Finset.range ((n % 8) * 1280 + 1280), ext (term m c ⟨n / 8 * 512 + p.val, row_lt hn p⟩ j) k := by
  intro n
  induction n with
  | zero =>
    intro hn p j
    exact acc_first m c ⟨0, hn⟩ rfl p j
  | succ n ih =>
    intro hn p j
    by_cases h : (n + 1) % 8 = 0
    · exact acc_first m c ⟨n + 1, hn⟩ h p j
    · refine (congrFun (acc_step m c ⟨n + 1, hn⟩ h) (ix2 p j)).trans ?_
      rw [pay3_at, visit, ext_add _ _ _ (by omega)]
      refine congrArg (· + _) ?_
      refine (ih (Nat.lt_of_succ_lt hn) p j).trans ?_
      have e1 : n % 8 * 1280 + 1280 = (n + 1) % 8 * 1280 := by omega
      have e2 : n / 8 = (n + 1) / 8 := by omega
      simp only [e1, e2]

/-- After a group's last visit the scratch block is the gradient at its normed rows. -/
theorem acc_last (t : Fin cfg0.N) (h : t.val % 8 = 7) (p : Fin 512) (j : Fin 1024) :
    (outsAt0 m c t.val t.isLt).2.2 (ix2 p j) = dh (W m c) (DP m c) ⟨t.val / 8 * 512 + p.val, row_lt t.isLt p⟩ j := by
  rw [acc_at]
  simp only [h]
  exact ext_sum (term m c _ j)

theorem out_last (t : Fin cfg0.N) (h : t.val % 8 = 7) :
    (outsAt0 m c t.val t.isLt).1 = k0_pay7 (F := Ideal) (iblk m c 0 t) (outsAt0 m c t.val t.isLt).2.2 (iblk m c 4 t) (iblk m c 1 t) := by
  rw [acc_step m c t (by omega), outsAt0_C m c t (by omega) (by omega) h]
  dsimp only
  rw [out0_C_5_eq]

theorem dg_last (t : Fin cfg0.N) (h : t.val % 8 = 7) :
    (outsAt0 m c t.val t.isLt).2.1 = k0_pay6 (F := Ideal) (iblk m c 0 t) (outsAt0 m c t.val t.isLt).2.2
      (outsAt0 m c (t.val - 1) (Nat.lt_of_le_of_lt (Nat.sub_le _ _) t.isLt)).2.1 := by
  rw [acc_step m c t (by omega), outsAt0_C m c t (by omega) (by omega) h]
  dsimp only
  rw [out0_C_6_eq]

theorem dg_zero (t : Fin cfg0.N) (h : t.val % 32 = 0) : (outsAt0 m c t.val t.isLt).2.1 = k0_pay2 (F := Ideal) := by
  rw [outsAt0_A m c t (by omega) h (by omega)]
  dsimp only
  rw [out0_A_6_eq]

theorem dg_keep (t : Fin cfg0.N) (h : ¬ t.val % 32 = 0) (h7 : ¬ t.val % 8 = 7) :
    (outsAt0 m c t.val t.isLt).2.1 = (outsAt0 m c (t.val - 1) (Nat.lt_of_le_of_lt (Nat.sub_le _ _) t.isLt)).2.1 := by
  by_cases h0 : t.val % 8 = 0
  · rw [outsAt0_D m c t h0 h h7]
    rfl
  · rw [outsAt0_B m c t h0 h h7]
    rfl

/-- A row's part of the gradient of the norm's weight. -/
def part (j : Fin 1024) (r : Fin 2048) : EReal := dh (W m c) (DP m c) r j * (X m c (ix2 r j) * rinv fun q => X m c (ix2 r q))

/-- The gradient of the norm's weight after a visit: the rows of the groups done so far. -/
theorem dg_at : ∀ (n : ℕ) (hn : n < cfg0.N) (j : Fin 1024),
    (outsAt0 m c n hn).2.1 (ix2 0 j) = ∑ r ∈ Finset.range ((n + 1) / 8 * 512), ext (part m c j) r := by
  intro n
  induction n with
  | zero =>
    intro hn j
    refine (congrFun (dg_zero m c ⟨0, hn⟩ rfl) (ix2 0 j)).trans ?_
    rw [pay2_at]
    rfl
  | succ n ih =>
    intro hn j
    have h32 : n + 1 < 32 := hn
    by_cases h7 : (n + 1) % 8 = 7
    · refine (congrFun (dg_last m c ⟨n + 1, hn⟩ h7) (ix2 0 j)).trans ?_
      rw [pay6_at]
      have e : (n + 1 + 1) / 8 * 512 = (n + 1) / 8 * 512 + 512 := by omega
      rw [e, ext_add _ _ _ (by omega)]
      refine congrArg₂ (· + ·) (ih (Nat.lt_of_succ_lt hn) j) (Finset.sum_congr rfl fun k _ => ?_)
      rw [acc_last m c ⟨n + 1, hn⟩ h7]
      simp only [iblk0_at]
      rfl
    · refine (congrFun (dg_keep m c ⟨n + 1, hn⟩ (by show ¬ (n + 1) % 32 = 0; omega) h7) (ix2 0 j)).trans ?_
      refine (ih (Nat.lt_of_succ_lt hn) j).trans ?_
      have e : (n + 1) / 8 = (n + 1 + 1) / 8 := by omega
      rw [e]

/-- The rows' gradient that the kernel leaves is the reference's. -/
theorem G5_at (i : Fin 2048) (j : Fin 1024) : G5 m c (ix2 i j)
    = val_main_v37 (F := Ideal) (X0 m c) (X1 m c) (X2 m c) (X3 m c) (X4 m c) (ix2 i j) := by
  have hi := i.2
  have hj := j.2
  have hp : pt5Of (ix2 i j) = 8 * (i.val / 512) + 7 := by
    show 8 * (1 * (i.val / 512 - 0) + 1 * (j.val / 1024 - 0)) + 7 = _
    omega
  have hN : 8 * (i.val / 512) + 7 < cfg0.N := lt_of_lt_of_eq (by omega) N_0.symm
  have hl : loc5Of (ix2 i j) = ix2 ⟨i.val % 512, by omega⟩ j := by
    funext a; apply Fin.ext
    match a with
    | ⟨0, _⟩ => rfl
    | ⟨1, _⟩ => show j.val % 1024 = j.val; omega
  unfold G5
  rw [dif_pos (by rw [hp]; exact hN), hl, fold0_congr m c _ _ _ (by omega) hp, ← outsAt0_sweep m c _ hN]
  let t : Fin cfg0.N := ⟨8 * (i.val / 512) + 7, hN⟩
  have h7 : t.val % 8 = 7 := by show (8 * (i.val / 512) + 7) % 8 = 7; omega
  refine (congrFun (out_last m c t h7) (ix2 ⟨i.val % 512, by omega⟩ j)).trans ?_
  rw [pay7_at, ref37_at]
  have hr : (⟨t.val / 8 * 512 + i.val % 512, by show (8 * (i.val / 512) + 7) / 8 * 512 + i.val % 512 < 2048; omega⟩ : Fin 2048) = i :=
    Fin.ext (by show (8 * (i.val / 512) + 7) / 8 * 512 + i.val % 512 = i.val; omega)
  simp only [acc_last m c t h7, iblk0_at, iblk1_at, iblk4_at, hr]

/-- The weight's gradient that the kernel leaves is the reference's. -/
theorem G6_at (j : Fin 1024) : G6 m c (ix2 0 j)
    = val_main_v20 (F := Ideal) (X0 m c) (X2 m c) (X3 m c) (ix2 0 j) := by
  rw [G6_last, ← outsAt0_sweep m c 31 (lt_of_lt_of_eq (by decide) N_0.symm), dg_at, ref20_at]
  exact ext_sum (part m c j)

/-- The kernel and the reference end with equal results. -/
theorem algebraic : Cert.algebraic_Kernel18Ideal_Reference18Ideal
    (hKernel18Ideal := Cert.Kernel18Ideal.Gen.facts) (hReference18Ideal := Cert.Reference18Ideal.Gen.facts) := by
  intro m g m' g' _ hagree
  refine ⟨_, _, run m g, ?_⟩
  refine (θ_run _ _ _).mono (fun r h c => ?_) (Cert.Reference18Ideal.Value.run m' g')
  obtain ⟨h0, h1, k0, k1, k2, k3, k4⟩ := h c
  obtain ⟨a0, a1, a2, a3, a4⟩ := hagree c
  refine ⟨?_, ?_, k0, k1, k2, k3, k4⟩
  · refine (h0.trans (val_main_v37_eq m' c)).trans ?_
    rw [a0, a1, a2, a3, a4]
    funext y
    obtain ⟨i, j, rfl⟩ : ∃ (i : Fin 2048) (j : Fin 1024), y = ix2 i j := ⟨y 0, y 1, eq_ix2 y⟩
    exact (G5_at m c i j).symm
  · refine (h1.trans (val_main_v20_eq _ _ _)).trans ?_
    rw [a0, a2, a3]
    funext y
    obtain ⟨i, j, rfl⟩ : ∃ (i : Fin 1) (j : Fin 1024), y = ix2 i j := ⟨y 0, y 1, eq_ix2 y⟩
    obtain rfl : i = 0 := Subsingleton.elim _ _
    exact (G6_at m c j).symm

end Cert.Proof.InProjBwd
-- ==== Proof.AdamwIn.lean ====
/- Hand-written, untrusted: the optimiser's step on one device's shard of the input projection at the reals. The gradient is the
   sum of the four pair sums; the four results are the reference's arithmetic, index by index. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise

@[expose] public section

noncomputable section

namespace Cert.Proof.AdamwIn

open Cert.Kernel19Ideal Cert.Kernel19Ideal.Gen Cert.Kernel19Ideal.Value Idealize.ShloMosaic Idealize.ShloMosaic.TcCoe Idealize.SL.Sem
open Reference19Ideal.Read

theorem hz : (![0, 0] : Fin 2 → Nat) = fun _ => 0 := funext fun a => by fin_cases a <;> rfl
theorem hz3 : (![0, 0, 0] : Fin 3 → Nat) = fun _ => 0 := funext fun a => by fin_cases a <;> rfl

/-- One chip's slab of the received pair sums. -/
theorem ld_slab0 (x : Vec Ideal S3x256x1280 .bf16) (i : Fin 256) (j : Fin 1280) : View.ld x r0_1 (ix3 0 i j) = x (ix3 0 i j) :=
  congrArg x (funext fun a => Fin.ext (by match a with | ⟨0, _⟩ => rfl | ⟨1, _⟩ => show 0 + 1 * i.val = i.val; omega | ⟨2, _⟩ => show 0 + 1 * j.val = j.val; omega))
theorem ld_slab1 (x : Vec Ideal S3x256x1280 .bf16) (i : Fin 256) (j : Fin 1280) : View.ld x r0_2 (ix3 0 i j) = x (ix3 1 i j) :=
  congrArg x (funext fun a => Fin.ext (by match a with | ⟨0, _⟩ => rfl | ⟨1, _⟩ => show 0 + 1 * i.val = i.val; omega | ⟨2, _⟩ => show 0 + 1 * j.val = j.val; omega))
theorem ld_slab2 (x : Vec Ideal S3x256x1280 .bf16) (i : Fin 256) (j : Fin 1280) : View.ld x r0_3 (ix3 0 i j) = x (ix3 2 i j) :=
  congrArg x (funext fun a => Fin.ext (by match a with | ⟨0, _⟩ => rfl | ⟨1, _⟩ => show 0 + 1 * i.val = i.val; omega | ⟨2, _⟩ => show 0 + 1 * j.val = j.val; omega))

section Block
variable (x0 : Vec Ideal S1x256x1280 .bf16) (x1 : Vec Ideal S3x256x1280 .bf16) (x2 x3 x4 : Vec Ideal S256x1280 .f32)
variable (p : Vec Ideal S4x1024x1280 .bf16) (q : Vec Ideal S3x1024x1280 .bf16) (w a b : Vec Ideal S1024x1280 .f32)
variable (i : Fin 256) (r : Fin 1024) (j : Fin 1280)
variable (h0 : x0 (ix3 0 i j) = p (ix3 0 r j)) (h1 : ∀ k : Fin 3, x1 (ix3 k i j) = q (ix3 k r j))
variable (h2 : x2 (ix2 i j) = w (ix2 r j)) (h3 : x3 (ix2 i j) = a (ix2 r j)) (h4 : x4 (ix2 i j) = b (ix2 r j))

/-- The gradient: the sum of the pair sums. -/
theorem pay2_at : k0_pay2 (View.ld x0 r0_0) (View.ld x1 r0_1) (View.ld x1 r0_2) (View.ld x1 r0_3) (ix2 i j)
    = x0 (ix3 0 i j) + x1 (ix3 0 i j) + x1 (ix3 1 i j) + x1 (ix3 2 i j) := by
  rw [View.ld_unit_zero hz3, ← ld_slab0 x1 i j, ← ld_slab1 x1 i j, ← ld_slab2 x1 i j]
  unfold_payloads
  pointwise

theorem g_at : val_main_v5 (F := Ideal) p q (ix2 r j) = p (ix3 0 r j) + q (ix3 0 r j) + q (ix3 1 r j) + q (ix3 2 r j) := by
  pointwise [val_main_v0, val_main_v1, val_main_v2, val_main_v3, val_main_cst, val_main_v4, val_main_v5]
  rw [Fin.sum_univ_three]
  simp only [← add_assoc]

include h0 h1 in
theorem g_eq : k0_pay2 (View.ld x0 r0_0) (View.ld x1 r0_1) (View.ld x1 r0_2) (View.ld x1 r0_3) (ix2 i j) = val_main_v5 (F := Ideal) p q (ix2 r j) := by
  rw [pay2_at, g_at, h0, h1, h1, h1]

include h0 h1 in
theorem out5_eq : out0_5 x0 x1 x2 x3 x4 (ix2 i j) = val_main_v5 (F := Ideal) p q (ix2 r j) := by
  unfold out0_5
  rw [View.canon_unit_zero hz, g_eq x0 x1 p q i r j h0 h1]

include h0 h1 h3 in
theorem m_eq : k0_pay3 (View.ld x0 r0_0) (View.ld x1 r0_1) (View.ld x1 r0_2) (View.ld x1 r0_3) (View.ld x3 r0_4) (ix2 i j)
    = val_main_v10 (F := Ideal) p q a (ix2 r j) := by
  unfold k0_pay3
  rw [View.ld_unit_zero hz]
  pointwise [val_main_cst_0, val_main_v6, val_main_v7, val_main_cst_1, val_main_v8, val_main_v9, val_main_v10]
  rw [g_eq x0 x1 p q i r j h0 h1, h3]

include h0 h1 h3 in
theorem out7_eq : out0_7 x0 x1 x2 x3 x4 (ix2 i j) = val_main_v10 (F := Ideal) p q a (ix2 r j) := by
  unfold out0_7
  rw [View.canon_unit_zero hz, m_eq x0 x1 x3 p q a i r j h0 h1 h3]

include h0 h1 h4 in
theorem v_eq : k0_pay6 x0 x1 x2 x3 x4 (ix2 i j) = val_main_v16 (F := Ideal) p q b (ix2 r j) := by
  unfold k0_pay6 k0_pay4
  rw [View.ld_unit_zero hz]
  pointwise [val_main_cst_2, val_main_v11, val_main_v12, val_main_v13, val_main_cst_3, val_main_v14, val_main_v15, val_main_v16]
  rw [g_eq x0 x1 p q i r j h0 h1, h4]

include h0 h1 h4 in
theorem out8_eq : out0_8 x0 x1 x2 x3 x4 (ix2 i j) = val_main_v16 (F := Ideal) p q b (ix2 r j) := by
  unfold out0_8
  rw [View.canon_unit_zero hz, v_eq x0 x1 x2 x3 x4 p q b i r j h0 h1 h4]

include h0 h1 h2 h3 h4 in
theorem out6_eq : out0_6 x0 x1 x2 x3 x4 (ix2 i j) = val_main_v29 (F := Ideal) p q w a b (ix2 r j) := by
  unfold out0_6
  rw [View.canon_unit_zero hz, View.ld_unit_zero hz]
  unfold k0_pay1 k0_pay5
  pointwise [val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  rw [m_eq x0 x1 x3 p q a i r j h0 h1 h3, v_eq x0 x1 x2 x3 x4 p q b i r j h0 h1 h4, h2]
end Block

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

theorem t_lt (t : Fin cfg0.N) : t.val < 4 := t.2

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- Point `t`'s block of input window 0, at an index. -/
theorem iblk0_at (t : Fin cfg0.N) (j : Fin 256) (k : Fin 1280) :
    iblk m c 0 t (ix3 0 j k) = (X0 m c) (ix3 0 ⟨(t.val) * 256 + j.val, by have := t_lt t; omega⟩ k) := by
  obtain ⟨h0, h1, h2⟩ := idx0 t
  refine congrArg ((X0 m c)) (funext fun q => Fin.ext ?_)
  match q with
  | ⟨0, _⟩ => show win0_0.index t (0 : Fin 3) * 1 + 1 * 0 = 0; omega
  | ⟨1, _⟩ => show win0_0.index t (1 : Fin 3) * 256 + 1 * j.val = (t.val) * 256 + j.val; omega
  | ⟨2, _⟩ => show win0_0.index t (2 : Fin 3) * 1280 + 1 * k.val = k.val; omega

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Point `t`'s block of input window 1, at an index. -/
theorem iblk1_at (t : Fin cfg0.N) (i : Fin 3) (j : Fin 256) (k : Fin 1280) :
    iblk m c 1 t (ix3 i j k) = (X1 m c) (ix3 i ⟨(t.val) * 256 + j.val, by have := t_lt t; omega⟩ k) := by
  obtain ⟨h0, h1, h2⟩ := idx1 t
  refine congrArg ((X1 m c)) (funext fun q => Fin.ext ?_)
  match q with
  | ⟨0, _⟩ => show win0_1.index t (0 : Fin 3) * 3 + 1 * i.val = i.val; omega
  | ⟨1, _⟩ => show win0_1.index t (1 : Fin 3) * 256 + 1 * j.val = (t.val) * 256 + j.val; omega
  | ⟨2, _⟩ => show win0_1.index t (2 : Fin 3) * 1280 + 1 * k.val = k.val; omega

theorem idx5 : ∀ t : Fin cfg0.N, win0_5.index t (0 : Fin 2) = t.val ∧ win0_5.index t (1 : Fin 2) = 0 :=
  (by decide +kernel : ∀ t : Fin grid0.N, _)

/-- Where an index of point `t`'s block of result window 5 lies in the array. -/
theorem emb5 (t : Fin cfg0.N) (i : Fin 256) (j : Fin 1280) :
    ((cfg0.win 5).blk t).view.emb (ix2 i j) = ix2 ⟨(t.val) * 256 + i.val, by have := t_lt t; omega⟩ j := by
  obtain ⟨h0, h1⟩ := idx5 t
  funext q; apply Fin.ext
  match q with
  | ⟨0, _⟩ => show win0_5.index t (0 : Fin 2) * 256 + 1 * i.val = (t.val) * 256 + i.val; omega
  | ⟨1, _⟩ => show win0_5.index t (1 : Fin 2) * 1280 + 1 * j.val = j.val; omega

/-- Point `t`'s block of input window 2, at an index. -/
theorem iblk2_at (t : Fin cfg0.N) (i : Fin 256) (j : Fin 1280) :
    iblk m c 2 t (ix2 i j) = X2 m c (ix2 ⟨(t.val) * 256 + i.val, by have := t_lt t; omega⟩ j) :=
  congrArg (X2 m c) (emb5 t i j)

/-- Point `t`'s block of input window 3, at an index. -/
theorem iblk3_at (t : Fin cfg0.N) (i : Fin 256) (j : Fin 1280) :
    iblk m c 3 t (ix2 i j) = X3 m c (ix2 ⟨(t.val) * 256 + i.val, by have := t_lt t; omega⟩ j) :=
  congrArg (X3 m c) (emb5 t i j)

/-- Point `t`'s block of input window 4, at an index. -/
theorem iblk4_at (t : Fin cfg0.N) (i : Fin 256) (j : Fin 1280) :
    iblk m c 4 t (ix2 i j) = X4 m c (ix2 ⟨(t.val) * 256 + i.val, by have := t_lt t; omega⟩ j) :=
  congrArg (X4 m c) (emb5 t i j)

/-- Every index of the array of window 5 lies in some point's block. -/
theorem covered5 (y : S1024x1280.Idx) : ∃ t : Fin cfg0.N, (cfg0.win 5).flush t = true ∧ y ∈ ((cfg0.win 5).blk t).view.set := by
  obtain ⟨i, j, rfl⟩ : ∃ (i : Fin 1024) (j : Fin 1280), y = ix2 i j := ⟨y 0, y 1, eq_ix2 y⟩
  have hi := i.2
  have hj := j.2
  let t : Fin cfg0.N := ⟨i.val / 256, by show i.val / 256 < 4; omega⟩
  have ht : t.val = i.val / 256 := rfl
  refine ⟨t, flush0_5 t, ?_⟩
  have h := ((cfg0.win 5).blk t).view.emb_mem_set (ix2 ⟨i.val % 256, by omega⟩ j)
  rw [emb5] at h
  refine (congrArg (· ∈ ((cfg0.win 5).blk t).view.set) ?_).mp h
  funext q; apply Fin.ext
  match q with
  | ⟨0, _⟩ => show (t.val) * 256 + i.val % 256 = i.val; omega
  | ⟨1, _⟩ => rfl

/-- Where an index of point `t`'s block of result window 6 lies in the array. -/
theorem emb6 (t : Fin cfg0.N) (i : Fin 256) (j : Fin 1280) :
    ((cfg0.win 6).blk t).view.emb (ix2 i j) = ix2 ⟨(t.val) * 256 + i.val, by have := t_lt t; omega⟩ j :=
  emb5 t i j

/-- Every index of the array of window 6 lies in some point's block. -/
theorem covered6 (y : S1024x1280.Idx) : ∃ t : Fin cfg0.N, (cfg0.win 6).flush t = true ∧ y ∈ ((cfg0.win 6).blk t).view.set :=
  let ⟨t, _, h⟩ := covered5 y
  ⟨t, flush0_6 t, h⟩

/-- Where an index of point `t`'s block of result window 7 lies in the array. -/
theorem emb7 (t : Fin cfg0.N) (i : Fin 256) (j : Fin 1280) :
    ((cfg0.win 7).blk t).view.emb (ix2 i j) = ix2 ⟨(t.val) * 256 + i.val, by have := t_lt t; omega⟩ j :=
  emb5 t i j

/-- Every index of the array of window 7 lies in some point's block. -/
theorem covered7 (y : S1024x1280.Idx) : ∃ t : Fin cfg0.N, (cfg0.win 7).flush t = true ∧ y ∈ ((cfg0.win 7).blk t).view.set :=
  let ⟨t, _, h⟩ := covered5 y
  ⟨t, flush0_7 t, h⟩

/-- Where an index of point `t`'s block of result window 8 lies in the array. -/
theorem emb8 (t : Fin cfg0.N) (i : Fin 256) (j : Fin 1280) :
    ((cfg0.win 8).blk t).view.emb (ix2 i j) = ix2 ⟨(t.val) * 256 + i.val, by have := t_lt t; omega⟩ j :=
  emb5 t i j

/-- Every index of the array of window 8 lies in some point's block. -/
theorem covered8 (y : S1024x1280.Idx) : ∃ t : Fin cfg0.N, (cfg0.win 8).flush t = true ∧ y ∈ ((cfg0.win 8).blk t).view.set :=
  let ⟨t, _, h⟩ := covered5 y
  ⟨t, flush0_8 t, h⟩

/-- What point `t` writes back to window 5 is its block of the reference's result. -/
theorem flushed5_eq (t : Fin cfg0.N) : (dats m 0 c).flushed 5 t
    = ((cfg0.win 5).blk t).view.read (Elt Ideal) (val_main_v5 (F := Ideal) (X0 m c) (X1 m c)) := by
  rw [flushed5]
  funext y
  obtain ⟨i, j, rfl⟩ : ∃ (i : Fin 256) (j : Fin 1280), y = ix2 i j := ⟨y 0, y 1, eq_ix2 y⟩
  show out0_5 (iblk m c 0 t) (iblk m c 1 t) (iblk m c 2 t) (iblk m c 3 t) (iblk m c 4 t) (ix2 i j) = val_main_v5 (F := Ideal) (X0 m c) (X1 m c) (((cfg0.win 5).blk t).view.emb (ix2 i j))
  rw [emb5]
  exact out5_eq (iblk m c 0 t) (iblk m c 1 t) (iblk m c 2 t) (iblk m c 3 t) (iblk m c 4 t) _ _ i _ j (iblk0_at m c t i j) (fun k => iblk1_at m c t k i j)

theorem final5 : (dats m 0 c).arrAt 5 cfg0.N = val_main_v5 (F := Ideal) (X0 m c) (X1 m c) :=
  (dats m 0 c).arrAt_eq_of_cover 5 _ (fun t _ => flushed5_eq m c t) covered5

/-- What point `t` writes back to window 6 is its block of the reference's result. -/
theorem flushed6_eq (t : Fin cfg0.N) : (dats m 0 c).flushed 6 t
    = ((cfg0.win 6).blk t).view.read (Elt Ideal) (val_main_v29 (F := Ideal) (X0 m c) (X1 m c) (X2 m c) (X3 m c) (X4 m c)) := by
  rw [flushed6]
  funext y
  obtain ⟨i, j, rfl⟩ : ∃ (i : Fin 256) (j : Fin 1280), y = ix2 i j := ⟨y 0, y 1, eq_ix2 y⟩
  show out0_6 (iblk m c 0 t) (iblk m c 1 t) (iblk m c 2 t) (iblk m c 3 t) (iblk m c 4 t) (ix2 i j) = val_main_v29 (F := Ideal) (X0 m c) (X1 m c) (X2 m c) (X3 m c) (X4 m c) (((cfg0.win 6).blk t).view.emb (ix2 i j))
  rw [emb6]
  exact out6_eq (iblk m c 0 t) (iblk m c 1 t) (iblk m c 2 t) (iblk m c 3 t) (iblk m c 4 t) _ _ _ _ _ i _ j (iblk0_at m c t i j) (fun k => iblk1_at m c t k i j) (iblk2_at m c t i j) (iblk3_at m c t i j) (iblk4_at m c t i j)

theorem final6 : (dats m 0 c).arrAt 6 cfg0.N = val_main_v29 (F := Ideal) (X0 m c) (X1 m c) (X2 m c) (X3 m c) (X4 m c) :=
  (dats m 0 c).arrAt_eq_of_cover 6 _ (fun t _ => flushed6_eq m c t) covered6

/-- What point `t` writes back to window 7 is its block of the reference's result. -/
theorem flushed7_eq (t : Fin cfg0.N) : (dats m 0 c).flushed 7 t
    = ((cfg0.win 7).blk t).view.read (Elt Ideal) (val_main_v10 (F := Ideal) (X0 m c) (X1 m c) (X3 m c)) := by
  rw [flushed7]
  funext y
  obtain ⟨i, j, rfl⟩ : ∃ (i : Fin 256) (j : Fin 1280), y = ix2 i j := ⟨y 0, y 1, eq_ix2 y⟩
  show out0_7 (iblk m c 0 t) (iblk m c 1 t) (iblk m c 2 t) (iblk m c 3 t) (iblk m c 4 t) (ix2 i j) = val_main_v10 (F := Ideal) (X0 m c) (X1 m c) (X3 m c) (((cfg0.win 7).blk t).view.emb (ix2 i j))
  rw [emb7]
  exact out7_eq (iblk m c 0 t) (iblk m c 1 t) (iblk m c 2 t) (iblk m c 3 t) (iblk m c 4 t) _ _ _ i _ j (iblk0_at m c t i j) (fun k => iblk1_at m c t k i j) (iblk3_at m c t i j)

theorem final7 : (dats m 0 c).arrAt 7 cfg0.N = val_main_v10 (F := Ideal) (X0 m c) (X1 m c) (X3 m c) :=
  (dats m 0 c).arrAt_eq_of_cover 7 _ (fun t _ => flushed7_eq m c t) covered7

/-- What point `t` writes back to window 8 is its block of the reference's result. -/
theorem flushed8_eq (t : Fin cfg0.N) : (dats m 0 c).flushed 8 t
    = ((cfg0.win 8).blk t).view.read (Elt Ideal) (val_main_v16 (F := Ideal) (X0 m c) (X1 m c) (X4 m c)) := by
  rw [flushed8]
  funext y
  obtain ⟨i, j, rfl⟩ : ∃ (i : Fin 256) (j : Fin 1280), y = ix2 i j := ⟨y 0, y 1, eq_ix2 y⟩
  show out0_8 (iblk m c 0 t) (iblk m c 1 t) (iblk m c 2 t) (iblk m c 3 t) (iblk m c 4 t) (ix2 i j) = val_main_v16 (F := Ideal) (X0 m c) (X1 m c) (X4 m c) (((cfg0.win 8).blk t).view.emb (ix2 i j))
  rw [emb8]
  exact out8_eq (iblk m c 0 t) (iblk m c 1 t) (iblk m c 2 t) (iblk m c 3 t) (iblk m c 4 t) _ _ _ i _ j (iblk0_at m c t i j) (fun k => iblk1_at m c t k i j) (iblk4_at m c t i j)

theorem final8 : (dats m 0 c).arrAt 8 cfg0.N = val_main_v16 (F := Ideal) (X0 m c) (X1 m c) (X4 m c) :=
  (dats m 0 c).arrAt_eq_of_cover 8 _ (fun t _ => flushed8_eq m c t) covered8

/-- The kernel and the reference end with equal results. -/
theorem algebraic : Cert.algebraic_Kernel19Ideal_Reference19Ideal
    (hKernel19Ideal := Cert.Kernel19Ideal.Gen.facts) (hReference19Ideal := Cert.Reference19Ideal.Gen.facts) := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run _ _ _).mono (fun r h c => ?_) (Cert.Reference19Ideal.Value.run m' g')
  obtain ⟨h0, h1, h2, h3, k0, k1, k2, k3, k4⟩ := h c
  obtain ⟨a0, a1, a2, a3, a4⟩ := hagree c
  refine ⟨?_, ?_, ?_, ?_, k0, k1, k2, k3, k4⟩
  · exact (h0.trans (val_main_v5_eq _ _)).trans (by rw [a0, a1]; exact (final5 m c).symm)
  · exact (h1.trans (val_main_v29_eq _ _ _ _ _)).trans (by rw [a0, a1, a2, a3, a4]; exact (final6 m c).symm)
  · exact (h2.trans (val_main_v10_eq _ _ _)).trans (by rw [a0, a1, a3]; exact (final7 m c).symm)
  · exact (h3.trans (val_main_v16_eq _ _ _)).trans (by rw [a0, a1, a4]; exact (final8 m c).symm)

end Cert.Proof.AdamwIn
-- ==== Proof.AdamwOut.lean ====
/- Hand-written, untrusted: the optimiser's step on one device's shard of an output projection at the reals. The gradient is the
   sum of the four pair sums; the four results are the reference's arithmetic, index by index. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise

@[expose] public section

noncomputable section

namespace Cert.Proof.AdamwOut

open Cert.Kernel20Ideal Cert.Kernel20Ideal.Gen Cert.Kernel20Ideal.Value Idealize.ShloMosaic Idealize.ShloMosaic.TcCoe Idealize.SL.Sem
open Reference20Ideal.Read

theorem hz : (![0, 0] : Fin 2 → Nat) = fun _ => 0 := funext fun a => by fin_cases a <;> rfl
theorem hz3 : (![0, 0, 0] : Fin 3 → Nat) = fun _ => 0 := funext fun a => by fin_cases a <;> rfl

/-- One chip's slab of the received pair sums. -/
theorem ld_slab0 (x : Vec Ideal S3x128x1024 .bf16) (i : Fin 128) (j : Fin 1024) : View.ld x r0_1 (ix3 0 i j) = x (ix3 0 i j) :=
  congrArg x (funext fun a => Fin.ext (by match a with | ⟨0, _⟩ => rfl | ⟨1, _⟩ => show 0 + 1 * i.val = i.val; omega | ⟨2, _⟩ => show 0 + 1 * j.val = j.val; omega))
theorem ld_slab1 (x : Vec Ideal S3x128x1024 .bf16) (i : Fin 128) (j : Fin 1024) : View.ld x r0_2 (ix3 0 i j) = x (ix3 1 i j) :=
  congrArg x (funext fun a => Fin.ext (by match a with | ⟨0, _⟩ => rfl | ⟨1, _⟩ => show 0 + 1 * i.val = i.val; omega | ⟨2, _⟩ => show 0 + 1 * j.val = j.val; omega))
theorem ld_slab2 (x : Vec Ideal S3x128x1024 .bf16) (i : Fin 128) (j : Fin 1024) : View.ld x r0_3 (ix3 0 i j) = x (ix3 2 i j) :=
  congrArg x (funext fun a => Fin.ext (by match a with | ⟨0, _⟩ => rfl | ⟨1, _⟩ => show 0 + 1 * i.val = i.val; omega | ⟨2, _⟩ => show 0 + 1 * j.val = j.val; omega))

section Block
variable (x0 : Vec Ideal S1x128x1024 .bf16) (x1 : Vec Ideal S3x128x1024 .bf16) (x2 x3 x4 : Vec Ideal S128x1024 .f32)
variable (p : Vec Ideal S4x128x1024 .bf16) (q : Vec Ideal S3x128x1024 .bf16) (w a b : Vec Ideal S128x1024 .f32)
variable (i : Fin 128) (r : Fin 128) (j : Fin 1024)
variable (h0 : x0 (ix3 0 i j) = p (ix3 0 r j)) (h1 : ∀ k : Fin 3, x1 (ix3 k i j) = q (ix3 k r j))
variable (h2 : x2 (ix2 i j) = w (ix2 r j)) (h3 : x3 (ix2 i j) = a (ix2 r j)) (h4 : x4 (ix2 i j) = b (ix2 r j))

/-- The gradient: the sum of the pair sums. -/
theorem pay2_at : k0_pay2 (View.ld x0 r0_0) (View.ld x1 r0_1) (View.ld x1 r0_2) (View.ld x1 r0_3) (ix2 i j)
    = x0 (ix3 0 i j) + x1 (ix3 0 i j) + x1 (ix3 1 i j) + x1 (ix3 2 i j) := by
  rw [View.ld_unit_zero hz3, ← ld_slab0 x1 i j, ← ld_slab1 x1 i j, ← ld_slab2 x1 i j]
  unfold_payloads
  pointwise

theorem g_at : val_main_v5 (F := Ideal) p q (ix2 r j) = p (ix3 0 r j) + q (ix3 0 r j) + q (ix3 1 r j) + q (ix3 2 r j) := by
  pointwise [val_main_v0, val_main_v1, val_main_v2, val_main_v3, val_main_cst, val_main_v4, val_main_v5]
  rw [Fin.sum_univ_three]
  simp only [← add_assoc]

include h0 h1 in
theorem g_eq : k0_pay2 (View.ld x0 r0_0) (View.ld x1 r0_1) (View.ld x1 r0_2) (View.ld x1 r0_3) (ix2 i j) = val_main_v5 (F := Ideal) p q (ix2 r j) := by
  rw [pay2_at, g_at, h0, h1, h1, h1]

include h0 h1 in
theorem out5_eq : out0_5 x0 x1 x2 x3 x4 (ix2 i j) = val_main_v5 (F := Ideal) p q (ix2 r j) := by
  unfold out0_5
  rw [View.canon_unit_zero hz, g_eq x0 x1 p q i r j h0 h1]

include h0 h1 h3 in
theorem m_eq : k0_pay3 (View.ld x0 r0_0) (View.ld x1 r0_1) (View.ld x1 r0_2) (View.ld x1 r0_3) (View.ld x3 r0_4) (ix2 i j)
    = val_main_v10 (F := Ideal) p q a (ix2 r j) := by
  unfold k0_pay3
  rw [View.ld_unit_zero hz]
  pointwise [val_main_cst_0, val_main_v6, val_main_v7, val_main_cst_1, val_main_v8, val_main_v9, val_main_v10]
  rw [g_eq x0 x1 p q i r j h0 h1, h3]

include h0 h1 h3 in
theorem out7_eq : out0_7 x0 x1 x2 x3 x4 (ix2 i j) = val_main_v10 (F := Ideal) p q a (ix2 r j) := by
  unfold out0_7
  rw [View.canon_unit_zero hz, m_eq x0 x1 x3 p q a i r j h0 h1 h3]

include h0 h1 h4 in
theorem v_eq : k0_pay6 x0 x1 x2 x3 x4 (ix2 i j) = val_main_v16 (F := Ideal) p q b (ix2 r j) := by
  unfold k0_pay6 k0_pay4
  rw [View.ld_unit_zero hz]
  pointwise [val_main_cst_2, val_main_v11, val_main_v12, val_main_v13, val_main_cst_3, val_main_v14, val_main_v15, val_main_v16]
  rw [g_eq x0 x1 p q i r j h0 h1, h4]

include h0 h1 h4 in
theorem out8_eq : out0_8 x0 x1 x2 x3 x4 (ix2 i j) = val_main_v16 (F := Ideal) p q b (ix2 r j) := by
  unfold out0_8
  rw [View.canon_unit_zero hz, v_eq x0 x1 x2 x3 x4 p q b i r j h0 h1 h4]

include h0 h1 h2 h3 h4 in
theorem out6_eq : out0_6 x0 x1 x2 x3 x4 (ix2 i j) = val_main_v29 (F := Ideal) p q w a b (ix2 r j) := by
  unfold out0_6
  rw [View.canon_unit_zero hz, View.ld_unit_zero hz]
  unfold k0_pay1 k0_pay5
  pointwise [val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  rw [m_eq x0 x1 x3 p q a i r j h0 h1 h3, v_eq x0 x1 x2 x3 x4 p q b i r j h0 h1 h4, h2]
end Block

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

theorem t_lt (t : Fin cfg0.N) : t.val < 1 := t.2

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- Point `t`'s block of input window 0, at an index. -/
theorem iblk0_at (t : Fin cfg0.N) (j : Fin 128) (k : Fin 1024) :
    iblk m c 0 t (ix3 0 j k) = (X0 m c) (ix3 0 ⟨(t.val) * 128 + j.val, by have := t_lt t; omega⟩ k) := by
  obtain ⟨h0, h1, h2⟩ := idx0 t
  refine congrArg ((X0 m c)) (funext fun q => Fin.ext ?_)
  match q with
  | ⟨0, _⟩ => show win0_0.index t (0 : Fin 3) * 1 + 1 * 0 = 0; omega
  | ⟨1, _⟩ => show win0_0.index t (1 : Fin 3) * 128 + 1 * j.val = (t.val) * 128 + j.val; omega
  | ⟨2, _⟩ => show win0_0.index t (2 : Fin 3) * 1024 + 1 * k.val = k.val; omega

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Point `t`'s block of input window 1, at an index. -/
theorem iblk1_at (t : Fin cfg0.N) (i : Fin 3) (j : Fin 128) (k : Fin 1024) :
    iblk m c 1 t (ix3 i j k) = (X1 m c) (ix3 i ⟨(t.val) * 128 + j.val, by have := t_lt t; omega⟩ k) := by
  obtain ⟨h0, h1, h2⟩ := idx1 t
  refine congrArg ((X1 m c)) (funext fun q => Fin.ext ?_)
  match q with
  | ⟨0, _⟩ => show win0_1.index t (0 : Fin 3) * 3 + 1 * i.val = i.val; omega
  | ⟨1, _⟩ => show win0_1.index t (1 : Fin 3) * 128 + 1 * j.val = (t.val) * 128 + j.val; omega
  | ⟨2, _⟩ => show win0_1.index t (2 : Fin 3) * 1024 + 1 * k.val = k.val; omega

theorem idx5 : ∀ t : Fin cfg0.N, win0_5.index t (0 : Fin 2) = t.val ∧ win0_5.index t (1 : Fin 2) = 0 :=
  (by decide +kernel : ∀ t : Fin grid0.N, _)

/-- Where an index of point `t`'s block of result window 5 lies in the array. -/
theorem emb5 (t : Fin cfg0.N) (i : Fin 128) (j : Fin 1024) :
    ((cfg0.win 5).blk t).view.emb (ix2 i j) = ix2 ⟨(t.val) * 128 + i.val, by have := t_lt t; omega⟩ j := by
  obtain ⟨h0, h1⟩ := idx5 t
  funext q; apply Fin.ext
  match q with
  | ⟨0, _⟩ => show win0_5.index t (0 : Fin 2) * 128 + 1 * i.val = (t.val) * 128 + i.val; omega
  | ⟨1, _⟩ => show win0_5.index t (1 : Fin 2) * 1024 + 1 * j.val = j.val; omega

/-- Point `t`'s block of input window 2, at an index. -/
theorem iblk2_at (t : Fin cfg0.N) (i : Fin 128) (j : Fin 1024) :
    iblk m c 2 t (ix2 i j) = X2 m c (ix2 ⟨(t.val) * 128 + i.val, by have := t_lt t; omega⟩ j) :=
  congrArg (X2 m c) (emb5 t i j)

/-- Point `t`'s block of input window 3, at an index. -/
theorem iblk3_at (t : Fin cfg0.N) (i : Fin 128) (j : Fin 1024) :
    iblk m c 3 t (ix2 i j) = X3 m c (ix2 ⟨(t.val) * 128 + i.val, by have := t_lt t; omega⟩ j) :=
  congrArg (X3 m c) (emb5 t i j)

/-- Point `t`'s block of input window 4, at an index. -/
theorem iblk4_at (t : Fin cfg0.N) (i : Fin 128) (j : Fin 1024) :
    iblk m c 4 t (ix2 i j) = X4 m c (ix2 ⟨(t.val) * 128 + i.val, by have := t_lt t; omega⟩ j) :=
  congrArg (X4 m c) (emb5 t i j)

/-- Every index of the array of window 5 lies in some point's block. -/
theorem covered5 (y : S128x1024.Idx) : ∃ t : Fin cfg0.N, (cfg0.win 5).flush t = true ∧ y ∈ ((cfg0.win 5).blk t).view.set := by
  obtain ⟨i, j, rfl⟩ : ∃ (i : Fin 128) (j : Fin 1024), y = ix2 i j := ⟨y 0, y 1, eq_ix2 y⟩
  have hi := i.2
  have hj := j.2
  let t : Fin cfg0.N := ⟨i.val / 128, by show i.val / 128 < 1; omega⟩
  have ht : t.val = i.val / 128 := rfl
  refine ⟨t, flush0_5 t, ?_⟩
  have h := ((cfg0.win 5).blk t).view.emb_mem_set (ix2 ⟨i.val % 128, by omega⟩ j)
  rw [emb5] at h
  refine (congrArg (· ∈ ((cfg0.win 5).blk t).view.set) ?_).mp h
  funext q; apply Fin.ext
  match q with
  | ⟨0, _⟩ => show (t.val) * 128 + i.val % 128 = i.val; omega
  | ⟨1, _⟩ => rfl

/-- Where an index of point `t`'s block of result window 6 lies in the array. -/
theorem emb6 (t : Fin cfg0.N) (i : Fin 128) (j : Fin 1024) :
    ((cfg0.win 6).blk t).view.emb (ix2 i j) = ix2 ⟨(t.val) * 128 + i.val, by have := t_lt t; omega⟩ j :=
  emb5 t i j

/-- Every index of the array of window 6 lies in some point's block. -/
theorem covered6 (y : S128x1024.Idx) : ∃ t : Fin cfg0.N, (cfg0.win 6).flush t = true ∧ y ∈ ((cfg0.win 6).blk t).view.set :=
  let ⟨t, _, h⟩ := covered5 y
  ⟨t, flush0_6 t, h⟩

/-- Where an index of point `t`'s block of result window 7 lies in the array. -/
theorem emb7 (t : Fin cfg0.N) (i : Fin 128) (j : Fin 1024) :
    ((cfg0.win 7).blk t).view.emb (ix2 i j) = ix2 ⟨(t.val) * 128 + i.val, by have := t_lt t; omega⟩ j :=
  emb5 t i j

/-- Every index of the array of window 7 lies in some point's block. -/
theorem covered7 (y : S128x1024.Idx) : ∃ t : Fin cfg0.N, (cfg0.win 7).flush t = true ∧ y ∈ ((cfg0.win 7).blk t).view.set :=
  let ⟨t, _, h⟩ := covered5 y
  ⟨t, flush0_7 t, h⟩

/-- Where an index of point `t`'s block of result window 8 lies in the array. -/
theorem emb8 (t : Fin cfg0.N) (i : Fin 128) (j : Fin 1024) :
    ((cfg0.win 8).blk t).view.emb (ix2 i j) = ix2 ⟨(t.val) * 128 + i.val, by have := t_lt t; omega⟩ j :=
  emb5 t i j

/-- Every index of the array of window 8 lies in some point's block. -/
theorem covered8 (y : S128x1024.Idx) : ∃ t : Fin cfg0.N, (cfg0.win 8).flush t = true ∧ y ∈ ((cfg0.win 8).blk t).view.set :=
  let ⟨t, _, h⟩ := covered5 y
  ⟨t, flush0_8 t, h⟩

/-- What point `t` writes back to window 5 is its block of the reference's result. -/
theorem flushed5_eq (t : Fin cfg0.N) : (dats m 0 c).flushed 5 t
    = ((cfg0.win 5).blk t).view.read (Elt Ideal) (val_main_v5 (F := Ideal) (X0 m c) (X1 m c)) := by
  rw [flushed5]
  funext y
  obtain ⟨i, j, rfl⟩ : ∃ (i : Fin 128) (j : Fin 1024), y = ix2 i j := ⟨y 0, y 1, eq_ix2 y⟩
  show out0_5 (iblk m c 0 t) (iblk m c 1 t) (iblk m c 2 t) (iblk m c 3 t) (iblk m c 4 t) (ix2 i j) = val_main_v5 (F := Ideal) (X0 m c) (X1 m c) (((cfg0.win 5).blk t).view.emb (ix2 i j))
  rw [emb5]
  exact out5_eq (iblk m c 0 t) (iblk m c 1 t) (iblk m c 2 t) (iblk m c 3 t) (iblk m c 4 t) _ _ i _ j (iblk0_at m c t i j) (fun k => iblk1_at m c t k i j)

theorem final5 : (dats m 0 c).arrAt 5 cfg0.N = val_main_v5 (F := Ideal) (X0 m c) (X1 m c) :=
  (dats m 0 c).arrAt_eq_of_cover 5 _ (fun t _ => flushed5_eq m c t) covered5

/-- What point `t` writes back to window 6 is its block of the reference's result. -/
theorem flushed6_eq (t : Fin cfg0.N) : (dats m 0 c).flushed 6 t
    = ((cfg0.win 6).blk t).view.read (Elt Ideal) (val_main_v29 (F := Ideal) (X0 m c) (X1 m c) (X2 m c) (X3 m c) (X4 m c)) := by
  rw [flushed6]
  funext y
  obtain ⟨i, j, rfl⟩ : ∃ (i : Fin 128) (j : Fin 1024), y = ix2 i j := ⟨y 0, y 1, eq_ix2 y⟩
  show out0_6 (iblk m c 0 t) (iblk m c 1 t) (iblk m c 2 t) (iblk m c 3 t) (iblk m c 4 t) (ix2 i j) = val_main_v29 (F := Ideal) (X0 m c) (X1 m c) (X2 m c) (X3 m c) (X4 m c) (((cfg0.win 6).blk t).view.emb (ix2 i j))
  rw [emb6]
  exact out6_eq (iblk m c 0 t) (iblk m c 1 t) (iblk m c 2 t) (iblk m c 3 t) (iblk m c 4 t) _ _ _ _ _ i _ j (iblk0_at m c t i j) (fun k => iblk1_at m c t k i j) (iblk2_at m c t i j) (iblk3_at m c t i j) (iblk4_at m c t i j)

theorem final6 : (dats m 0 c).arrAt 6 cfg0.N = val_main_v29 (F := Ideal) (X0 m c) (X1 m c) (X2 m c) (X3 m c) (X4 m c) :=
  (dats m 0 c).arrAt_eq_of_cover 6 _ (fun t _ => flushed6_eq m c t) covered6

/-- What point `t` writes back to window 7 is its block of the reference's result. -/
theorem flushed7_eq (t : Fin cfg0.N) : (dats m 0 c).flushed 7 t
    = ((cfg0.win 7).blk t).view.read (Elt Ideal) (val_main_v10 (F := Ideal) (X0 m c) (X1 m c) (X3 m c)) := by
  rw [flushed7]
  funext y
  obtain ⟨i, j, rfl⟩ : ∃ (i : Fin 128) (j : Fin 1024), y = ix2 i j := ⟨y 0, y 1, eq_ix2 y⟩
  show out0_7 (iblk m c 0 t) (iblk m c 1 t) (iblk m c 2 t) (iblk m c 3 t) (iblk m c 4 t) (ix2 i j) = val_main_v10 (F := Ideal) (X0 m c) (X1 m c) (X3 m c) (((cfg0.win 7).blk t).view.emb (ix2 i j))
  rw [emb7]
  exact out7_eq (iblk m c 0 t) (iblk m c 1 t) (iblk m c 2 t) (iblk m c 3 t) (iblk m c 4 t) _ _ _ i _ j (iblk0_at m c t i j) (fun k => iblk1_at m c t k i j) (iblk3_at m c t i j)

theorem final7 : (dats m 0 c).arrAt 7 cfg0.N = val_main_v10 (F := Ideal) (X0 m c) (X1 m c) (X3 m c) :=
  (dats m 0 c).arrAt_eq_of_cover 7 _ (fun t _ => flushed7_eq m c t) covered7

/-- What point `t` writes back to window 8 is its block of the reference's result. -/
theorem flushed8_eq (t : Fin cfg0.N) : (dats m 0 c).flushed 8 t
    = ((cfg0.win 8).blk t).view.read (Elt Ideal) (val_main_v16 (F := Ideal) (X0 m c) (X1 m c) (X4 m c)) := by
  rw [flushed8]
  funext y
  obtain ⟨i, j, rfl⟩ : ∃ (i : Fin 128) (j : Fin 1024), y = ix2 i j := ⟨y 0, y 1, eq_ix2 y⟩
  show out0_8 (iblk m c 0 t) (iblk m c 1 t) (iblk m c 2 t) (iblk m c 3 t) (iblk m c 4 t) (ix2 i j) = val_main_v16 (F := Ideal) (X0 m c) (X1 m c) (X4 m c) (((cfg0.win 8).blk t).view.emb (ix2 i j))
  rw [emb8]
  exact out8_eq (iblk m c 0 t) (iblk m c 1 t) (iblk m c 2 t) (iblk m c 3 t) (iblk m c 4 t) _ _ _ i _ j (iblk0_at m c t i j) (fun k => iblk1_at m c t k i j) (iblk4_at m c t i j)

theorem final8 : (dats m 0 c).arrAt 8 cfg0.N = val_main_v16 (F := Ideal) (X0 m c) (X1 m c) (X4 m c) :=
  (dats m 0 c).arrAt_eq_of_cover 8 _ (fun t _ => flushed8_eq m c t) covered8

/-- The kernel and the reference end with equal results. -/
theorem algebraic : Cert.algebraic_Kernel20Ideal_Reference20Ideal
    (hKernel20Ideal := Cert.Kernel20Ideal.Gen.facts) (hReference20Ideal := Cert.Reference20Ideal.Gen.facts) := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run _ _ _).mono (fun r h c => ?_) (Cert.Reference20Ideal.Value.run m' g')
  obtain ⟨h0, h1, h2, h3, k0, k1, k2, k3, k4⟩ := h c
  obtain ⟨a0, a1, a2, a3, a4⟩ := hagree c
  refine ⟨?_, ?_, ?_, ?_, k0, k1, k2, k3, k4⟩
  · exact (h0.trans (val_main_v5_eq _ _)).trans (by rw [a0, a1]; exact (final5 m c).symm)
  · exact (h1.trans (val_main_v29_eq _ _ _ _ _)).trans (by rw [a0, a1, a2, a3, a4]; exact (final6 m c).symm)
  · exact (h2.trans (val_main_v10_eq _ _ _)).trans (by rw [a0, a1, a3]; exact (final7 m c).symm)
  · exact (h3.trans (val_main_v16_eq _ _ _)).trans (by rw [a0, a1, a4]; exact (final8 m c).symm)

end Cert.Proof.AdamwOut
-- ==== Proof.AdamwMem.lean ====
/- Hand-written, untrusted: the optimiser's step on one device's shard of the memory's keys and values at the reals. The gradient is the
   sum of the four pair sums; the four results are the reference's arithmetic, index by index. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise

@[expose] public section

noncomputable section

namespace Cert.Proof.AdamwMem

open Cert.Kernel21Ideal Cert.Kernel21Ideal.Gen Cert.Kernel21Ideal.Value Idealize.ShloMosaic Idealize.ShloMosaic.TcCoe Idealize.SL.Sem
open Reference21Ideal.Read

theorem hz : (![0, 0] : Fin 2 → Nat) = fun _ => 0 := funext fun a => by fin_cases a <;> rfl
theorem hz3 : (![0, 0, 0] : Fin 3 → Nat) = fun _ => 0 := funext fun a => by fin_cases a <;> rfl

/-- One chip's slab of the received pair sums. -/
theorem ld_slab0 (x : Vec Ideal S3x256x256 .bf16) (i : Fin 256) (j : Fin 256) : View.ld x r0_1 (ix3 0 i j) = x (ix3 0 i j) :=
  congrArg x (funext fun a => Fin.ext (by match a with | ⟨0, _⟩ => rfl | ⟨1, _⟩ => show 0 + 1 * i.val = i.val; omega | ⟨2, _⟩ => show 0 + 1 * j.val = j.val; omega))
theorem ld_slab1 (x : Vec Ideal S3x256x256 .bf16) (i : Fin 256) (j : Fin 256) : View.ld x r0_2 (ix3 0 i j) = x (ix3 1 i j) :=
  congrArg x (funext fun a => Fin.ext (by match a with | ⟨0, _⟩ => rfl | ⟨1, _⟩ => show 0 + 1 * i.val = i.val; omega | ⟨2, _⟩ => show 0 + 1 * j.val = j.val; omega))
theorem ld_slab2 (x : Vec Ideal S3x256x256 .bf16) (i : Fin 256) (j : Fin 256) : View.ld x r0_3 (ix3 0 i j) = x (ix3 2 i j) :=
  congrArg x (funext fun a => Fin.ext (by match a with | ⟨0, _⟩ => rfl | ⟨1, _⟩ => show 0 + 1 * i.val = i.val; omega | ⟨2, _⟩ => show 0 + 1 * j.val = j.val; omega))

section Block
variable (x0 : Vec Ideal S1x256x256 .bf16) (x1 : Vec Ideal S3x256x256 .bf16) (x2 x3 x4 : Vec Ideal S256x256 .f32)
variable (p : Vec Ideal S4x1024x256 .bf16) (q : Vec Ideal S3x1024x256 .bf16) (w a b : Vec Ideal S1024x256 .f32)
variable (i : Fin 256) (r : Fin 1024) (j : Fin 256)
variable (h0 : x0 (ix3 0 i j) = p (ix3 0 r j)) (h1 : ∀ k : Fin 3, x1 (ix3 k i j) = q (ix3 k r j))
variable (h2 : x2 (ix2 i j) = w (ix2 r j)) (h3 : x3 (ix2 i j) = a (ix2 r j)) (h4 : x4 (ix2 i j) = b (ix2 r j))

/-- The gradient: the sum of the pair sums. -/
theorem pay2_at : k0_pay2 (View.ld x0 r0_0) (View.ld x1 r0_1) (View.ld x1 r0_2) (View.ld x1 r0_3) (ix2 i j)
    = x0 (ix3 0 i j) + x1 (ix3 0 i j) + x1 (ix3 1 i j) + x1 (ix3 2 i j) := by
  rw [View.ld_unit_zero hz3, ← ld_slab0 x1 i j, ← ld_slab1 x1 i j, ← ld_slab2 x1 i j]
  unfold_payloads
  pointwise

theorem g_at : val_main_v5 (F := Ideal) p q (ix2 r j) = p (ix3 0 r j) + q (ix3 0 r j) + q (ix3 1 r j) + q (ix3 2 r j) := by
  pointwise [val_main_v0, val_main_v1, val_main_v2, val_main_v3, val_main_cst, val_main_v4, val_main_v5]
  rw [Fin.sum_univ_three]
  simp only [← add_assoc]

include h0 h1 in
theorem g_eq : k0_pay2 (View.ld x0 r0_0) (View.ld x1 r0_1) (View.ld x1 r0_2) (View.ld x1 r0_3) (ix2 i j) = val_main_v5 (F := Ideal) p q (ix2 r j) := by
  rw [pay2_at, g_at, h0, h1, h1, h1]

include h0 h1 in
theorem out5_eq : out0_5 x0 x1 x2 x3 x4 (ix2 i j) = val_main_v5 (F := Ideal) p q (ix2 r j) := by
  unfold out0_5
  rw [View.canon_unit_zero hz, g_eq x0 x1 p q i r j h0 h1]

include h0 h1 h3 in
theorem m_eq : k0_pay3 (View.ld x0 r0_0) (View.ld x1 r0_1) (View.ld x1 r0_2) (View.ld x1 r0_3) (View.ld x3 r0_4) (ix2 i j)
    = val_main_v10 (F := Ideal) p q a (ix2 r j) := by
  unfold k0_pay3
  rw [View.ld_unit_zero hz]
  pointwise [val_main_cst_0, val_main_v6, val_main_v7, val_main_cst_1, val_main_v8, val_main_v9, val_main_v10]
  rw [g_eq x0 x1 p q i r j h0 h1, h3]

include h0 h1 h3 in
theorem out7_eq : out0_7 x0 x1 x2 x3 x4 (ix2 i j) = val_main_v10 (F := Ideal) p q a (ix2 r j) := by
  unfold out0_7
  rw [View.canon_unit_zero hz, m_eq x0 x1 x3 p q a i r j h0 h1 h3]

include h0 h1 h4 in
theorem v_eq : k0_pay6 x0 x1 x2 x3 x4 (ix2 i j) = val_main_v16 (F := Ideal) p q b (ix2 r j) := by
  unfold k0_pay6 k0_pay4
  rw [View.ld_unit_zero hz]
  pointwise [val_main_cst_2, val_main_v11, val_main_v12, val_main_v13, val_main_cst_3, val_main_v14, val_main_v15, val_main_v16]
  rw [g_eq x0 x1 p q i r j h0 h1, h4]

include h0 h1 h4 in
theorem out8_eq : out0_8 x0 x1 x2 x3 x4 (ix2 i j) = val_main_v16 (F := Ideal) p q b (ix2 r j) := by
  unfold out0_8
  rw [View.canon_unit_zero hz, v_eq x0 x1 x2 x3 x4 p q b i r j h0 h1 h4]

include h0 h1 h2 h3 h4 in
theorem out6_eq : out0_6 x0 x1 x2 x3 x4 (ix2 i j) = val_main_v29 (F := Ideal) p q w a b (ix2 r j) := by
  unfold out0_6
  rw [View.canon_unit_zero hz, View.ld_unit_zero hz]
  unfold k0_pay1 k0_pay5
  pointwise [val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  rw [m_eq x0 x1 x3 p q a i r j h0 h1 h3, v_eq x0 x1 x2 x3 x4 p q b i r j h0 h1 h4, h2]
end Block

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

theorem t_lt (t : Fin cfg0.N) : t.val < 4 := t.2

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- Point `t`'s block of input window 0, at an index. -/
theorem iblk0_at (t : Fin cfg0.N) (j : Fin 256) (k : Fin 256) :
    iblk m c 0 t (ix3 0 j k) = (X0 m c) (ix3 0 ⟨(t.val) * 256 + j.val, by have := t_lt t; omega⟩ k) := by
  obtain ⟨h0, h1, h2⟩ := idx0 t
  refine congrArg ((X0 m c)) (funext fun q => Fin.ext ?_)
  match q with
  | ⟨0, _⟩ => show win0_0.index t (0 : Fin 3) * 1 + 1 * 0 = 0; omega
  | ⟨1, _⟩ => show win0_0.index t (1 : Fin 3) * 256 + 1 * j.val = (t.val) * 256 + j.val; omega
  | ⟨2, _⟩ => show win0_0.index t (2 : Fin 3) * 256 + 1 * k.val = k.val; omega

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Point `t`'s block of input window 1, at an index. -/
theorem iblk1_at (t : Fin cfg0.N) (i : Fin 3) (j : Fin 256) (k : Fin 256) :
    iblk m c 1 t (ix3 i j k) = (X1 m c) (ix3 i ⟨(t.val) * 256 + j.val, by have := t_lt t; omega⟩ k) := by
  obtain ⟨h0, h1, h2⟩ := idx1 t
  refine congrArg ((X1 m c)) (funext fun q => Fin.ext ?_)
  match q with
  | ⟨0, _⟩ => show win0_1.index t (0 : Fin 3) * 3 + 1 * i.val = i.val; omega
  | ⟨1, _⟩ => show win0_1.index t (1 : Fin 3) * 256 + 1 * j.val = (t.val) * 256 + j.val; omega
  | ⟨2, _⟩ => show win0_1.index t (2 : Fin 3) * 256 + 1 * k.val = k.val; omega

theorem idx5 : ∀ t : Fin cfg0.N, win0_5.index t (0 : Fin 2) = t.val ∧ win0_5.index t (1 : Fin 2) = 0 :=
  (by decide +kernel : ∀ t : Fin grid0.N, _)

/-- Where an index of point `t`'s block of result window 5 lies in the array. -/
theorem emb5 (t : Fin cfg0.N) (i : Fin 256) (j : Fin 256) :
    ((cfg0.win 5).blk t).view.emb (ix2 i j) = ix2 ⟨(t.val) * 256 + i.val, by have := t_lt t; omega⟩ j := by
  obtain ⟨h0, h1⟩ := idx5 t
  funext q; apply Fin.ext
  match q with
  | ⟨0, _⟩ => show win0_5.index t (0 : Fin 2) * 256 + 1 * i.val = (t.val) * 256 + i.val; omega
  | ⟨1, _⟩ => show win0_5.index t (1 : Fin 2) * 256 + 1 * j.val = j.val; omega

/-- Point `t`'s block of input window 2, at an index. -/
theorem iblk2_at (t : Fin cfg0.N) (i : Fin 256) (j : Fin 256) :
    iblk m c 2 t (ix2 i j) = X2 m c (ix2 ⟨(t.val) * 256 + i.val, by have := t_lt t; omega⟩ j) :=
  congrArg (X2 m c) (emb5 t i j)

/-- Point `t`'s block of input window 3, at an index. -/
theorem iblk3_at (t : Fin cfg0.N) (i : Fin 256) (j : Fin 256) :
    iblk m c 3 t (ix2 i j) = X3 m c (ix2 ⟨(t.val) * 256 + i.val, by have := t_lt t; omega⟩ j) :=
  congrArg (X3 m c) (emb5 t i j)

/-- Point `t`'s block of input window 4, at an index. -/
theorem iblk4_at (t : Fin cfg0.N) (i : Fin 256) (j : Fin 256) :
    iblk m c 4 t (ix2 i j) = X4 m c (ix2 ⟨(t.val) * 256 + i.val, by have := t_lt t; omega⟩ j) :=
  congrArg (X4 m c) (emb5 t i j)

/-- Every index of the array of window 5 lies in some point's block. -/
theorem covered5 (y : S1024x256.Idx) : ∃ t : Fin cfg0.N, (cfg0.win 5).flush t = true ∧ y ∈ ((cfg0.win 5).blk t).view.set := by
  obtain ⟨i, j, rfl⟩ : ∃ (i : Fin 1024) (j : Fin 256), y = ix2 i j := ⟨y 0, y 1, eq_ix2 y⟩
  have hi := i.2
  have hj := j.2
  let t : Fin cfg0.N := ⟨i.val / 256, by show i.val / 256 < 4; omega⟩
  have ht : t.val = i.val / 256 := rfl
  refine ⟨t, flush0_5 t, ?_⟩
  have h := ((cfg0.win 5).blk t).view.emb_mem_set (ix2 ⟨i.val % 256, by omega⟩ j)
  rw [emb5] at h
  refine (congrArg (· ∈ ((cfg0.win 5).blk t).view.set) ?_).mp h
  funext q; apply Fin.ext
  match q with
  | ⟨0, _⟩ => show (t.val) * 256 + i.val % 256 = i.val; omega
  | ⟨1, _⟩ => rfl

/-- Where an index of point `t`'s block of result window 6 lies in the array. -/
theorem emb6 (t : Fin cfg0.N) (i : Fin 256) (j : Fin 256) :
    ((cfg0.win 6).blk t).view.emb (ix2 i j) = ix2 ⟨(t.val) * 256 + i.val, by have := t_lt t; omega⟩ j :=
  emb5 t i j

/-- Every index of the array of window 6 lies in some point's block. -/
theorem covered6 (y : S1024x256.Idx) : ∃ t : Fin cfg0.N, (cfg0.win 6).flush t = true ∧ y ∈ ((cfg0.win 6).blk t).view.set :=
  let ⟨t, _, h⟩ := covered5 y
  ⟨t, flush0_6 t, h⟩

/-- Where an index of point `t`'s block of result window 7 lies in the array. -/
theorem emb7 (t : Fin cfg0.N) (i : Fin 256) (j : Fin 256) :
    ((cfg0.win 7).blk t).view.emb (ix2 i j) = ix2 ⟨(t.val) * 256 + i.val, by have := t_lt t; omega⟩ j :=
  emb5 t i j

/-- Every index of the array of window 7 lies in some point's block. -/
theorem covered7 (y : S1024x256.Idx) : ∃ t : Fin cfg0.N, (cfg0.win 7).flush t = true ∧ y ∈ ((cfg0.win 7).blk t).view.set :=
  let ⟨t, _, h⟩ := covered5 y
  ⟨t, flush0_7 t, h⟩

/-- Where an index of point `t`'s block of result window 8 lies in the array. -/
theorem emb8 (t : Fin cfg0.N) (i : Fin 256) (j : Fin 256) :
    ((cfg0.win 8).blk t).view.emb (ix2 i j) = ix2 ⟨(t.val) * 256 + i.val, by have := t_lt t; omega⟩ j :=
  emb5 t i j

/-- Every index of the array of window 8 lies in some point's block. -/
theorem covered8 (y : S1024x256.Idx) : ∃ t : Fin cfg0.N, (cfg0.win 8).flush t = true ∧ y ∈ ((cfg0.win 8).blk t).view.set :=
  let ⟨t, _, h⟩ := covered5 y
  ⟨t, flush0_8 t, h⟩

/-- What point `t` writes back to window 5 is its block of the reference's result. -/
theorem flushed5_eq (t : Fin cfg0.N) : (dats m 0 c).flushed 5 t
    = ((cfg0.win 5).blk t).view.read (Elt Ideal) (val_main_v5 (F := Ideal) (X0 m c) (X1 m c)) := by
  rw [flushed5]
  funext y
  obtain ⟨i, j, rfl⟩ : ∃ (i : Fin 256) (j : Fin 256), y = ix2 i j := ⟨y 0, y 1, eq_ix2 y⟩
  show out0_5 (iblk m c 0 t) (iblk m c 1 t) (iblk m c 2 t) (iblk m c 3 t) (iblk m c 4 t) (ix2 i j) = val_main_v5 (F := Ideal) (X0 m c) (X1 m c) (((cfg0.win 5).blk t).view.emb (ix2 i j))
  rw [emb5]
  exact out5_eq (iblk m c 0 t) (iblk m c 1 t) (iblk m c 2 t) (iblk m c 3 t) (iblk m c 4 t) _ _ i _ j (iblk0_at m c t i j) (fun k => iblk1_at m c t k i j)

theorem final5 : (dats m 0 c).arrAt 5 cfg0.N = val_main_v5 (F := Ideal) (X0 m c) (X1 m c) :=
  (dats m 0 c).arrAt_eq_of_cover 5 _ (fun t _ => flushed5_eq m c t) covered5

/-- What point `t` writes back to window 6 is its block of the reference's result. -/
theorem flushed6_eq (t : Fin cfg0.N) : (dats m 0 c).flushed 6 t
    = ((cfg0.win 6).blk t).view.read (Elt Ideal) (val_main_v29 (F := Ideal) (X0 m c) (X1 m c) (X2 m c) (X3 m c) (X4 m c)) := by
  rw [flushed6]
  funext y
  obtain ⟨i, j, rfl⟩ : ∃ (i : Fin 256) (j : Fin 256), y = ix2 i j := ⟨y 0, y 1, eq_ix2 y⟩
  show out0_6 (iblk m c 0 t) (iblk m c 1 t) (iblk m c 2 t) (iblk m c 3 t) (iblk m c 4 t) (ix2 i j) = val_main_v29 (F := Ideal) (X0 m c) (X1 m c) (X2 m c) (X3 m c) (X4 m c) (((cfg0.win 6).blk t).view.emb (ix2 i j))
  rw [emb6]
  exact out6_eq (iblk m c 0 t) (iblk m c 1 t) (iblk m c 2 t) (iblk m c 3 t) (iblk m c 4 t) _ _ _ _ _ i _ j (iblk0_at m c t i j) (fun k => iblk1_at m c t k i j) (iblk2_at m c t i j) (iblk3_at m c t i j) (iblk4_at m c t i j)

theorem final6 : (dats m 0 c).arrAt 6 cfg0.N = val_main_v29 (F := Ideal) (X0 m c) (X1 m c) (X2 m c) (X3 m c) (X4 m c) :=
  (dats m 0 c).arrAt_eq_of_cover 6 _ (fun t _ => flushed6_eq m c t) covered6

/-- What point `t` writes back to window 7 is its block of the reference's result. -/
theorem flushed7_eq (t : Fin cfg0.N) : (dats m 0 c).flushed 7 t
    = ((cfg0.win 7).blk t).view.read (Elt Ideal) (val_main_v10 (F := Ideal) (X0 m c) (X1 m c) (X3 m c)) := by
  rw [flushed7]
  funext y
  obtain ⟨i, j, rfl⟩ : ∃ (i : Fin 256) (j : Fin 256), y = ix2 i j := ⟨y 0, y 1, eq_ix2 y⟩
  show out0_7 (iblk m c 0 t) (iblk m c 1 t) (iblk m c 2 t) (iblk m c 3 t) (iblk m c 4 t) (ix2 i j) = val_main_v10 (F := Ideal) (X0 m c) (X1 m c) (X3 m c) (((cfg0.win 7).blk t).view.emb (ix2 i j))
  rw [emb7]
  exact out7_eq (iblk m c 0 t) (iblk m c 1 t) (iblk m c 2 t) (iblk m c 3 t) (iblk m c 4 t) _ _ _ i _ j (iblk0_at m c t i j) (fun k => iblk1_at m c t k i j) (iblk3_at m c t i j)

theorem final7 : (dats m 0 c).arrAt 7 cfg0.N = val_main_v10 (F := Ideal) (X0 m c) (X1 m c) (X3 m c) :=
  (dats m 0 c).arrAt_eq_of_cover 7 _ (fun t _ => flushed7_eq m c t) covered7

/-- What point `t` writes back to window 8 is its block of the reference's result. -/
theorem flushed8_eq (t : Fin cfg0.N) : (dats m 0 c).flushed 8 t
    = ((cfg0.win 8).blk t).view.read (Elt Ideal) (val_main_v16 (F := Ideal) (X0 m c) (X1 m c) (X4 m c)) := by
  rw [flushed8]
  funext y
  obtain ⟨i, j, rfl⟩ : ∃ (i : Fin 256) (j : Fin 256), y = ix2 i j := ⟨y 0, y 1, eq_ix2 y⟩
  show out0_8 (iblk m c 0 t) (iblk m c 1 t) (iblk m c 2 t) (iblk m c 3 t) (iblk m c 4 t) (ix2 i j) = val_main_v16 (F := Ideal) (X0 m c) (X1 m c) (X4 m c) (((cfg0.win 8).blk t).view.emb (ix2 i j))
  rw [emb8]
  exact out8_eq (iblk m c 0 t) (iblk m c 1 t) (iblk m c 2 t) (iblk m c 3 t) (iblk m c 4 t) _ _ _ i _ j (iblk0_at m c t i j) (fun k => iblk1_at m c t k i j) (iblk4_at m c t i j)

theorem final8 : (dats m 0 c).arrAt 8 cfg0.N = val_main_v16 (F := Ideal) (X0 m c) (X1 m c) (X4 m c) :=
  (dats m 0 c).arrAt_eq_of_cover 8 _ (fun t _ => flushed8_eq m c t) covered8

/-- The kernel and the reference end with equal results. -/
theorem algebraic : Cert.algebraic_Kernel21Ideal_Reference21Ideal
    (hKernel21Ideal := Cert.Kernel21Ideal.Gen.facts) (hReference21Ideal := Cert.Reference21Ideal.Gen.facts) := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run _ _ _).mono (fun r h c => ?_) (Cert.Reference21Ideal.Value.run m' g')
  obtain ⟨h0, h1, h2, h3, k0, k1, k2, k3, k4⟩ := h c
  obtain ⟨a0, a1, a2, a3, a4⟩ := hagree c
  refine ⟨?_, ?_, ?_, ?_, k0, k1, k2, k3, k4⟩
  · exact (h0.trans (val_main_v5_eq _ _)).trans (by rw [a0, a1]; exact (final5 m c).symm)
  · exact (h1.trans (val_main_v29_eq _ _ _ _ _)).trans (by rw [a0, a1, a2, a3, a4]; exact (final6 m c).symm)
  · exact (h2.trans (val_main_v10_eq _ _ _)).trans (by rw [a0, a1, a3]; exact (final7 m c).symm)
  · exact (h3.trans (val_main_v16_eq _ _ _)).trans (by rw [a0, a1, a4]; exact (final8 m c).symm)

end Cert.Proof.AdamwMem
-- ==== Proof.AdamwUp.lean ====
/- Hand-written, untrusted: the optimiser's step on one device's shard of the MLP's first product at the reals. The gradient is the
   sum of the four pair sums; the four results are the reference's arithmetic, index by index. -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pointwise

@[expose] public section

noncomputable section

namespace Cert.Proof.AdamwUp

open Cert.Kernel22Ideal Cert.Kernel22Ideal.Gen Cert.Kernel22Ideal.Value Idealize.ShloMosaic Idealize.ShloMosaic.TcCoe Idealize.SL.Sem
open Reference22Ideal.Read

theorem hz : (![0, 0] : Fin 2 → Nat) = fun _ => 0 := funext fun a => by fin_cases a <;> rfl
theorem hz3 : (![0, 0, 0] : Fin 3 → Nat) = fun _ => 0 := funext fun a => by fin_cases a <;> rfl

/-- One chip's slab of the received pair sums. -/
theorem ld_slab0 (x : Vec Ideal S3x256x512 .bf16) (i : Fin 256) (j : Fin 512) : View.ld x r0_1 (ix3 0 i j) = x (ix3 0 i j) :=
  congrArg x (funext fun a => Fin.ext (by match a with | ⟨0, _⟩ => rfl | ⟨1, _⟩ => show 0 + 1 * i.val = i.val; omega | ⟨2, _⟩ => show 0 + 1 * j.val = j.val; omega))
theorem ld_slab1 (x : Vec Ideal S3x256x512 .bf16) (i : Fin 256) (j : Fin 512) : View.ld x r0_2 (ix3 0 i j) = x (ix3 1 i j) :=
  congrArg x (funext fun a => Fin.ext (by match a with | ⟨0, _⟩ => rfl | ⟨1, _⟩ => show 0 + 1 * i.val = i.val; omega | ⟨2, _⟩ => show 0 + 1 * j.val = j.val; omega))
theorem ld_slab2 (x : Vec Ideal S3x256x512 .bf16) (i : Fin 256) (j : Fin 512) : View.ld x r0_3 (ix3 0 i j) = x (ix3 2 i j) :=
  congrArg x (funext fun a => Fin.ext (by match a with | ⟨0, _⟩ => rfl | ⟨1, _⟩ => show 0 + 1 * i.val = i.val; omega | ⟨2, _⟩ => show 0 + 1 * j.val = j.val; omega))

section Block
variable (x0 : Vec Ideal S1x256x512 .bf16) (x1 : Vec Ideal S3x256x512 .bf16) (x2 x3 x4 : Vec Ideal S256x512 .f32)
variable (p : Vec Ideal S4x1024x512 .bf16) (q : Vec Ideal S3x1024x512 .bf16) (w a b : Vec Ideal S1024x512 .f32)
variable (i : Fin 256) (r : Fin 1024) (j : Fin 512)
variable (h0 : x0 (ix3 0 i j) = p (ix3 0 r j)) (h1 : ∀ k : Fin 3, x1 (ix3 k i j) = q (ix3 k r j))
variable (h2 : x2 (ix2 i j) = w (ix2 r j)) (h3 : x3 (ix2 i j) = a (ix2 r j)) (h4 : x4 (ix2 i j) = b (ix2 r j))

/-- The gradient: the sum of the pair sums. -/
theorem pay2_at : k0_pay2 (View.ld x0 r0_0) (View.ld x1 r0_1) (View.ld x1 r0_2) (View.ld x1 r0_3) (ix2 i j)
    = x0 (ix3 0 i j) + x1 (ix3 0 i j) + x1 (ix3 1 i j) + x1 (ix3 2 i j) := by
  rw [View.ld_unit_zero hz3, ← ld_slab0 x1 i j, ← ld_slab1 x1 i j, ← ld_slab2 x1 i j]
  unfold_payloads
  pointwise

theorem g_at : val_main_v5 (F := Ideal) p q (ix2 r j) = p (ix3 0 r j) + q (ix3 0 r j) + q (ix3 1 r j) + q (ix3 2 r j) := by
  pointwise [val_main_v0, val_main_v1, val_main_v2, val_main_v3, val_main_cst, val_main_v4, val_main_v5]
  rw [Fin.sum_univ_three]
  simp only [← add_assoc]

include h0 h1 in
theorem g_eq : k0_pay2 (View.ld x0 r0_0) (View.ld x1 r0_1) (View.ld x1 r0_2) (View.ld x1 r0_3) (ix2 i j) = val_main_v5 (F := Ideal) p q (ix2 r j) := by
  rw [pay2_at, g_at, h0, h1, h1, h1]

include h0 h1 in
theorem out5_eq : out0_5 x0 x1 x2 x3 x4 (ix2 i j) = val_main_v5 (F := Ideal) p q (ix2 r j) := by
  unfold out0_5
  rw [View.canon_unit_zero hz, g_eq x0 x1 p q i r j h0 h1]

include h0 h1 h3 in
theorem m_eq : k0_pay3 (View.ld x0 r0_0) (View.ld x1 r0_1) (View.ld x1 r0_2) (View.ld x1 r0_3) (View.ld x3 r0_4) (ix2 i j)
    = val_main_v10 (F := Ideal) p q a (ix2 r j) := by
  unfold k0_pay3
  rw [View.ld_unit_zero hz]
  pointwise [val_main_cst_0, val_main_v6, val_main_v7, val_main_cst_1, val_main_v8, val_main_v9, val_main_v10]
  rw [g_eq x0 x1 p q i r j h0 h1, h3]

include h0 h1 h3 in
theorem out7_eq : out0_7 x0 x1 x2 x3 x4 (ix2 i j) = val_main_v10 (F := Ideal) p q a (ix2 r j) := by
  unfold out0_7
  rw [View.canon_unit_zero hz, m_eq x0 x1 x3 p q a i r j h0 h1 h3]

include h0 h1 h4 in
theorem v_eq : k0_pay6 x0 x1 x2 x3 x4 (ix2 i j) = val_main_v16 (F := Ideal) p q b (ix2 r j) := by
  unfold k0_pay6 k0_pay4
  rw [View.ld_unit_zero hz]
  pointwise [val_main_cst_2, val_main_v11, val_main_v12, val_main_v13, val_main_cst_3, val_main_v14, val_main_v15, val_main_v16]
  rw [g_eq x0 x1 p q i r j h0 h1, h4]

include h0 h1 h4 in
theorem out8_eq : out0_8 x0 x1 x2 x3 x4 (ix2 i j) = val_main_v16 (F := Ideal) p q b (ix2 r j) := by
  unfold out0_8
  rw [View.canon_unit_zero hz, v_eq x0 x1 x2 x3 x4 p q b i r j h0 h1 h4]

include h0 h1 h2 h3 h4 in
theorem out6_eq : out0_6 x0 x1 x2 x3 x4 (ix2 i j) = val_main_v29 (F := Ideal) p q w a b (ix2 r j) := by
  unfold out0_6
  rw [View.canon_unit_zero hz, View.ld_unit_zero hz]
  unfold k0_pay1 k0_pay5
  pointwise [val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  rw [m_eq x0 x1 x3 p q a i r j h0 h1 h3, v_eq x0 x1 x2 x3 x4 p q b i r j h0 h1 h4, h2]
end Block

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

theorem t_lt (t : Fin cfg0.N) : t.val < 4 := t.2

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- Point `t`'s block of input window 0, at an index. -/
theorem iblk0_at (t : Fin cfg0.N) (j : Fin 256) (k : Fin 512) :
    iblk m c 0 t (ix3 0 j k) = (X0 m c) (ix3 0 ⟨(t.val) * 256 + j.val, by have := t_lt t; omega⟩ k) := by
  obtain ⟨h0, h1, h2⟩ := idx0 t
  refine congrArg ((X0 m c)) (funext fun q => Fin.ext ?_)
  match q with
  | ⟨0, _⟩ => show win0_0.index t (0 : Fin 3) * 1 + 1 * 0 = 0; omega
  | ⟨1, _⟩ => show win0_0.index t (1 : Fin 3) * 256 + 1 * j.val = (t.val) * 256 + j.val; omega
  | ⟨2, _⟩ => show win0_0.index t (2 : Fin 3) * 512 + 1 * k.val = k.val; omega

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Point `t`'s block of input window 1, at an index. -/
theorem iblk1_at (t : Fin cfg0.N) (i : Fin 3) (j : Fin 256) (k : Fin 512) :
    iblk m c 1 t (ix3 i j k) = (X1 m c) (ix3 i ⟨(t.val) * 256 + j.val, by have := t_lt t; omega⟩ k) := by
  obtain ⟨h0, h1, h2⟩ := idx1 t
  refine congrArg ((X1 m c)) (funext fun q => Fin.ext ?_)
  match q with
  | ⟨0, _⟩ => show win0_1.index t (0 : Fin 3) * 3 + 1 * i.val = i.val; omega
  | ⟨1, _⟩ => show win0_1.index t (1 : Fin 3) * 256 + 1 * j.val = (t.val) * 256 + j.val; omega
  | ⟨2, _⟩ => show win0_1.index t (2 : Fin 3) * 512 + 1 * k.val = k.val; omega

theorem idx5 : ∀ t : Fin cfg0.N, win0_5.index t (0 : Fin 2) = t.val ∧ win0_5.index t (1 : Fin 2) = 0 :=
  (by decide +kernel : ∀ t : Fin grid0.N, _)

/-- Where an index of point `t`'s block of result window 5 lies in the array. -/
theorem emb5 (t : Fin cfg0.N) (i : Fin 256) (j : Fin 512) :
    ((cfg0.win 5).blk t).view.emb (ix2 i j) = ix2 ⟨(t.val) * 256 + i.val, by have := t_lt t; omega⟩ j := by
  obtain ⟨h0, h1⟩ := idx5 t
  funext q; apply Fin.ext
  match q with
  | ⟨0, _⟩ => show win0_5.index t (0 : Fin 2) * 256 + 1 * i.val = (t.val) * 256 + i.val; omega
  | ⟨1, _⟩ => show win0_5.index t (1 : Fin 2) * 512 + 1 * j.val = j.val; omega

/-- Point `t`'s block of input window 2, at an index. -/
theorem iblk2_at (t : Fin cfg0.N) (i : Fin 256) (j : Fin 512) :
    iblk m c 2 t (ix2 i j) = X2 m c (ix2 ⟨(t.val) * 256 + i.val, by have := t_lt t; omega⟩ j) :=
  congrArg (X2 m c) (emb5 t i j)

/-- Point `t`'s block of input window 3, at an index. -/
theorem iblk3_at (t : Fin cfg0.N) (i : Fin 256) (j : Fin 512) :
    iblk m c 3 t (ix2 i j) = X3 m c (ix2 ⟨(t.val) * 256 + i.val, by have := t_lt t; omega⟩ j) :=
  congrArg (X3 m c) (emb5 t i j)

/-- Point `t`'s block of input window 4, at an index. -/
theorem iblk4_at (t : Fin cfg0.N) (i : Fin 256) (j : Fin 512) :
    iblk m c 4 t (ix2 i j) = X4 m c (ix2 ⟨(t.val) * 256 + i.val, by have := t_lt t; omega⟩ j) :=
  congrArg (X4 m c) (emb5 t i j)

/-- Every index of the array of window 5 lies in some point's block. -/
theorem covered5 (y : S1024x512.Idx) : ∃ t : Fin cfg0.N, (cfg0.win 5).flush t = true ∧ y ∈ ((cfg0.win 5).blk t).view.set := by
  obtain ⟨i, j, rfl⟩ : ∃ (i : Fin 1024) (j : Fin 512), y = ix2 i j := ⟨y 0, y 1, eq_ix2 y⟩
  have hi := i.2
  have hj := j.2
  let t : Fin cfg0.N := ⟨i.val / 256, by show i.val / 256 < 4; omega⟩
  have ht : t.val = i.val / 256 := rfl
  refine ⟨t, flush0_5 t, ?_⟩
  have h := ((cfg0.win 5).blk t).view.emb_mem_set (ix2 ⟨i.val % 256, by omega⟩ j)
  rw [emb5] at h
  refine (congrArg (· ∈ ((cfg0.win 5).blk t).view.set) ?_).mp h
  funext q; apply Fin.ext
  match q with
  | ⟨0, _⟩ => show (t.val) * 256 + i.val % 256 = i.val; omega
  | ⟨1, _⟩ => rfl

/-- Where an index of point `t`'s block of result window 6 lies in the array. -/
theorem emb6 (t : Fin cfg0.N) (i : Fin 256) (j : Fin 512) :
    ((cfg0.win 6).blk t).view.emb (ix2 i j) = ix2 ⟨(t.val) * 256 + i.val, by have := t_lt t; omega⟩ j :=
  emb5 t i j

/-- Every index of the array of window 6 lies in some point's block. -/
theorem covered6 (y : S1024x512.Idx) : ∃ t : Fin cfg0.N, (cfg0.win 6).flush t = true ∧ y ∈ ((cfg0.win 6).blk t).view.set :=
  let ⟨t, _, h⟩ := covered5 y
  ⟨t, flush0_6 t, h⟩

/-- Where an index of point `t`'s block of result window 7 lies in the array. -/
theorem emb7 (t : Fin cfg0.N) (i : Fin 256) (j : Fin 512) :
    ((cfg0.win 7).blk t).view.emb (ix2 i j) = ix2 ⟨(t.val) * 256 + i.val, by have := t_lt t; omega⟩ j :=
  emb5 t i j

/-- Every index of the array of window 7 lies in some point's block. -/
theorem covered7 (y : S1024x512.Idx) : ∃ t : Fin cfg0.N, (cfg0.win 7).flush t = true ∧ y ∈ ((cfg0.win 7).blk t).view.set :=
  let ⟨t, _, h⟩ := covered5 y
  ⟨t, flush0_7 t, h⟩

/-- Where an index of point `t`'s block of result window 8 lies in the array. -/
theorem emb8 (t : Fin cfg0.N) (i : Fin 256) (j : Fin 512) :
    ((cfg0.win 8).blk t).view.emb (ix2 i j) = ix2 ⟨(t.val) * 256 + i.val, by have := t_lt t; omega⟩ j :=
  emb5 t i j

/-- Every index of the array of window 8 lies in some point's block. -/
theorem covered8 (y : S1024x512.Idx) : ∃ t : Fin cfg0.N, (cfg0.win 8).flush t = true ∧ y ∈ ((cfg0.win 8).blk t).view.set :=
  let ⟨t, _, h⟩ := covered5 y
  ⟨t, flush0_8 t, h⟩

/-- What point `t` writes back to window 5 is its block of the reference's result. -/
theorem flushed5_eq (t : Fin cfg0.N) : (dats m 0 c).flushed 5 t
    = ((cfg0.win 5).blk t).view.read (Elt Ideal) (val_main_v5 (F := Ideal) (X0 m c) (X1 m c)) := by
  rw [flushed5]
  funext y
  obtain ⟨i, j, rfl⟩ : ∃ (i : Fin 256) (j : Fin 512), y = ix2 i j := ⟨y 0, y 1, eq_ix2 y⟩
  show out0_5 (iblk m c 0 t) (iblk m c 1 t) (iblk m c 2 t) (iblk m c 3 t) (iblk m c 4 t) (ix2 i j) = val_main_v5 (F := Ideal) (X0 m c) (X1 m c) (((cfg0.win 5).blk t).view.emb (ix2 i j))
  rw [emb5]
  exact out5_eq (iblk m c 0 t) (iblk m c 1 t) (iblk m c 2 t) (iblk m c 3 t) (iblk m c 4 t) _ _ i _ j (iblk0_at m c t i j) (fun k => iblk1_at m c t k i j)

theorem final5 : (dats m 0 c).arrAt 5 cfg0.N = val_main_v5 (F := Ideal) (X0 m c) (X1 m c) :=
  (dats m 0 c).arrAt_eq_of_cover 5 _ (fun t _ => flushed5_eq m c t) covered5

/-- What point `t` writes back to window 6 is its block of the reference's result. -/
theorem flushed6_eq (t : Fin cfg0.N) : (dats m 0 c).flushed 6 t
    = ((cfg0.win 6).blk t).view.read (Elt Ideal) (val_main_v29 (F := Ideal) (X0 m c) (X1 m c) (X2 m c) (X3 m c) (X4 m c)) := by
  rw [flushed6]
  funext y
  obtain ⟨i, j, rfl⟩ : ∃ (i : Fin 256) (j : Fin 512), y = ix2 i j := ⟨y 0, y 1, eq_ix2 y⟩
  show out0_6 (iblk m c 0 t) (iblk m c 1 t) (iblk m c 2 t) (iblk m c 3 t) (iblk m c 4 t) (ix2 i j) = val_main_v29 (F := Ideal) (X0 m c) (X1 m c) (X2 m c) (X3 m c) (X4 m c) (((cfg0.win 6).blk t).view.emb (ix2 i j))
  rw [emb6]
  exact out6_eq (iblk m c 0 t) (iblk m c 1 t) (iblk m c 2 t) (iblk m c 3 t) (iblk m c 4 t) _ _ _ _ _ i _ j (iblk0_at m c t i j) (fun k => iblk1_at m c t k i j) (iblk2_at m c t i j) (iblk3_at m c t i j) (iblk4_at m c t i j)

theorem final6 : (dats m 0 c).arrAt 6 cfg0.N = val_main_v29 (F := Ideal) (X0 m c) (X1 m c) (X2 m c) (X3 m c) (X4 m c) :=
  (dats m 0 c).arrAt_eq_of_cover 6 _ (fun t _ => flushed6_eq m c t) covered6

/-- What point `t` writes back to window 7 is its block of the reference's result. -/
theorem flushed7_eq (t : Fin cfg0.N) : (dats m 0 c).flushed 7 t
    = ((cfg0.win 7).blk t).view.read (Elt Ideal) (val_main_v10 (F := Ideal) (X0 m c) (X1 m c) (X3 m c)) := by
  rw [flushed7]
  funext y
  obtain ⟨i, j, rfl⟩ : ∃ (i : Fin 256) (j : Fin 512), y = ix2 i j := ⟨y 0, y 1, eq_ix2 y⟩
  show out0_7 (iblk m c 0 t) (iblk m c 1 t) (iblk m c 2 t) (iblk m c 3 t) (iblk m c 4 t) (ix2 i j) = val_main_v10 (F := Ideal) (X0 m c) (X1 m c) (X3 m c) (((cfg0.win 7).blk t).view.emb (ix2 i j))
  rw [emb7]
  exact out7_eq (iblk m c 0 t) (iblk m c 1 t) (iblk m c 2 t) (iblk m c 3 t) (iblk m c 4 t) _ _ _ i _ j (iblk0_at m c t i j) (fun k => iblk1_at m c t k i j) (iblk3_at m c t i j)

theorem final7 : (dats m 0 c).arrAt 7 cfg0.N = val_main_v10 (F := Ideal) (X0 m c) (X1 m c) (X3 m c) :=
  (dats m 0 c).arrAt_eq_of_cover 7 _ (fun t _ => flushed7_eq m c t) covered7

/-- What point `t` writes back to window 8 is its block of the reference's result. -/
theorem flushed8_eq (t : Fin cfg0.N) : (dats m 0 c).flushed 8 t
    = ((cfg0.win 8).blk t).view.read (Elt Ideal) (val_main_v16 (F := Ideal) (X0 m c) (X1 m c) (X4 m c)) := by
  rw [flushed8]
  funext y
  obtain ⟨i, j, rfl⟩ : ∃ (i : Fin 256) (j : Fin 512), y = ix2 i j := ⟨y 0, y 1, eq_ix2 y⟩
  show out0_8 (iblk m c 0 t) (iblk m c 1 t) (iblk m c 2 t) (iblk m c 3 t) (iblk m c 4 t) (ix2 i j) = val_main_v16 (F := Ideal) (X0 m c) (X1 m c) (X4 m c) (((cfg0.win 8).blk t).view.emb (ix2 i j))
  rw [emb8]
  exact out8_eq (iblk m c 0 t) (iblk m c 1 t) (iblk m c 2 t) (iblk m c 3 t) (iblk m c 4 t) _ _ _ i _ j (iblk0_at m c t i j) (fun k => iblk1_at m c t k i j) (iblk4_at m c t i j)

theorem final8 : (dats m 0 c).arrAt 8 cfg0.N = val_main_v16 (F := Ideal) (X0 m c) (X1 m c) (X4 m c) :=
  (dats m 0 c).arrAt_eq_of_cover 8 _ (fun t _ => flushed8_eq m c t) covered8

/-- The kernel and the reference end with equal results. -/
theorem algebraic : Cert.algebraic_Kernel22Ideal_Reference22Ideal
    (hKernel22Ideal := Cert.Kernel22Ideal.Gen.facts) (hReference22Ideal := Cert.Reference22Ideal.Gen.facts) := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run _ _ _).mono (fun r h c => ?_) (Cert.Reference22Ideal.Value.run m' g')
  obtain ⟨h0, h1, h2, h3, k0, k1, k2, k3, k4⟩ := h c
  obtain ⟨a0, a1, a2, a3, a4⟩ := hagree c
  refine ⟨?_, ?_, ?_, ?_, k0, k1, k2, k3, k4⟩
  · exact (h0.trans (val_main_v5_eq _ _)).trans (by rw [a0, a1]; exact (final5 m c).symm)
  · exact (h1.trans (val_main_v29_eq _ _ _ _ _)).trans (by rw [a0, a1, a2, a3, a4]; exact (final6 m c).symm)
  · exact (h2.trans (val_main_v10_eq _ _ _)).trans (by rw [a0, a1, a3]; exact (final7 m c).symm)
  · exact (h3.trans (val_main_v16_eq _ _ _)).trans (by rw [a0, a1, a4]; exact (final8 m c).symm)

end Cert.Proof.AdamwUp
-- ==== Proof.AdamwDown.lean ====
/- Hand-written, untrusted: the optimiser's step on one device's shard of the MLP's second product at the reals. The gradient is the
   sum of the four pair sums; the four results are the reference's arithmetic, index by index. -/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pointwise

@[expose] public section

noncomputable section

namespace Cert.Proof.AdamwDown

open Cert.Kernel23Ideal Cert.Kernel23Ideal.Gen Cert.Kernel23Ideal.Value Idealize.ShloMosaic Idealize.ShloMosaic.TcCoe Idealize.SL.Sem
open Reference23Ideal.Read

theorem hz : (![0, 0] : Fin 2 → Nat) = fun _ => 0 := funext fun a => by fin_cases a <;> rfl
theorem hz3 : (![0, 0, 0] : Fin 3 → Nat) = fun _ => 0 := funext fun a => by fin_cases a <;> rfl

/-- One chip's slab of the received pair sums. -/
theorem ld_slab0 (x : Vec Ideal S3x256x1024 .bf16) (i : Fin 256) (j : Fin 1024) : View.ld x r0_1 (ix3 0 i j) = x (ix3 0 i j) :=
  congrArg x (funext fun a => Fin.ext (by match a with | ⟨0, _⟩ => rfl | ⟨1, _⟩ => show 0 + 1 * i.val = i.val; omega | ⟨2, _⟩ => show 0 + 1 * j.val = j.val; omega))
theorem ld_slab1 (x : Vec Ideal S3x256x1024 .bf16) (i : Fin 256) (j : Fin 1024) : View.ld x r0_2 (ix3 0 i j) = x (ix3 1 i j) :=
  congrArg x (funext fun a => Fin.ext (by match a with | ⟨0, _⟩ => rfl | ⟨1, _⟩ => show 0 + 1 * i.val = i.val; omega | ⟨2, _⟩ => show 0 + 1 * j.val = j.val; omega))
theorem ld_slab2 (x : Vec Ideal S3x256x1024 .bf16) (i : Fin 256) (j : Fin 1024) : View.ld x r0_3 (ix3 0 i j) = x (ix3 2 i j) :=
  congrArg x (funext fun a => Fin.ext (by match a with | ⟨0, _⟩ => rfl | ⟨1, _⟩ => show 0 + 1 * i.val = i.val; omega | ⟨2, _⟩ => show 0 + 1 * j.val = j.val; omega))

section Block
variable (x0 : Vec Ideal S1x256x1024 .bf16) (x1 : Vec Ideal S3x256x1024 .bf16) (x2 x3 x4 : Vec Ideal S256x1024 .f32)
variable (p : Vec Ideal S4x512x1024 .bf16) (q : Vec Ideal S3x512x1024 .bf16) (w a b : Vec Ideal S512x1024 .f32)
variable (i : Fin 256) (r : Fin 512) (j : Fin 1024)
variable (h0 : x0 (ix3 0 i j) = p (ix3 0 r j)) (h1 : ∀ k : Fin 3, x1 (ix3 k i j) = q (ix3 k r j))
variable (h2 : x2 (ix2 i j) = w (ix2 r j)) (h3 : x3 (ix2 i j) = a (ix2 r j)) (h4 : x4 (ix2 i j) = b (ix2 r j))

/-- The gradient: the sum of the pair sums. -/
theorem pay2_at : k0_pay2 (View.ld x0 r0_0) (View.ld x1 r0_1) (View.ld x1 r0_2) (View.ld x1 r0_3) (ix2 i j)
    = x0 (ix3 0 i j) + x1 (ix3 0 i j) + x1 (ix3 1 i j) + x1 (ix3 2 i j) := by
  rw [View.ld_unit_zero hz3, ← ld_slab0 x1 i j, ← ld_slab1 x1 i j, ← ld_slab2 x1 i j]
  unfold_payloads
  pointwise

theorem g_at : val_main_v5 (F := Ideal) p q (ix2 r j) = p (ix3 0 r j) + q (ix3 0 r j) + q (ix3 1 r j) + q (ix3 2 r j) := by
  pointwise [val_main_v0, val_main_v1, val_main_v2, val_main_v3, val_main_cst, val_main_v4, val_main_v5]
  rw [Fin.sum_univ_three]
  simp only [← add_assoc]

include h0 h1 in
theorem g_eq : k0_pay2 (View.ld x0 r0_0) (View.ld x1 r0_1) (View.ld x1 r0_2) (View.ld x1 r0_3) (ix2 i j) = val_main_v5 (F := Ideal) p q (ix2 r j) := by
  rw [pay2_at, g_at, h0, h1, h1, h1]

include h0 h1 in
theorem out5_eq : out0_5 x0 x1 x2 x3 x4 (ix2 i j) = val_main_v5 (F := Ideal) p q (ix2 r j) := by
  unfold out0_5
  rw [View.canon_unit_zero hz, g_eq x0 x1 p q i r j h0 h1]

include h0 h1 h3 in
theorem m_eq : k0_pay3 (View.ld x0 r0_0) (View.ld x1 r0_1) (View.ld x1 r0_2) (View.ld x1 r0_3) (View.ld x3 r0_4) (ix2 i j)
    = val_main_v10 (F := Ideal) p q a (ix2 r j) := by
  unfold k0_pay3
  rw [View.ld_unit_zero hz]
  pointwise [val_main_cst_0, val_main_v6, val_main_v7, val_main_cst_1, val_main_v8, val_main_v9, val_main_v10]
  rw [g_eq x0 x1 p q i r j h0 h1, h3]

include h0 h1 h3 in
theorem out7_eq : out0_7 x0 x1 x2 x3 x4 (ix2 i j) = val_main_v10 (F := Ideal) p q a (ix2 r j) := by
  unfold out0_7
  rw [View.canon_unit_zero hz, m_eq x0 x1 x3 p q a i r j h0 h1 h3]

include h0 h1 h4 in
theorem v_eq : k0_pay6 x0 x1 x2 x3 x4 (ix2 i j) = val_main_v16 (F := Ideal) p q b (ix2 r j) := by
  unfold k0_pay6 k0_pay4
  rw [View.ld_unit_zero hz]
  pointwise [val_main_cst_2, val_main_v11, val_main_v12, val_main_v13, val_main_cst_3, val_main_v14, val_main_v15, val_main_v16]
  rw [g_eq x0 x1 p q i r j h0 h1, h4]

include h0 h1 h4 in
theorem out8_eq : out0_8 x0 x1 x2 x3 x4 (ix2 i j) = val_main_v16 (F := Ideal) p q b (ix2 r j) := by
  unfold out0_8
  rw [View.canon_unit_zero hz, v_eq x0 x1 x2 x3 x4 p q b i r j h0 h1 h4]

include h0 h1 h2 h3 h4 in
theorem out6_eq : out0_6 x0 x1 x2 x3 x4 (ix2 i j) = val_main_v29 (F := Ideal) p q w a b (ix2 r j) := by
  unfold out0_6
  rw [View.canon_unit_zero hz, View.ld_unit_zero hz]
  unfold k0_pay1 k0_pay5
  pointwise [val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  rw [m_eq x0 x1 x3 p q a i r j h0 h1 h3, v_eq x0 x1 x2 x3 x4 p q b i r j h0 h1 h4, h2]
end Block

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

theorem t_lt (t : Fin cfg0.N) : t.val < 2 := t.2

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- Point `t`'s block of input window 0, at an index. -/
theorem iblk0_at (t : Fin cfg0.N) (j : Fin 256) (k : Fin 1024) :
    iblk m c 0 t (ix3 0 j k) = (X0 m c) (ix3 0 ⟨(t.val) * 256 + j.val, by have := t_lt t; omega⟩ k) := by
  obtain ⟨h0, h1, h2⟩ := idx0 t
  refine congrArg ((X0 m c)) (funext fun q => Fin.ext ?_)
  match q with
  | ⟨0, _⟩ => show win0_0.index t (0 : Fin 3) * 1 + 1 * 0 = 0; omega
  | ⟨1, _⟩ => show win0_0.index t (1 : Fin 3) * 256 + 1 * j.val = (t.val) * 256 + j.val; omega
  | ⟨2, _⟩ => show win0_0.index t (2 : Fin 3) * 1024 + 1 * k.val = k.val; omega

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Point `t`'s block of input window 1, at an index. -/
theorem iblk1_at (t : Fin cfg0.N) (i : Fin 3) (j : Fin 256) (k : Fin 1024) :
    iblk m c 1 t (ix3 i j k) = (X1 m c) (ix3 i ⟨(t.val) * 256 + j.val, by have := t_lt t; omega⟩ k) := by
  obtain ⟨h0, h1, h2⟩ := idx1 t
  refine congrArg ((X1 m c)) (funext fun q => Fin.ext ?_)
  match q with
  | ⟨0, _⟩ => show win0_1.index t (0 : Fin 3) * 3 + 1 * i.val = i.val; omega
  | ⟨1, _⟩ => show win0_1.index t (1 : Fin 3) * 256 + 1 * j.val = (t.val) * 256 + j.val; omega
  | ⟨2, _⟩ => show win0_1.index t (2 : Fin 3) * 1024 + 1 * k.val = k.val; omega

theorem idx5 : ∀ t : Fin cfg0.N, win0_5.index t (0 : Fin 2) = t.val ∧ win0_5.index t (1 : Fin 2) = 0 :=
  (by decide +kernel : ∀ t : Fin grid0.N, _)

/-- Where an index of point `t`'s block of result window 5 lies in the array. -/
theorem emb5 (t : Fin cfg0.N) (i : Fin 256) (j : Fin 1024) :
    ((cfg0.win 5).blk t).view.emb (ix2 i j) = ix2 ⟨(t.val) * 256 + i.val, by have := t_lt t; omega⟩ j := by
  obtain ⟨h0, h1⟩ := idx5 t
  funext q; apply Fin.ext
  match q with
  | ⟨0, _⟩ => show win0_5.index t (0 : Fin 2) * 256 + 1 * i.val = (t.val) * 256 + i.val; omega
  | ⟨1, _⟩ => show win0_5.index t (1 : Fin 2) * 1024 + 1 * j.val = j.val; omega

/-- Point `t`'s block of input window 2, at an index. -/
theorem iblk2_at (t : Fin cfg0.N) (i : Fin 256) (j : Fin 1024) :
    iblk m c 2 t (ix2 i j) = X2 m c (ix2 ⟨(t.val) * 256 + i.val, by have := t_lt t; omega⟩ j) :=
  congrArg (X2 m c) (emb5 t i j)

/-- Point `t`'s block of input window 3, at an index. -/
theorem iblk3_at (t : Fin cfg0.N) (i : Fin 256) (j : Fin 1024) :
    iblk m c 3 t (ix2 i j) = X3 m c (ix2 ⟨(t.val) * 256 + i.val, by have := t_lt t; omega⟩ j) :=
  congrArg (X3 m c) (emb5 t i j)

/-- Point `t`'s block of input window 4, at an index. -/
theorem iblk4_at (t : Fin cfg0.N) (i : Fin 256) (j : Fin 1024) :
    iblk m c 4 t (ix2 i j) = X4 m c (ix2 ⟨(t.val) * 256 + i.val, by have := t_lt t; omega⟩ j) :=
  congrArg (X4 m c) (emb5 t i j)

/-- Every index of the array of window 5 lies in some point's block. -/
theorem covered5 (y : S512x1024.Idx) : ∃ t : Fin cfg0.N, (cfg0.win 5).flush t = true ∧ y ∈ ((cfg0.win 5).blk t).view.set := by
  obtain ⟨i, j, rfl⟩ : ∃ (i : Fin 512) (j : Fin 1024), y = ix2 i j := ⟨y 0, y 1, eq_ix2 y⟩
  have hi := i.2
  have hj := j.2
  let t : Fin cfg0.N := ⟨i.val / 256, by show i.val / 256 < 2; omega⟩
  have ht : t.val = i.val / 256 := rfl
  refine ⟨t, flush0_5 t, ?_⟩
  have h := ((cfg0.win 5).blk t).view.emb_mem_set (ix2 ⟨i.val % 256, by omega⟩ j)
  rw [emb5] at h
  refine (congrArg (· ∈ ((cfg0.win 5).blk t).view.set) ?_).mp h
  funext q; apply Fin.ext
  match q with
  | ⟨0, _⟩ => show (t.val) * 256 + i.val % 256 = i.val; omega
  | ⟨1, _⟩ => rfl

/-- Where an index of point `t`'s block of result window 6 lies in the array. -/
theorem emb6 (t : Fin cfg0.N) (i : Fin 256) (j : Fin 1024) :
    ((cfg0.win 6).blk t).view.emb (ix2 i j) = ix2 ⟨(t.val) * 256 + i.val, by have := t_lt t; omega⟩ j :=
  emb5 t i j

/-- Every index of the array of window 6 lies in some point's block. -/
theorem covered6 (y : S512x1024.Idx) : ∃ t : Fin cfg0.N, (cfg0.win 6).flush t = true ∧ y ∈ ((cfg0.win 6).blk t).view.set :=
  let ⟨t, _, h⟩ := covered5 y
  ⟨t, flush0_6 t, h⟩

/-- Where an index of point `t`'s block of result window 7 lies in the array. -/
theorem emb7 (t : Fin cfg0.N) (i : Fin 256) (j : Fin 1024) :
    ((cfg0.win 7).blk t).view.emb (ix2 i j) = ix2 ⟨(t.val) * 256 + i.val, by have := t_lt t; omega⟩ j :=
  emb5 t i j

/-- Every index of the array of window 7 lies in some point's block. -/
theorem covered7 (y : S512x1024.Idx) : ∃ t : Fin cfg0.N, (cfg0.win 7).flush t = true ∧ y ∈ ((cfg0.win 7).blk t).view.set :=
  let ⟨t, _, h⟩ := covered5 y
  ⟨t, flush0_7 t, h⟩

/-- Where an index of point `t`'s block of result window 8 lies in the array. -/
theorem emb8 (t : Fin cfg0.N) (i : Fin 256) (j : Fin 1024) :
    ((cfg0.win 8).blk t).view.emb (ix2 i j) = ix2 ⟨(t.val) * 256 + i.val, by have := t_lt t; omega⟩ j :=
  emb5 t i j

/-- Every index of the array of window 8 lies in some point's block. -/
theorem covered8 (y : S512x1024.Idx) : ∃ t : Fin cfg0.N, (cfg0.win 8).flush t = true ∧ y ∈ ((cfg0.win 8).blk t).view.set :=
  let ⟨t, _, h⟩ := covered5 y
  ⟨t, flush0_8 t, h⟩

/-- What point `t` writes back to window 5 is its block of the reference's result. -/
theorem flushed5_eq (t : Fin cfg0.N) : (dats m 0 c).flushed 5 t
    = ((cfg0.win 5).blk t).view.read (Elt Ideal) (val_main_v5 (F := Ideal) (X0 m c) (X1 m c)) := by
  rw [flushed5]
  funext y
  obtain ⟨i, j, rfl⟩ : ∃ (i : Fin 256) (j : Fin 1024), y = ix2 i j := ⟨y 0, y 1, eq_ix2 y⟩
  show out0_5 (iblk m c 0 t) (iblk m c 1 t) (iblk m c 2 t) (iblk m c 3 t) (iblk m c 4 t) (ix2 i j) = val_main_v5 (F := Ideal) (X0 m c) (X1 m c) (((cfg0.win 5).blk t).view.emb (ix2 i j))
  rw [emb5]
  exact out5_eq (iblk m c 0 t) (iblk m c 1 t) (iblk m c 2 t) (iblk m c 3 t) (iblk m c 4 t) _ _ i _ j (iblk0_at m c t i j) (fun k => iblk1_at m c t k i j)

theorem final5 : (dats m 0 c).arrAt 5 cfg0.N = val_main_v5 (F := Ideal) (X0 m c) (X1 m c) :=
  (dats m 0 c).arrAt_eq_of_cover 5 _ (fun t _ => flushed5_eq m c t) covered5

/-- What point `t` writes back to window 6 is its block of the reference's result. -/
theorem flushed6_eq (t : Fin cfg0.N) : (dats m 0 c).flushed 6 t
    = ((cfg0.win 6).blk t).view.read (Elt Ideal) (val_main_v29 (F := Ideal) (X0 m c) (X1 m c) (X2 m c) (X3 m c) (X4 m c)) := by
  rw [flushed6]
  funext y
  obtain ⟨i, j, rfl⟩ : ∃ (i : Fin 256) (j : Fin 1024), y = ix2 i j := ⟨y 0, y 1, eq_ix2 y⟩
  show out0_6 (iblk m c 0 t) (iblk m c 1 t) (iblk m c 2 t) (iblk m c 3 t) (iblk m c 4 t) (ix2 i j) = val_main_v29 (F := Ideal) (X0 m c) (X1 m c) (X2 m c) (X3 m c) (X4 m c) (((cfg0.win 6).blk t).view.emb (ix2 i j))
  rw [emb6]
  exact out6_eq (iblk m c 0 t) (iblk m c 1 t) (iblk m c 2 t) (iblk m c 3 t) (iblk m c 4 t) _ _ _ _ _ i _ j (iblk0_at m c t i j) (fun k => iblk1_at m c t k i j) (iblk2_at m c t i j) (iblk3_at m c t i j) (iblk4_at m c t i j)

theorem final6 : (dats m 0 c).arrAt 6 cfg0.N = val_main_v29 (F := Ideal) (X0 m c) (X1 m c) (X2 m c) (X3 m c) (X4 m c) :=
  (dats m 0 c).arrAt_eq_of_cover 6 _ (fun t _ => flushed6_eq m c t) covered6

/-- What point `t` writes back to window 7 is its block of the reference's result. -/
theorem flushed7_eq (t : Fin cfg0.N) : (dats m 0 c).flushed 7 t
    = ((cfg0.win 7).blk t).view.read (Elt Ideal) (val_main_v10 (F := Ideal) (X0 m c) (X1 m c) (X3 m c)) := by
  rw [flushed7]
  funext y
  obtain ⟨i, j, rfl⟩ : ∃ (i : Fin 256) (j : Fin 1024), y = ix2 i j := ⟨y 0, y 1, eq_ix2 y⟩
  show out0_7 (iblk m c 0 t) (iblk m c 1 t) (iblk m c 2 t) (iblk m c 3 t) (iblk m c 4 t) (ix2 i j) = val_main_v10 (F := Ideal) (X0 m c) (X1 m c) (X3 m c) (((cfg0.win 7).blk t).view.emb (ix2 i j))
  rw [emb7]
  exact out7_eq (iblk m c 0 t) (iblk m c 1 t) (iblk m c 2 t) (iblk m c 3 t) (iblk m c 4 t) _ _ _ i _ j (iblk0_at m c t i j) (fun k => iblk1_at m c t k i j) (iblk3_at m c t i j)

theorem final7 : (dats m 0 c).arrAt 7 cfg0.N = val_main_v10 (F := Ideal) (X0 m c) (X1 m c) (X3 m c) :=
  (dats m 0 c).arrAt_eq_of_cover 7 _ (fun t _ => flushed7_eq m c t) covered7

/-- What point `t` writes back to window 8 is its block of the reference's result. -/
theorem flushed8_eq (t : Fin cfg0.N) : (dats m 0 c).flushed 8 t
    = ((cfg0.win 8).blk t).view.read (Elt Ideal) (val_main_v16 (F := Ideal) (X0 m c) (X1 m c) (X4 m c)) := by
  rw [flushed8]
  funext y
  obtain ⟨i, j, rfl⟩ : ∃ (i : Fin 256) (j : Fin 1024), y = ix2 i j := ⟨y 0, y 1, eq_ix2 y⟩
  show out0_8 (iblk m c 0 t) (iblk m c 1 t) (iblk m c 2 t) (iblk m c 3 t) (iblk m c 4 t) (ix2 i j) = val_main_v16 (F := Ideal) (X0 m c) (X1 m c) (X4 m c) (((cfg0.win 8).blk t).view.emb (ix2 i j))
  rw [emb8]
  exact out8_eq (iblk m c 0 t) (iblk m c 1 t) (iblk m c 2 t) (iblk m c 3 t) (iblk m c 4 t) _ _ _ i _ j (iblk0_at m c t i j) (fun k => iblk1_at m c t k i j) (iblk4_at m c t i j)

theorem final8 : (dats m 0 c).arrAt 8 cfg0.N = val_main_v16 (F := Ideal) (X0 m c) (X1 m c) (X4 m c) :=
  (dats m 0 c).arrAt_eq_of_cover 8 _ (fun t _ => flushed8_eq m c t) covered8

/-- The kernel and the reference end with equal results. -/
theorem algebraic : Cert.algebraic_Kernel23Ideal_Reference23Ideal
    (hKernel23Ideal := Cert.Kernel23Ideal.Gen.facts) (hReference23Ideal := Cert.Reference23Ideal.Gen.facts) := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run _ _ _).mono (fun r h c => ?_) (Cert.Reference23Ideal.Value.run m' g')
  obtain ⟨h0, h1, h2, h3, k0, k1, k2, k3, k4⟩ := h c
  obtain ⟨a0, a1, a2, a3, a4⟩ := hagree c
  refine ⟨?_, ?_, ?_, ?_, k0, k1, k2, k3, k4⟩
  · exact (h0.trans (val_main_v5_eq _ _)).trans (by rw [a0, a1]; exact (final5 m c).symm)
  · exact (h1.trans (val_main_v29_eq _ _ _ _ _)).trans (by rw [a0, a1, a2, a3, a4]; exact (final6 m c).symm)
  · exact (h2.trans (val_main_v10_eq _ _ _)).trans (by rw [a0, a1, a3]; exact (final7 m c).symm)
  · exact (h3.trans (val_main_v16_eq _ _ _)).trans (by rw [a0, a1, a4]; exact (final8 m c).symm)

end Cert.Proof.AdamwDown
-- ==== Proof.AdamwSmall.lean ====
/- Hand-written, untrusted: the optimiser's step on the packed small weights at the reals. Its three results are the reference's arithmetic index by index. -/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise

@[expose] public section

noncomputable section

namespace Cert.Proof.AdamwSmall

open Cert.Kernel24Ideal Cert.Kernel24Ideal.Gen Cert.Kernel24Ideal.Value Idealize.ShloMosaic Idealize.ShloMosaic.TcCoe Idealize.SL.Sem
open Reference24Ideal.Read

variable (w g a b : Vec Ideal S48x1024 .f32) (i : Fin 48) (j : Fin 1024)

theorem m_at : G5 g a (ix2 i j) = val_main_v4 (F := Ideal) g a (ix2 i j) := by
  pointwise [val_main_v0, val_main_v1, val_main_v2, val_main_v3, val_main_v4, val_main_cst, val_main_cst_0]

theorem v_at : G6 g b (ix2 i j) = val_main_v10 (F := Ideal) g b (ix2 i j) := by
  pointwise [val_main_v5, val_main_v6, val_main_v7, val_main_v8, val_main_v9, val_main_v10, val_main_cst_1, val_main_cst_2]

theorem d_at : G4 w g a b (ix2 i j) = val_main_v23 (F := Ideal) w g a b (ix2 i j) := by
  pointwise [val_main_v0, val_main_v1, val_main_v2, val_main_v3, val_main_v4, val_main_cst, val_main_cst_0, val_main_v5, val_main_v6, val_main_v7, val_main_v8, val_main_v9, val_main_v10, val_main_cst_1, val_main_cst_2, val_main_v11, val_main_v12, val_main_v13, val_main_v14, val_main_v15, val_main_v16, val_main_v17, val_main_v18, val_main_v19, val_main_v20, val_main_v21, val_main_v22, val_main_v23, val_main_cst_3, val_main_cst_4, val_main_cst_5, val_main_cst_6, val_main_cst_7]

/-- The kernel and the reference end with equal results. -/
theorem algebraic : Cert.algebraic_Kernel24Ideal_Reference24Ideal
    (hKernel24Ideal := Cert.Kernel24Ideal.Gen.facts) (hReference24Ideal := Cert.Reference24Ideal.Gen.facts) := by
  intro m g m' g' _ hagree
  refine ⟨_, _, _, run m g, ?_⟩
  refine (θ_run _ _ _).mono (fun r h c => ?_) (Cert.Reference24Ideal.Value.run m' g')
  obtain ⟨h0, h1, h2, k0, k1, k2, k3⟩ := h c
  obtain ⟨a0, a1, a2, a3⟩ := hagree c
  refine ⟨?_, ?_, ?_, k0, k1, k2, k3⟩
  · refine (h0.trans (val_main_v23_eq _ _ _ _)).trans ?_
    rw [a0, a1, a2, a3]
    funext y
    obtain ⟨i, j, rfl⟩ : ∃ (i : Fin 48) (j : Fin 1024), y = ix2 i j := ⟨y 0, y 1, eq_ix2 y⟩
    exact (d_at _ _ _ _ i j).symm
  · refine (h1.trans (val_main_v4_eq _ _)).trans ?_
    rw [a1, a2]
    funext y
    obtain ⟨i, j, rfl⟩ : ∃ (i : Fin 48) (j : Fin 1024), y = ix2 i j := ⟨y 0, y 1, eq_ix2 y⟩
    exact (m_at _ _ i j).symm
  · refine (h2.trans (val_main_v10_eq _ _)).trans ?_
    rw [a1, a3]
    funext y
    obtain ⟨i, j, rfl⟩ : ∃ (i : Fin 48) (j : Fin 1024), y = ix2 i j := ⟨y 0, y 1, eq_ix2 y⟩
    exact (v_at _ _ i j).symm

end Cert.Proof.AdamwSmall
-- ==== Proof.SmallSum.lean ====
/- Hand-written, untrusted: the sum of the devices' packed small gradients at the reals: eight slabs added one after another are
   the reference's sum over the devices; the host's last lines make the loss of one row of the sum. -/
module

public import proofs.«01_k».proof.Defs
public import proofs.«01_k».proof.Proof.Gen.Kernel25Ideal.Frame
public import Idealize.ShloMosaic.Lib.Pipeline.Value
public import Idealize.ShloMosaic.Lib.Claim
public import proofs.«01_k».proof.Proof.Gen.Reference25Ideal.Run
public import proofs.«01_k».proof.Proof.Gen.Reference25Ideal.Read
public import Idealize.ShloMosaic.Lib.Pointwise
public import proofs.«01_k».proof.Proof.RmsBwd

@[expose] public section

noncomputable section

namespace Cert.Proof.SmallSum

open Cert.Kernel25Ideal Cert.Kernel25Ideal.Gen Idealize.ShloMosaic Idealize.ShloMosaic.TcCoe Idealize.SL.Sem
open Reference25Ideal.Read RmsBwd

theorem ld0 (x : Vec Ideal S8x56x1024 .f32) (i : Fin 56) (j : Fin 1024) : View.ld x r0_0 (ix3 0 i j) = x (ix3 0 i j) :=
  congrArg x (funext fun a => Fin.ext (by match a with | ⟨0, _⟩ => rfl | ⟨1, _⟩ => show 0 + 1 * i.val = i.val; omega | ⟨2, _⟩ => show 0 + 1 * j.val = j.val; omega))
theorem ld1 (x : Vec Ideal S8x56x1024 .f32) (i : Fin 56) (j : Fin 1024) : View.ld x r0_1 (ix3 0 i j) = x (ix3 1 i j) :=
  congrArg x (funext fun a => Fin.ext (by match a with | ⟨0, _⟩ => rfl | ⟨1, _⟩ => show 0 + 1 * i.val = i.val; omega | ⟨2, _⟩ => show 0 + 1 * j.val = j.val; omega))
theorem ld2 (x : Vec Ideal S8x56x1024 .f32) (i : Fin 56) (j : Fin 1024) : View.ld x r0_2 (ix3 0 i j) = x (ix3 2 i j) :=
  congrArg x (funext fun a => Fin.ext (by match a with | ⟨0, _⟩ => rfl | ⟨1, _⟩ => show 0 + 1 * i.val = i.val; omega | ⟨2, _⟩ => show 0 + 1 * j.val = j.val; omega))
theorem ld3 (x : Vec Ideal S8x56x1024 .f32) (i : Fin 56) (j : Fin 1024) : View.ld x r0_3 (ix3 0 i j) = x (ix3 3 i j) :=
  congrArg x (funext fun a => Fin.ext (by match a with | ⟨0, _⟩ => rfl | ⟨1, _⟩ => show 0 + 1 * i.val = i.val; omega | ⟨2, _⟩ => show 0 + 1 * j.val = j.val; omega))
theorem ld4 (x : Vec Ideal S8x56x1024 .f32) (i : Fin 56) (j : Fin 1024) : View.ld x r0_4 (ix3 0 i j) = x (ix3 4 i j) :=
  congrArg x (funext fun a => Fin.ext (by match a with | ⟨0, _⟩ => rfl | ⟨1, _⟩ => show 0 + 1 * i.val = i.val; omega | ⟨2, _⟩ => show 0 + 1 * j.val = j.val; omega))
theorem ld5 (x : Vec Ideal S8x56x1024 .f32) (i : Fin 56) (j : Fin 1024) : View.ld x r0_5 (ix3 0 i j) = x (ix3 5 i j) :=
  congrArg x (funext fun a => Fin.ext (by match a with | ⟨0, _⟩ => rfl | ⟨1, _⟩ => show 0 + 1 * i.val = i.val; omega | ⟨2, _⟩ => show 0 + 1 * j.val = j.val; omega))
theorem ld6 (x : Vec Ideal S8x56x1024 .f32) (i : Fin 56) (j : Fin 1024) : View.ld x r0_6 (ix3 0 i j) = x (ix3 6 i j) :=
  congrArg x (funext fun a => Fin.ext (by match a with | ⟨0, _⟩ => rfl | ⟨1, _⟩ => show 0 + 1 * i.val = i.val; omega | ⟨2, _⟩ => show 0 + 1 * j.val = j.val; omega))
theorem ld7 (x : Vec Ideal S8x56x1024 .f32) (i : Fin 56) (j : Fin 1024) : View.ld x r0_7 (ix3 0 i j) = x (ix3 7 i j) :=
  congrArg x (funext fun a => Fin.ext (by match a with | ⟨0, _⟩ => rfl | ⟨1, _⟩ => show 0 + 1 * i.val = i.val; omega | ⟨2, _⟩ => show 0 + 1 * j.val = j.val; omega))

theorem hz : (![0, 0] : Fin 2 → Nat) = fun _ => 0 := funext fun a => by fin_cases a <;> rfl

/-- The kernel's sum at one index. -/
theorem sum_at (x : Vec Ideal S8x56x1024 .f32) (i : Fin 56) (j : Fin 1024) : out0_1 x (ix2 i j) = val_main_v0 (F := Ideal) x (ix2 i j) := by
  have e : out0_1 x (ix2 i j) = View.ld x r0_0 (ix3 0 i j) + View.ld x r0_1 (ix3 0 i j) + View.ld x r0_2 (ix3 0 i j) + View.ld x r0_3 (ix3 0 i j)
      + View.ld x r0_4 (ix3 0 i j) + View.ld x r0_5 (ix3 0 i j) + View.ld x r0_6 (ix3 0 i j) + View.ld x r0_7 (ix3 0 i j) := by
    unfold out0_1
    rw [View.canon_unit_zero hz]
    unfold_payloads
    pointwise
  rw [e, ld0, ld1, ld2, ld3, ld4, ld5, ld6, ld7]
  pointwise [val_main_v0, val_main_cst]
  rw [Fin.sum_univ_eight]

/-- The host's last lines: the loss from the sum, -/
def lossOf (s : Vec Ideal S56x1024 .f32) : Vec Ideal S_ .f32 :=
  Host.divf (F := Ideal) (mulf (F := Ideal) (constant (F := Ideal) S_ .f32 0x3F000000#32) (Host.reduceAdd (F := Ideal) (shapeCast S1024 (extractStridedSlice S1x1024 ![48, 0] s slices_S56x1024_S1x1024_48_0) shapeCasts_S1x1024_S1024) (constant (F := Ideal) S_ .f32 0x00000000#32) reducesTo_S1024_S_d0 h_S_)) (constant (F := Ideal) S_ .f32 0x44800000#32)

/-- half of the mean of one of its rows. -/
theorem loss_at (x : Vec Ideal S8x56x1024 .f32) : lossOf (val_main_v0 (F := Ideal) x) = val_main_v5 (F := Ideal) x := by
  funext i
  unfold lossOf
  pointwise [val_main_v1, val_main_v2, val_main_cst_0, val_main_v3, val_main_cst_1, val_main_v4, val_main_cst_2, val_main_v5]
  rw [lit_1024, div_pos_coe _ (by norm_num), div_pos_coe _ (by norm_num), mul_assoc]

variable (m : (ℓ : Loc nD τ sig) → Buf (Elt Ideal) ℓ) (c : Dev nD)

theorem iblk0_eq (t : Fin cfg0.N) : iblk m c 0 t = (m ((c : Thread nD τ).loc main_arg0)) := by
  refine funext fun y => congrArg (m ((c : Thread nD τ).loc main_arg0)) (funext fun q => Fin.ext ?_)
  match q with
  | ⟨0, _⟩ => show 0 * 8 + 1 * (y 0).val = (y 0).val; omega
  | ⟨1, _⟩ => show 0 * 56 + 1 * (y 1).val = (y 1).val; omega
  | ⟨2, _⟩ => show 0 * 1024 + 1 * (y 2).val = (y 2).val; omega

theorem emb1 (t : Fin cfg0.N) (y : S56x1024.Idx) : ((cfg0.win 1).blk t).view.emb y = y := by
  funext q; apply Fin.ext
  match q with
  | ⟨0, _⟩ => show 0 * 56 + 1 * (y 0).val = (y 0).val; omega
  | ⟨1, _⟩ => show 0 * 1024 + 1 * (y 1).val = (y 1).val; omega

/-- The sum's array when the run ends. -/
theorem final1 : (dats m 0 c).arrAt 1 cfg0.N = val_main_v0 (F := Ideal) (m ((c : Thread nD τ).loc main_arg0)) := by
  refine (dats m 0 c).arrAt_eq_of_cover 1 _ (fun t _ => ?_) (fun y => ⟨(⟨0, by decide⟩ : Fin cfg0.N), flush0_1 _, ?_⟩)
  · funext y
    show (dats m 0 c).after 1 t y = val_main_v0 (F := Ideal) (m ((c : Thread nD τ).loc main_arg0)) (((cfg0.win 1).blk t).view.emb y)
    rw [emb1, after0_1, iblk0_eq]
    obtain ⟨i, j, rfl⟩ : ∃ (i : Fin 56) (j : Fin 1024), y = ix2 i j := ⟨y 0, y 1, eq_ix2 y⟩
    exact sum_at _ i j
  · have h := ((cfg0.win 1).blk (⟨0, by decide⟩ : Fin cfg0.N)).view.emb_mem_set y
    rwa [emb1] at h

/-- What the host's last lines leave. -/
theorem tail_eq : Pipeline.afterTail₀ cfgs (dats m) 0 (V0 m) [hostOps1] c main_v5 = lossOf ((dats m 0 c).arrAt 1 cfg0.N) := by
  unfold Pipeline.afterTail₀
  simp only [hostOps1, List.flatten_cons, List.flatten_nil, List.append_nil, List.cons_append, List.nil_append]
  after_results
  exact congrArg lossOf (Pipeline.withArrays_arr spec0 launch0.win.arr_inj c (V0 m c) _ 1)

/-- The run, with both results named. -/
theorem run_blocks (g : Dev nD → PrngReg) : θ_run defs (onTc (τ := τ) (main (F := Ideal))) ⟨m, fun _ => 0, g⟩ fun r => ∀ c : Dev nD,
      r.2.mem ((c : Thread nD τ).loc main_v0) = (dats m 0 c).arrAt 1 cfg0.N
      ∧ r.2.mem ((c : Thread nD τ).loc main_v5) = lossOf ((dats m 0 c).arrAt 1 cfg0.N)
      ∧ r.2.mem ((c : Thread nD τ).loc main_arg0) = (m ((c : Thread nD τ).loc main_arg0)) :=
  (θ_run defs _ _).mono (fun r h c => ⟨(h.1 c).1 1,
    ((h.1 c).2 main_v5 (Pipeline.mem_restRefs_of main_v5 (by decide) (by decide))).trans (tail_eq m c), (h.2.1 c)⟩) (θ_run_and (run_main m g) (frame m g))

/-- The kernel and the reference end with equal results. -/
theorem algebraic : Cert.algebraic_Kernel25Ideal_Reference25Ideal
    (hKernel25Ideal := Cert.Kernel25Ideal.Gen.facts) (hReference25Ideal := Cert.Reference25Ideal.Gen.facts) := by
  intro m g m' g' _ hagree
  refine ⟨fun c => (dats m 0 c).arrAt 1 cfg0.N, fun c => lossOf ((dats m 0 c).arrAt 1 cfg0.N), run_blocks m g, ?_⟩
  refine (θ_run _ _ _).mono (fun r h c => ?_) (Cert.Reference25Ideal.Value.run m' g')
  obtain ⟨h0, h1, k0⟩ := h c
  refine ⟨?_, ?_, k0⟩
  · exact (h0.trans (val_main_v0_eq _)).trans (by rw [hagree c]; exact (final1 m c).symm)
  · exact (h1.trans (val_main_v5_eq _)).trans (by rw [hagree c]; exact (loss_at _).symm.trans (congrArg lossOf (final1 m c).symm))

end Cert.Proof.SmallSum
-- ==== Proof.lean ====
module

public import proofs.«01_k».proof.Proof.Gen.Kernel.Frame
public import proofs.«01_k».proof.Proof.Gen.Kernel2.Frame
public import proofs.«01_k».proof.Proof.XBwd
public import proofs.«01_k».proof.Proof.Gen.Kernel3.Frame
public import proofs.«01_k».proof.Proof.MergeBwd
public import proofs.«01_k».proof.Proof.Gen.Kernel4.Frame
public import proofs.«01_k».proof.Proof.MlpBwd
public import proofs.«01_k».proof.Proof.Gen.Kernel5.Frame
public import proofs.«01_k».proof.Proof.WGradIn
public import proofs.«01_k».proof.Proof.Gen.Kernel6.Frame
public import proofs.«01_k».proof.Proof.WGradConvOut
public import proofs.«01_k».proof.Proof.Gen.Kernel7.Frame
public import proofs.«01_k».proof.Proof.WGradOut
public import proofs.«01_k».proof.Proof.Gen.Kernel8.Frame
public import proofs.«01_k».proof.Proof.WGradMem
public import proofs.«01_k».proof.Proof.Gen.Kernel9.Frame
public import proofs.«01_k».proof.Proof.WGradUp
public import proofs.«01_k».proof.Proof.Gen.Kernel10.Frame
public import proofs.«01_k».proof.Proof.WGradDown
public import proofs.«01_k».proof.Proof.Gen.Kernel27.Frame
public import proofs.«01_k».proof.Proof.WGradSbOut
public import proofs.«01_k».proof.Proof.Gen.Kernel11.Skeleton
public import proofs.«01_k».proof.Proof.Gen.Kernel11.Frame
public import proofs.«01_k».proof.Proof.Frames
public import proofs.«01_k».proof.Proof.MlpFwd
public import proofs.«01_k».proof.Proof.Gen.Kernel12.Frame
public import proofs.«01_k».proof.Proof.Gen.Kernel13.Frame
public import proofs.«01_k».proof.Proof.Gen.Kernel14.Frame
public import proofs.«01_k».proof.Proof.ConvFwd
public import proofs.«01_k».proof.Proof.Gen.Kernel15.Frame
public import proofs.«01_k».proof.Proof.Gen.Kernel16.Frame
public import proofs.«01_k».proof.Proof.Gen.Kernel17.Skeleton
public import proofs.«01_k».proof.Proof.Gen.Kernel17.Frame
public import proofs.«01_k».proof.Proof.Frames
public import proofs.«01_k».proof.Proof.InProj
public import proofs.«01_k».proof.Proof.Gen.Kernel18.Frame
public import proofs.«01_k».proof.Proof.InProjBwd
public import proofs.«01_k».proof.Proof.Gen.Kernel19.Frame
public import proofs.«01_k».proof.Proof.AdamwIn
public import proofs.«01_k».proof.Proof.Gen.Kernel20.Frame
public import proofs.«01_k».proof.Proof.AdamwOut
public import proofs.«01_k».proof.Proof.Gen.Kernel21.Frame
public import proofs.«01_k».proof.Proof.AdamwMem
public import proofs.«01_k».proof.Proof.Gen.Kernel22.Frame
public import proofs.«01_k».proof.Proof.AdamwUp
public import proofs.«01_k».proof.Proof.Gen.Kernel23.Frame
public import proofs.«01_k».proof.Proof.AdamwDown
public import proofs.«01_k».proof.Proof.Gen.Kernel24.Frame
public import proofs.«01_k».proof.Proof.AdamwSmall
public import proofs.«01_k».proof.Proof.Gen.Kernel25.Frame
public import proofs.«01_k».proof.Proof.SmallSum
public import Idealize.ShloMosaic.Lib.Quiescent
public import Idealize.ShloMosaic.Adequacy
public import Idealize.ShloMosaic.Init

@[expose] public section

noncomputable section

namespace Cert.Proof

open Idealize.ShloMosaic Idealize.SL.Sem

/-- The reference of the gated convolution's gradient keeps its arguments and leaves every counter at zero. -/
theorem frame_ref1 : Cert.quiescent_ReferenceIdeal (hReferenceIdeal := Cert.ReferenceIdeal.Gen.facts) :=
  fun m g _ => (θ_run Cert.ReferenceIdeal.defs _ _).mono
    (fun r h => ⟨fun c => (h c).2.2.2.2, sem_eq_zero_of_no_sems rfl _⟩) (Cert.ReferenceIdeal.Value.run m g)

/-- The reference of the cross-attention's gradient keeps its arguments and leaves every counter at zero. -/
theorem frame_ref2 : Cert.quiescent_Reference2Ideal (hReference2Ideal := Cert.Reference2Ideal.Gen.facts) :=
  fun m g _ => (θ_run Cert.Reference2Ideal.defs _ _).mono
    (fun r h => ⟨fun c => (h c).2.2.2.2, sem_eq_zero_of_no_sems rfl _⟩) (Cert.Reference2Ideal.Value.run m g)

/-- The reference of the gated merge's gradient keeps its arguments and leaves every counter at zero. -/
theorem frame_ref3 : Cert.quiescent_Reference3Ideal (hReference3Ideal := Cert.Reference3Ideal.Gen.facts) :=
  fun m g _ => (θ_run Cert.Reference3Ideal.defs _ _).mono
    (fun r h => ⟨fun c => (h c).2.2.2.2.2.2.2, sem_eq_zero_of_no_sems rfl _⟩) (Cert.Reference3Ideal.Value.run m g)

/-- The reference of the MLP's gradient keeps its arguments and leaves every counter at zero. -/
theorem frame_ref4 : Cert.quiescent_Reference4Ideal (hReference4Ideal := Cert.Reference4Ideal.Gen.facts) :=
  fun m g _ => (θ_run Cert.Reference4Ideal.defs _ _).mono
    (fun r h => ⟨fun c => (h c).2.2.2.2, sem_eq_zero_of_no_sems rfl _⟩) (Cert.Reference4Ideal.Value.run m g)

/-- The reference of the input projection's weight gradient keeps its arguments and leaves every counter at zero. -/
theorem frame_ref5 : Cert.quiescent_Reference5Ideal (hReference5Ideal := Cert.Reference5Ideal.Gen.facts) :=
  fun m g _ => (θ_run Cert.Reference5Ideal.defs _ _).mono
    (fun r h => ⟨fun c => (h c).2, sem_eq_zero_of_no_sems rfl _⟩) (Cert.Reference5Ideal.Value.run m g)

/-- The reference of the convolution's output projection's weight gradient keeps its arguments and leaves every counter at zero. -/
theorem frame_ref6 : Cert.quiescent_Reference6Ideal (hReference6Ideal := Cert.Reference6Ideal.Gen.facts) :=
  fun m g _ => (θ_run Cert.Reference6Ideal.defs _ _).mono
    (fun r h => ⟨fun c => (h c).2, sem_eq_zero_of_no_sems rfl _⟩) (Cert.Reference6Ideal.Value.run m g)

/-- The reference of the merge's output projection's weight gradient keeps its arguments and leaves every counter at zero. -/
theorem frame_ref7 : Cert.quiescent_Reference7Ideal (hReference7Ideal := Cert.Reference7Ideal.Gen.facts) :=
  fun m g _ => (θ_run Cert.Reference7Ideal.defs _ _).mono
    (fun r h => ⟨fun c => (h c).2, sem_eq_zero_of_no_sems rfl _⟩) (Cert.Reference7Ideal.Value.run m g)

/-- The reference of the memory's weight gradient keeps its arguments and leaves every counter at zero. -/
theorem frame_ref8 : Cert.quiescent_Reference8Ideal (hReference8Ideal := Cert.Reference8Ideal.Gen.facts) :=
  fun m g _ => (θ_run Cert.Reference8Ideal.defs _ _).mono
    (fun r h => ⟨fun c => (h c).2, sem_eq_zero_of_no_sems rfl _⟩) (Cert.Reference8Ideal.Value.run m g)

/-- The reference of the weight gradient of the MLP's first product keeps its arguments and leaves every counter at zero. -/
theorem frame_ref9 : Cert.quiescent_Reference9Ideal (hReference9Ideal := Cert.Reference9Ideal.Gen.facts) :=
  fun m g _ => (θ_run Cert.Reference9Ideal.defs _ _).mono
    (fun r h => ⟨fun c => (h c).2, sem_eq_zero_of_no_sems rfl _⟩) (Cert.Reference9Ideal.Value.run m g)

/-- The reference of the weight gradient of the MLP's second product keeps its arguments and leaves every counter at zero. -/
theorem frame_ref10 : Cert.quiescent_Reference10Ideal (hReference10Ideal := Cert.Reference10Ideal.Gen.facts) :=
  fun m g _ => (θ_run Cert.Reference10Ideal.defs _ _).mono
    (fun r h => ⟨fun c => (h c).2, sem_eq_zero_of_no_sems rfl _⟩) (Cert.Reference10Ideal.Value.run m g)

/-- The reference of the stick-breaking attention's output projection's weight gradient keeps its arguments and leaves every counter at zero. -/
theorem frame_ref27 : Cert.quiescent_Reference27Ideal (hReference27Ideal := Cert.Reference27Ideal.Gen.facts) :=
  fun m g _ => (θ_run Cert.Reference27Ideal.defs _ _).mono
    (fun r h => ⟨fun c => (h c).2, sem_eq_zero_of_no_sems rfl _⟩) (Cert.Reference27Ideal.Value.run m g)

/-- The reference of the MLP and the loss head keeps its arguments and leaves every counter at zero. -/
theorem frame_ref11 : Cert.quiescent_Reference11Ideal (hReference11Ideal := Cert.Reference11Ideal.Gen.facts) :=
  fun m g _ => (θ_run Cert.Reference11Ideal.defs _ _).mono
    (fun r h => ⟨fun c => (h c).2.2.2.2, sem_eq_zero_of_no_sems rfl _⟩) (Cert.Reference11Ideal.Value.run m g)

/-- The reference of the output projections and their merge keeps its arguments and leaves every counter at zero. -/
theorem frame_ref12 : Cert.quiescent_Reference12Ideal (hReference12Ideal := Cert.Reference12Ideal.Gen.facts) :=
  fun m g _ => (θ_run Cert.Reference12Ideal.defs _ _).mono
    (fun r h => ⟨fun c => (h c).2.2.2.2.2, sem_eq_zero_of_no_sems rfl _⟩) (Cert.Reference12Ideal.Value.run m g)

/-- The reference of the cross-attention keeps its arguments and leaves every counter at zero. -/
theorem frame_ref13 : Cert.quiescent_Reference13Ideal (hReference13Ideal := Cert.Reference13Ideal.Gen.facts) :=
  fun m g _ => (θ_run Cert.Reference13Ideal.defs _ _).mono
    (fun r h => ⟨fun c => (h c).2, sem_eq_zero_of_no_sems rfl _⟩) (Cert.Reference13Ideal.Value.run m g)

/-- The reference of the gated convolution keeps its arguments and leaves every counter at zero. -/
theorem frame_ref14 : Cert.quiescent_Reference14Ideal (hReference14Ideal := Cert.Reference14Ideal.Gen.facts) :=
  fun m g _ => (θ_run Cert.Reference14Ideal.defs _ _).mono
    (fun r h => ⟨fun c => (h c).2, sem_eq_zero_of_no_sems rfl _⟩) (Cert.Reference14Ideal.Value.run m g)

/-- The reference of the memory's keys and values keeps its arguments and leaves every counter at zero. -/
theorem frame_ref15 : Cert.quiescent_Reference15Ideal (hReference15Ideal := Cert.Reference15Ideal.Gen.facts) :=
  fun m g _ => (θ_run Cert.Reference15Ideal.defs _ _).mono
    (fun r h => ⟨fun c => (h c).2.2.2, sem_eq_zero_of_no_sems rfl _⟩) (Cert.Reference15Ideal.Value.run m g)

/-- The reference of the gradient of the memory's keys and values keeps its arguments and leaves every counter at zero. -/
theorem frame_ref16 : Cert.quiescent_Reference16Ideal (hReference16Ideal := Cert.Reference16Ideal.Gen.facts) :=
  fun m g _ => (θ_run Cert.Reference16Ideal.defs _ _).mono
    (fun r h => ⟨fun c => (h c).2.2.2, sem_eq_zero_of_no_sems rfl _⟩) (Cert.Reference16Ideal.Value.run m g)

/-- The reference of the first norm and the input projection keeps its arguments and leaves every counter at zero. -/
theorem frame_ref17 : Cert.quiescent_Reference17Ideal (hReference17Ideal := Cert.Reference17Ideal.Gen.facts) :=
  fun m g _ => (θ_run Cert.Reference17Ideal.defs _ _).mono
    (fun r h => ⟨fun c => (h c).2.2, sem_eq_zero_of_no_sems rfl _⟩) (Cert.Reference17Ideal.Value.run m g)

/-- The reference of the gradient of the first norm and the input projection keeps its arguments and leaves every counter at zero. -/
theorem frame_ref18 : Cert.quiescent_Reference18Ideal (hReference18Ideal := Cert.Reference18Ideal.Gen.facts) :=
  fun m g _ => (θ_run Cert.Reference18Ideal.defs _ _).mono
    (fun r h => ⟨fun c => (h c).2.2, sem_eq_zero_of_no_sems rfl _⟩) (Cert.Reference18Ideal.Value.run m g)

/-- The reference of the optimiser on the input projection's shard keeps its arguments and leaves every counter at zero. -/
theorem frame_ref19 : Cert.quiescent_Reference19Ideal (hReference19Ideal := Cert.Reference19Ideal.Gen.facts) :=
  fun m g _ => (θ_run Cert.Reference19Ideal.defs _ _).mono
    (fun r h => ⟨fun c => (h c).2.2.2.2, sem_eq_zero_of_no_sems rfl _⟩) (Cert.Reference19Ideal.Value.run m g)

/-- The reference of the optimiser on an output projection's shard keeps its arguments and leaves every counter at zero. -/
theorem frame_ref20 : Cert.quiescent_Reference20Ideal (hReference20Ideal := Cert.Reference20Ideal.Gen.facts) :=
  fun m g _ => (θ_run Cert.Reference20Ideal.defs _ _).mono
    (fun r h => ⟨fun c => (h c).2.2.2.2, sem_eq_zero_of_no_sems rfl _⟩) (Cert.Reference20Ideal.Value.run m g)

/-- The reference of the optimiser on the memory's shard keeps its arguments and leaves every counter at zero. -/
theorem frame_ref21 : Cert.quiescent_Reference21Ideal (hReference21Ideal := Cert.Reference21Ideal.Gen.facts) :=
  fun m g _ => (θ_run Cert.Reference21Ideal.defs _ _).mono
    (fun r h => ⟨fun c => (h c).2.2.2.2, sem_eq_zero_of_no_sems rfl _⟩) (Cert.Reference21Ideal.Value.run m g)

/-- The reference of the optimiser on the MLP's first shard keeps its arguments and leaves every counter at zero. -/
theorem frame_ref22 : Cert.quiescent_Reference22Ideal (hReference22Ideal := Cert.Reference22Ideal.Gen.facts) :=
  fun m g _ => (θ_run Cert.Reference22Ideal.defs _ _).mono
    (fun r h => ⟨fun c => (h c).2.2.2.2, sem_eq_zero_of_no_sems rfl _⟩) (Cert.Reference22Ideal.Value.run m g)

/-- The reference of the optimiser on the MLP's second shard keeps its arguments and leaves every counter at zero. -/
theorem frame_ref23 : Cert.quiescent_Reference23Ideal (hReference23Ideal := Cert.Reference23Ideal.Gen.facts) :=
  fun m g _ => (θ_run Cert.Reference23Ideal.defs _ _).mono
    (fun r h => ⟨fun c => (h c).2.2.2.2, sem_eq_zero_of_no_sems rfl _⟩) (Cert.Reference23Ideal.Value.run m g)

/-- The reference of the optimiser on the small weights keeps its arguments and leaves every counter at zero. -/
theorem frame_ref24 : Cert.quiescent_Reference24Ideal (hReference24Ideal := Cert.Reference24Ideal.Gen.facts) :=
  fun m g _ => (θ_run Cert.Reference24Ideal.defs _ _).mono
    (fun r h => ⟨fun c => (h c).2.2.2, sem_eq_zero_of_no_sems rfl _⟩) (Cert.Reference24Ideal.Value.run m g)

/-- The reference of the sum of the small gradients and the loss keeps its arguments and leaves every counter at zero. -/
theorem frame_ref25 : Cert.quiescent_Reference25Ideal (hReference25Ideal := Cert.Reference25Ideal.Gen.facts) :=
  fun m g _ => (θ_run Cert.Reference25Ideal.defs _ _).mono
    (fun r h => ⟨fun c => (h c).2.2, sem_eq_zero_of_no_sems rfl _⟩) (Cert.Reference25Ideal.Value.run m g)

/-- Every program's stated facts, its frame, that nothing was rewritten, and the values. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel27.Gen.facts,
  Cert.Kernel27Ideal.Gen.facts,
  Cert.Reference27Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Pre_finite_scores.Gen.facts,
  fun m g _ => Cert.Kernel.Gen.frame m g,
  fun m g _ => Cert.KernelIdeal.Gen.frame m g,
  frame_ref1,
  fun m g _ => Cert.Kernel2.Gen.frame m g,
  fun m g _ => Cert.Kernel2Ideal.Gen.frame m g,
  fun m g _ => Cert.Kernel2Ideal.Gen.frame m g,
  frame_ref2,
  fun m g _ => frame_ref2 m g trivial,
  fun m g _ => Cert.Kernel3.Gen.frame m g,
  fun m g _ => Cert.Kernel3Ideal.Gen.frame m g,
  frame_ref3,
  fun m g _ => Cert.Kernel4.Gen.frame m g,
  fun m g _ => Cert.Kernel4Ideal.Gen.frame m g,
  frame_ref4,
  fun m g _ => Cert.Kernel5.Gen.frame m g,
  fun m g _ => Cert.Kernel5Ideal.Gen.frame m g,
  frame_ref5,
  fun m g _ => Cert.Kernel6.Gen.frame m g,
  fun m g _ => Cert.Kernel6Ideal.Gen.frame m g,
  frame_ref6,
  fun m g _ => Cert.Kernel7.Gen.frame m g,
  fun m g _ => Cert.Kernel7Ideal.Gen.frame m g,
  frame_ref7,
  fun m g _ => Cert.Kernel8.Gen.frame m g,
  fun m g _ => Cert.Kernel8Ideal.Gen.frame m g,
  frame_ref8,
  fun m g _ => Cert.Kernel9.Gen.frame m g,
  fun m g _ => Cert.Kernel9Ideal.Gen.frame m g,
  frame_ref9,
  fun m g _ => Cert.Kernel10.Gen.frame m g,
  fun m g _ => Cert.Kernel10Ideal.Gen.frame m g,
  frame_ref10,
  fun m g _ => Cert.Kernel27.Gen.frame m g,
  fun m g _ => Cert.Kernel27Ideal.Gen.frame m g,
  frame_ref27,
  Frames.frame11,
  fun m g _ => Cert.Proof.MlpFwdIdeal.frame m g,
  frame_ref11,
  fun m g _ => Cert.Kernel12.Gen.frame m g,
  fun m g _ => Cert.Kernel12Ideal.Gen.frame m g,
  frame_ref12,
  fun m g _ => Cert.Kernel13.Gen.frame m g,
  fun m g _ => Cert.Kernel13Ideal.Gen.frame m g,
  frame_ref13,
  fun m g _ => Cert.Kernel14.Gen.frame m g,
  fun m g _ => Cert.Kernel14Ideal.Gen.frame m g,
  frame_ref14,
  fun m g _ => Cert.Kernel15.Gen.frame m g,
  fun m g _ => Cert.Kernel15Ideal.Gen.frame m g,
  frame_ref15,
  fun m g _ => Cert.Kernel16.Gen.frame m g,
  fun m g _ => Cert.Kernel16Ideal.Gen.frame m g,
  frame_ref16,
  Frames.frame17,
  fun m g _ => Cert.Proof.InProjIdeal.frame m g,
  frame_ref17,
  fun m g _ => Cert.Kernel18.Gen.frame m g,
  fun m g _ => Cert.Kernel18Ideal.Gen.frame m g,
  frame_ref18,
  fun m g _ => Cert.Kernel19.Gen.frame m g,
  fun m g _ => Cert.Kernel19Ideal.Gen.frame m g,
  frame_ref19,
  fun m g _ => Cert.Kernel20.Gen.frame m g,
  fun m g _ => Cert.Kernel20Ideal.Gen.frame m g,
  frame_ref20,
  fun m g _ => Cert.Kernel21.Gen.frame m g,
  fun m g _ => Cert.Kernel21Ideal.Gen.frame m g,
  frame_ref21,
  fun m g _ => Cert.Kernel22.Gen.frame m g,
  fun m g _ => Cert.Kernel22Ideal.Gen.frame m g,
  frame_ref22,
  fun m g _ => Cert.Kernel23.Gen.frame m g,
  fun m g _ => Cert.Kernel23Ideal.Gen.frame m g,
  frame_ref23,
  fun m g _ => Cert.Kernel24.Gen.frame m g,
  fun m g _ => Cert.Kernel24Ideal.Gen.frame m g,
  frame_ref24,
  fun m g _ => Cert.Kernel25.Gen.frame m g,
  fun m g _ => Cert.Kernel25Ideal.Gen.frame m g,
  frame_ref25,
  trivial,
  Conv.algebraic,
  trivial,
  XBwd.algebraic,
  trivial,
  MergeBwd.algebraic,
  trivial,
  MlpBwd.algebraic,
  trivial,
  WGradIn.algebraic,
  trivial,
  WGradConvOut.algebraic,
  trivial,
  WGradOut.algebraic,
  trivial,
  WGradMem.algebraic,
  trivial,
  WGradUp.algebraic,
  trivial,
  WGradDown.algebraic,
  trivial,
  WGradSbOut.algebraic,
  trivial,
  MlpFwd.algebraic,
  trivial,
  MergeFwd.algebraic,
  trivial,
  XFwd.algebraic,
  trivial,
  ConvFwd.algebraic,
  trivial,
  Mem.algebraic,
  trivial,
  MemBwd.algebraic,
  trivial,
  InProj.algebraic,
  trivial,
  InProjBwd.algebraic,
  trivial,
  AdamwIn.algebraic,
  trivial,
  AdamwOut.algebraic,
  trivial,
  AdamwMem.algebraic,
  trivial,
  AdamwUp.algebraic,
  trivial,
  AdamwDown.algebraic,
  trivial,
  AdamwSmall.algebraic,
  trivial,
  SmallSum.algebraic⟩

end Cert.Proof

end
